-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_feats" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x16x16 : Shape := ⟨4, ![32, 768, 16, 16]⟩
abbrev S32x768x256 : Shape := ⟨3, ![32, 768, 256]⟩
abbrev S4x768x256 : Shape := ⟨3, ![4, 768, 256]⟩
abbrev S4x256x256 : Shape := ⟨3, ![4, 256, 256]⟩
abbrev S1x768x256 : Shape := ⟨3, ![1, 768, 256]⟩
abbrev S768x256 : Shape := ⟨2, ![768, 256]⟩
abbrev S256x256 : Shape := ⟨2, ![256, 256]⟩
abbrev S1x256x256 : Shape := ⟨3, ![1, 256, 256]⟩
abbrev S28x768x256 : Shape := ⟨3, ![28, 768, 256]⟩
abbrev S28x256x256 : Shape := ⟨3, ![28, 256, 256]⟩
abbrev S2x768x256 : Shape := ⟨3, ![2, 768, 256]⟩
abbrev S2x256x256 : Shape := ⟨3, ![2, 256, 256]⟩
abbrev S768x128 : Shape := ⟨2, ![768, 128]⟩
abbrev S256x128 : Shape := ⟨2, ![256, 128]⟩
abbrev S4x2x32x128 : Shape := ⟨4, ![4, 2, 32, 128]⟩
abbrev S4x1x32x128 : Shape := ⟨4, ![4, 1, 32, 128]⟩
abbrev S4x32x128 : Shape := ⟨3, ![4, 32, 128]⟩
abbrev S128x128 : Shape := ⟨2, ![128, 128]⟩
abbrev S2x2x32x128 : Shape := ⟨4, ![2, 2, 32, 128]⟩
abbrev S2x1x32x128 : Shape := ⟨4, ![2, 1, 32, 128]⟩
abbrev S2x2x64x128 : Shape := ⟨4, ![2, 2, 64, 128]⟩
abbrev S2x1x64x128 : Shape := ⟨4, ![2, 1, 64, 128]⟩
abbrev S2x64x128 : Shape := ⟨3, ![2, 64, 128]⟩
abbrev S1x2x64x128 : Shape := ⟨4, ![1, 2, 64, 128]⟩
abbrev S1x1x64x128 : Shape := ⟨4, ![1, 1, 64, 128]⟩
abbrev S1x2x128x128 : Shape := ⟨4, ![1, 2, 128, 128]⟩
abbrev S1x1x128x128 : Shape := ⟨4, ![1, 1, 128, 128]⟩
abbrev S1x128x128 : Shape := ⟨3, ![1, 128, 128]⟩
abbrev S8x2x8x128 : Shape := ⟨4, ![8, 2, 8, 128]⟩
abbrev S8x1x8x128 : Shape := ⟨4, ![8, 1, 8, 128]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S4x2x16x128 : Shape := ⟨4, ![4, 2, 16, 128]⟩
abbrev S4x1x16x128 : Shape := ⟨4, ![4, 1, 16, 128]⟩
abbrev S8x2x16x128 : Shape := ⟨4, ![8, 2, 16, 128]⟩
abbrev S8x1x16x128 : Shape := ⟨4, ![8, 1, 16, 128]⟩
abbrev S8x16x128 : Shape := ⟨3, ![8, 16, 128]⟩
abbrev S1x128 : Shape := ⟨2, ![1, 128]⟩
abbrev S255x128 : Shape := ⟨2, ![255, 128]⟩
abbrev S2x128 : Shape := ⟨2, ![2, 128]⟩
abbrev S254x128 : Shape := ⟨2, ![254, 128]⟩
abbrev S32x8x128 : Shape := ⟨3, ![32, 8, 128]⟩
abbrev S32x4x128 : Shape := ⟨3, ![32, 4, 128]⟩
abbrev S8x4x8x128 : Shape := ⟨4, ![8, 4, 8, 128]⟩
abbrev S1x256x128 : Shape := ⟨3, ![1, 256, 128]⟩
abbrev S2x1x256x16 : Shape := ⟨4, ![2, 1, 256, 16]⟩
abbrev S2 : Shape := ⟨1, ![2]⟩
abbrev S1x1x256x16 : Shape := ⟨4, ![1, 1, 256, 16]⟩
abbrev S1x256x16 : Shape := ⟨3, ![1, 256, 16]⟩
abbrev S1 : Shape := ⟨1, ![1]⟩
abbrev S_ : Shape := ⟨0, ![]⟩
abbrev S1x1x16 : Shape := ⟨3, ![1, 1, 16]⟩
abbrev S16 : Shape := ⟨1, ![16]⟩
abbrev S32x256x256 : Shape := ⟨3, ![32, 256, 256]⟩
abbrev S32x256x16x16 : Shape := ⟨4, ![32, 256, 16, 16]⟩

abbrev nBuf : Table → Nat
  | .hbm => 9
  | .local .tc .vmem => 6
  | .local .scVector .vmem => 2
  | _ => 0

abbrev bufTy : (tb : Table) → Fin (nBuf tb) → BufTy
  | .hbm, ⟨0, _⟩ => ⟨S32x768x16x16, .f32⟩
  | .hbm, ⟨1, _⟩ => ⟨S32x768x256, .f32⟩
  | .hbm, ⟨2, _⟩ => ⟨S4x768x256, .f32⟩
  | .hbm, ⟨3, _⟩ => ⟨S4x256x256, .f32⟩
  | .hbm, ⟨4, _⟩ => ⟨S28x768x256, .f32⟩
  | .hbm, ⟨5, _⟩ => ⟨S28x256x256, .f32⟩
  | .hbm, ⟨6, _⟩ => ⟨S4x256x256, .f32⟩
  | .hbm, ⟨7, _⟩ => ⟨S32x256x256, .f32⟩
  | .hbm, ⟨8, _⟩ => ⟨S32x256x16x16, .f32⟩
  | .local .tc .vmem, ⟨0, _⟩ => ⟨S4x768x256, .f32⟩
  | .local .tc .vmem, ⟨1, _⟩ => ⟨S4x256x256, .f32⟩
  | .local .tc .vmem, ⟨2, _⟩ => ⟨S2x768x256, .f32⟩
  | .local .tc .vmem, ⟨3, _⟩ => ⟨S2x768x256, .f32⟩
  | .local .tc .vmem, ⟨4, _⟩ => ⟨S2x256x256, .f32⟩
  | .local .tc .vmem, ⟨5, _⟩ => ⟨S2x256x256, .f32⟩
  | .local .scVector .vmem, ⟨0, _⟩ => ⟨S2x1x256x16, .f32⟩
  | .local .scVector .vmem, ⟨1, _⟩ => ⟨S2x1x256x16, .f32⟩
  | _, _ => ⟨S32x768x16x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v2_scv : Ref sig .scVector := ⟨.hbm, 3, rfl⟩
abbrev main_v5_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc2_scoped0 : Ref sig .scVector := ⟨.vmem, 0, rfl⟩
abbrev cc2_scoped2 : Ref sig .scVector := ⟨.vmem, 1, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x768x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![14], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x768x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_cond1 (i : grid2.Coords) : BitVec 1 :=
  let c4_i32 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v11 : BitVec 32 := Scalar.muli c4_i32 v5
  let c0_i32_7_r0 : BitVec 32 := 0#32
  let v14_r0 : BitVec 1 := Scalar.cmpi .sgt v11 c0_i32_7_r0
  let v15_r0 : BitVec 32 := Scalar.extui v14_r0
  let c0_i32_8_r0 : BitVec 32 := 0#32
  let v16_r0 : BitVec 1 := Scalar.cmpi .ne v15_r0 c0_i32_8_r0
  v16_r0

def k2_cond2 (i : grid2.Coords) : BitVec 1 :=
  let true_37_r0 : BitVec 1 := 1#1
  let c4_i32_9_r0 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v17_r0 : BitVec 32 := Scalar.muli c4_i32_9_r0 v5
  let c0_i32_36_r0 : BitVec 32 := 0#32
  let v48_r0 : BitVec 1 := Scalar.cmpi .sgt v17_r0 c0_i32_36_r0
  let v49_r0 : BitVec 1 := Scalar.andi true_37_r0 v48_r0
  let true_38_r0 : BitVec 1 := 1#1
  let v50_r0 : BitVec 1 := Scalar.andi v49_r0 true_38_r0
  let v51_r0 : BitVec 32 := Scalar.extui v50_r0
  let c0_i32_40_r0 : BitVec 32 := 0#32
  let v52_r0 : BitVec 1 := Scalar.cmpi .ne v51_r0 c0_i32_40_r0
  v52_r0

def k2_off1 : Fin 4 → Nat :=
  let c0_i32_39_r0 : BitVec 32 := 0#32
  let c2_i32_r0 : BitVec 32 := 2#32
  let v113_r0 : BitVec 32 := Scalar.remui c0_i32_39_r0 c2_i32_r0
  let c0_i32_90_r0 : BitVec 32 := 0#32
  let c0_i32_91_r0 : BitVec 32 := 0#32
  let c0_i32_92_r0 : BitVec 32 := 0#32
  ![v113_r0.toNat, 0, 0, 0]
def k2_off2 (i : grid2.Coords) : Fin 3 → Nat :=
  let c0_i32_93_r0 : BitVec 32 := 0#32
  let c0_i32_94_r0 : BitVec 32 := 0#32
  let c16_i32_89_r0 : BitVec 32 := 16#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v20_r0 : BitVec 32 := Scalar.addi c0_i32_12_r0 v10
  let v114_r0 : BitVec 32 := Scalar.muli c16_i32_89_r0 v20_r0
  ![0, 0, v114_r0.toNat]
def k2_off3 : Fin 1 → Nat :=
  let c0_i32_39_r0 : BitVec 32 := 0#32
  let c2_i32_r0 : BitVec 32 := 2#32
  let v113_r0 : BitVec 32 := Scalar.remui c0_i32_39_r0 c2_i32_r0
  ![v113_r0.toNat]
@[reducible] def k2_t1_loop (i : grid2.Coords) : Scf.Loop 32 :=
  let c0_i32_44_r0 : BitVec 32 := 0#32
  let c4_i32 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v11 : BitVec 32 := Scalar.muli c4_i32 v5
  let v55_r0 : BitVec 32 := Scalar.subi v11 c0_i32_44_r0
  let c1_i32_50_r0 : BitVec 32 := 1#32
  let v57_r0 : BitVec 32 := Scalar.divsi v55_r0 c1_i32_50_r0
  let v58_r0 : BitVec 32 := Scalar.muli v57_r0 c1_i32_50_r0
  let v59_r0 : BitVec 32 := Scalar.addi c0_i32_44_r0 v58_r0
  let c1_i32_51_r0 : BitVec 32 := 1#32
  ⟨c0_i32_44_r0, v59_r0, c1_i32_51_r0⟩
def k2_off4 (arg5_r0 : BitVec 32) : Fin 4 → Nat :=
  let c2_i32_402_r0 : BitVec 32 := 2#32
  let v302_r0 : BitVec 32 := Scalar.remui arg5_r0 c2_i32_402_r0
  let c0_i32_405_r0 : BitVec 32 := 0#32
  let c0_i32_406_r0 : BitVec 32 := 0#32
  let c0_i32_407_r0 : BitVec 32 := 0#32
  ![v302_r0.toNat, 0, 0, 0]
def k2_cond3 (i : grid2.Coords) (k2_t1 : Fin (k2_t1_loop i).trips) (arg9_r0 : BitVec 32) (arg10_r0 : BitVec 32) : BitVec 1 :=
  let c0_i32_92_r0 : BitVec 32 := 0#32
  let v117_r0 : BitVec 32 := Scalar.addi arg9_r0 c0_i32_92_r0
  let true_102_r0 : BitVec 1 := 1#1
  let c1_i32_101_r0 : BitVec 32 := 1#32
  let v130_r0 : BitVec 32 := Scalar.addi arg10_r0 c1_i32_101_r0
  let v131_r0 : BitVec 32 := Scalar.select true_102_r0 v130_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v132_r0 : BitVec 1 := Scalar.cmpi .eq v131_r0 v5
  let c1_i32_104_r0 : BitVec 32 := 1#32
  let v134_r0 : BitVec 32 := Scalar.addi arg9_r0 c1_i32_104_r0
  let v135_r0 : BitVec 32 := Scalar.select v132_r0 v134_r0 arg9_r0
  let c4_i32_105_r0 : BitVec 32 := 4#32
  let v136_r0 : BitVec 1 := Scalar.cmpi .eq v135_r0 c4_i32_105_r0
  let c0_i32_106_r0 : BitVec 32 := 0#32
  let v137_r0 : BitVec 32 := Scalar.select v136_r0 c0_i32_106_r0 v135_r0
  let c0_i32_107_r0 : BitVec 32 := 0#32
  let v138_r0 : BitVec 32 := Scalar.addi v137_r0 c0_i32_107_r0
  let v150_r0 : BitVec 1 := Scalar.cmpi .ne v117_r0 v138_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c0_i32_103_r0 : BitVec 32 := 0#32
  let v133_r0 : BitVec 32 := Scalar.select v132_r0 c0_i32_103_r0 v131_r0
  let v139_r0 : BitVec 32 := Scalar.addi v133_r0 v10
  let v151_r0 : BitVec 1 := Scalar.cmpi .ne v118_r0 v139_r0
  let v152_r0 : BitVec 1 := Scalar.ori v150_r0 v151_r0
  let c0_i32_44_r0 : BitVec 32 := 0#32
  let c1_i32_51_r0 : BitVec 32 := 1#32
  let arg4_r0 : BitVec 32 := Scf.iv c0_i32_44_r0 c1_i32_51_r0 k2_t1
  let c4_i32_89_r0 : BitVec 32 := 4#32
  let v113_r0 : BitVec 32 := Scalar.muli c4_i32_89_r0 v5
  let c2_i32_r0 : BitVec 32 := 2#32
  let v153_r0 : BitVec 32 := Scalar.subi v113_r0 c2_i32_r0
  let c1_i32_115_r0 : BitVec 32 := 1#32
  let v154_r0 : BitVec 32 := Scalar.addi v153_r0 c1_i32_115_r0
  let v155_r0 : BitVec 1 := Scalar.cmpi .sge arg4_r0 v154_r0
  let true_116_r0 : BitVec 1 := 1#1
  let v156_r0 : BitVec 1 := Scalar.xori v155_r0 true_116_r0
  let v157_r0 : BitVec 1 := Scalar.andi v152_r0 v156_r0
  let true_117_r0 : BitVec 1 := 1#1
  let v158_r0 : BitVec 1 := Scalar.andi v157_r0 true_117_r0
  let v159_r0 : BitVec 32 := Scalar.extui v158_r0
  let c0_i32_118_r0 : BitVec 32 := 0#32
  let v160_r0 : BitVec 1 := Scalar.cmpi .ne v159_r0 c0_i32_118_r0
  v160_r0

def k2_off5 (i : grid2.Coords) (arg9_r0 : BitVec 32) (arg10_r0 : BitVec 32) : Fin 3 → Nat :=
  let c1_i32_403_r0 : BitVec 32 := 1#32
  let true_102_r0 : BitVec 1 := 1#1
  let c1_i32_101_r0 : BitVec 32 := 1#32
  let v130_r0 : BitVec 32 := Scalar.addi arg10_r0 c1_i32_101_r0
  let v131_r0 : BitVec 32 := Scalar.select true_102_r0 v130_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v132_r0 : BitVec 1 := Scalar.cmpi .eq v131_r0 v5
  let c1_i32_104_r0 : BitVec 32 := 1#32
  let v134_r0 : BitVec 32 := Scalar.addi arg9_r0 c1_i32_104_r0
  let v135_r0 : BitVec 32 := Scalar.select v132_r0 v134_r0 arg9_r0
  let c4_i32_105_r0 : BitVec 32 := 4#32
  let v136_r0 : BitVec 1 := Scalar.cmpi .eq v135_r0 c4_i32_105_r0
  let c0_i32_106_r0 : BitVec 32 := 0#32
  let v137_r0 : BitVec 32 := Scalar.select v136_r0 c0_i32_106_r0 v135_r0
  let c0_i32_107_r0 : BitVec 32 := 0#32
  let v138_r0 : BitVec 32 := Scalar.addi v137_r0 c0_i32_107_r0
  let v303_r0 : BitVec 32 := Scalar.muli c1_i32_403_r0 v138_r0
  let c0_i32_408_r0 : BitVec 32 := 0#32
  let c16_i32_404_r0 : BitVec 32 := 16#32
  let c0_i32_103_r0 : BitVec 32 := 0#32
  let v133_r0 : BitVec 32 := Scalar.select v132_r0 c0_i32_103_r0 v131_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v139_r0 : BitVec 32 := Scalar.addi v133_r0 v10
  let v304_r0 : BitVec 32 := Scalar.muli c16_i32_404_r0 v139_r0
  ![v303_r0.toNat, 0, v304_r0.toNat]
def k2_off6 (arg5_r0 : BitVec 32) : Fin 1 → Nat :=
  let c2_i32_402_r0 : BitVec 32 := 2#32
  let v302_r0 : BitVec 32 := Scalar.remui arg5_r0 c2_i32_402_r0
  ![v302_r0.toNat]
def k2_off7 (arg6_r0 : BitVec 32) : Fin 4 → Nat :=
  let c2_i32_404_r0 : BitVec 32 := 2#32
  let v304_r0 : BitVec 32 := Scalar.remui arg6_r0 c2_i32_404_r0
  let c0_i32_405_r0 : BitVec 32 := 0#32
  let c0_i32_406_r0 : BitVec 32 := 0#32
  let c0_i32_407_r0 : BitVec 32 := 0#32
  ![v304_r0.toNat, 0, 0, 0]
def k2_cond4 (i : grid2.Coords) (k2_t1 : Fin (k2_t1_loop i).trips) (arg9_r0 : BitVec 32) (arg10_r0 : BitVec 32) : BitVec 1 :=
  let c0_i32_92_r0 : BitVec 32 := 0#32
  let v117_r0 : BitVec 32 := Scalar.addi arg9_r0 c0_i32_92_r0
  let true_94_r0 : BitVec 1 := 1#1
  let c1_i32_93_r0 : BitVec 32 := 1#32
  let v119_r0 : BitVec 32 := Scalar.subi arg10_r0 c1_i32_93_r0
  let v120_r0 : BitVec 32 := Scalar.select true_94_r0 v119_r0 arg10_r0
  let c_m1_i32_95_r0 : BitVec 32 := 4294967295#32
  let v121_r0 : BitVec 1 := Scalar.cmpi .eq v120_r0 c_m1_i32_95_r0
  let c1_i32_97_r0 : BitVec 32 := 1#32
  let v124_r0 : BitVec 32 := Scalar.subi arg9_r0 c1_i32_97_r0
  let v125_r0 : BitVec 32 := Scalar.select v121_r0 v124_r0 arg9_r0
  let c_m1_i32_98_r0 : BitVec 32 := 4294967295#32
  let v126_r0 : BitVec 1 := Scalar.cmpi .eq v125_r0 c_m1_i32_98_r0
  let c3_i32_99_r0 : BitVec 32 := 3#32
  let v127_r0 : BitVec 32 := Scalar.select v126_r0 c3_i32_99_r0 v125_r0
  let c0_i32_100_r0 : BitVec 32 := 0#32
  let v128_r0 : BitVec 32 := Scalar.addi v127_r0 c0_i32_100_r0
  let v172_r0 : BitVec 1 := Scalar.cmpi .ne v117_r0 v128_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c1_i32_96_r0 : BitVec 32 := 1#32
  let v122_r0 : BitVec 32 := Scalar.subi v5 c1_i32_96_r0
  let v123_r0 : BitVec 32 := Scalar.select v121_r0 v122_r0 v120_r0
  let v129_r0 : BitVec 32 := Scalar.addi v123_r0 v10
  let v173_r0 : BitVec 1 := Scalar.cmpi .ne v118_r0 v129_r0
  let v174_r0 : BitVec 1 := Scalar.ori v172_r0 v173_r0
  let c0_i32_44_r0 : BitVec 32 := 0#32
  let c1_i32_51_r0 : BitVec 32 := 1#32
  let arg4_r0 : BitVec 32 := Scf.iv c0_i32_44_r0 c1_i32_51_r0 k2_t1
  let c0_i32_90_r0 : BitVec 32 := 0#32
  let v114_r0 : BitVec 1 := Scalar.cmpi .eq arg4_r0 c0_i32_90_r0
  let v175_r0 : BitVec 1 := Scalar.ori v174_r0 v114_r0
  let c0_i32_124_r0 : BitVec 32 := 0#32
  let v176_r0 : BitVec 1 := Scalar.cmpi .sge arg4_r0 c0_i32_124_r0
  let v177_r0 : BitVec 1 := Scalar.andi v175_r0 v176_r0
  let v178_r0 : BitVec 32 := Scalar.extui v177_r0
  let c0_i32_125_r0 : BitVec 32 := 0#32
  let v179_r0 : BitVec 1 := Scalar.cmpi .ne v178_r0 c0_i32_125_r0
  v179_r0

def k2_off8 (i : grid2.Coords) (arg9_r0 : BitVec 32) (arg10_r0 : BitVec 32) : Fin 3 → Nat :=
  let c1_i32_402_r0 : BitVec 32 := 1#32
  let c0_i32_92_r0 : BitVec 32 := 0#32
  let v117_r0 : BitVec 32 := Scalar.addi arg9_r0 c0_i32_92_r0
  let v302_r0 : BitVec 32 := Scalar.muli c1_i32_402_r0 v117_r0
  let c0_i32_408_r0 : BitVec 32 := 0#32
  let c16_i32_403_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let v303_r0 : BitVec 32 := Scalar.muli c16_i32_403_r0 v118_r0
  ![v302_r0.toNat, 0, v303_r0.toNat]
def k2_off9 (arg6_r0 : BitVec 32) : Fin 1 → Nat :=
  let c2_i32_404_r0 : BitVec 32 := 2#32
  let v304_r0 : BitVec 32 := Scalar.remui arg6_r0 c2_i32_404_r0
  ![v304_r0.toNat]
@[reducible] def k2_t2_loop : Scf.Loop 32 :=
  let c0_i32_130_r0 : BitVec 32 := 0#32
  let c64_i32_r0 : BitVec 32 := 64#32
  let v190_r0 : BitVec 32 := Scalar.addi c0_i32_130_r0 c64_i32_r0
  let c1_i32_131_r0 : BitVec 32 := 1#32
  ⟨c0_i32_130_r0, v190_r0, c1_i32_131_r0⟩
def k2_off10 (arg6_r0 : BitVec 32) : Fin 4 → Nat :=
  let c2_i32_128_r0 : BitVec 32 := 2#32
  let v188_r0 : BitVec 32 := Scalar.remui arg6_r0 c2_i32_128_r0
  let c0_i32_407_r0 : BitVec 32 := 0#32
  let c0_i32_408_r0 : BitVec 32 := 0#32
  let c0_i32_409_r0 : BitVec 32 := 0#32
  ![v188_r0.toNat, 0, 0, 0]

def k2_off11 (k2_t2 : Fin k2_t2_loop.trips) : Fin 3 → Nat :=
  let c0_i32_406_r0 : BitVec 32 := 0#32
  let v310_r0 : Index := Scalar.indexCast c0_i32_406_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t2
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let v311_r0 : Index := Scalar.indexCast v307_r0
  let c0_r0 : Index := 0#32
  ![0, v311_r0.toNat, 0]
def k2_off12 (k2_t2 : Fin k2_t2_loop.trips) : Fin 3 → Nat :=
  let c0_i32_411_r0 : BitVec 32 := 0#32
  let v317_r0 : Index := Scalar.indexCast c0_i32_411_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t2
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let c1_i32_410_r0 : BitVec 32 := 1#32
  let v314_r0 : BitVec 32 := Scalar.addi v307_r0 c1_i32_410_r0
  let v318_r0 : Index := Scalar.indexCast v314_r0
  let c0_415_r0 : Index := 0#32
  ![0, v318_r0.toNat, 0]
def k2_off13 (arg7_r0 : BitVec 32) : Fin 4 → Nat :=
  let c2_i32_129_r0 : BitVec 32 := 2#32
  let v189_r0 : BitVec 32 := Scalar.remui arg7_r0 c2_i32_129_r0
  let c0_i32_417_r0 : BitVec 32 := 0#32
  let c0_i32_418_r0 : BitVec 32 := 0#32
  let c0_i32_419_r0 : BitVec 32 := 0#32
  ![v189_r0.toNat, 0, 0, 0]

def k2_off14 (k2_t2 : Fin k2_t2_loop.trips) : Fin 3 → Nat :=
  let c0_i32_416_r0 : BitVec 32 := 0#32
  let v324_r0 : Index := Scalar.indexCast c0_i32_416_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t2
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let v325_r0 : Index := Scalar.indexCast v307_r0
  let c0_420_r0 : Index := 0#32
  ![0, v325_r0.toNat, 0]
def k2_off15 (k2_t2 : Fin k2_t2_loop.trips) : Fin 3 → Nat :=
  let c0_i32_422_r0 : BitVec 32 := 0#32
  let v333_r0 : Index := Scalar.indexCast c0_i32_422_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t2
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let c1_i32_421_r0 : BitVec 32 := 1#32
  let v330_r0 : BitVec 32 := Scalar.addi v307_r0 c1_i32_421_r0
  let v334_r0 : Index := Scalar.indexCast v330_r0
  let c0_426_r0 : Index := 0#32
  ![0, v334_r0.toNat, 0]
@[reducible] def k2_t3_loop : Scf.Loop 32 :=
  let c0_i32_133_r0 : BitVec 32 := 0#32
  let c64_i32_134_r0 : BitVec 32 := 64#32
  let v191_r0 : BitVec 32 := Scalar.addi c0_i32_133_r0 c64_i32_134_r0
  let c1_i32_135_r0 : BitVec 32 := 1#32
  ⟨c0_i32_133_r0, v191_r0, c1_i32_135_r0⟩
def k2_off16 (arg6_r0 : BitVec 32) : Fin 4 → Nat :=
  let c2_i32_128_r0 : BitVec 32 := 2#32
  let v188_r0 : BitVec 32 := Scalar.remui arg6_r0 c2_i32_128_r0
  let c0_i32_408_r0 : BitVec 32 := 0#32
  let c0_i32_409_r0 : BitVec 32 := 0#32
  let c0_i32_410_r0 : BitVec 32 := 0#32
  ![v188_r0.toNat, 0, 0, 0]

def k2_chk2 (i : grid2.Coords) (k2_t1 : Fin (k2_t1_loop i).trips) (arg6_r0 : BitVec 32) : Prop :=
  (∀ (k2_h1 : k2_cond1 i = 1#1), ∀ a, (k2_off10 arg6_r0) a + S1x1x256x16.size a ≤ S2x1x256x16.size a) ∧
  (∀ (k2_h1 : k2_cond1 i = 1#1), ∀ a, (k2_off16 arg6_r0) a + S1x1x256x16.size a ≤ S2x1x256x16.size a)
theorem k2_off10_inb : ∀ (i : grid2.Coords) (k2_t1 : Fin (k2_t1_loop i).trips) (arg6_r0 : BitVec 32) (k2_hw2 : k2_chk2 i k2_t1 arg6_r0), ∀ (k2_h1 : k2_cond1 i = 1#1), ∀ a, (k2_off10 arg6_r0) a + S1x1x256x16.size a ≤ S2x1x256x16.size a := fun i k2_t1 arg6_r0 k2_hw2 k2_h1 => k2_hw2.1 k2_h1
theorem k2_off16_inb : ∀ (i : grid2.Coords) (k2_t1 : Fin (k2_t1_loop i).trips) (arg6_r0 : BitVec 32) (k2_hw2 : k2_chk2 i k2_t1 arg6_r0), ∀ (k2_h1 : k2_cond1 i = 1#1), ∀ a, (k2_off16 arg6_r0) a + S1x1x256x16.size a ≤ S2x1x256x16.size a := fun i k2_t1 arg6_r0 k2_hw2 k2_h1 => k2_hw2.2 k2_h1

def k2_off17 (k2_t3 : Fin k2_t3_loop.trips) : Fin 3 → Nat :=
  let c0_i32_407_r0 : BitVec 32 := 0#32
  let v311_r0 : Index := Scalar.indexCast c0_i32_407_r0
  let c0_i32_403_r0 : BitVec 32 := 0#32
  let c0_i32_133_r0 : BitVec 32 := 0#32
  let c1_i32_135_r0 : BitVec 32 := 1#32
  let arg11_r0 : BitVec 32 := Scf.iv c0_i32_133_r0 c1_i32_135_r0 k2_t3
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c1_i32_405_r0 : BitVec 32 := 1#32
  let v306_r0 : BitVec 32 := Scalar.addi v305_r0 c1_i32_405_r0
  let c_m1_i32_406_r0 : BitVec 32 := 4294967295#32
  let v307_r0 : BitVec 32 := Scalar.andi v306_r0 c_m1_i32_406_r0
  let v308_r0 : BitVec 32 := Scalar.addi v306_r0 v307_r0
  let v312_r0 : Index := Scalar.indexCast v308_r0
  let c0_r0 : Index := 0#32
  ![0, v312_r0.toNat, 0]
def k2_off18 (k2_t3 : Fin k2_t3_loop.trips) : Fin 3 → Nat :=
  let c0_i32_412_r0 : BitVec 32 := 0#32
  let v318_r0 : Index := Scalar.indexCast c0_i32_412_r0
  let c0_i32_403_r0 : BitVec 32 := 0#32
  let c0_i32_133_r0 : BitVec 32 := 0#32
  let c1_i32_135_r0 : BitVec 32 := 1#32
  let arg11_r0 : BitVec 32 := Scf.iv c0_i32_133_r0 c1_i32_135_r0 k2_t3
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c1_i32_405_r0 : BitVec 32 := 1#32
  let v306_r0 : BitVec 32 := Scalar.addi v305_r0 c1_i32_405_r0
  let c_m1_i32_406_r0 : BitVec 32 := 4294967295#32
  let v307_r0 : BitVec 32 := Scalar.andi v306_r0 c_m1_i32_406_r0
  let v308_r0 : BitVec 32 := Scalar.addi v306_r0 v307_r0
  let c1_i32_411_r0 : BitVec 32 := 1#32
  let v315_r0 : BitVec 32 := Scalar.addi v308_r0 c1_i32_411_r0
  let v319_r0 : Index := Scalar.indexCast v315_r0
  let c0_416_r0 : Index := 0#32
  ![0, v319_r0.toNat, 0]
def k2_off19 (arg7_r0 : BitVec 32) : Fin 4 → Nat :=
  let c2_i32_129_r0 : BitVec 32 := 2#32
  let v189_r0 : BitVec 32 := Scalar.remui arg7_r0 c2_i32_129_r0
  let c0_i32_418_r0 : BitVec 32 := 0#32
  let c0_i32_419_r0 : BitVec 32 := 0#32
  let c0_i32_420_r0 : BitVec 32 := 0#32
  ![v189_r0.toNat, 0, 0, 0]
@[reducible] def k2_t4_loop : Scf.Loop 32 :=
  let c0_i32_137_r0 : BitVec 32 := 0#32
  let c64_i32_138_r0 : BitVec 32 := 64#32
  let v192_r0 : BitVec 32 := Scalar.addi c0_i32_137_r0 c64_i32_138_r0
  let c1_i32_139_r0 : BitVec 32 := 1#32
  ⟨c0_i32_137_r0, v192_r0, c1_i32_139_r0⟩
def k2_off20 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off21 (k2_t4 : Fin k2_t4_loop.trips) : Fin 3 → Nat :=
  let c0_i32_405_r0 : BitVec 32 := 0#32
  let v310_r0 : Index := Scalar.indexCast c0_i32_405_r0
  let c0_i32_403_r0 : BitVec 32 := 0#32
  let c0_i32_137_r0 : BitVec 32 := 0#32
  let c1_i32_139_r0 : BitVec 32 := 1#32
  let arg11_r0 : BitVec 32 := Scf.iv c0_i32_137_r0 c1_i32_139_r0 k2_t4
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m2_i32_404_r0 : BitVec 32 := 4294967294#32
  let v306_r0 : BitVec 32 := Scalar.andi v305_r0 c_m2_i32_404_r0
  let v307_r0 : BitVec 32 := Scalar.addi v305_r0 v306_r0
  let v311_r0 : Index := Scalar.indexCast v307_r0
  let c0_r0 : Index := 0#32
  ![0, v311_r0.toNat, 0]
def k2_off22 (k2_t4 : Fin k2_t4_loop.trips) : Fin 3 → Nat :=
  let c0_i32_410_r0 : BitVec 32 := 0#32
  let v317_r0 : Index := Scalar.indexCast c0_i32_410_r0
  let c0_i32_403_r0 : BitVec 32 := 0#32
  let c0_i32_137_r0 : BitVec 32 := 0#32
  let c1_i32_139_r0 : BitVec 32 := 1#32
  let arg11_r0 : BitVec 32 := Scf.iv c0_i32_137_r0 c1_i32_139_r0 k2_t4
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m2_i32_404_r0 : BitVec 32 := 4294967294#32
  let v306_r0 : BitVec 32 := Scalar.andi v305_r0 c_m2_i32_404_r0
  let v307_r0 : BitVec 32 := Scalar.addi v305_r0 v306_r0
  let c2_i32_409_r0 : BitVec 32 := 2#32
  let v314_r0 : BitVec 32 := Scalar.addi v307_r0 c2_i32_409_r0
  let v318_r0 : Index := Scalar.indexCast v314_r0
  let c0_414_r0 : Index := 0#32
  ![0, v318_r0.toNat, 0]
@[reducible] def k2_t5_loop : Scf.Loop 32 :=
  let c0_i32_141_r0 : BitVec 32 := 0#32
  let c64_i32_142_r0 : BitVec 32 := 64#32
  let v193_r0 : BitVec 32 := Scalar.addi c0_i32_141_r0 c64_i32_142_r0
  let c1_i32_143_r0 : BitVec 32 := 1#32
  ⟨c0_i32_141_r0, v193_r0, c1_i32_143_r0⟩
def k2_off23 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off24 (k2_t5 : Fin k2_t5_loop.trips) : Fin 3 → Nat :=
  let c0_i32_406_r0 : BitVec 32 := 0#32
  let v311_r0 : Index := Scalar.indexCast c0_i32_406_r0
  let c0_i32_403_r0 : BitVec 32 := 0#32
  let c0_i32_141_r0 : BitVec 32 := 0#32
  let c1_i32_143_r0 : BitVec 32 := 1#32
  let arg11_r0 : BitVec 32 := Scf.iv c0_i32_141_r0 c1_i32_143_r0 k2_t5
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m2_i32_405_r0 : BitVec 32 := 4294967294#32
  let v307_r0 : BitVec 32 := Scalar.andi v306_r0 c_m2_i32_405_r0
  let v308_r0 : BitVec 32 := Scalar.addi v306_r0 v307_r0
  let v312_r0 : Index := Scalar.indexCast v308_r0
  let c0_r0 : Index := 0#32
  ![0, v312_r0.toNat, 0]
def k2_off25 (k2_t5 : Fin k2_t5_loop.trips) : Fin 3 → Nat :=
  let c0_i32_411_r0 : BitVec 32 := 0#32
  let v318_r0 : Index := Scalar.indexCast c0_i32_411_r0
  let c0_i32_403_r0 : BitVec 32 := 0#32
  let c0_i32_141_r0 : BitVec 32 := 0#32
  let c1_i32_143_r0 : BitVec 32 := 1#32
  let arg11_r0 : BitVec 32 := Scf.iv c0_i32_141_r0 c1_i32_143_r0 k2_t5
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m2_i32_405_r0 : BitVec 32 := 4294967294#32
  let v307_r0 : BitVec 32 := Scalar.andi v306_r0 c_m2_i32_405_r0
  let v308_r0 : BitVec 32 := Scalar.addi v306_r0 v307_r0
  let c2_i32_410_r0 : BitVec 32 := 2#32
  let v315_r0 : BitVec 32 := Scalar.addi v308_r0 c2_i32_410_r0
  let v319_r0 : Index := Scalar.indexCast v315_r0
  let c0_415_r0 : Index := 0#32
  ![0, v319_r0.toNat, 0]
@[reducible] def k2_t6_loop : Scf.Loop 32 :=
  let c0_i32_145_r0 : BitVec 32 := 0#32
  let c64_i32_146_r0 : BitVec 32 := 64#32
  let v194_r0 : BitVec 32 := Scalar.addi c0_i32_145_r0 c64_i32_146_r0
  let c1_i32_147_r0 : BitVec 32 := 1#32
  ⟨c0_i32_145_r0, v194_r0, c1_i32_147_r0⟩
def k2_off26 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off27 (k2_t6 : Fin k2_t6_loop.trips) : Fin 3 → Nat :=
  let c0_i32_405_r0 : BitVec 32 := 0#32
  let v310_r0 : Index := Scalar.indexCast c0_i32_405_r0
  let c0_i32_403_r0 : BitVec 32 := 0#32
  let c0_i32_145_r0 : BitVec 32 := 0#32
  let c1_i32_147_r0 : BitVec 32 := 1#32
  let arg11_r0 : BitVec 32 := Scf.iv c0_i32_145_r0 c1_i32_147_r0 k2_t6
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off28 (k2_t6 : Fin k2_t6_loop.trips) : Fin 3 → Nat :=
  let c0_i32_410_r0 : BitVec 32 := 0#32
  let v317_r0 : Index := Scalar.indexCast c0_i32_410_r0
  let c0_i32_403_r0 : BitVec 32 := 0#32
  let c0_i32_145_r0 : BitVec 32 := 0#32
  let c1_i32_147_r0 : BitVec 32 := 1#32
  let arg11_r0 : BitVec 32 := Scf.iv c0_i32_145_r0 c1_i32_147_r0 k2_t6
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t7_loop : Scf.Loop 32 :=
  let c0_i32_149_r0 : BitVec 32 := 0#32
  let c64_i32_150_r0 : BitVec 32 := 64#32
  let v195_r0 : BitVec 32 := Scalar.addi c0_i32_149_r0 c64_i32_150_r0
  let c1_i32_151_r0 : BitVec 32 := 1#32
  ⟨c0_i32_149_r0, v195_r0, c1_i32_151_r0⟩
def k2_off29 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off30 (k2_t7 : Fin k2_t7_loop.trips) : Fin 3 → Nat :=
  let c0_i32_406_r0 : BitVec 32 := 0#32
  let v311_r0 : Index := Scalar.indexCast c0_i32_406_r0
  let c0_i32_403_r0 : BitVec 32 := 0#32
  let c0_i32_149_r0 : BitVec 32 := 0#32
  let c1_i32_151_r0 : BitVec 32 := 1#32
  let arg11_r0 : BitVec 32 := Scf.iv c0_i32_149_r0 c1_i32_151_r0 k2_t7
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off31 (k2_t7 : Fin k2_t7_loop.trips) : Fin 3 → Nat :=
  let c0_i32_411_r0 : BitVec 32 := 0#32
  let v318_r0 : Index := Scalar.indexCast c0_i32_411_r0
  let c0_i32_403_r0 : BitVec 32 := 0#32
  let c0_i32_149_r0 : BitVec 32 := 0#32
  let c1_i32_151_r0 : BitVec 32 := 1#32
  let arg11_r0 : BitVec 32 := Scf.iv c0_i32_149_r0 c1_i32_151_r0 k2_t7
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t8_loop : Scf.Loop 32 :=
  let c0_i32_153_r0 : BitVec 32 := 0#32
  let c64_i32_154_r0 : BitVec 32 := 64#32
  let v196_r0 : BitVec 32 := Scalar.addi c0_i32_153_r0 c64_i32_154_r0
  let c1_i32_155_r0 : BitVec 32 := 1#32
  ⟨c0_i32_153_r0, v196_r0, c1_i32_155_r0⟩
def k2_off32 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off33 (k2_t8 : Fin k2_t8_loop.trips) : Fin 3 → Nat :=
  let c0_i32_405_r0 : BitVec 32 := 0#32
  let v310_r0 : Index := Scalar.indexCast c0_i32_405_r0
  let c0_i32_403_r0 : BitVec 32 := 0#32
  let c0_i32_153_r0 : BitVec 32 := 0#32
  let c1_i32_155_r0 : BitVec 32 := 1#32
  let arg11_r0 : BitVec 32 := Scf.iv c0_i32_153_r0 c1_i32_155_r0 k2_t8
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m4_i32_404_r0 : BitVec 32 := 4294967292#32
  let v306_r0 : BitVec 32 := Scalar.andi v305_r0 c_m4_i32_404_r0
  let v307_r0 : BitVec 32 := Scalar.addi v305_r0 v306_r0
  let v311_r0 : Index := Scalar.indexCast v307_r0
  let c0_r0 : Index := 0#32
  ![0, v311_r0.toNat, 0]
def k2_off34 (k2_t8 : Fin k2_t8_loop.trips) : Fin 3 → Nat :=
  let c0_i32_410_r0 : BitVec 32 := 0#32
  let v317_r0 : Index := Scalar.indexCast c0_i32_410_r0
  let c0_i32_403_r0 : BitVec 32 := 0#32
  let c0_i32_153_r0 : BitVec 32 := 0#32
  let c1_i32_155_r0 : BitVec 32 := 1#32
  let arg11_r0 : BitVec 32 := Scf.iv c0_i32_153_r0 c1_i32_155_r0 k2_t8
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m4_i32_404_r0 : BitVec 32 := 4294967292#32
  let v306_r0 : BitVec 32 := Scalar.andi v305_r0 c_m4_i32_404_r0
  let v307_r0 : BitVec 32 := Scalar.addi v305_r0 v306_r0
  let c4_i32_409_r0 : BitVec 32 := 4#32
  let v314_r0 : BitVec 32 := Scalar.addi v307_r0 c4_i32_409_r0
  let v318_r0 : Index := Scalar.indexCast v314_r0
  let c0_414_r0 : Index := 0#32
  ![0, v318_r0.toNat, 0]
@[reducible] def k2_t9_loop : Scf.Loop 32 :=
  let c0_i32_157_r0 : BitVec 32 := 0#32
  let c64_i32_158_r0 : BitVec 32 := 64#32
  let v197_r0 : BitVec 32 := Scalar.addi c0_i32_157_r0 c64_i32_158_r0
  let c1_i32_159_r0 : BitVec 32 := 1#32
  ⟨c0_i32_157_r0, v197_r0, c1_i32_159_r0⟩
def k2_off35 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off36 (k2_t9 : Fin k2_t9_loop.trips) : Fin 3 → Nat :=
  let c0_i32_406_r0 : BitVec 32 := 0#32
  let v311_r0 : Index := Scalar.indexCast c0_i32_406_r0
  let c0_i32_403_r0 : BitVec 32 := 0#32
  let c0_i32_157_r0 : BitVec 32 := 0#32
  let c1_i32_159_r0 : BitVec 32 := 1#32
  let arg11_r0 : BitVec 32 := Scf.iv c0_i32_157_r0 c1_i32_159_r0 k2_t9
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m4_i32_405_r0 : BitVec 32 := 4294967292#32
  let v307_r0 : BitVec 32 := Scalar.andi v306_r0 c_m4_i32_405_r0
  let v308_r0 : BitVec 32 := Scalar.addi v306_r0 v307_r0
  let v312_r0 : Index := Scalar.indexCast v308_r0
  let c0_r0 : Index := 0#32
  ![0, v312_r0.toNat, 0]
def k2_off37 (k2_t9 : Fin k2_t9_loop.trips) : Fin 3 → Nat :=
  let c0_i32_411_r0 : BitVec 32 := 0#32
  let v318_r0 : Index := Scalar.indexCast c0_i32_411_r0
  let c0_i32_403_r0 : BitVec 32 := 0#32
  let c0_i32_157_r0 : BitVec 32 := 0#32
  let c1_i32_159_r0 : BitVec 32 := 1#32
  let arg11_r0 : BitVec 32 := Scf.iv c0_i32_157_r0 c1_i32_159_r0 k2_t9
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m4_i32_405_r0 : BitVec 32 := 4294967292#32
  let v307_r0 : BitVec 32 := Scalar.andi v306_r0 c_m4_i32_405_r0
  let v308_r0 : BitVec 32 := Scalar.addi v306_r0 v307_r0
  let c4_i32_410_r0 : BitVec 32 := 4#32
  let v315_r0 : BitVec 32 := Scalar.addi v308_r0 c4_i32_410_r0
  let v319_r0 : Index := Scalar.indexCast v315_r0
  let c0_415_r0 : Index := 0#32
  ![0, v319_r0.toNat, 0]
@[reducible] def k2_t10_loop : Scf.Loop 32 :=
  let c0_i32_161_r0 : BitVec 32 := 0#32
  let c64_i32_162_r0 : BitVec 32 := 64#32
  let v198_r0 : BitVec 32 := Scalar.addi c0_i32_161_r0 c64_i32_162_r0
  let c1_i32_163_r0 : BitVec 32 := 1#32
  ⟨c0_i32_161_r0, v198_r0, c1_i32_163_r0⟩
def k2_off38 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off39 (k2_t10 : Fin k2_t10_loop.trips) : Fin 3 → Nat :=
  let c0_i32_404_r0 : BitVec 32 := 0#32
  let v310_r0 : Index := Scalar.indexCast c0_i32_404_r0
  let c0_i32_403_r0 : BitVec 32 := 0#32
  let c0_i32_161_r0 : BitVec 32 := 0#32
  let c1_i32_163_r0 : BitVec 32 := 1#32
  let arg11_r0 : BitVec 32 := Scf.iv c0_i32_161_r0 c1_i32_163_r0 k2_t10
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off40 (k2_t10 : Fin k2_t10_loop.trips) : Fin 3 → Nat :=
  let c0_i32_409_r0 : BitVec 32 := 0#32
  let v317_r0 : Index := Scalar.indexCast c0_i32_409_r0
  let c0_i32_403_r0 : BitVec 32 := 0#32
  let c0_i32_161_r0 : BitVec 32 := 0#32
  let c1_i32_163_r0 : BitVec 32 := 1#32
  let arg11_r0 : BitVec 32 := Scf.iv c0_i32_161_r0 c1_i32_163_r0 k2_t10
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t11_loop : Scf.Loop 32 :=
  let c0_i32_165_r0 : BitVec 32 := 0#32
  let c64_i32_166_r0 : BitVec 32 := 64#32
  let v199_r0 : BitVec 32 := Scalar.addi c0_i32_165_r0 c64_i32_166_r0
  let c1_i32_167_r0 : BitVec 32 := 1#32
  ⟨c0_i32_165_r0, v199_r0, c1_i32_167_r0⟩
def k2_off41 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off42 (k2_t11 : Fin k2_t11_loop.trips) : Fin 3 → Nat :=
  let c0_i32_405_r0 : BitVec 32 := 0#32
  let v311_r0 : Index := Scalar.indexCast c0_i32_405_r0
  let c0_i32_403_r0 : BitVec 32 := 0#32
  let c0_i32_165_r0 : BitVec 32 := 0#32
  let c1_i32_167_r0 : BitVec 32 := 1#32
  let arg11_r0 : BitVec 32 := Scf.iv c0_i32_165_r0 c1_i32_167_r0 k2_t11
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off43 (k2_t11 : Fin k2_t11_loop.trips) : Fin 3 → Nat :=
  let c0_i32_410_r0 : BitVec 32 := 0#32
  let v318_r0 : Index := Scalar.indexCast c0_i32_410_r0
  let c0_i32_403_r0 : BitVec 32 := 0#32
  let c0_i32_165_r0 : BitVec 32 := 0#32
  let c1_i32_167_r0 : BitVec 32 := 1#32
  let arg11_r0 : BitVec 32 := Scf.iv c0_i32_165_r0 c1_i32_167_r0 k2_t11
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m2_i32_r0 : BitVec 32 := 4294967294#32
  let v307_r0 : BitVec 32 := Scalar.andi v306_r0 c_m2_i32_r0
  let v308_r0 : BitVec 32 := Scalar.addi v306_r0 v307_r0
  let c2_i32_409_r0 : BitVec 32 := 2#32
  let v315_r0 : BitVec 32 := Scalar.addi v308_r0 c2_i32_409_r0
  let v319_r0 : Index := Scalar.indexCast v315_r0
  let c0_414_r0 : Index := 0#32
  ![0, v319_r0.toNat, 0]
@[reducible] def k2_t12_loop : Scf.Loop 32 :=
  let c0_i32_169_r0 : BitVec 32 := 0#32
  let c64_i32_170_r0 : BitVec 32 := 64#32
  let v200_r0 : BitVec 32 := Scalar.addi c0_i32_169_r0 c64_i32_170_r0
  let c1_i32_171_r0 : BitVec 32 := 1#32
  ⟨c0_i32_169_r0, v200_r0, c1_i32_171_r0⟩
def k2_off44 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off45 (k2_t12 : Fin k2_t12_loop.trips) : Fin 3 → Nat :=
  let c0_i32_405_r0 : BitVec 32 := 0#32
  let v310_r0 : Index := Scalar.indexCast c0_i32_405_r0
  let c0_i32_403_r0 : BitVec 32 := 0#32
  let c0_i32_169_r0 : BitVec 32 := 0#32
  let c1_i32_171_r0 : BitVec 32 := 1#32
  let arg11_r0 : BitVec 32 := Scf.iv c0_i32_169_r0 c1_i32_171_r0 k2_t12
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off46 (k2_t12 : Fin k2_t12_loop.trips) : Fin 3 → Nat :=
  let c0_i32_410_r0 : BitVec 32 := 0#32
  let v317_r0 : Index := Scalar.indexCast c0_i32_410_r0
  let c0_i32_403_r0 : BitVec 32 := 0#32
  let c0_i32_169_r0 : BitVec 32 := 0#32
  let c1_i32_171_r0 : BitVec 32 := 1#32
  let arg11_r0 : BitVec 32 := Scf.iv c0_i32_169_r0 c1_i32_171_r0 k2_t12
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t13_loop : Scf.Loop 32 :=
  let c0_i32_173_r0 : BitVec 32 := 0#32
  let c64_i32_174_r0 : BitVec 32 := 64#32
  let v201_r0 : BitVec 32 := Scalar.addi c0_i32_173_r0 c64_i32_174_r0
  let c1_i32_175_r0 : BitVec 32 := 1#32
  ⟨c0_i32_173_r0, v201_r0, c1_i32_175_r0⟩
def k2_off47 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off48 (k2_t13 : Fin k2_t13_loop.trips) : Fin 3 → Nat :=
  let c0_i32_406_r0 : BitVec 32 := 0#32
  let v311_r0 : Index := Scalar.indexCast c0_i32_406_r0
  let c0_i32_403_r0 : BitVec 32 := 0#32
  let c0_i32_173_r0 : BitVec 32 := 0#32
  let c1_i32_175_r0 : BitVec 32 := 1#32
  let arg11_r0 : BitVec 32 := Scf.iv c0_i32_173_r0 c1_i32_175_r0 k2_t13
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off49 (k2_t13 : Fin k2_t13_loop.trips) : Fin 3 → Nat :=
  let c0_i32_411_r0 : BitVec 32 := 0#32
  let v318_r0 : Index := Scalar.indexCast c0_i32_411_r0
  let c0_i32_403_r0 : BitVec 32 := 0#32
  let c0_i32_173_r0 : BitVec 32 := 0#32
  let c1_i32_175_r0 : BitVec 32 := 1#32
  let arg11_r0 : BitVec 32 := Scf.iv c0_i32_173_r0 c1_i32_175_r0 k2_t13
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t14_loop : Scf.Loop 32 :=
  let c0_i32_177_r0 : BitVec 32 := 0#32
  let c64_i32_178_r0 : BitVec 32 := 64#32
  let v202_r0 : BitVec 32 := Scalar.addi c0_i32_177_r0 c64_i32_178_r0
  let c1_i32_179_r0 : BitVec 32 := 1#32
  ⟨c0_i32_177_r0, v202_r0, c1_i32_179_r0⟩
def k2_off50 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off51 (k2_t14 : Fin k2_t14_loop.trips) : Fin 3 → Nat :=
  let c0_i32_405_r0 : BitVec 32 := 0#32
  let v310_r0 : Index := Scalar.indexCast c0_i32_405_r0
  let c0_i32_403_r0 : BitVec 32 := 0#32
  let c0_i32_177_r0 : BitVec 32 := 0#32
  let c1_i32_179_r0 : BitVec 32 := 1#32
  let arg11_r0 : BitVec 32 := Scf.iv c0_i32_177_r0 c1_i32_179_r0 k2_t14
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m8_i32_404_r0 : BitVec 32 := 4294967288#32
  let v306_r0 : BitVec 32 := Scalar.andi v305_r0 c_m8_i32_404_r0
  let v307_r0 : BitVec 32 := Scalar.addi v305_r0 v306_r0
  let v311_r0 : Index := Scalar.indexCast v307_r0
  let c0_r0 : Index := 0#32
  ![0, v311_r0.toNat, 0]
def k2_off52 (k2_t14 : Fin k2_t14_loop.trips) : Fin 3 → Nat :=
  let c0_i32_409_r0 : BitVec 32 := 0#32
  let v317_r0 : Index := Scalar.indexCast c0_i32_409_r0
  let c0_i32_403_r0 : BitVec 32 := 0#32
  let c0_i32_177_r0 : BitVec 32 := 0#32
  let c1_i32_179_r0 : BitVec 32 := 1#32
  let arg11_r0 : BitVec 32 := Scf.iv c0_i32_177_r0 c1_i32_179_r0 k2_t14
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m8_i32_404_r0 : BitVec 32 := 4294967288#32
  let v306_r0 : BitVec 32 := Scalar.andi v305_r0 c_m8_i32_404_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_413_r0 : Index := 0#32
  ![0, v318_r0.toNat, 0]
@[reducible] def k2_t15_loop : Scf.Loop 32 :=
  let c0_i32_181_r0 : BitVec 32 := 0#32
  let c64_i32_182_r0 : BitVec 32 := 64#32
  let v203_r0 : BitVec 32 := Scalar.addi c0_i32_181_r0 c64_i32_182_r0
  let c1_i32_183_r0 : BitVec 32 := 1#32
  ⟨c0_i32_181_r0, v203_r0, c1_i32_183_r0⟩
def k2_off53 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off54 (k2_t15 : Fin k2_t15_loop.trips) : Fin 3 → Nat :=
  let c0_i32_405_r0 : BitVec 32 := 0#32
  let v311_r0 : Index := Scalar.indexCast c0_i32_405_r0
  let c0_i32_403_r0 : BitVec 32 := 0#32
  let c0_i32_181_r0 : BitVec 32 := 0#32
  let c1_i32_183_r0 : BitVec 32 := 1#32
  let arg11_r0 : BitVec 32 := Scf.iv c0_i32_181_r0 c1_i32_183_r0 k2_t15
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m8_i32_404_r0 : BitVec 32 := 4294967288#32
  let v307_r0 : BitVec 32 := Scalar.andi v306_r0 c_m8_i32_404_r0
  let v308_r0 : BitVec 32 := Scalar.addi v306_r0 v307_r0
  let v312_r0 : Index := Scalar.indexCast v308_r0
  let c0_r0 : Index := 0#32
  ![0, v312_r0.toNat, 0]
def k2_off55 (k2_t15 : Fin k2_t15_loop.trips) : Fin 3 → Nat :=
  let c0_i32_410_r0 : BitVec 32 := 0#32
  let v318_r0 : Index := Scalar.indexCast c0_i32_410_r0
  let c0_i32_403_r0 : BitVec 32 := 0#32
  let c0_i32_181_r0 : BitVec 32 := 0#32
  let c1_i32_183_r0 : BitVec 32 := 1#32
  let arg11_r0 : BitVec 32 := Scf.iv c0_i32_181_r0 c1_i32_183_r0 k2_t15
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m8_i32_404_r0 : BitVec 32 := 4294967288#32
  let v307_r0 : BitVec 32 := Scalar.andi v306_r0 c_m8_i32_404_r0
  let v308_r0 : BitVec 32 := Scalar.addi v306_r0 v307_r0
  let c8_i32_409_r0 : BitVec 32 := 8#32
  let v315_r0 : BitVec 32 := Scalar.addi v308_r0 c8_i32_409_r0
  let v319_r0 : Index := Scalar.indexCast v315_r0
  let c0_414_r0 : Index := 0#32
  ![0, v319_r0.toNat, 0]
@[reducible] def k2_t16_loop : Scf.Loop 32 :=
  let c0_i32_185_r0 : BitVec 32 := 0#32
  let c64_i32_186_r0 : BitVec 32 := 64#32
  let v204_r0 : BitVec 32 := Scalar.addi c0_i32_185_r0 c64_i32_186_r0
  let c1_i32_187_r0 : BitVec 32 := 1#32
  ⟨c0_i32_185_r0, v204_r0, c1_i32_187_r0⟩
def k2_off56 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off57 (k2_t16 : Fin k2_t16_loop.trips) : Fin 3 → Nat :=
  let c0_i32_404_r0 : BitVec 32 := 0#32
  let v310_r0 : Index := Scalar.indexCast c0_i32_404_r0
  let c0_i32_403_r0 : BitVec 32 := 0#32
  let c0_i32_185_r0 : BitVec 32 := 0#32
  let c1_i32_187_r0 : BitVec 32 := 1#32
  let arg11_r0 : BitVec 32 := Scf.iv c0_i32_185_r0 c1_i32_187_r0 k2_t16
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off58 (k2_t16 : Fin k2_t16_loop.trips) : Fin 3 → Nat :=
  let c0_i32_409_r0 : BitVec 32 := 0#32
  let v317_r0 : Index := Scalar.indexCast c0_i32_409_r0
  let c0_i32_403_r0 : BitVec 32 := 0#32
  let c0_i32_185_r0 : BitVec 32 := 0#32
  let c1_i32_187_r0 : BitVec 32 := 1#32
  let arg11_r0 : BitVec 32 := Scf.iv c0_i32_185_r0 c1_i32_187_r0 k2_t16
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t17_loop : Scf.Loop 32 :=
  let c0_i32_189_r0 : BitVec 32 := 0#32
  let c64_i32_190_r0 : BitVec 32 := 64#32
  let v205_r0 : BitVec 32 := Scalar.addi c0_i32_189_r0 c64_i32_190_r0
  let c1_i32_191_r0 : BitVec 32 := 1#32
  ⟨c0_i32_189_r0, v205_r0, c1_i32_191_r0⟩
def k2_off59 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off60 (k2_t17 : Fin k2_t17_loop.trips) : Fin 3 → Nat :=
  let c0_i32_404_r0 : BitVec 32 := 0#32
  let v311_r0 : Index := Scalar.indexCast c0_i32_404_r0
  let c0_i32_403_r0 : BitVec 32 := 0#32
  let c0_i32_189_r0 : BitVec 32 := 0#32
  let c1_i32_191_r0 : BitVec 32 := 1#32
  let arg11_r0 : BitVec 32 := Scf.iv c0_i32_189_r0 c1_i32_191_r0 k2_t17
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off61 (k2_t17 : Fin k2_t17_loop.trips) : Fin 3 → Nat :=
  let c0_i32_409_r0 : BitVec 32 := 0#32
  let v318_r0 : Index := Scalar.indexCast c0_i32_409_r0
  let c0_i32_403_r0 : BitVec 32 := 0#32
  let c0_i32_189_r0 : BitVec 32 := 0#32
  let c1_i32_191_r0 : BitVec 32 := 1#32
  let arg11_r0 : BitVec 32 := Scf.iv c0_i32_189_r0 c1_i32_191_r0 k2_t17
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m4_i32_r0 : BitVec 32 := 4294967292#32
  let v307_r0 : BitVec 32 := Scalar.andi v306_r0 c_m4_i32_r0
  let v308_r0 : BitVec 32 := Scalar.addi v306_r0 v307_r0
  let c4_i32_408_r0 : BitVec 32 := 4#32
  let v315_r0 : BitVec 32 := Scalar.addi v308_r0 c4_i32_408_r0
  let v319_r0 : Index := Scalar.indexCast v315_r0
  let c0_413_r0 : Index := 0#32
  ![0, v319_r0.toNat, 0]
@[reducible] def k2_t18_loop : Scf.Loop 32 :=
  let c0_i32_193_r0 : BitVec 32 := 0#32
  let c64_i32_194_r0 : BitVec 32 := 64#32
  let v206_r0 : BitVec 32 := Scalar.addi c0_i32_193_r0 c64_i32_194_r0
  let c1_i32_195_r0 : BitVec 32 := 1#32
  ⟨c0_i32_193_r0, v206_r0, c1_i32_195_r0⟩
def k2_off62 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off63 (k2_t18 : Fin k2_t18_loop.trips) : Fin 3 → Nat :=
  let c0_i32_404_r0 : BitVec 32 := 0#32
  let v310_r0 : Index := Scalar.indexCast c0_i32_404_r0
  let c0_i32_403_r0 : BitVec 32 := 0#32
  let c0_i32_193_r0 : BitVec 32 := 0#32
  let c1_i32_195_r0 : BitVec 32 := 1#32
  let arg11_r0 : BitVec 32 := Scf.iv c0_i32_193_r0 c1_i32_195_r0 k2_t18
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off64 (k2_t18 : Fin k2_t18_loop.trips) : Fin 3 → Nat :=
  let c0_i32_409_r0 : BitVec 32 := 0#32
  let v317_r0 : Index := Scalar.indexCast c0_i32_409_r0
  let c0_i32_403_r0 : BitVec 32 := 0#32
  let c0_i32_193_r0 : BitVec 32 := 0#32
  let c1_i32_195_r0 : BitVec 32 := 1#32
  let arg11_r0 : BitVec 32 := Scf.iv c0_i32_193_r0 c1_i32_195_r0 k2_t18
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t19_loop : Scf.Loop 32 :=
  let c0_i32_197_r0 : BitVec 32 := 0#32
  let c64_i32_198_r0 : BitVec 32 := 64#32
  let v207_r0 : BitVec 32 := Scalar.addi c0_i32_197_r0 c64_i32_198_r0
  let c1_i32_199_r0 : BitVec 32 := 1#32
  ⟨c0_i32_197_r0, v207_r0, c1_i32_199_r0⟩
def k2_off65 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off66 (k2_t19 : Fin k2_t19_loop.trips) : Fin 3 → Nat :=
  let c0_i32_404_r0 : BitVec 32 := 0#32
  let v311_r0 : Index := Scalar.indexCast c0_i32_404_r0
  let c0_i32_403_r0 : BitVec 32 := 0#32
  let c0_i32_197_r0 : BitVec 32 := 0#32
  let c1_i32_199_r0 : BitVec 32 := 1#32
  let arg11_r0 : BitVec 32 := Scf.iv c0_i32_197_r0 c1_i32_199_r0 k2_t19
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off67 (k2_t19 : Fin k2_t19_loop.trips) : Fin 3 → Nat :=
  let c0_i32_409_r0 : BitVec 32 := 0#32
  let v318_r0 : Index := Scalar.indexCast c0_i32_409_r0
  let c0_i32_403_r0 : BitVec 32 := 0#32
  let c0_i32_197_r0 : BitVec 32 := 0#32
  let c1_i32_199_r0 : BitVec 32 := 1#32
  let arg11_r0 : BitVec 32 := Scf.iv c0_i32_197_r0 c1_i32_199_r0 k2_t19
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m2_i32_r0 : BitVec 32 := 4294967294#32
  let v307_r0 : BitVec 32 := Scalar.andi v306_r0 c_m2_i32_r0
  let v308_r0 : BitVec 32 := Scalar.addi v306_r0 v307_r0
  let c2_i32_408_r0 : BitVec 32 := 2#32
  let v315_r0 : BitVec 32 := Scalar.addi v308_r0 c2_i32_408_r0
  let v319_r0 : Index := Scalar.indexCast v315_r0
  let c0_413_r0 : Index := 0#32
  ![0, v319_r0.toNat, 0]
@[reducible] def k2_t20_loop : Scf.Loop 32 :=
  let c0_i32_201_r0 : BitVec 32 := 0#32
  let c64_i32_202_r0 : BitVec 32 := 64#32
  let v208_r0 : BitVec 32 := Scalar.addi c0_i32_201_r0 c64_i32_202_r0
  let c1_i32_203_r0 : BitVec 32 := 1#32
  ⟨c0_i32_201_r0, v208_r0, c1_i32_203_r0⟩
def k2_off68 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off69 (k2_t20 : Fin k2_t20_loop.trips) : Fin 3 → Nat :=
  let c0_i32_405_r0 : BitVec 32 := 0#32
  let v310_r0 : Index := Scalar.indexCast c0_i32_405_r0
  let c0_i32_403_r0 : BitVec 32 := 0#32
  let c0_i32_201_r0 : BitVec 32 := 0#32
  let c1_i32_203_r0 : BitVec 32 := 1#32
  let arg11_r0 : BitVec 32 := Scf.iv c0_i32_201_r0 c1_i32_203_r0 k2_t20
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off70 (k2_t20 : Fin k2_t20_loop.trips) : Fin 3 → Nat :=
  let c0_i32_410_r0 : BitVec 32 := 0#32
  let v317_r0 : Index := Scalar.indexCast c0_i32_410_r0
  let c0_i32_403_r0 : BitVec 32 := 0#32
  let c0_i32_201_r0 : BitVec 32 := 0#32
  let c1_i32_203_r0 : BitVec 32 := 1#32
  let arg11_r0 : BitVec 32 := Scf.iv c0_i32_201_r0 c1_i32_203_r0 k2_t20
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t21_loop : Scf.Loop 32 :=
  let c0_i32_205_r0 : BitVec 32 := 0#32
  let c64_i32_206_r0 : BitVec 32 := 64#32
  let v209_r0 : BitVec 32 := Scalar.addi c0_i32_205_r0 c64_i32_206_r0
  let c1_i32_207_r0 : BitVec 32 := 1#32
  ⟨c0_i32_205_r0, v209_r0, c1_i32_207_r0⟩
def k2_off71 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off72 (k2_t21 : Fin k2_t21_loop.trips) : Fin 3 → Nat :=
  let c0_i32_405_r0 : BitVec 32 := 0#32
  let v311_r0 : Index := Scalar.indexCast c0_i32_405_r0
  let c0_i32_403_r0 : BitVec 32 := 0#32
  let c0_i32_205_r0 : BitVec 32 := 0#32
  let c1_i32_207_r0 : BitVec 32 := 1#32
  let arg11_r0 : BitVec 32 := Scf.iv c0_i32_205_r0 c1_i32_207_r0 k2_t21
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m1_i32_404_r0 : BitVec 32 := 4294967295#32
  let v307_r0 : BitVec 32 := Scalar.andi v306_r0 c_m1_i32_404_r0
  let v308_r0 : BitVec 32 := Scalar.addi v306_r0 v307_r0
  let v312_r0 : Index := Scalar.indexCast v308_r0
  let c0_r0 : Index := 0#32
  ![0, v312_r0.toNat, 0]
def k2_off73 (k2_t21 : Fin k2_t21_loop.trips) : Fin 3 → Nat :=
  let c0_i32_410_r0 : BitVec 32 := 0#32
  let v318_r0 : Index := Scalar.indexCast c0_i32_410_r0
  let c0_i32_403_r0 : BitVec 32 := 0#32
  let c0_i32_205_r0 : BitVec 32 := 0#32
  let c1_i32_207_r0 : BitVec 32 := 1#32
  let arg11_r0 : BitVec 32 := Scf.iv c0_i32_205_r0 c1_i32_207_r0 k2_t21
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m1_i32_404_r0 : BitVec 32 := 4294967295#32
  let v307_r0 : BitVec 32 := Scalar.andi v306_r0 c_m1_i32_404_r0
  let v308_r0 : BitVec 32 := Scalar.addi v306_r0 v307_r0
  let c1_i32_409_r0 : BitVec 32 := 1#32
  let v315_r0 : BitVec 32 := Scalar.addi v308_r0 c1_i32_409_r0
  let v319_r0 : Index := Scalar.indexCast v315_r0
  let c0_414_r0 : Index := 0#32
  ![0, v319_r0.toNat, 0]
@[reducible] def k2_t22_loop : Scf.Loop 32 :=
  let c0_i32_209_r0 : BitVec 32 := 0#32
  let c64_i32_210_r0 : BitVec 32 := 64#32
  let v210_r0 : BitVec 32 := Scalar.addi c0_i32_209_r0 c64_i32_210_r0
  let c1_i32_211_r0 : BitVec 32 := 1#32
  ⟨c0_i32_209_r0, v210_r0, c1_i32_211_r0⟩
def k2_off74 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off75 (k2_t22 : Fin k2_t22_loop.trips) : Fin 3 → Nat :=
  let c0_i32_405_r0 : BitVec 32 := 0#32
  let v310_r0 : Index := Scalar.indexCast c0_i32_405_r0
  let c0_i32_403_r0 : BitVec 32 := 0#32
  let c0_i32_209_r0 : BitVec 32 := 0#32
  let c1_i32_211_r0 : BitVec 32 := 1#32
  let arg11_r0 : BitVec 32 := Scf.iv c0_i32_209_r0 c1_i32_211_r0 k2_t22
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m16_i32_404_r0 : BitVec 32 := 4294967280#32
  let v306_r0 : BitVec 32 := Scalar.andi v305_r0 c_m16_i32_404_r0
  let v307_r0 : BitVec 32 := Scalar.addi v305_r0 v306_r0
  let v311_r0 : Index := Scalar.indexCast v307_r0
  let c0_r0 : Index := 0#32
  ![0, v311_r0.toNat, 0]
def k2_off76 (k2_t22 : Fin k2_t22_loop.trips) : Fin 3 → Nat :=
  let c0_i32_410_r0 : BitVec 32 := 0#32
  let v317_r0 : Index := Scalar.indexCast c0_i32_410_r0
  let c0_i32_403_r0 : BitVec 32 := 0#32
  let c0_i32_209_r0 : BitVec 32 := 0#32
  let c1_i32_211_r0 : BitVec 32 := 1#32
  let arg11_r0 : BitVec 32 := Scf.iv c0_i32_209_r0 c1_i32_211_r0 k2_t22
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m16_i32_404_r0 : BitVec 32 := 4294967280#32
  let v306_r0 : BitVec 32 := Scalar.andi v305_r0 c_m16_i32_404_r0
  let v307_r0 : BitVec 32 := Scalar.addi v305_r0 v306_r0
  let c16_i32_409_r0 : BitVec 32 := 16#32
  let v314_r0 : BitVec 32 := Scalar.addi v307_r0 c16_i32_409_r0
  let v318_r0 : Index := Scalar.indexCast v314_r0
  let c0_414_r0 : Index := 0#32
  ![0, v318_r0.toNat, 0]
@[reducible] def k2_t23_loop : Scf.Loop 32 :=
  let c0_i32_213_r0 : BitVec 32 := 0#32
  let c64_i32_214_r0 : BitVec 32 := 64#32
  let v211_r0 : BitVec 32 := Scalar.addi c0_i32_213_r0 c64_i32_214_r0
  let c1_i32_215_r0 : BitVec 32 := 1#32
  ⟨c0_i32_213_r0, v211_r0, c1_i32_215_r0⟩
def k2_off77 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off78 (k2_t23 : Fin k2_t23_loop.trips) : Fin 3 → Nat :=
  let c0_i32_406_r0 : BitVec 32 := 0#32
  let v311_r0 : Index := Scalar.indexCast c0_i32_406_r0
  let c0_i32_403_r0 : BitVec 32 := 0#32
  let c0_i32_213_r0 : BitVec 32 := 0#32
  let c1_i32_215_r0 : BitVec 32 := 1#32
  let arg11_r0 : BitVec 32 := Scf.iv c0_i32_213_r0 c1_i32_215_r0 k2_t23
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m16_i32_405_r0 : BitVec 32 := 4294967280#32
  let v307_r0 : BitVec 32 := Scalar.andi v306_r0 c_m16_i32_405_r0
  let v308_r0 : BitVec 32 := Scalar.addi v306_r0 v307_r0
  let v312_r0 : Index := Scalar.indexCast v308_r0
  let c0_r0 : Index := 0#32
  ![0, v312_r0.toNat, 0]
def k2_off79 (k2_t23 : Fin k2_t23_loop.trips) : Fin 3 → Nat :=
  let c0_i32_411_r0 : BitVec 32 := 0#32
  let v318_r0 : Index := Scalar.indexCast c0_i32_411_r0
  let c0_i32_403_r0 : BitVec 32 := 0#32
  let c0_i32_213_r0 : BitVec 32 := 0#32
  let c1_i32_215_r0 : BitVec 32 := 1#32
  let arg11_r0 : BitVec 32 := Scf.iv c0_i32_213_r0 c1_i32_215_r0 k2_t23
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m16_i32_405_r0 : BitVec 32 := 4294967280#32
  let v307_r0 : BitVec 32 := Scalar.andi v306_r0 c_m16_i32_405_r0
  let v308_r0 : BitVec 32 := Scalar.addi v306_r0 v307_r0
  let c16_i32_410_r0 : BitVec 32 := 16#32
  let v315_r0 : BitVec 32 := Scalar.addi v308_r0 c16_i32_410_r0
  let v319_r0 : Index := Scalar.indexCast v315_r0
  let c0_415_r0 : Index := 0#32
  ![0, v319_r0.toNat, 0]
@[reducible] def k2_t24_loop : Scf.Loop 32 :=
  let c0_i32_217_r0 : BitVec 32 := 0#32
  let c64_i32_218_r0 : BitVec 32 := 64#32
  let v212_r0 : BitVec 32 := Scalar.addi c0_i32_217_r0 c64_i32_218_r0
  let c1_i32_219_r0 : BitVec 32 := 1#32
  ⟨c0_i32_217_r0, v212_r0, c1_i32_219_r0⟩
def k2_off80 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off81 (k2_t24 : Fin k2_t24_loop.trips) : Fin 3 → Nat :=
  let c0_i32_404_r0 : BitVec 32 := 0#32
  let v310_r0 : Index := Scalar.indexCast c0_i32_404_r0
  let c0_i32_403_r0 : BitVec 32 := 0#32
  let c0_i32_217_r0 : BitVec 32 := 0#32
  let c1_i32_219_r0 : BitVec 32 := 1#32
  let arg11_r0 : BitVec 32 := Scf.iv c0_i32_217_r0 c1_i32_219_r0 k2_t24
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let v311_r0 : Index := Scalar.indexCast v307_r0
  let c0_r0 : Index := 0#32
  ![0, v311_r0.toNat, 0]
def k2_off82 (k2_t24 : Fin k2_t24_loop.trips) : Fin 3 → Nat :=
  let c0_i32_408_r0 : BitVec 32 := 0#32
  let v317_r0 : Index := Scalar.indexCast c0_i32_408_r0
  let c0_i32_403_r0 : BitVec 32 := 0#32
  let c0_i32_217_r0 : BitVec 32 := 0#32
  let c1_i32_219_r0 : BitVec 32 := 1#32
  let arg11_r0 : BitVec 32 := Scf.iv c0_i32_217_r0 c1_i32_219_r0 k2_t24
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_412_r0 : Index := 0#32
  ![0, v318_r0.toNat, 0]
@[reducible] def k2_t25_loop : Scf.Loop 32 :=
  let c0_i32_221_r0 : BitVec 32 := 0#32
  let c64_i32_222_r0 : BitVec 32 := 64#32
  let v213_r0 : BitVec 32 := Scalar.addi c0_i32_221_r0 c64_i32_222_r0
  let c1_i32_223_r0 : BitVec 32 := 1#32
  ⟨c0_i32_221_r0, v213_r0, c1_i32_223_r0⟩
def k2_off83 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off84 (k2_t25 : Fin k2_t25_loop.trips) : Fin 3 → Nat :=
  let c0_i32_405_r0 : BitVec 32 := 0#32
  let v311_r0 : Index := Scalar.indexCast c0_i32_405_r0
  let c0_i32_403_r0 : BitVec 32 := 0#32
  let c0_i32_221_r0 : BitVec 32 := 0#32
  let c1_i32_223_r0 : BitVec 32 := 1#32
  let arg11_r0 : BitVec 32 := Scf.iv c0_i32_221_r0 c1_i32_223_r0 k2_t25
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m8_i32_r0 : BitVec 32 := 4294967288#32
  let v307_r0 : BitVec 32 := Scalar.andi v306_r0 c_m8_i32_r0
  let v308_r0 : BitVec 32 := Scalar.addi v306_r0 v307_r0
  let v312_r0 : Index := Scalar.indexCast v308_r0
  let c0_r0 : Index := 0#32
  ![0, v312_r0.toNat, 0]
def k2_off85 (k2_t25 : Fin k2_t25_loop.trips) : Fin 3 → Nat :=
  let c0_i32_409_r0 : BitVec 32 := 0#32
  let v318_r0 : Index := Scalar.indexCast c0_i32_409_r0
  let c0_i32_403_r0 : BitVec 32 := 0#32
  let c0_i32_221_r0 : BitVec 32 := 0#32
  let c1_i32_223_r0 : BitVec 32 := 1#32
  let arg11_r0 : BitVec 32 := Scf.iv c0_i32_221_r0 c1_i32_223_r0 k2_t25
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m8_i32_r0 : BitVec 32 := 4294967288#32
  let v307_r0 : BitVec 32 := Scalar.andi v306_r0 c_m8_i32_r0
  let v308_r0 : BitVec 32 := Scalar.addi v306_r0 v307_r0
  let c8_i32_r0 : BitVec 32 := 8#32
  let v315_r0 : BitVec 32 := Scalar.addi v308_r0 c8_i32_r0
  let v319_r0 : Index := Scalar.indexCast v315_r0
  let c0_413_r0 : Index := 0#32
  ![0, v319_r0.toNat, 0]
@[reducible] def k2_t26_loop : Scf.Loop 32 :=
  let c0_i32_225_r0 : BitVec 32 := 0#32
  let c64_i32_226_r0 : BitVec 32 := 64#32
  let v214_r0 : BitVec 32 := Scalar.addi c0_i32_225_r0 c64_i32_226_r0
  let c1_i32_227_r0 : BitVec 32 := 1#32
  ⟨c0_i32_225_r0, v214_r0, c1_i32_227_r0⟩
def k2_off86 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off87 (k2_t26 : Fin k2_t26_loop.trips) : Fin 3 → Nat :=
  let c0_i32_404_r0 : BitVec 32 := 0#32
  let v310_r0 : Index := Scalar.indexCast c0_i32_404_r0
  let c0_i32_403_r0 : BitVec 32 := 0#32
  let c0_i32_225_r0 : BitVec 32 := 0#32
  let c1_i32_227_r0 : BitVec 32 := 1#32
  let arg11_r0 : BitVec 32 := Scf.iv c0_i32_225_r0 c1_i32_227_r0 k2_t26
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off88 (k2_t26 : Fin k2_t26_loop.trips) : Fin 3 → Nat :=
  let c0_i32_409_r0 : BitVec 32 := 0#32
  let v317_r0 : Index := Scalar.indexCast c0_i32_409_r0
  let c0_i32_403_r0 : BitVec 32 := 0#32
  let c0_i32_225_r0 : BitVec 32 := 0#32
  let c1_i32_227_r0 : BitVec 32 := 1#32
  let arg11_r0 : BitVec 32 := Scf.iv c0_i32_225_r0 c1_i32_227_r0 k2_t26
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t27_loop : Scf.Loop 32 :=
  let c0_i32_229_r0 : BitVec 32 := 0#32
  let c64_i32_230_r0 : BitVec 32 := 64#32
  let v215_r0 : BitVec 32 := Scalar.addi c0_i32_229_r0 c64_i32_230_r0
  let c1_i32_231_r0 : BitVec 32 := 1#32
  ⟨c0_i32_229_r0, v215_r0, c1_i32_231_r0⟩
def k2_off89 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off90 (k2_t27 : Fin k2_t27_loop.trips) : Fin 3 → Nat :=
  let c0_i32_405_r0 : BitVec 32 := 0#32
  let v311_r0 : Index := Scalar.indexCast c0_i32_405_r0
  let c0_i32_403_r0 : BitVec 32 := 0#32
  let c0_i32_229_r0 : BitVec 32 := 0#32
  let c1_i32_231_r0 : BitVec 32 := 1#32
  let arg11_r0 : BitVec 32 := Scf.iv c0_i32_229_r0 c1_i32_231_r0 k2_t27
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off91 (k2_t27 : Fin k2_t27_loop.trips) : Fin 3 → Nat :=
  let c0_i32_410_r0 : BitVec 32 := 0#32
  let v318_r0 : Index := Scalar.indexCast c0_i32_410_r0
  let c0_i32_403_r0 : BitVec 32 := 0#32
  let c0_i32_229_r0 : BitVec 32 := 0#32
  let c1_i32_231_r0 : BitVec 32 := 1#32
  let arg11_r0 : BitVec 32 := Scf.iv c0_i32_229_r0 c1_i32_231_r0 k2_t27
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m4_i32_r0 : BitVec 32 := 4294967292#32
  let v307_r0 : BitVec 32 := Scalar.andi v306_r0 c_m4_i32_r0
  let v308_r0 : BitVec 32 := Scalar.addi v306_r0 v307_r0
  let c4_i32_409_r0 : BitVec 32 := 4#32
  let v315_r0 : BitVec 32 := Scalar.addi v308_r0 c4_i32_409_r0
  let v319_r0 : Index := Scalar.indexCast v315_r0
  let c0_414_r0 : Index := 0#32
  ![0, v319_r0.toNat, 0]
@[reducible] def k2_t28_loop : Scf.Loop 32 :=
  let c0_i32_233_r0 : BitVec 32 := 0#32
  let c64_i32_234_r0 : BitVec 32 := 64#32
  let v216_r0 : BitVec 32 := Scalar.addi c0_i32_233_r0 c64_i32_234_r0
  let c1_i32_235_r0 : BitVec 32 := 1#32
  ⟨c0_i32_233_r0, v216_r0, c1_i32_235_r0⟩
def k2_off92 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off93 (k2_t28 : Fin k2_t28_loop.trips) : Fin 3 → Nat :=
  let c0_i32_404_r0 : BitVec 32 := 0#32
  let v310_r0 : Index := Scalar.indexCast c0_i32_404_r0
  let c0_i32_403_r0 : BitVec 32 := 0#32
  let c0_i32_233_r0 : BitVec 32 := 0#32
  let c1_i32_235_r0 : BitVec 32 := 1#32
  let arg11_r0 : BitVec 32 := Scf.iv c0_i32_233_r0 c1_i32_235_r0 k2_t28
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off94 (k2_t28 : Fin k2_t28_loop.trips) : Fin 3 → Nat :=
  let c0_i32_409_r0 : BitVec 32 := 0#32
  let v317_r0 : Index := Scalar.indexCast c0_i32_409_r0
  let c0_i32_403_r0 : BitVec 32 := 0#32
  let c0_i32_233_r0 : BitVec 32 := 0#32
  let c1_i32_235_r0 : BitVec 32 := 1#32
  let arg11_r0 : BitVec 32 := Scf.iv c0_i32_233_r0 c1_i32_235_r0 k2_t28
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t29_loop : Scf.Loop 32 :=
  let c0_i32_237_r0 : BitVec 32 := 0#32
  let c64_i32_238_r0 : BitVec 32 := 64#32
  let v217_r0 : BitVec 32 := Scalar.addi c0_i32_237_r0 c64_i32_238_r0
  let c1_i32_239_r0 : BitVec 32 := 1#32
  ⟨c0_i32_237_r0, v217_r0, c1_i32_239_r0⟩
def k2_off95 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off96 (k2_t29 : Fin k2_t29_loop.trips) : Fin 3 → Nat :=
  let c0_i32_405_r0 : BitVec 32 := 0#32
  let v311_r0 : Index := Scalar.indexCast c0_i32_405_r0
  let c0_i32_403_r0 : BitVec 32 := 0#32
  let c0_i32_237_r0 : BitVec 32 := 0#32
  let c1_i32_239_r0 : BitVec 32 := 1#32
  let arg11_r0 : BitVec 32 := Scf.iv c0_i32_237_r0 c1_i32_239_r0 k2_t29
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off97 (k2_t29 : Fin k2_t29_loop.trips) : Fin 3 → Nat :=
  let c0_i32_410_r0 : BitVec 32 := 0#32
  let v318_r0 : Index := Scalar.indexCast c0_i32_410_r0
  let c0_i32_403_r0 : BitVec 32 := 0#32
  let c0_i32_237_r0 : BitVec 32 := 0#32
  let c1_i32_239_r0 : BitVec 32 := 1#32
  let arg11_r0 : BitVec 32 := Scf.iv c0_i32_237_r0 c1_i32_239_r0 k2_t29
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m2_i32_r0 : BitVec 32 := 4294967294#32
  let v307_r0 : BitVec 32 := Scalar.andi v306_r0 c_m2_i32_r0
  let v308_r0 : BitVec 32 := Scalar.addi v306_r0 v307_r0
  let c2_i32_409_r0 : BitVec 32 := 2#32
  let v315_r0 : BitVec 32 := Scalar.addi v308_r0 c2_i32_409_r0
  let v319_r0 : Index := Scalar.indexCast v315_r0
  let c0_414_r0 : Index := 0#32
  ![0, v319_r0.toNat, 0]
@[reducible] def k2_t30_loop : Scf.Loop 32 :=
  let c0_i32_241_r0 : BitVec 32 := 0#32
  let c64_i32_242_r0 : BitVec 32 := 64#32
  let v218_r0 : BitVec 32 := Scalar.addi c0_i32_241_r0 c64_i32_242_r0
  let c1_i32_243_r0 : BitVec 32 := 1#32
  ⟨c0_i32_241_r0, v218_r0, c1_i32_243_r0⟩
def k2_off98 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off99 (k2_t30 : Fin k2_t30_loop.trips) : Fin 3 → Nat :=
  let c0_i32_405_r0 : BitVec 32 := 0#32
  let v310_r0 : Index := Scalar.indexCast c0_i32_405_r0
  let c0_i32_403_r0 : BitVec 32 := 0#32
  let c0_i32_241_r0 : BitVec 32 := 0#32
  let c1_i32_243_r0 : BitVec 32 := 1#32
  let arg11_r0 : BitVec 32 := Scf.iv c0_i32_241_r0 c1_i32_243_r0 k2_t30
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off100 (k2_t30 : Fin k2_t30_loop.trips) : Fin 3 → Nat :=
  let c0_i32_410_r0 : BitVec 32 := 0#32
  let v317_r0 : Index := Scalar.indexCast c0_i32_410_r0
  let c0_i32_403_r0 : BitVec 32 := 0#32
  let c0_i32_241_r0 : BitVec 32 := 0#32
  let c1_i32_243_r0 : BitVec 32 := 1#32
  let arg11_r0 : BitVec 32 := Scf.iv c0_i32_241_r0 c1_i32_243_r0 k2_t30
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t31_loop : Scf.Loop 32 :=
  let c0_i32_245_r0 : BitVec 32 := 0#32
  let c64_i32_246_r0 : BitVec 32 := 64#32
  let v219_r0 : BitVec 32 := Scalar.addi c0_i32_245_r0 c64_i32_246_r0
  let c1_i32_247_r0 : BitVec 32 := 1#32
  ⟨c0_i32_245_r0, v219_r0, c1_i32_247_r0⟩
def k2_off101 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off102 (k2_t31 : Fin k2_t31_loop.trips) : Fin 3 → Nat :=
  let c0_i32_406_r0 : BitVec 32 := 0#32
  let v311_r0 : Index := Scalar.indexCast c0_i32_406_r0
  let c0_i32_403_r0 : BitVec 32 := 0#32
  let c0_i32_245_r0 : BitVec 32 := 0#32
  let c1_i32_247_r0 : BitVec 32 := 1#32
  let arg11_r0 : BitVec 32 := Scf.iv c0_i32_245_r0 c1_i32_247_r0 k2_t31
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off103 (k2_t31 : Fin k2_t31_loop.trips) : Fin 3 → Nat :=
  let c0_i32_411_r0 : BitVec 32 := 0#32
  let v318_r0 : Index := Scalar.indexCast c0_i32_411_r0
  let c0_i32_403_r0 : BitVec 32 := 0#32
  let c0_i32_245_r0 : BitVec 32 := 0#32
  let c1_i32_247_r0 : BitVec 32 := 1#32
  let arg11_r0 : BitVec 32 := Scf.iv c0_i32_245_r0 c1_i32_247_r0 k2_t31
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t32_loop : Scf.Loop 32 :=
  let c0_i32_249_r0 : BitVec 32 := 0#32
  let c64_i32_250_r0 : BitVec 32 := 64#32
  let v220_r0 : BitVec 32 := Scalar.addi c0_i32_249_r0 c64_i32_250_r0
  let c1_i32_251_r0 : BitVec 32 := 1#32
  ⟨c0_i32_249_r0, v220_r0, c1_i32_251_r0⟩
def k2_off104 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off105 (k2_t32 : Fin k2_t32_loop.trips) : Fin 3 → Nat :=
  let c0_i32_405_r0 : BitVec 32 := 0#32
  let v310_r0 : Index := Scalar.indexCast c0_i32_405_r0
  let c0_i32_403_r0 : BitVec 32 := 0#32
  let c0_i32_249_r0 : BitVec 32 := 0#32
  let c1_i32_251_r0 : BitVec 32 := 1#32
  let arg11_r0 : BitVec 32 := Scf.iv c0_i32_249_r0 c1_i32_251_r0 k2_t32
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m32_i32_404_r0 : BitVec 32 := 4294967264#32
  let v306_r0 : BitVec 32 := Scalar.andi v305_r0 c_m32_i32_404_r0
  let v307_r0 : BitVec 32 := Scalar.addi v305_r0 v306_r0
  let v311_r0 : Index := Scalar.indexCast v307_r0
  let c0_r0 : Index := 0#32
  ![0, v311_r0.toNat, 0]
def k2_off106 (k2_t32 : Fin k2_t32_loop.trips) : Fin 3 → Nat :=
  let c0_i32_409_r0 : BitVec 32 := 0#32
  let v317_r0 : Index := Scalar.indexCast c0_i32_409_r0
  let c0_i32_403_r0 : BitVec 32 := 0#32
  let c0_i32_249_r0 : BitVec 32 := 0#32
  let c1_i32_251_r0 : BitVec 32 := 1#32
  let arg11_r0 : BitVec 32 := Scf.iv c0_i32_249_r0 c1_i32_251_r0 k2_t32
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m32_i32_404_r0 : BitVec 32 := 4294967264#32
  let v306_r0 : BitVec 32 := Scalar.andi v305_r0 c_m32_i32_404_r0
  let v307_r0 : BitVec 32 := Scalar.addi v305_r0 v306_r0
  let c32_i32_r0 : BitVec 32 := 32#32
  let v314_r0 : BitVec 32 := Scalar.addi v307_r0 c32_i32_r0
  let v318_r0 : Index := Scalar.indexCast v314_r0
  let c0_413_r0 : Index := 0#32
  ![0, v318_r0.toNat, 0]
@[reducible] def k2_t33_loop : Scf.Loop 32 :=
  let c0_i32_253_r0 : BitVec 32 := 0#32
  let c64_i32_254_r0 : BitVec 32 := 64#32
  let v221_r0 : BitVec 32 := Scalar.addi c0_i32_253_r0 c64_i32_254_r0
  let c1_i32_255_r0 : BitVec 32 := 1#32
  ⟨c0_i32_253_r0, v221_r0, c1_i32_255_r0⟩
def k2_off107 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off108 (k2_t33 : Fin k2_t33_loop.trips) : Fin 3 → Nat :=
  let c0_i32_405_r0 : BitVec 32 := 0#32
  let v311_r0 : Index := Scalar.indexCast c0_i32_405_r0
  let c0_i32_403_r0 : BitVec 32 := 0#32
  let c0_i32_253_r0 : BitVec 32 := 0#32
  let c1_i32_255_r0 : BitVec 32 := 1#32
  let arg11_r0 : BitVec 32 := Scf.iv c0_i32_253_r0 c1_i32_255_r0 k2_t33
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m32_i32_404_r0 : BitVec 32 := 4294967264#32
  let v307_r0 : BitVec 32 := Scalar.andi v306_r0 c_m32_i32_404_r0
  let v308_r0 : BitVec 32 := Scalar.addi v306_r0 v307_r0
  let v312_r0 : Index := Scalar.indexCast v308_r0
  let c0_r0 : Index := 0#32
  ![0, v312_r0.toNat, 0]
def k2_off109 (k2_t33 : Fin k2_t33_loop.trips) : Fin 3 → Nat :=
  let c0_i32_410_r0 : BitVec 32 := 0#32
  let v318_r0 : Index := Scalar.indexCast c0_i32_410_r0
  let c0_i32_403_r0 : BitVec 32 := 0#32
  let c0_i32_253_r0 : BitVec 32 := 0#32
  let c1_i32_255_r0 : BitVec 32 := 1#32
  let arg11_r0 : BitVec 32 := Scf.iv c0_i32_253_r0 c1_i32_255_r0 k2_t33
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m32_i32_404_r0 : BitVec 32 := 4294967264#32
  let v307_r0 : BitVec 32 := Scalar.andi v306_r0 c_m32_i32_404_r0
  let v308_r0 : BitVec 32 := Scalar.addi v306_r0 v307_r0
  let c32_i32_409_r0 : BitVec 32 := 32#32
  let v315_r0 : BitVec 32 := Scalar.addi v308_r0 c32_i32_409_r0
  let v319_r0 : Index := Scalar.indexCast v315_r0
  let c0_414_r0 : Index := 0#32
  ![0, v319_r0.toNat, 0]
@[reducible] def k2_t34_loop : Scf.Loop 32 :=
  let c0_i32_257_r0 : BitVec 32 := 0#32
  let c64_i32_258_r0 : BitVec 32 := 64#32
  let v222_r0 : BitVec 32 := Scalar.addi c0_i32_257_r0 c64_i32_258_r0
  let c1_i32_259_r0 : BitVec 32 := 1#32
  ⟨c0_i32_257_r0, v222_r0, c1_i32_259_r0⟩
def k2_off110 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off111 (k2_t34 : Fin k2_t34_loop.trips) : Fin 3 → Nat :=
  let c0_i32_404_r0 : BitVec 32 := 0#32
  let v310_r0 : Index := Scalar.indexCast c0_i32_404_r0
  let c0_i32_403_r0 : BitVec 32 := 0#32
  let c0_i32_257_r0 : BitVec 32 := 0#32
  let c1_i32_259_r0 : BitVec 32 := 1#32
  let arg11_r0 : BitVec 32 := Scf.iv c0_i32_257_r0 c1_i32_259_r0 k2_t34
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let v311_r0 : Index := Scalar.indexCast v307_r0
  let c0_r0 : Index := 0#32
  ![0, v311_r0.toNat, 0]
def k2_off112 (k2_t34 : Fin k2_t34_loop.trips) : Fin 3 → Nat :=
  let c0_i32_409_r0 : BitVec 32 := 0#32
  let v317_r0 : Index := Scalar.indexCast c0_i32_409_r0
  let c0_i32_403_r0 : BitVec 32 := 0#32
  let c0_i32_257_r0 : BitVec 32 := 0#32
  let c1_i32_259_r0 : BitVec 32 := 1#32
  let arg11_r0 : BitVec 32 := Scf.iv c0_i32_257_r0 c1_i32_259_r0 k2_t34
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let c16_i32_408_r0 : BitVec 32 := 16#32
  let v314_r0 : BitVec 32 := Scalar.addi v307_r0 c16_i32_408_r0
  let v318_r0 : Index := Scalar.indexCast v314_r0
  let c0_413_r0 : Index := 0#32
  ![0, v318_r0.toNat, 0]
@[reducible] def k2_t35_loop : Scf.Loop 32 :=
  let c0_i32_261_r0 : BitVec 32 := 0#32
  let c64_i32_262_r0 : BitVec 32 := 64#32
  let v223_r0 : BitVec 32 := Scalar.addi c0_i32_261_r0 c64_i32_262_r0
  let c1_i32_263_r0 : BitVec 32 := 1#32
  ⟨c0_i32_261_r0, v223_r0, c1_i32_263_r0⟩
def k2_off113 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off114 (k2_t35 : Fin k2_t35_loop.trips) : Fin 3 → Nat :=
  let c0_i32_404_r0 : BitVec 32 := 0#32
  let v311_r0 : Index := Scalar.indexCast c0_i32_404_r0
  let c0_i32_403_r0 : BitVec 32 := 0#32
  let c0_i32_261_r0 : BitVec 32 := 0#32
  let c1_i32_263_r0 : BitVec 32 := 1#32
  let arg11_r0 : BitVec 32 := Scf.iv c0_i32_261_r0 c1_i32_263_r0 k2_t35
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m16_i32_r0 : BitVec 32 := 4294967280#32
  let v307_r0 : BitVec 32 := Scalar.andi v306_r0 c_m16_i32_r0
  let v308_r0 : BitVec 32 := Scalar.addi v306_r0 v307_r0
  let v312_r0 : Index := Scalar.indexCast v308_r0
  let c0_r0 : Index := 0#32
  ![0, v312_r0.toNat, 0]
def k2_off115 (k2_t35 : Fin k2_t35_loop.trips) : Fin 3 → Nat :=
  let c0_i32_409_r0 : BitVec 32 := 0#32
  let v318_r0 : Index := Scalar.indexCast c0_i32_409_r0
  let c0_i32_403_r0 : BitVec 32 := 0#32
  let c0_i32_261_r0 : BitVec 32 := 0#32
  let c1_i32_263_r0 : BitVec 32 := 1#32
  let arg11_r0 : BitVec 32 := Scf.iv c0_i32_261_r0 c1_i32_263_r0 k2_t35
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m16_i32_r0 : BitVec 32 := 4294967280#32
  let v307_r0 : BitVec 32 := Scalar.andi v306_r0 c_m16_i32_r0
  let v308_r0 : BitVec 32 := Scalar.addi v306_r0 v307_r0
  let c16_i32_408_r0 : BitVec 32 := 16#32
  let v315_r0 : BitVec 32 := Scalar.addi v308_r0 c16_i32_408_r0
  let v319_r0 : Index := Scalar.indexCast v315_r0
  let c0_413_r0 : Index := 0#32
  ![0, v319_r0.toNat, 0]
@[reducible] def k2_t36_loop : Scf.Loop 32 :=
  let c0_i32_265_r0 : BitVec 32 := 0#32
  let c64_i32_266_r0 : BitVec 32 := 64#32
  let v224_r0 : BitVec 32 := Scalar.addi c0_i32_265_r0 c64_i32_266_r0
  let c1_i32_267_r0 : BitVec 32 := 1#32
  ⟨c0_i32_265_r0, v224_r0, c1_i32_267_r0⟩
def k2_off116 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off117 (k2_t36 : Fin k2_t36_loop.trips) : Fin 3 → Nat :=
  let c0_i32_404_r0 : BitVec 32 := 0#32
  let v310_r0 : Index := Scalar.indexCast c0_i32_404_r0
  let c0_i32_403_r0 : BitVec 32 := 0#32
  let c0_i32_265_r0 : BitVec 32 := 0#32
  let c1_i32_267_r0 : BitVec 32 := 1#32
  let arg11_r0 : BitVec 32 := Scf.iv c0_i32_265_r0 c1_i32_267_r0 k2_t36
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let v311_r0 : Index := Scalar.indexCast v307_r0
  let c0_r0 : Index := 0#32
  ![0, v311_r0.toNat, 0]
def k2_off118 (k2_t36 : Fin k2_t36_loop.trips) : Fin 3 → Nat :=
  let c0_i32_408_r0 : BitVec 32 := 0#32
  let v317_r0 : Index := Scalar.indexCast c0_i32_408_r0
  let c0_i32_403_r0 : BitVec 32 := 0#32
  let c0_i32_265_r0 : BitVec 32 := 0#32
  let c1_i32_267_r0 : BitVec 32 := 1#32
  let arg11_r0 : BitVec 32 := Scf.iv c0_i32_265_r0 c1_i32_267_r0 k2_t36
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_412_r0 : Index := 0#32
  ![0, v318_r0.toNat, 0]
@[reducible] def k2_t37_loop : Scf.Loop 32 :=
  let c0_i32_269_r0 : BitVec 32 := 0#32
  let c64_i32_270_r0 : BitVec 32 := 64#32
  let v225_r0 : BitVec 32 := Scalar.addi c0_i32_269_r0 c64_i32_270_r0
  let c1_i32_271_r0 : BitVec 32 := 1#32
  ⟨c0_i32_269_r0, v225_r0, c1_i32_271_r0⟩
def k2_off119 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off120 (k2_t37 : Fin k2_t37_loop.trips) : Fin 3 → Nat :=
  let c0_i32_404_r0 : BitVec 32 := 0#32
  let v311_r0 : Index := Scalar.indexCast c0_i32_404_r0
  let c0_i32_403_r0 : BitVec 32 := 0#32
  let c0_i32_269_r0 : BitVec 32 := 0#32
  let c1_i32_271_r0 : BitVec 32 := 1#32
  let arg11_r0 : BitVec 32 := Scf.iv c0_i32_269_r0 c1_i32_271_r0 k2_t37
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m8_i32_r0 : BitVec 32 := 4294967288#32
  let v307_r0 : BitVec 32 := Scalar.andi v306_r0 c_m8_i32_r0
  let v308_r0 : BitVec 32 := Scalar.addi v306_r0 v307_r0
  let v312_r0 : Index := Scalar.indexCast v308_r0
  let c0_r0 : Index := 0#32
  ![0, v312_r0.toNat, 0]
def k2_off121 (k2_t37 : Fin k2_t37_loop.trips) : Fin 3 → Nat :=
  let c0_i32_408_r0 : BitVec 32 := 0#32
  let v318_r0 : Index := Scalar.indexCast c0_i32_408_r0
  let c0_i32_403_r0 : BitVec 32 := 0#32
  let c0_i32_269_r0 : BitVec 32 := 0#32
  let c1_i32_271_r0 : BitVec 32 := 1#32
  let arg11_r0 : BitVec 32 := Scf.iv c0_i32_269_r0 c1_i32_271_r0 k2_t37
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m8_i32_r0 : BitVec 32 := 4294967288#32
  let v307_r0 : BitVec 32 := Scalar.andi v306_r0 c_m8_i32_r0
  let v308_r0 : BitVec 32 := Scalar.addi v306_r0 v307_r0
  let c8_i32_r0 : BitVec 32 := 8#32
  let v315_r0 : BitVec 32 := Scalar.addi v308_r0 c8_i32_r0
  let v319_r0 : Index := Scalar.indexCast v315_r0
  let c0_412_r0 : Index := 0#32
  ![0, v319_r0.toNat, 0]
@[reducible] def k2_t38_loop : Scf.Loop 32 :=
  let c0_i32_273_r0 : BitVec 32 := 0#32
  let c64_i32_274_r0 : BitVec 32 := 64#32
  let v226_r0 : BitVec 32 := Scalar.addi c0_i32_273_r0 c64_i32_274_r0
  let c1_i32_275_r0 : BitVec 32 := 1#32
  ⟨c0_i32_273_r0, v226_r0, c1_i32_275_r0⟩
def k2_off122 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off123 (k2_t38 : Fin k2_t38_loop.trips) : Fin 3 → Nat :=
  let c0_i32_404_r0 : BitVec 32 := 0#32
  let v310_r0 : Index := Scalar.indexCast c0_i32_404_r0
  let c0_i32_403_r0 : BitVec 32 := 0#32
  let c0_i32_273_r0 : BitVec 32 := 0#32
  let c1_i32_275_r0 : BitVec 32 := 1#32
  let arg11_r0 : BitVec 32 := Scf.iv c0_i32_273_r0 c1_i32_275_r0 k2_t38
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off124 (k2_t38 : Fin k2_t38_loop.trips) : Fin 3 → Nat :=
  let c0_i32_409_r0 : BitVec 32 := 0#32
  let v317_r0 : Index := Scalar.indexCast c0_i32_409_r0
  let c0_i32_403_r0 : BitVec 32 := 0#32
  let c0_i32_273_r0 : BitVec 32 := 0#32
  let c1_i32_275_r0 : BitVec 32 := 1#32
  let arg11_r0 : BitVec 32 := Scf.iv c0_i32_273_r0 c1_i32_275_r0 k2_t38
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t39_loop : Scf.Loop 32 :=
  let c0_i32_277_r0 : BitVec 32 := 0#32
  let c64_i32_278_r0 : BitVec 32 := 64#32
  let v227_r0 : BitVec 32 := Scalar.addi c0_i32_277_r0 c64_i32_278_r0
  let c1_i32_279_r0 : BitVec 32 := 1#32
  ⟨c0_i32_277_r0, v227_r0, c1_i32_279_r0⟩
def k2_off125 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off126 (k2_t39 : Fin k2_t39_loop.trips) : Fin 3 → Nat :=
  let c0_i32_404_r0 : BitVec 32 := 0#32
  let v311_r0 : Index := Scalar.indexCast c0_i32_404_r0
  let c0_i32_403_r0 : BitVec 32 := 0#32
  let c0_i32_277_r0 : BitVec 32 := 0#32
  let c1_i32_279_r0 : BitVec 32 := 1#32
  let arg11_r0 : BitVec 32 := Scf.iv c0_i32_277_r0 c1_i32_279_r0 k2_t39
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off127 (k2_t39 : Fin k2_t39_loop.trips) : Fin 3 → Nat :=
  let c0_i32_409_r0 : BitVec 32 := 0#32
  let v318_r0 : Index := Scalar.indexCast c0_i32_409_r0
  let c0_i32_403_r0 : BitVec 32 := 0#32
  let c0_i32_277_r0 : BitVec 32 := 0#32
  let c1_i32_279_r0 : BitVec 32 := 1#32
  let arg11_r0 : BitVec 32 := Scf.iv c0_i32_277_r0 c1_i32_279_r0 k2_t39
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m4_i32_r0 : BitVec 32 := 4294967292#32
  let v307_r0 : BitVec 32 := Scalar.andi v306_r0 c_m4_i32_r0
  let v308_r0 : BitVec 32 := Scalar.addi v306_r0 v307_r0
  let c4_i32_408_r0 : BitVec 32 := 4#32
  let v315_r0 : BitVec 32 := Scalar.addi v308_r0 c4_i32_408_r0
  let v319_r0 : Index := Scalar.indexCast v315_r0
  let c0_413_r0 : Index := 0#32
  ![0, v319_r0.toNat, 0]
@[reducible] def k2_t40_loop : Scf.Loop 32 :=
  let c0_i32_281_r0 : BitVec 32 := 0#32
  let c64_i32_282_r0 : BitVec 32 := 64#32
  let v228_r0 : BitVec 32 := Scalar.addi c0_i32_281_r0 c64_i32_282_r0
  let c1_i32_283_r0 : BitVec 32 := 1#32
  ⟨c0_i32_281_r0, v228_r0, c1_i32_283_r0⟩
def k2_off128 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off129 (k2_t40 : Fin k2_t40_loop.trips) : Fin 3 → Nat :=
  let c0_i32_404_r0 : BitVec 32 := 0#32
  let v310_r0 : Index := Scalar.indexCast c0_i32_404_r0
  let c0_i32_403_r0 : BitVec 32 := 0#32
  let c0_i32_281_r0 : BitVec 32 := 0#32
  let c1_i32_283_r0 : BitVec 32 := 1#32
  let arg11_r0 : BitVec 32 := Scf.iv c0_i32_281_r0 c1_i32_283_r0 k2_t40
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off130 (k2_t40 : Fin k2_t40_loop.trips) : Fin 3 → Nat :=
  let c0_i32_409_r0 : BitVec 32 := 0#32
  let v317_r0 : Index := Scalar.indexCast c0_i32_409_r0
  let c0_i32_403_r0 : BitVec 32 := 0#32
  let c0_i32_281_r0 : BitVec 32 := 0#32
  let c1_i32_283_r0 : BitVec 32 := 1#32
  let arg11_r0 : BitVec 32 := Scf.iv c0_i32_281_r0 c1_i32_283_r0 k2_t40
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t41_loop : Scf.Loop 32 :=
  let c0_i32_285_r0 : BitVec 32 := 0#32
  let c64_i32_286_r0 : BitVec 32 := 64#32
  let v229_r0 : BitVec 32 := Scalar.addi c0_i32_285_r0 c64_i32_286_r0
  let c1_i32_287_r0 : BitVec 32 := 1#32
  ⟨c0_i32_285_r0, v229_r0, c1_i32_287_r0⟩
def k2_off131 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off132 (k2_t41 : Fin k2_t41_loop.trips) : Fin 3 → Nat :=
  let c0_i32_404_r0 : BitVec 32 := 0#32
  let v311_r0 : Index := Scalar.indexCast c0_i32_404_r0
  let c0_i32_403_r0 : BitVec 32 := 0#32
  let c0_i32_285_r0 : BitVec 32 := 0#32
  let c1_i32_287_r0 : BitVec 32 := 1#32
  let arg11_r0 : BitVec 32 := Scf.iv c0_i32_285_r0 c1_i32_287_r0 k2_t41
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off133 (k2_t41 : Fin k2_t41_loop.trips) : Fin 3 → Nat :=
  let c0_i32_409_r0 : BitVec 32 := 0#32
  let v318_r0 : Index := Scalar.indexCast c0_i32_409_r0
  let c0_i32_403_r0 : BitVec 32 := 0#32
  let c0_i32_285_r0 : BitVec 32 := 0#32
  let c1_i32_287_r0 : BitVec 32 := 1#32
  let arg11_r0 : BitVec 32 := Scf.iv c0_i32_285_r0 c1_i32_287_r0 k2_t41
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m2_i32_r0 : BitVec 32 := 4294967294#32
  let v307_r0 : BitVec 32 := Scalar.andi v306_r0 c_m2_i32_r0
  let v308_r0 : BitVec 32 := Scalar.addi v306_r0 v307_r0
  let c2_i32_408_r0 : BitVec 32 := 2#32
  let v315_r0 : BitVec 32 := Scalar.addi v308_r0 c2_i32_408_r0
  let v319_r0 : Index := Scalar.indexCast v315_r0
  let c0_413_r0 : Index := 0#32
  ![0, v319_r0.toNat, 0]
@[reducible] def k2_t42_loop : Scf.Loop 32 :=
  let c0_i32_289_r0 : BitVec 32 := 0#32
  let c64_i32_290_r0 : BitVec 32 := 64#32
  let v230_r0 : BitVec 32 := Scalar.addi c0_i32_289_r0 c64_i32_290_r0
  let c1_i32_291_r0 : BitVec 32 := 1#32
  ⟨c0_i32_289_r0, v230_r0, c1_i32_291_r0⟩
def k2_off134 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off135 (k2_t42 : Fin k2_t42_loop.trips) : Fin 3 → Nat :=
  let c0_i32_405_r0 : BitVec 32 := 0#32
  let v310_r0 : Index := Scalar.indexCast c0_i32_405_r0
  let c0_i32_403_r0 : BitVec 32 := 0#32
  let c0_i32_289_r0 : BitVec 32 := 0#32
  let c1_i32_291_r0 : BitVec 32 := 1#32
  let arg11_r0 : BitVec 32 := Scf.iv c0_i32_289_r0 c1_i32_291_r0 k2_t42
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off136 (k2_t42 : Fin k2_t42_loop.trips) : Fin 3 → Nat :=
  let c0_i32_410_r0 : BitVec 32 := 0#32
  let v317_r0 : Index := Scalar.indexCast c0_i32_410_r0
  let c0_i32_403_r0 : BitVec 32 := 0#32
  let c0_i32_289_r0 : BitVec 32 := 0#32
  let c1_i32_291_r0 : BitVec 32 := 1#32
  let arg11_r0 : BitVec 32 := Scf.iv c0_i32_289_r0 c1_i32_291_r0 k2_t42
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t43_loop : Scf.Loop 32 :=
  let c0_i32_293_r0 : BitVec 32 := 0#32
  let c64_i32_294_r0 : BitVec 32 := 64#32
  let v231_r0 : BitVec 32 := Scalar.addi c0_i32_293_r0 c64_i32_294_r0
  let c1_i32_295_r0 : BitVec 32 := 1#32
  ⟨c0_i32_293_r0, v231_r0, c1_i32_295_r0⟩
def k2_off137 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off138 (k2_t43 : Fin k2_t43_loop.trips) : Fin 3 → Nat :=
  let c0_i32_405_r0 : BitVec 32 := 0#32
  let v311_r0 : Index := Scalar.indexCast c0_i32_405_r0
  let c0_i32_403_r0 : BitVec 32 := 0#32
  let c0_i32_293_r0 : BitVec 32 := 0#32
  let c1_i32_295_r0 : BitVec 32 := 1#32
  let arg11_r0 : BitVec 32 := Scf.iv c0_i32_293_r0 c1_i32_295_r0 k2_t43
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m1_i32_404_r0 : BitVec 32 := 4294967295#32
  let v307_r0 : BitVec 32 := Scalar.andi v306_r0 c_m1_i32_404_r0
  let v308_r0 : BitVec 32 := Scalar.addi v306_r0 v307_r0
  let v312_r0 : Index := Scalar.indexCast v308_r0
  let c0_r0 : Index := 0#32
  ![0, v312_r0.toNat, 0]
def k2_off139 (k2_t43 : Fin k2_t43_loop.trips) : Fin 3 → Nat :=
  let c0_i32_410_r0 : BitVec 32 := 0#32
  let v318_r0 : Index := Scalar.indexCast c0_i32_410_r0
  let c0_i32_403_r0 : BitVec 32 := 0#32
  let c0_i32_293_r0 : BitVec 32 := 0#32
  let c1_i32_295_r0 : BitVec 32 := 1#32
  let arg11_r0 : BitVec 32 := Scf.iv c0_i32_293_r0 c1_i32_295_r0 k2_t43
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m1_i32_404_r0 : BitVec 32 := 4294967295#32
  let v307_r0 : BitVec 32 := Scalar.andi v306_r0 c_m1_i32_404_r0
  let v308_r0 : BitVec 32 := Scalar.addi v306_r0 v307_r0
  let c1_i32_409_r0 : BitVec 32 := 1#32
  let v315_r0 : BitVec 32 := Scalar.addi v308_r0 c1_i32_409_r0
  let v319_r0 : Index := Scalar.indexCast v315_r0
  let c0_414_r0 : Index := 0#32
  ![0, v319_r0.toNat, 0]
@[reducible] def k2_t44_loop : Scf.Loop 32 :=
  let c0_i32_297_r0 : BitVec 32 := 0#32
  let c64_i32_298_r0 : BitVec 32 := 64#32
  let v232_r0 : BitVec 32 := Scalar.addi c0_i32_297_r0 c64_i32_298_r0
  let c1_i32_299_r0 : BitVec 32 := 1#32
  ⟨c0_i32_297_r0, v232_r0, c1_i32_299_r0⟩
def k2_off140 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off141 (k2_t44 : Fin k2_t44_loop.trips) : Fin 3 → Nat :=
  let c0_i32_405_r0 : BitVec 32 := 0#32
  let v310_r0 : Index := Scalar.indexCast c0_i32_405_r0
  let c0_i32_403_r0 : BitVec 32 := 0#32
  let c0_i32_297_r0 : BitVec 32 := 0#32
  let c1_i32_299_r0 : BitVec 32 := 1#32
  let arg11_r0 : BitVec 32 := Scf.iv c0_i32_297_r0 c1_i32_299_r0 k2_t44
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m64_i32_404_r0 : BitVec 32 := 4294967232#32
  let v306_r0 : BitVec 32 := Scalar.andi v305_r0 c_m64_i32_404_r0
  let v307_r0 : BitVec 32 := Scalar.addi v305_r0 v306_r0
  let v311_r0 : Index := Scalar.indexCast v307_r0
  let c0_r0 : Index := 0#32
  ![0, v311_r0.toNat, 0]
def k2_off142 (k2_t44 : Fin k2_t44_loop.trips) : Fin 3 → Nat :=
  let c0_i32_410_r0 : BitVec 32 := 0#32
  let v317_r0 : Index := Scalar.indexCast c0_i32_410_r0
  let c0_i32_403_r0 : BitVec 32 := 0#32
  let c0_i32_297_r0 : BitVec 32 := 0#32
  let c1_i32_299_r0 : BitVec 32 := 1#32
  let arg11_r0 : BitVec 32 := Scf.iv c0_i32_297_r0 c1_i32_299_r0 k2_t44
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m64_i32_404_r0 : BitVec 32 := 4294967232#32
  let v306_r0 : BitVec 32 := Scalar.andi v305_r0 c_m64_i32_404_r0
  let v307_r0 : BitVec 32 := Scalar.addi v305_r0 v306_r0
  let c64_i32_409_r0 : BitVec 32 := 64#32
  let v314_r0 : BitVec 32 := Scalar.addi v307_r0 c64_i32_409_r0
  let v318_r0 : Index := Scalar.indexCast v314_r0
  let c0_414_r0 : Index := 0#32
  ![0, v318_r0.toNat, 0]
@[reducible] def k2_t45_loop : Scf.Loop 32 :=
  let c0_i32_301_r0 : BitVec 32 := 0#32
  let c64_i32_302_r0 : BitVec 32 := 64#32
  let v233_r0 : BitVec 32 := Scalar.addi c0_i32_301_r0 c64_i32_302_r0
  let c1_i32_303_r0 : BitVec 32 := 1#32
  ⟨c0_i32_301_r0, v233_r0, c1_i32_303_r0⟩
def k2_off143 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off144 (k2_t45 : Fin k2_t45_loop.trips) : Fin 3 → Nat :=
  let c0_i32_406_r0 : BitVec 32 := 0#32
  let v311_r0 : Index := Scalar.indexCast c0_i32_406_r0
  let c0_i32_403_r0 : BitVec 32 := 0#32
  let c0_i32_301_r0 : BitVec 32 := 0#32
  let c1_i32_303_r0 : BitVec 32 := 1#32
  let arg11_r0 : BitVec 32 := Scf.iv c0_i32_301_r0 c1_i32_303_r0 k2_t45
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m64_i32_405_r0 : BitVec 32 := 4294967232#32
  let v307_r0 : BitVec 32 := Scalar.andi v306_r0 c_m64_i32_405_r0
  let v308_r0 : BitVec 32 := Scalar.addi v306_r0 v307_r0
  let v312_r0 : Index := Scalar.indexCast v308_r0
  let c0_r0 : Index := 0#32
  ![0, v312_r0.toNat, 0]
def k2_off145 (k2_t45 : Fin k2_t45_loop.trips) : Fin 3 → Nat :=
  let c0_i32_411_r0 : BitVec 32 := 0#32
  let v318_r0 : Index := Scalar.indexCast c0_i32_411_r0
  let c0_i32_403_r0 : BitVec 32 := 0#32
  let c0_i32_301_r0 : BitVec 32 := 0#32
  let c1_i32_303_r0 : BitVec 32 := 1#32
  let arg11_r0 : BitVec 32 := Scf.iv c0_i32_301_r0 c1_i32_303_r0 k2_t45
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m64_i32_405_r0 : BitVec 32 := 4294967232#32
  let v307_r0 : BitVec 32 := Scalar.andi v306_r0 c_m64_i32_405_r0
  let v308_r0 : BitVec 32 := Scalar.addi v306_r0 v307_r0
  let c64_i32_410_r0 : BitVec 32 := 64#32
  let v315_r0 : BitVec 32 := Scalar.addi v308_r0 c64_i32_410_r0
  let v319_r0 : Index := Scalar.indexCast v315_r0
  let c0_415_r0 : Index := 0#32
  ![0, v319_r0.toNat, 0]
@[reducible] def k2_t46_loop : Scf.Loop 32 :=
  let c0_i32_305_r0 : BitVec 32 := 0#32
  let c64_i32_306_r0 : BitVec 32 := 64#32
  let v234_r0 : BitVec 32 := Scalar.addi c0_i32_305_r0 c64_i32_306_r0
  let c1_i32_307_r0 : BitVec 32 := 1#32
  ⟨c0_i32_305_r0, v234_r0, c1_i32_307_r0⟩
def k2_off146 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off147 (k2_t46 : Fin k2_t46_loop.trips) : Fin 3 → Nat :=
  let c0_i32_404_r0 : BitVec 32 := 0#32
  let v310_r0 : Index := Scalar.indexCast c0_i32_404_r0
  let c0_i32_403_r0 : BitVec 32 := 0#32
  let c0_i32_305_r0 : BitVec 32 := 0#32
  let c1_i32_307_r0 : BitVec 32 := 1#32
  let arg11_r0 : BitVec 32 := Scf.iv c0_i32_305_r0 c1_i32_307_r0 k2_t46
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m32_i32_r0 : BitVec 32 := 4294967264#32
  let v306_r0 : BitVec 32 := Scalar.andi v305_r0 c_m32_i32_r0
  let v307_r0 : BitVec 32 := Scalar.addi v305_r0 v306_r0
  let v311_r0 : Index := Scalar.indexCast v307_r0
  let c0_r0 : Index := 0#32
  ![0, v311_r0.toNat, 0]
def k2_off148 (k2_t46 : Fin k2_t46_loop.trips) : Fin 3 → Nat :=
  let c0_i32_408_r0 : BitVec 32 := 0#32
  let v317_r0 : Index := Scalar.indexCast c0_i32_408_r0
  let c0_i32_403_r0 : BitVec 32 := 0#32
  let c0_i32_305_r0 : BitVec 32 := 0#32
  let c1_i32_307_r0 : BitVec 32 := 1#32
  let arg11_r0 : BitVec 32 := Scf.iv c0_i32_305_r0 c1_i32_307_r0 k2_t46
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m32_i32_r0 : BitVec 32 := 4294967264#32
  let v306_r0 : BitVec 32 := Scalar.andi v305_r0 c_m32_i32_r0
  let v307_r0 : BitVec 32 := Scalar.addi v305_r0 v306_r0
  let c32_i32_r0 : BitVec 32 := 32#32
  let v314_r0 : BitVec 32 := Scalar.addi v307_r0 c32_i32_r0
  let v318_r0 : Index := Scalar.indexCast v314_r0
  let c0_412_r0 : Index := 0#32
  ![0, v318_r0.toNat, 0]
@[reducible] def k2_t47_loop : Scf.Loop 32 :=
  let c0_i32_309_r0 : BitVec 32 := 0#32
  let c64_i32_310_r0 : BitVec 32 := 64#32
  let v235_r0 : BitVec 32 := Scalar.addi c0_i32_309_r0 c64_i32_310_r0
  let c1_i32_311_r0 : BitVec 32 := 1#32
  ⟨c0_i32_309_r0, v235_r0, c1_i32_311_r0⟩
def k2_off149 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off150 (k2_t47 : Fin k2_t47_loop.trips) : Fin 3 → Nat :=
  let c0_i32_405_r0 : BitVec 32 := 0#32
  let v311_r0 : Index := Scalar.indexCast c0_i32_405_r0
  let c0_i32_403_r0 : BitVec 32 := 0#32
  let c0_i32_309_r0 : BitVec 32 := 0#32
  let c1_i32_311_r0 : BitVec 32 := 1#32
  let arg11_r0 : BitVec 32 := Scf.iv c0_i32_309_r0 c1_i32_311_r0 k2_t47
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m32_i32_r0 : BitVec 32 := 4294967264#32
  let v307_r0 : BitVec 32 := Scalar.andi v306_r0 c_m32_i32_r0
  let v308_r0 : BitVec 32 := Scalar.addi v306_r0 v307_r0
  let v312_r0 : Index := Scalar.indexCast v308_r0
  let c0_r0 : Index := 0#32
  ![0, v312_r0.toNat, 0]
def k2_off151 (k2_t47 : Fin k2_t47_loop.trips) : Fin 3 → Nat :=
  let c0_i32_409_r0 : BitVec 32 := 0#32
  let v318_r0 : Index := Scalar.indexCast c0_i32_409_r0
  let c0_i32_403_r0 : BitVec 32 := 0#32
  let c0_i32_309_r0 : BitVec 32 := 0#32
  let c1_i32_311_r0 : BitVec 32 := 1#32
  let arg11_r0 : BitVec 32 := Scf.iv c0_i32_309_r0 c1_i32_311_r0 k2_t47
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m32_i32_r0 : BitVec 32 := 4294967264#32
  let v307_r0 : BitVec 32 := Scalar.andi v306_r0 c_m32_i32_r0
  let v308_r0 : BitVec 32 := Scalar.addi v306_r0 v307_r0
  let c32_i32_r0 : BitVec 32 := 32#32
  let v315_r0 : BitVec 32 := Scalar.addi v308_r0 c32_i32_r0
  let v319_r0 : Index := Scalar.indexCast v315_r0
  let c0_413_r0 : Index := 0#32
  ![0, v319_r0.toNat, 0]
@[reducible] def k2_t48_loop : Scf.Loop 32 :=
  let c0_i32_313_r0 : BitVec 32 := 0#32
  let c64_i32_314_r0 : BitVec 32 := 64#32
  let v236_r0 : BitVec 32 := Scalar.addi c0_i32_313_r0 c64_i32_314_r0
  let c1_i32_315_r0 : BitVec 32 := 1#32
  ⟨c0_i32_313_r0, v236_r0, c1_i32_315_r0⟩
def k2_off152 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off153 (k2_t48 : Fin k2_t48_loop.trips) : Fin 3 → Nat :=
  let c0_i32_404_r0 : BitVec 32 := 0#32
  let v310_r0 : Index := Scalar.indexCast c0_i32_404_r0
  let c0_i32_403_r0 : BitVec 32 := 0#32
  let c0_i32_313_r0 : BitVec 32 := 0#32
  let c1_i32_315_r0 : BitVec 32 := 1#32
  let arg11_r0 : BitVec 32 := Scf.iv c0_i32_313_r0 c1_i32_315_r0 k2_t48
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let v311_r0 : Index := Scalar.indexCast v307_r0
  let c0_r0 : Index := 0#32
  ![0, v311_r0.toNat, 0]
def k2_off154 (k2_t48 : Fin k2_t48_loop.trips) : Fin 3 → Nat :=
  let c0_i32_409_r0 : BitVec 32 := 0#32
  let v317_r0 : Index := Scalar.indexCast c0_i32_409_r0
  let c0_i32_403_r0 : BitVec 32 := 0#32
  let c0_i32_313_r0 : BitVec 32 := 0#32
  let c1_i32_315_r0 : BitVec 32 := 1#32
  let arg11_r0 : BitVec 32 := Scf.iv c0_i32_313_r0 c1_i32_315_r0 k2_t48
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let c16_i32_408_r0 : BitVec 32 := 16#32
  let v314_r0 : BitVec 32 := Scalar.addi v307_r0 c16_i32_408_r0
  let v318_r0 : Index := Scalar.indexCast v314_r0
  let c0_413_r0 : Index := 0#32
  ![0, v318_r0.toNat, 0]
@[reducible] def k2_t49_loop : Scf.Loop 32 :=
  let c0_i32_317_r0 : BitVec 32 := 0#32
  let c64_i32_318_r0 : BitVec 32 := 64#32
  let v237_r0 : BitVec 32 := Scalar.addi c0_i32_317_r0 c64_i32_318_r0
  let c1_i32_319_r0 : BitVec 32 := 1#32
  ⟨c0_i32_317_r0, v237_r0, c1_i32_319_r0⟩
def k2_off155 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off156 (k2_t49 : Fin k2_t49_loop.trips) : Fin 3 → Nat :=
  let c0_i32_405_r0 : BitVec 32 := 0#32
  let v311_r0 : Index := Scalar.indexCast c0_i32_405_r0
  let c0_i32_403_r0 : BitVec 32 := 0#32
  let c0_i32_317_r0 : BitVec 32 := 0#32
  let c1_i32_319_r0 : BitVec 32 := 1#32
  let arg11_r0 : BitVec 32 := Scf.iv c0_i32_317_r0 c1_i32_319_r0 k2_t49
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m16_i32_r0 : BitVec 32 := 4294967280#32
  let v307_r0 : BitVec 32 := Scalar.andi v306_r0 c_m16_i32_r0
  let v308_r0 : BitVec 32 := Scalar.addi v306_r0 v307_r0
  let v312_r0 : Index := Scalar.indexCast v308_r0
  let c0_r0 : Index := 0#32
  ![0, v312_r0.toNat, 0]
def k2_off157 (k2_t49 : Fin k2_t49_loop.trips) : Fin 3 → Nat :=
  let c0_i32_410_r0 : BitVec 32 := 0#32
  let v318_r0 : Index := Scalar.indexCast c0_i32_410_r0
  let c0_i32_403_r0 : BitVec 32 := 0#32
  let c0_i32_317_r0 : BitVec 32 := 0#32
  let c1_i32_319_r0 : BitVec 32 := 1#32
  let arg11_r0 : BitVec 32 := Scf.iv c0_i32_317_r0 c1_i32_319_r0 k2_t49
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m16_i32_r0 : BitVec 32 := 4294967280#32
  let v307_r0 : BitVec 32 := Scalar.andi v306_r0 c_m16_i32_r0
  let v308_r0 : BitVec 32 := Scalar.addi v306_r0 v307_r0
  let c16_i32_409_r0 : BitVec 32 := 16#32
  let v315_r0 : BitVec 32 := Scalar.addi v308_r0 c16_i32_409_r0
  let v319_r0 : Index := Scalar.indexCast v315_r0
  let c0_414_r0 : Index := 0#32
  ![0, v319_r0.toNat, 0]
@[reducible] def k2_t50_loop : Scf.Loop 32 :=
  let c0_i32_321_r0 : BitVec 32 := 0#32
  let c64_i32_322_r0 : BitVec 32 := 64#32
  let v238_r0 : BitVec 32 := Scalar.addi c0_i32_321_r0 c64_i32_322_r0
  let c1_i32_323_r0 : BitVec 32 := 1#32
  ⟨c0_i32_321_r0, v238_r0, c1_i32_323_r0⟩
def k2_off158 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off159 (k2_t50 : Fin k2_t50_loop.trips) : Fin 3 → Nat :=
  let c0_i32_404_r0 : BitVec 32 := 0#32
  let v310_r0 : Index := Scalar.indexCast c0_i32_404_r0
  let c0_i32_403_r0 : BitVec 32 := 0#32
  let c0_i32_321_r0 : BitVec 32 := 0#32
  let c1_i32_323_r0 : BitVec 32 := 1#32
  let arg11_r0 : BitVec 32 := Scf.iv c0_i32_321_r0 c1_i32_323_r0 k2_t50
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let v311_r0 : Index := Scalar.indexCast v307_r0
  let c0_r0 : Index := 0#32
  ![0, v311_r0.toNat, 0]
def k2_off160 (k2_t50 : Fin k2_t50_loop.trips) : Fin 3 → Nat :=
  let c0_i32_408_r0 : BitVec 32 := 0#32
  let v317_r0 : Index := Scalar.indexCast c0_i32_408_r0
  let c0_i32_403_r0 : BitVec 32 := 0#32
  let c0_i32_321_r0 : BitVec 32 := 0#32
  let c1_i32_323_r0 : BitVec 32 := 1#32
  let arg11_r0 : BitVec 32 := Scf.iv c0_i32_321_r0 c1_i32_323_r0 k2_t50
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_412_r0 : Index := 0#32
  ![0, v318_r0.toNat, 0]
@[reducible] def k2_t51_loop : Scf.Loop 32 :=
  let c0_i32_325_r0 : BitVec 32 := 0#32
  let c64_i32_326_r0 : BitVec 32 := 64#32
  let v239_r0 : BitVec 32 := Scalar.addi c0_i32_325_r0 c64_i32_326_r0
  let c1_i32_327_r0 : BitVec 32 := 1#32
  ⟨c0_i32_325_r0, v239_r0, c1_i32_327_r0⟩
def k2_off161 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off162 (k2_t51 : Fin k2_t51_loop.trips) : Fin 3 → Nat :=
  let c0_i32_405_r0 : BitVec 32 := 0#32
  let v311_r0 : Index := Scalar.indexCast c0_i32_405_r0
  let c0_i32_403_r0 : BitVec 32 := 0#32
  let c0_i32_325_r0 : BitVec 32 := 0#32
  let c1_i32_327_r0 : BitVec 32 := 1#32
  let arg11_r0 : BitVec 32 := Scf.iv c0_i32_325_r0 c1_i32_327_r0 k2_t51
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m8_i32_r0 : BitVec 32 := 4294967288#32
  let v307_r0 : BitVec 32 := Scalar.andi v306_r0 c_m8_i32_r0
  let v308_r0 : BitVec 32 := Scalar.addi v306_r0 v307_r0
  let v312_r0 : Index := Scalar.indexCast v308_r0
  let c0_r0 : Index := 0#32
  ![0, v312_r0.toNat, 0]
def k2_off163 (k2_t51 : Fin k2_t51_loop.trips) : Fin 3 → Nat :=
  let c0_i32_409_r0 : BitVec 32 := 0#32
  let v318_r0 : Index := Scalar.indexCast c0_i32_409_r0
  let c0_i32_403_r0 : BitVec 32 := 0#32
  let c0_i32_325_r0 : BitVec 32 := 0#32
  let c1_i32_327_r0 : BitVec 32 := 1#32
  let arg11_r0 : BitVec 32 := Scf.iv c0_i32_325_r0 c1_i32_327_r0 k2_t51
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m8_i32_r0 : BitVec 32 := 4294967288#32
  let v307_r0 : BitVec 32 := Scalar.andi v306_r0 c_m8_i32_r0
  let v308_r0 : BitVec 32 := Scalar.addi v306_r0 v307_r0
  let c8_i32_r0 : BitVec 32 := 8#32
  let v315_r0 : BitVec 32 := Scalar.addi v308_r0 c8_i32_r0
  let v319_r0 : Index := Scalar.indexCast v315_r0
  let c0_413_r0 : Index := 0#32
  ![0, v319_r0.toNat, 0]
@[reducible] def k2_t52_loop : Scf.Loop 32 :=
  let c0_i32_329_r0 : BitVec 32 := 0#32
  let c64_i32_330_r0 : BitVec 32 := 64#32
  let v240_r0 : BitVec 32 := Scalar.addi c0_i32_329_r0 c64_i32_330_r0
  let c1_i32_331_r0 : BitVec 32 := 1#32
  ⟨c0_i32_329_r0, v240_r0, c1_i32_331_r0⟩
def k2_off164 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off165 (k2_t52 : Fin k2_t52_loop.trips) : Fin 3 → Nat :=
  let c0_i32_404_r0 : BitVec 32 := 0#32
  let v310_r0 : Index := Scalar.indexCast c0_i32_404_r0
  let c0_i32_403_r0 : BitVec 32 := 0#32
  let c0_i32_329_r0 : BitVec 32 := 0#32
  let c1_i32_331_r0 : BitVec 32 := 1#32
  let arg11_r0 : BitVec 32 := Scf.iv c0_i32_329_r0 c1_i32_331_r0 k2_t52
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off166 (k2_t52 : Fin k2_t52_loop.trips) : Fin 3 → Nat :=
  let c0_i32_409_r0 : BitVec 32 := 0#32
  let v317_r0 : Index := Scalar.indexCast c0_i32_409_r0
  let c0_i32_403_r0 : BitVec 32 := 0#32
  let c0_i32_329_r0 : BitVec 32 := 0#32
  let c1_i32_331_r0 : BitVec 32 := 1#32
  let arg11_r0 : BitVec 32 := Scf.iv c0_i32_329_r0 c1_i32_331_r0 k2_t52
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t53_loop : Scf.Loop 32 :=
  let c0_i32_333_r0 : BitVec 32 := 0#32
  let c64_i32_334_r0 : BitVec 32 := 64#32
  let v241_r0 : BitVec 32 := Scalar.addi c0_i32_333_r0 c64_i32_334_r0
  let c1_i32_335_r0 : BitVec 32 := 1#32
  ⟨c0_i32_333_r0, v241_r0, c1_i32_335_r0⟩
def k2_off167 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off168 (k2_t53 : Fin k2_t53_loop.trips) : Fin 3 → Nat :=
  let c0_i32_405_r0 : BitVec 32 := 0#32
  let v311_r0 : Index := Scalar.indexCast c0_i32_405_r0
  let c0_i32_403_r0 : BitVec 32 := 0#32
  let c0_i32_333_r0 : BitVec 32 := 0#32
  let c1_i32_335_r0 : BitVec 32 := 1#32
  let arg11_r0 : BitVec 32 := Scf.iv c0_i32_333_r0 c1_i32_335_r0 k2_t53
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off169 (k2_t53 : Fin k2_t53_loop.trips) : Fin 3 → Nat :=
  let c0_i32_410_r0 : BitVec 32 := 0#32
  let v318_r0 : Index := Scalar.indexCast c0_i32_410_r0
  let c0_i32_403_r0 : BitVec 32 := 0#32
  let c0_i32_333_r0 : BitVec 32 := 0#32
  let c1_i32_335_r0 : BitVec 32 := 1#32
  let arg11_r0 : BitVec 32 := Scf.iv c0_i32_333_r0 c1_i32_335_r0 k2_t53
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m4_i32_r0 : BitVec 32 := 4294967292#32
  let v307_r0 : BitVec 32 := Scalar.andi v306_r0 c_m4_i32_r0
  let v308_r0 : BitVec 32 := Scalar.addi v306_r0 v307_r0
  let c4_i32_409_r0 : BitVec 32 := 4#32
  let v315_r0 : BitVec 32 := Scalar.addi v308_r0 c4_i32_409_r0
  let v319_r0 : Index := Scalar.indexCast v315_r0
  let c0_414_r0 : Index := 0#32
  ![0, v319_r0.toNat, 0]
@[reducible] def k2_t54_loop : Scf.Loop 32 :=
  let c0_i32_337_r0 : BitVec 32 := 0#32
  let c64_i32_338_r0 : BitVec 32 := 64#32
  let v242_r0 : BitVec 32 := Scalar.addi c0_i32_337_r0 c64_i32_338_r0
  let c1_i32_339_r0 : BitVec 32 := 1#32
  ⟨c0_i32_337_r0, v242_r0, c1_i32_339_r0⟩
def k2_off170 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off171 (k2_t54 : Fin k2_t54_loop.trips) : Fin 3 → Nat :=
  let c0_i32_404_r0 : BitVec 32 := 0#32
  let v310_r0 : Index := Scalar.indexCast c0_i32_404_r0
  let c0_i32_403_r0 : BitVec 32 := 0#32
  let c0_i32_337_r0 : BitVec 32 := 0#32
  let c1_i32_339_r0 : BitVec 32 := 1#32
  let arg11_r0 : BitVec 32 := Scf.iv c0_i32_337_r0 c1_i32_339_r0 k2_t54
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off172 (k2_t54 : Fin k2_t54_loop.trips) : Fin 3 → Nat :=
  let c0_i32_409_r0 : BitVec 32 := 0#32
  let v317_r0 : Index := Scalar.indexCast c0_i32_409_r0
  let c0_i32_403_r0 : BitVec 32 := 0#32
  let c0_i32_337_r0 : BitVec 32 := 0#32
  let c1_i32_339_r0 : BitVec 32 := 1#32
  let arg11_r0 : BitVec 32 := Scf.iv c0_i32_337_r0 c1_i32_339_r0 k2_t54
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t55_loop : Scf.Loop 32 :=
  let c0_i32_341_r0 : BitVec 32 := 0#32
  let c64_i32_342_r0 : BitVec 32 := 64#32
  let v243_r0 : BitVec 32 := Scalar.addi c0_i32_341_r0 c64_i32_342_r0
  let c1_i32_343_r0 : BitVec 32 := 1#32
  ⟨c0_i32_341_r0, v243_r0, c1_i32_343_r0⟩
def k2_off173 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off174 (k2_t55 : Fin k2_t55_loop.trips) : Fin 3 → Nat :=
  let c0_i32_405_r0 : BitVec 32 := 0#32
  let v311_r0 : Index := Scalar.indexCast c0_i32_405_r0
  let c0_i32_403_r0 : BitVec 32 := 0#32
  let c0_i32_341_r0 : BitVec 32 := 0#32
  let c1_i32_343_r0 : BitVec 32 := 1#32
  let arg11_r0 : BitVec 32 := Scf.iv c0_i32_341_r0 c1_i32_343_r0 k2_t55
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off175 (k2_t55 : Fin k2_t55_loop.trips) : Fin 3 → Nat :=
  let c0_i32_410_r0 : BitVec 32 := 0#32
  let v318_r0 : Index := Scalar.indexCast c0_i32_410_r0
  let c0_i32_403_r0 : BitVec 32 := 0#32
  let c0_i32_341_r0 : BitVec 32 := 0#32
  let c1_i32_343_r0 : BitVec 32 := 1#32
  let arg11_r0 : BitVec 32 := Scf.iv c0_i32_341_r0 c1_i32_343_r0 k2_t55
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m2_i32_r0 : BitVec 32 := 4294967294#32
  let v307_r0 : BitVec 32 := Scalar.andi v306_r0 c_m2_i32_r0
  let v308_r0 : BitVec 32 := Scalar.addi v306_r0 v307_r0
  let c2_i32_409_r0 : BitVec 32 := 2#32
  let v315_r0 : BitVec 32 := Scalar.addi v308_r0 c2_i32_409_r0
  let v319_r0 : Index := Scalar.indexCast v315_r0
  let c0_414_r0 : Index := 0#32
  ![0, v319_r0.toNat, 0]
@[reducible] def k2_t56_loop : Scf.Loop 32 :=
  let c0_i32_345_r0 : BitVec 32 := 0#32
  let c64_i32_346_r0 : BitVec 32 := 64#32
  let v244_r0 : BitVec 32 := Scalar.addi c0_i32_345_r0 c64_i32_346_r0
  let c1_i32_347_r0 : BitVec 32 := 1#32
  ⟨c0_i32_345_r0, v244_r0, c1_i32_347_r0⟩
def k2_off176 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off177 (k2_t56 : Fin k2_t56_loop.trips) : Fin 3 → Nat :=
  let c0_i32_405_r0 : BitVec 32 := 0#32
  let v310_r0 : Index := Scalar.indexCast c0_i32_405_r0
  let c0_i32_403_r0 : BitVec 32 := 0#32
  let c0_i32_345_r0 : BitVec 32 := 0#32
  let c1_i32_347_r0 : BitVec 32 := 1#32
  let arg11_r0 : BitVec 32 := Scf.iv c0_i32_345_r0 c1_i32_347_r0 k2_t56
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off178 (k2_t56 : Fin k2_t56_loop.trips) : Fin 3 → Nat :=
  let c0_i32_410_r0 : BitVec 32 := 0#32
  let v317_r0 : Index := Scalar.indexCast c0_i32_410_r0
  let c0_i32_403_r0 : BitVec 32 := 0#32
  let c0_i32_345_r0 : BitVec 32 := 0#32
  let c1_i32_347_r0 : BitVec 32 := 1#32
  let arg11_r0 : BitVec 32 := Scf.iv c0_i32_345_r0 c1_i32_347_r0 k2_t56
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t57_loop : Scf.Loop 32 :=
  let c0_i32_349_r0 : BitVec 32 := 0#32
  let c64_i32_350_r0 : BitVec 32 := 64#32
  let v245_r0 : BitVec 32 := Scalar.addi c0_i32_349_r0 c64_i32_350_r0
  let c1_i32_351_r0 : BitVec 32 := 1#32
  ⟨c0_i32_349_r0, v245_r0, c1_i32_351_r0⟩
def k2_off179 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off180 (k2_t57 : Fin k2_t57_loop.trips) : Fin 3 → Nat :=
  let c0_i32_406_r0 : BitVec 32 := 0#32
  let v311_r0 : Index := Scalar.indexCast c0_i32_406_r0
  let c0_i32_403_r0 : BitVec 32 := 0#32
  let c0_i32_349_r0 : BitVec 32 := 0#32
  let c1_i32_351_r0 : BitVec 32 := 1#32
  let arg11_r0 : BitVec 32 := Scf.iv c0_i32_349_r0 c1_i32_351_r0 k2_t57
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off181 (k2_t57 : Fin k2_t57_loop.trips) : Fin 3 → Nat :=
  let c0_i32_411_r0 : BitVec 32 := 0#32
  let v318_r0 : Index := Scalar.indexCast c0_i32_411_r0
  let c0_i32_403_r0 : BitVec 32 := 0#32
  let c0_i32_349_r0 : BitVec 32 := 0#32
  let c1_i32_351_r0 : BitVec 32 := 1#32
  let arg11_r0 : BitVec 32 := Scf.iv c0_i32_349_r0 c1_i32_351_r0 k2_t57
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t58_loop : Scf.Loop 32 :=
  let c0_i32_353_r0 : BitVec 32 := 0#32
  let c128_i32_r0 : BitVec 32 := 128#32
  let v246_r0 : BitVec 32 := Scalar.addi c0_i32_353_r0 c128_i32_r0
  let c1_i32_354_r0 : BitVec 32 := 1#32
  ⟨c0_i32_353_r0, v246_r0, c1_i32_354_r0⟩
def k2_off182 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off183 (k2_t58 : Fin k2_t58_loop.trips) : Fin 3 → Nat :=
  let c0_i32_404_r0 : BitVec 32 := 0#32
  let v308_r0 : Index := Scalar.indexCast c0_i32_404_r0
  let c0_i32_403_r0 : BitVec 32 := 0#32
  let c0_i32_353_r0 : BitVec 32 := 0#32
  let c1_i32_354_r0 : BitVec 32 := 1#32
  let arg11_r0 : BitVec 32 := Scf.iv c0_i32_353_r0 c1_i32_354_r0 k2_t58
  let c1_i32_402_r0 : BitVec 32 := 1#32
  let v302_r0 : BitVec 32 := Scalar.muli arg11_r0 c1_i32_402_r0
  let v303_r0 : BitVec 32 := Scalar.addi c0_i32_403_r0 v302_r0
  let c_m128_i32_r0 : BitVec 32 := 4294967168#32
  let v304_r0 : BitVec 32 := Scalar.andi v303_r0 c_m128_i32_r0
  let v305_r0 : BitVec 32 := Scalar.addi v303_r0 v304_r0
  let v309_r0 : Index := Scalar.indexCast v305_r0
  let c0_r0 : Index := 0#32
  ![0, v309_r0.toNat, 0]
def k2_off184 (k2_t58 : Fin k2_t58_loop.trips) : Fin 3 → Nat :=
  let c0_i32_409_r0 : BitVec 32 := 0#32
  let v315_r0 : Index := Scalar.indexCast c0_i32_409_r0
  let c0_i32_403_r0 : BitVec 32 := 0#32
  let c0_i32_353_r0 : BitVec 32 := 0#32
  let c1_i32_354_r0 : BitVec 32 := 1#32
  let arg11_r0 : BitVec 32 := Scf.iv c0_i32_353_r0 c1_i32_354_r0 k2_t58
  let c1_i32_402_r0 : BitVec 32 := 1#32
  let v302_r0 : BitVec 32 := Scalar.muli arg11_r0 c1_i32_402_r0
  let v303_r0 : BitVec 32 := Scalar.addi c0_i32_403_r0 v302_r0
  let c_m128_i32_r0 : BitVec 32 := 4294967168#32
  let v304_r0 : BitVec 32 := Scalar.andi v303_r0 c_m128_i32_r0
  let v305_r0 : BitVec 32 := Scalar.addi v303_r0 v304_r0
  let c128_i32_408_r0 : BitVec 32 := 128#32
  let v312_r0 : BitVec 32 := Scalar.addi v305_r0 c128_i32_408_r0
  let v316_r0 : Index := Scalar.indexCast v312_r0
  let c0_413_r0 : Index := 0#32
  ![0, v316_r0.toNat, 0]
@[reducible] def k2_t59_loop : Scf.Loop 32 :=
  let c0_i32_356_r0 : BitVec 32 := 0#32
  let c128_i32_357_r0 : BitVec 32 := 128#32
  let v247_r0 : BitVec 32 := Scalar.addi c0_i32_356_r0 c128_i32_357_r0
  let c1_i32_358_r0 : BitVec 32 := 1#32
  ⟨c0_i32_356_r0, v247_r0, c1_i32_358_r0⟩
def k2_off185 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off186 (k2_t59 : Fin k2_t59_loop.trips) : Fin 3 → Nat :=
  let c0_i32_404_r0 : BitVec 32 := 0#32
  let v308_r0 : Index := Scalar.indexCast c0_i32_404_r0
  let c0_i32_403_r0 : BitVec 32 := 0#32
  let c0_i32_356_r0 : BitVec 32 := 0#32
  let c1_i32_358_r0 : BitVec 32 := 1#32
  let arg11_r0 : BitVec 32 := Scf.iv c0_i32_356_r0 c1_i32_358_r0 k2_t59
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let v309_r0 : Index := Scalar.indexCast v305_r0
  let c0_r0 : Index := 0#32
  ![0, v309_r0.toNat, 0]
def k2_off187 (k2_t59 : Fin k2_t59_loop.trips) : Fin 3 → Nat :=
  let c0_i32_409_r0 : BitVec 32 := 0#32
  let v315_r0 : Index := Scalar.indexCast c0_i32_409_r0
  let c0_i32_403_r0 : BitVec 32 := 0#32
  let c0_i32_356_r0 : BitVec 32 := 0#32
  let c1_i32_358_r0 : BitVec 32 := 1#32
  let arg11_r0 : BitVec 32 := Scf.iv c0_i32_356_r0 c1_i32_358_r0 k2_t59
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_408_r0 : BitVec 32 := 64#32
  let v312_r0 : BitVec 32 := Scalar.addi v305_r0 c64_i32_408_r0
  let v316_r0 : Index := Scalar.indexCast v312_r0
  let c0_413_r0 : Index := 0#32
  ![0, v316_r0.toNat, 0]
@[reducible] def k2_t60_loop : Scf.Loop 32 :=
  let c0_i32_360_r0 : BitVec 32 := 0#32
  let c128_i32_361_r0 : BitVec 32 := 128#32
  let v248_r0 : BitVec 32 := Scalar.addi c0_i32_360_r0 c128_i32_361_r0
  let c1_i32_362_r0 : BitVec 32 := 1#32
  ⟨c0_i32_360_r0, v248_r0, c1_i32_362_r0⟩
def k2_off188 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off189 (k2_t60 : Fin k2_t60_loop.trips) : Fin 3 → Nat :=
  let c0_i32_404_r0 : BitVec 32 := 0#32
  let v308_r0 : Index := Scalar.indexCast c0_i32_404_r0
  let c0_i32_403_r0 : BitVec 32 := 0#32
  let c0_i32_360_r0 : BitVec 32 := 0#32
  let c1_i32_362_r0 : BitVec 32 := 1#32
  let arg11_r0 : BitVec 32 := Scf.iv c0_i32_360_r0 c1_i32_362_r0 k2_t60
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let v309_r0 : Index := Scalar.indexCast v305_r0
  let c0_r0 : Index := 0#32
  ![0, v309_r0.toNat, 0]
def k2_off190 (k2_t60 : Fin k2_t60_loop.trips) : Fin 3 → Nat :=
  let c0_i32_408_r0 : BitVec 32 := 0#32
  let v315_r0 : Index := Scalar.indexCast c0_i32_408_r0
  let c0_i32_403_r0 : BitVec 32 := 0#32
  let c0_i32_360_r0 : BitVec 32 := 0#32
  let c1_i32_362_r0 : BitVec 32 := 1#32
  let arg11_r0 : BitVec 32 := Scf.iv c0_i32_360_r0 c1_i32_362_r0 k2_t60
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v312_r0 : BitVec 32 := Scalar.addi v305_r0 c32_i32_r0
  let v316_r0 : Index := Scalar.indexCast v312_r0
  let c0_412_r0 : Index := 0#32
  ![0, v316_r0.toNat, 0]
@[reducible] def k2_t61_loop : Scf.Loop 32 :=
  let c0_i32_364_r0 : BitVec 32 := 0#32
  let c128_i32_365_r0 : BitVec 32 := 128#32
  let v249_r0 : BitVec 32 := Scalar.addi c0_i32_364_r0 c128_i32_365_r0
  let c1_i32_366_r0 : BitVec 32 := 1#32
  ⟨c0_i32_364_r0, v249_r0, c1_i32_366_r0⟩
def k2_off191 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off192 (k2_t61 : Fin k2_t61_loop.trips) : Fin 3 → Nat :=
  let c0_i32_404_r0 : BitVec 32 := 0#32
  let v308_r0 : Index := Scalar.indexCast c0_i32_404_r0
  let c0_i32_403_r0 : BitVec 32 := 0#32
  let c0_i32_364_r0 : BitVec 32 := 0#32
  let c1_i32_366_r0 : BitVec 32 := 1#32
  let arg11_r0 : BitVec 32 := Scf.iv c0_i32_364_r0 c1_i32_366_r0 k2_t61
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let v309_r0 : Index := Scalar.indexCast v305_r0
  let c0_r0 : Index := 0#32
  ![0, v309_r0.toNat, 0]
def k2_off193 (k2_t61 : Fin k2_t61_loop.trips) : Fin 3 → Nat :=
  let c0_i32_409_r0 : BitVec 32 := 0#32
  let v315_r0 : Index := Scalar.indexCast c0_i32_409_r0
  let c0_i32_403_r0 : BitVec 32 := 0#32
  let c0_i32_364_r0 : BitVec 32 := 0#32
  let c1_i32_366_r0 : BitVec 32 := 1#32
  let arg11_r0 : BitVec 32 := Scf.iv c0_i32_364_r0 c1_i32_366_r0 k2_t61
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_408_r0 : BitVec 32 := 16#32
  let v312_r0 : BitVec 32 := Scalar.addi v305_r0 c16_i32_408_r0
  let v316_r0 : Index := Scalar.indexCast v312_r0
  let c0_413_r0 : Index := 0#32
  ![0, v316_r0.toNat, 0]
@[reducible] def k2_t62_loop : Scf.Loop 32 :=
  let c0_i32_368_r0 : BitVec 32 := 0#32
  let c128_i32_369_r0 : BitVec 32 := 128#32
  let v250_r0 : BitVec 32 := Scalar.addi c0_i32_368_r0 c128_i32_369_r0
  let c1_i32_370_r0 : BitVec 32 := 1#32
  ⟨c0_i32_368_r0, v250_r0, c1_i32_370_r0⟩
def k2_off194 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off195 (k2_t62 : Fin k2_t62_loop.trips) : Fin 3 → Nat :=
  let c0_i32_404_r0 : BitVec 32 := 0#32
  let v308_r0 : Index := Scalar.indexCast c0_i32_404_r0
  let c0_i32_403_r0 : BitVec 32 := 0#32
  let c0_i32_368_r0 : BitVec 32 := 0#32
  let c1_i32_370_r0 : BitVec 32 := 1#32
  let arg11_r0 : BitVec 32 := Scf.iv c0_i32_368_r0 c1_i32_370_r0 k2_t62
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let v309_r0 : Index := Scalar.indexCast v305_r0
  let c0_r0 : Index := 0#32
  ![0, v309_r0.toNat, 0]
def k2_off196 (k2_t62 : Fin k2_t62_loop.trips) : Fin 3 → Nat :=
  let c0_i32_408_r0 : BitVec 32 := 0#32
  let v315_r0 : Index := Scalar.indexCast c0_i32_408_r0
  let c0_i32_403_r0 : BitVec 32 := 0#32
  let c0_i32_368_r0 : BitVec 32 := 0#32
  let c1_i32_370_r0 : BitVec 32 := 1#32
  let arg11_r0 : BitVec 32 := Scf.iv c0_i32_368_r0 c1_i32_370_r0 k2_t62
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v312_r0 : BitVec 32 := Scalar.addi v305_r0 c8_i32_r0
  let v316_r0 : Index := Scalar.indexCast v312_r0
  let c0_412_r0 : Index := 0#32
  ![0, v316_r0.toNat, 0]
@[reducible] def k2_t63_loop : Scf.Loop 32 :=
  let c0_i32_372_r0 : BitVec 32 := 0#32
  let c128_i32_373_r0 : BitVec 32 := 128#32
  let v251_r0 : BitVec 32 := Scalar.addi c0_i32_372_r0 c128_i32_373_r0
  let c1_i32_374_r0 : BitVec 32 := 1#32
  ⟨c0_i32_372_r0, v251_r0, c1_i32_374_r0⟩
def k2_off197 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off198 (k2_t63 : Fin k2_t63_loop.trips) : Fin 3 → Nat :=
  let c0_i32_404_r0 : BitVec 32 := 0#32
  let v308_r0 : Index := Scalar.indexCast c0_i32_404_r0
  let c0_i32_403_r0 : BitVec 32 := 0#32
  let c0_i32_372_r0 : BitVec 32 := 0#32
  let c1_i32_374_r0 : BitVec 32 := 1#32
  let arg11_r0 : BitVec 32 := Scf.iv c0_i32_372_r0 c1_i32_374_r0 k2_t63
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let v309_r0 : Index := Scalar.indexCast v305_r0
  let c0_r0 : Index := 0#32
  ![0, v309_r0.toNat, 0]
def k2_off199 (k2_t63 : Fin k2_t63_loop.trips) : Fin 3 → Nat :=
  let c0_i32_409_r0 : BitVec 32 := 0#32
  let v315_r0 : Index := Scalar.indexCast c0_i32_409_r0
  let c0_i32_403_r0 : BitVec 32 := 0#32
  let c0_i32_372_r0 : BitVec 32 := 0#32
  let c1_i32_374_r0 : BitVec 32 := 1#32
  let arg11_r0 : BitVec 32 := Scf.iv c0_i32_372_r0 c1_i32_374_r0 k2_t63
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_408_r0 : BitVec 32 := 4#32
  let v312_r0 : BitVec 32 := Scalar.addi v305_r0 c4_i32_408_r0
  let v316_r0 : Index := Scalar.indexCast v312_r0
  let c0_413_r0 : Index := 0#32
  ![0, v316_r0.toNat, 0]
@[reducible] def k2_t64_loop : Scf.Loop 32 :=
  let c0_i32_376_r0 : BitVec 32 := 0#32
  let c128_i32_377_r0 : BitVec 32 := 128#32
  let v252_r0 : BitVec 32 := Scalar.addi c0_i32_376_r0 c128_i32_377_r0
  let c1_i32_378_r0 : BitVec 32 := 1#32
  ⟨c0_i32_376_r0, v252_r0, c1_i32_378_r0⟩
def k2_off200 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off201 (k2_t64 : Fin k2_t64_loop.trips) : Fin 3 → Nat :=
  let c0_i32_404_r0 : BitVec 32 := 0#32
  let v308_r0 : Index := Scalar.indexCast c0_i32_404_r0
  let c0_i32_403_r0 : BitVec 32 := 0#32
  let c0_i32_376_r0 : BitVec 32 := 0#32
  let c1_i32_378_r0 : BitVec 32 := 1#32
  let arg11_r0 : BitVec 32 := Scf.iv c0_i32_376_r0 c1_i32_378_r0 k2_t64
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let v309_r0 : Index := Scalar.indexCast v305_r0
  let c0_r0 : Index := 0#32
  ![0, v309_r0.toNat, 0]
def k2_off202 (k2_t64 : Fin k2_t64_loop.trips) : Fin 3 → Nat :=
  let c0_i32_409_r0 : BitVec 32 := 0#32
  let v315_r0 : Index := Scalar.indexCast c0_i32_409_r0
  let c0_i32_403_r0 : BitVec 32 := 0#32
  let c0_i32_376_r0 : BitVec 32 := 0#32
  let c1_i32_378_r0 : BitVec 32 := 1#32
  let arg11_r0 : BitVec 32 := Scf.iv c0_i32_376_r0 c1_i32_378_r0 k2_t64
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_408_r0 : BitVec 32 := 2#32
  let v312_r0 : BitVec 32 := Scalar.addi v305_r0 c2_i32_408_r0
  let v316_r0 : Index := Scalar.indexCast v312_r0
  let c0_413_r0 : Index := 0#32
  ![0, v316_r0.toNat, 0]
@[reducible] def k2_t65_loop : Scf.Loop 32 :=
  let c0_i32_380_r0 : BitVec 32 := 0#32
  let c128_i32_381_r0 : BitVec 32 := 128#32
  let v253_r0 : BitVec 32 := Scalar.addi c0_i32_380_r0 c128_i32_381_r0
  let c1_i32_382_r0 : BitVec 32 := 1#32
  ⟨c0_i32_380_r0, v253_r0, c1_i32_382_r0⟩
def k2_off203 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]

def k2_chk3_0 (i : grid2.Coords) (k2_t1 : Fin (k2_t1_loop i).trips) (arg7_r0 : BitVec 32) : Prop :=
  (∀ (k2_h1 : k2_cond1 i = 1#1), ∀ a, (k2_off13 arg7_r0) a + S1x1x256x16.size a ≤ S2x1x256x16.size a) ∧
  (∀ (k2_h1 : k2_cond1 i = 1#1), ∀ a, (k2_off19 arg7_r0) a + S1x1x256x16.size a ≤ S2x1x256x16.size a) ∧
  (∀ (k2_h1 : k2_cond1 i = 1#1), ∀ a, (k2_off20 arg7_r0) a + S1x1x256x16.size a ≤ S2x1x256x16.size a) ∧
  (∀ (k2_h1 : k2_cond1 i = 1#1), ∀ a, (k2_off23 arg7_r0) a + S1x1x256x16.size a ≤ S2x1x256x16.size a) ∧
  (∀ (k2_h1 : k2_cond1 i = 1#1), ∀ a, (k2_off26 arg7_r0) a + S1x1x256x16.size a ≤ S2x1x256x16.size a) ∧
  (∀ (k2_h1 : k2_cond1 i = 1#1), ∀ a, (k2_off29 arg7_r0) a + S1x1x256x16.size a ≤ S2x1x256x16.size a) ∧
  (∀ (k2_h1 : k2_cond1 i = 1#1), ∀ a, (k2_off32 arg7_r0) a + S1x1x256x16.size a ≤ S2x1x256x16.size a) ∧
  (∀ (k2_h1 : k2_cond1 i = 1#1), ∀ a, (k2_off35 arg7_r0) a + S1x1x256x16.size a ≤ S2x1x256x16.size a) ∧
  (∀ (k2_h1 : k2_cond1 i = 1#1), ∀ a, (k2_off38 arg7_r0) a + S1x1x256x16.size a ≤ S2x1x256x16.size a) ∧
  (∀ (k2_h1 : k2_cond1 i = 1#1), ∀ a, (k2_off41 arg7_r0) a + S1x1x256x16.size a ≤ S2x1x256x16.size a) ∧
  (∀ (k2_h1 : k2_cond1 i = 1#1), ∀ a, (k2_off44 arg7_r0) a + S1x1x256x16.size a ≤ S2x1x256x16.size a) ∧
  (∀ (k2_h1 : k2_cond1 i = 1#1), ∀ a, (k2_off47 arg7_r0) a + S1x1x256x16.size a ≤ S2x1x256x16.size a) ∧
  (∀ (k2_h1 : k2_cond1 i = 1#1), ∀ a, (k2_off50 arg7_r0) a + S1x1x256x16.size a ≤ S2x1x256x16.size a) ∧
  (∀ (k2_h1 : k2_cond1 i = 1#1), ∀ a, (k2_off53 arg7_r0) a + S1x1x256x16.size a ≤ S2x1x256x16.size a) ∧
  (∀ (k2_h1 : k2_cond1 i = 1#1), ∀ a, (k2_off56 arg7_r0) a + S1x1x256x16.size a ≤ S2x1x256x16.size a) ∧
  (∀ (k2_h1 : k2_cond1 i = 1#1), ∀ a, (k2_off59 arg7_r0) a + S1x1x256x16.size a ≤ S2x1x256x16.size a) ∧
  (∀ (k2_h1 : k2_cond1 i = 1#1), ∀ a, (k2_off62 arg7_r0) a + S1x1x256x16.size a ≤ S2x1x256x16.size a) ∧
  (∀ (k2_h1 : k2_cond1 i = 1#1), ∀ a, (k2_off65 arg7_r0) a + S1x1x256x16.size a ≤ S2x1x256x16.size a) ∧
  (∀ (k2_h1 : k2_cond1 i = 1#1), ∀ a, (k2_off68 arg7_r0) a + S1x1x256x16.size a ≤ S2x1x256x16.size a) ∧
  (∀ (k2_h1 : k2_cond1 i = 1#1), ∀ a, (k2_off71 arg7_r0) a + S1x1x256x16.size a ≤ S2x1x256x16.size a) ∧
  (∀ (k2_h1 : k2_cond1 i = 1#1), ∀ a, (k2_off74 arg7_r0) a + S1x1x256x16.size a ≤ S2x1x256x16.size a) ∧
  (∀ (k2_h1 : k2_cond1 i = 1#1), ∀ a, (k2_off77 arg7_r0) a + S1x1x256x16.size a ≤ S2x1x256x16.size a) ∧
  (∀ (k2_h1 : k2_cond1 i = 1#1), ∀ a, (k2_off80 arg7_r0) a + S1x1x256x16.size a ≤ S2x1x256x16.size a) ∧
  (∀ (k2_h1 : k2_cond1 i = 1#1), ∀ a, (k2_off83 arg7_r0) a + S1x1x256x16.size a ≤ S2x1x256x16.size a) ∧
  (∀ (k2_h1 : k2_cond1 i = 1#1), ∀ a, (k2_off86 arg7_r0) a + S1x1x256x16.size a ≤ S2x1x256x16.size a) ∧
  (∀ (k2_h1 : k2_cond1 i = 1#1), ∀ a, (k2_off89 arg7_r0) a + S1x1x256x16.size a ≤ S2x1x256x16.size a) ∧
  (∀ (k2_h1 : k2_cond1 i = 1#1), ∀ a, (k2_off92 arg7_r0) a + S1x1x256x16.size a ≤ S2x1x256x16.size a) ∧
  (∀ (k2_h1 : k2_cond1 i = 1#1), ∀ a, (k2_off95 arg7_r0) a + S1x1x256x16.size a ≤ S2x1x256x16.size a) ∧
  (∀ (k2_h1 : k2_cond1 i = 1#1), ∀ a, (k2_off98 arg7_r0) a + S1x1x256x16.size a ≤ S2x1x256x16.size a) ∧
  (∀ (k2_h1 : k2_cond1 i = 1#1), ∀ a, (k2_off101 arg7_r0) a + S1x1x256x16.size a ≤ S2x1x256x16.size a) ∧
  (∀ (k2_h1 : k2_cond1 i = 1#1), ∀ a, (k2_off104 arg7_r0) a + S1x1x256x16.size a ≤ S2x1x256x16.size a) ∧
  (∀ (k2_h1 : k2_cond1 i = 1#1), ∀ a, (k2_off107 arg7_r0) a + S1x1x256x16.size a ≤ S2x1x256x16.size a)
def k2_chk3_1 (i : grid2.Coords) (k2_t1 : Fin (k2_t1_loop i).trips) (arg7_r0 : BitVec 32) : Prop :=
  (∀ (k2_h1 : k2_cond1 i = 1#1), ∀ a, (k2_off110 arg7_r0) a + S1x1x256x16.size a ≤ S2x1x256x16.size a) ∧
  (∀ (k2_h1 : k2_cond1 i = 1#1), ∀ a, (k2_off113 arg7_r0) a + S1x1x256x16.size a ≤ S2x1x256x16.size a) ∧
  (∀ (k2_h1 : k2_cond1 i = 1#1), ∀ a, (k2_off116 arg7_r0) a + S1x1x256x16.size a ≤ S2x1x256x16.size a) ∧
  (∀ (k2_h1 : k2_cond1 i = 1#1), ∀ a, (k2_off119 arg7_r0) a + S1x1x256x16.size a ≤ S2x1x256x16.size a) ∧
  (∀ (k2_h1 : k2_cond1 i = 1#1), ∀ a, (k2_off122 arg7_r0) a + S1x1x256x16.size a ≤ S2x1x256x16.size a) ∧
  (∀ (k2_h1 : k2_cond1 i = 1#1), ∀ a, (k2_off125 arg7_r0) a + S1x1x256x16.size a ≤ S2x1x256x16.size a) ∧
  (∀ (k2_h1 : k2_cond1 i = 1#1), ∀ a, (k2_off128 arg7_r0) a + S1x1x256x16.size a ≤ S2x1x256x16.size a) ∧
  (∀ (k2_h1 : k2_cond1 i = 1#1), ∀ a, (k2_off131 arg7_r0) a + S1x1x256x16.size a ≤ S2x1x256x16.size a) ∧
  (∀ (k2_h1 : k2_cond1 i = 1#1), ∀ a, (k2_off134 arg7_r0) a + S1x1x256x16.size a ≤ S2x1x256x16.size a) ∧
  (∀ (k2_h1 : k2_cond1 i = 1#1), ∀ a, (k2_off137 arg7_r0) a + S1x1x256x16.size a ≤ S2x1x256x16.size a) ∧
  (∀ (k2_h1 : k2_cond1 i = 1#1), ∀ a, (k2_off140 arg7_r0) a + S1x1x256x16.size a ≤ S2x1x256x16.size a) ∧
  (∀ (k2_h1 : k2_cond1 i = 1#1), ∀ a, (k2_off143 arg7_r0) a + S1x1x256x16.size a ≤ S2x1x256x16.size a) ∧
  (∀ (k2_h1 : k2_cond1 i = 1#1), ∀ a, (k2_off146 arg7_r0) a + S1x1x256x16.size a ≤ S2x1x256x16.size a) ∧
  (∀ (k2_h1 : k2_cond1 i = 1#1), ∀ a, (k2_off149 arg7_r0) a + S1x1x256x16.size a ≤ S2x1x256x16.size a) ∧
  (∀ (k2_h1 : k2_cond1 i = 1#1), ∀ a, (k2_off152 arg7_r0) a + S1x1x256x16.size a ≤ S2x1x256x16.size a) ∧
  (∀ (k2_h1 : k2_cond1 i = 1#1), ∀ a, (k2_off155 arg7_r0) a + S1x1x256x16.size a ≤ S2x1x256x16.size a) ∧
  (∀ (k2_h1 : k2_cond1 i = 1#1), ∀ a, (k2_off158 arg7_r0) a + S1x1x256x16.size a ≤ S2x1x256x16.size a) ∧
  (∀ (k2_h1 : k2_cond1 i = 1#1), ∀ a, (k2_off161 arg7_r0) a + S1x1x256x16.size a ≤ S2x1x256x16.size a) ∧
  (∀ (k2_h1 : k2_cond1 i = 1#1), ∀ a, (k2_off164 arg7_r0) a + S1x1x256x16.size a ≤ S2x1x256x16.size a) ∧
  (∀ (k2_h1 : k2_cond1 i = 1#1), ∀ a, (k2_off167 arg7_r0) a + S1x1x256x16.size a ≤ S2x1x256x16.size a) ∧
  (∀ (k2_h1 : k2_cond1 i = 1#1), ∀ a, (k2_off170 arg7_r0) a + S1x1x256x16.size a ≤ S2x1x256x16.size a) ∧
  (∀ (k2_h1 : k2_cond1 i = 1#1), ∀ a, (k2_off173 arg7_r0) a + S1x1x256x16.size a ≤ S2x1x256x16.size a) ∧
  (∀ (k2_h1 : k2_cond1 i = 1#1), ∀ a, (k2_off176 arg7_r0) a + S1x1x256x16.size a ≤ S2x1x256x16.size a) ∧
  (∀ (k2_h1 : k2_cond1 i = 1#1), ∀ a, (k2_off179 arg7_r0) a + S1x1x256x16.size a ≤ S2x1x256x16.size a) ∧
  (∀ (k2_h1 : k2_cond1 i = 1#1), ∀ a, (k2_off182 arg7_r0) a + S1x1x256x16.size a ≤ S2x1x256x16.size a) ∧
  (∀ (k2_h1 : k2_cond1 i = 1#1), ∀ a, (k2_off185 arg7_r0) a + S1x1x256x16.size a ≤ S2x1x256x16.size a) ∧
  (∀ (k2_h1 : k2_cond1 i = 1#1), ∀ a, (k2_off188 arg7_r0) a + S1x1x256x16.size a ≤ S2x1x256x16.size a) ∧
  (∀ (k2_h1 : k2_cond1 i = 1#1), ∀ a, (k2_off191 arg7_r0) a + S1x1x256x16.size a ≤ S2x1x256x16.size a) ∧
  (∀ (k2_h1 : k2_cond1 i = 1#1), ∀ a, (k2_off194 arg7_r0) a + S1x1x256x16.size a ≤ S2x1x256x16.size a) ∧
  (∀ (k2_h1 : k2_cond1 i = 1#1), ∀ a, (k2_off197 arg7_r0) a + S1x1x256x16.size a ≤ S2x1x256x16.size a) ∧
  (∀ (k2_h1 : k2_cond1 i = 1#1), ∀ a, (k2_off200 arg7_r0) a + S1x1x256x16.size a ≤ S2x1x256x16.size a) ∧
  (∀ (k2_h1 : k2_cond1 i = 1#1), ∀ a, (k2_off203 arg7_r0) a + S1x1x256x16.size a ≤ S2x1x256x16.size a)
def k2_chk3 (i : grid2.Coords) (k2_t1 : Fin (k2_t1_loop i).trips) (arg7_r0 : BitVec 32) : Prop :=
  k2_chk3_0 i k2_t1 arg7_r0 ∧
  k2_chk3_1 i k2_t1 arg7_r0
theorem k2_off13_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off13 arg7_r0) a + S1x1x256x16.size a ≤ S2x1x256x16.size a := fun i k2_t1 arg7_r0 k2_hw3 k2_h1 => k2_hw3.1.1 k2_h1
theorem k2_off19_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off19 arg7_r0) a + S1x1x256x16.size a ≤ S2x1x256x16.size a := fun i k2_t1 arg7_r0 k2_hw3 k2_h1 => k2_hw3.1.2.1 k2_h1
theorem k2_off20_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off20 arg7_r0) a + S1x1x256x16.size a ≤ S2x1x256x16.size a := fun i k2_t1 arg7_r0 k2_hw3 k2_h1 => k2_hw3.1.2.2.1 k2_h1
theorem k2_off23_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off23 arg7_r0) a + S1x1x256x16.size a ≤ S2x1x256x16.size a := fun i k2_t1 arg7_r0 k2_hw3 k2_h1 => k2_hw3.1.2.2.2.1 k2_h1
theorem k2_off26_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off26 arg7_r0) a + S1x1x256x16.size a ≤ S2x1x256x16.size a := fun i k2_t1 arg7_r0 k2_hw3 k2_h1 => k2_hw3.1.2.2.2.2.1 k2_h1
theorem k2_off29_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off29 arg7_r0) a + S1x1x256x16.size a ≤ S2x1x256x16.size a := fun i k2_t1 arg7_r0 k2_hw3 k2_h1 => k2_hw3.1.2.2.2.2.2.1 k2_h1
theorem k2_off32_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off32 arg7_r0) a + S1x1x256x16.size a ≤ S2x1x256x16.size a := fun i k2_t1 arg7_r0 k2_hw3 k2_h1 => k2_hw3.1.2.2.2.2.2.2.1 k2_h1
theorem k2_off35_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off35 arg7_r0) a + S1x1x256x16.size a ≤ S2x1x256x16.size a := fun i k2_t1 arg7_r0 k2_hw3 k2_h1 => k2_hw3.1.2.2.2.2.2.2.2.1 k2_h1
theorem k2_off38_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off38 arg7_r0) a + S1x1x256x16.size a ≤ S2x1x256x16.size a := fun i k2_t1 arg7_r0 k2_hw3 k2_h1 => k2_hw3.1.2.2.2.2.2.2.2.2.1 k2_h1
theorem k2_off41_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off41 arg7_r0) a + S1x1x256x16.size a ≤ S2x1x256x16.size a := fun i k2_t1 arg7_r0 k2_hw3 k2_h1 => k2_hw3.1.2.2.2.2.2.2.2.2.2.1 k2_h1
theorem k2_off44_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off44 arg7_r0) a + S1x1x256x16.size a ≤ S2x1x256x16.size a := fun i k2_t1 arg7_r0 k2_hw3 k2_h1 => k2_hw3.1.2.2.2.2.2.2.2.2.2.2.1 k2_h1
theorem k2_off47_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off47 arg7_r0) a + S1x1x256x16.size a ≤ S2x1x256x16.size a := fun i k2_t1 arg7_r0 k2_hw3 k2_h1 => k2_hw3.1.2.2.2.2.2.2.2.2.2.2.2.1 k2_h1
theorem k2_off50_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off50 arg7_r0) a + S1x1x256x16.size a ≤ S2x1x256x16.size a := fun i k2_t1 arg7_r0 k2_hw3 k2_h1 => k2_hw3.1.2.2.2.2.2.2.2.2.2.2.2.2.1 k2_h1
theorem k2_off53_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off53 arg7_r0) a + S1x1x256x16.size a ≤ S2x1x256x16.size a := fun i k2_t1 arg7_r0 k2_hw3 k2_h1 => k2_hw3.1.2.2.2.2.2.2.2.2.2.2.2.2.2.1 k2_h1
theorem k2_off56_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off56 arg7_r0) a + S1x1x256x16.size a ≤ S2x1x256x16.size a := fun i k2_t1 arg7_r0 k2_hw3 k2_h1 => k2_hw3.1.2.2.2.2.2.2.2.2.2.2.2.2.2.2.1 k2_h1
theorem k2_off59_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off59 arg7_r0) a + S1x1x256x16.size a ≤ S2x1x256x16.size a := fun i k2_t1 arg7_r0 k2_hw3 k2_h1 => k2_hw3.1.2.2.2.2.2.2.2.2.2.2.2.2.2.2.2.1 k2_h1
theorem k2_off62_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off62 arg7_r0) a + S1x1x256x16.size a ≤ S2x1x256x16.size a := fun i k2_t1 arg7_r0 k2_hw3 k2_h1 => k2_hw3.1.2.2.2.2.2.2.2.2.2.2.2.2.2.2.2.2.1 k2_h1
theorem k2_off65_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off65 arg7_r0) a + S1x1x256x16.size a ≤ S2x1x256x16.size a := fun i k2_t1 arg7_r0 k2_hw3 k2_h1 => k2_hw3.1.2.2.2.2.2.2.2.2.2.2.2.2.2.2.2.2.2.1 k2_h1
theorem k2_off68_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off68 arg7_r0) a + S1x1x256x16.size a ≤ S2x1x256x16.size a := fun i k2_t1 arg7_r0 k2_hw3 k2_h1 => k2_hw3.1.2.2.2.2.2.2.2.2.2.2.2.2.2.2.2.2.2.2.1 k2_h1
theorem k2_off71_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off71 arg7_r0) a + S1x1x256x16.size a ≤ S2x1x256x16.size a := fun i k2_t1 arg7_r0 k2_hw3 k2_h1 => k2_hw3.1.2.2.2.2.2.2.2.2.2.2.2.2.2.2.2.2.2.2.2.1 k2_h1
theorem k2_off74_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off74 arg7_r0) a + S1x1x256x16.size a ≤ S2x1x256x16.size a := fun i k2_t1 arg7_r0 k2_hw3 k2_h1 => k2_hw3.1.2.2.2.2.2.2.2.2.2.2.2.2.2.2.2.2.2.2.2.2.1 k2_h1
theorem k2_off77_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off77 arg7_r0) a + S1x1x256x16.size a ≤ S2x1x256x16.size a := fun i k2_t1 arg7_r0 k2_hw3 k2_h1 => k2_hw3.1.2.2.2.2.2.2.2.2.2.2.2.2.2.2.2.2.2.2.2.2.2.1 k2_h1
theorem k2_off80_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off80 arg7_r0) a + S1x1x256x16.size a ≤ S2x1x256x16.size a := fun i k2_t1 arg7_r0 k2_hw3 k2_h1 => k2_hw3.1.2.2.2.2.2.2.2.2.2.2.2.2.2.2.2.2.2.2.2.2.2.2.1 k2_h1
theorem k2_off83_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off83 arg7_r0) a + S1x1x256x16.size a ≤ S2x1x256x16.size a := fun i k2_t1 arg7_r0 k2_hw3 k2_h1 => k2_hw3.1.2.2.2.2.2.2.2.2.2.2.2.2.2.2.2.2.2.2.2.2.2.2.2.1 k2_h1
theorem k2_off86_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off86 arg7_r0) a + S1x1x256x16.size a ≤ S2x1x256x16.size a := fun i k2_t1 arg7_r0 k2_hw3 k2_h1 => k2_hw3.1.2.2.2.2.2.2.2.2.2.2.2.2.2.2.2.2.2.2.2.2.2.2.2.2.1 k2_h1
theorem k2_off89_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off89 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.1 k2_h1
theorem k2_off92_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off92 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.2.1 k2_h1
theorem k2_off95_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off95 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.2.2.1 k2_h1
theorem k2_off98_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off98 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.2.2.2.1 k2_h1
theorem k2_off101_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off101 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.2.2.2.2.1 k2_h1
theorem k2_off104_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off104 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.2.2.2.2.2.1 k2_h1
theorem k2_off107_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off107 arg7_r0) a + S1x1x256x16.size a ≤ S2x1x256x16.size a := fun i k2_t1 arg7_r0 k2_hw3 k2_h1 => k2_hw3.1.2.2.2.2.2.2.2.2.2.2.2.2.2.2.2.2.2.2.2.2.2.2.2.2.2.2.2.2.2.2.2 k2_h1
theorem k2_off110_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off110 arg7_r0) a + S1x1x256x16.size a ≤ S2x1x256x16.size a := fun i k2_t1 arg7_r0 k2_hw3 k2_h1 => k2_hw3.2.1 k2_h1
theorem k2_off113_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off113 arg7_r0) a + S1x1x256x16.size a ≤ S2x1x256x16.size a := fun i k2_t1 arg7_r0 k2_hw3 k2_h1 => k2_hw3.2.2.1 k2_h1
theorem k2_off116_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off116 arg7_r0) a + S1x1x256x16.size a ≤ S2x1x256x16.size a := fun i k2_t1 arg7_r0 k2_hw3 k2_h1 => k2_hw3.2.2.2.1 k2_h1
theorem k2_off119_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off119 arg7_r0) a + S1x1x256x16.size a ≤ S2x1x256x16.size a := fun i k2_t1 arg7_r0 k2_hw3 k2_h1 => k2_hw3.2.2.2.2.1 k2_h1
theorem k2_off122_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off122 arg7_r0) a + S1x1x256x16.size a ≤ S2x1x256x16.size a := fun i k2_t1 arg7_r0 k2_hw3 k2_h1 => k2_hw3.2.2.2.2.2.1 k2_h1
theorem k2_off125_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off125 arg7_r0) a + S1x1x256x16.size a ≤ S2x1x256x16.size a := fun i k2_t1 arg7_r0 k2_hw3 k2_h1 => k2_hw3.2.2.2.2.2.2.1 k2_h1
theorem k2_off128_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off128 arg7_r0) a + S1x1x256x16.size a ≤ S2x1x256x16.size a := fun i k2_t1 arg7_r0 k2_hw3 k2_h1 => k2_hw3.2.2.2.2.2.2.2.1 k2_h1
theorem k2_off131_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off131 arg7_r0) a + S1x1x256x16.size a ≤ S2x1x256x16.size a := fun i k2_t1 arg7_r0 k2_hw3 k2_h1 => k2_hw3.2.2.2.2.2.2.2.2.1 k2_h1
theorem k2_off134_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off134 arg7_r0) a + S1x1x256x16.size a ≤ S2x1x256x16.size a := fun i k2_t1 arg7_r0 k2_hw3 k2_h1 => k2_hw3.2.2.2.2.2.2.2.2.2.1 k2_h1
theorem k2_off137_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off137 arg7_r0) a + S1x1x256x16.size a ≤ S2x1x256x16.size a := fun i k2_t1 arg7_r0 k2_hw3 k2_h1 => k2_hw3.2.2.2.2.2.2.2.2.2.2.1 k2_h1
theorem k2_off140_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off140 arg7_r0) a + S1x1x256x16.size a ≤ S2x1x256x16.size a := fun i k2_t1 arg7_r0 k2_hw3 k2_h1 => k2_hw3.2.2.2.2.2.2.2.2.2.2.2.1 k2_h1
theorem k2_off143_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off143 arg7_r0) a + S1x1x256x16.size a ≤ S2x1x256x16.size a := fun i k2_t1 arg7_r0 k2_hw3 k2_h1 => k2_hw3.2.2.2.2.2.2.2.2.2.2.2.2.1 k2_h1
theorem k2_off146_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off146 arg7_r0) a + S1x1x256x16.size a ≤ S2x1x256x16.size a := fun i k2_t1 arg7_r0 k2_hw3 k2_h1 => k2_hw3.2.2.2.2.2.2.2.2.2.2.2.2.2.1 k2_h1
theorem k2_off149_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off149 arg7_r0) a + S1x1x256x16.size a ≤ S2x1x256x16.size a := fun i k2_t1 arg7_r0 k2_hw3 k2_h1 => k2_hw3.2.2.2.2.2.2.2.2.2.2.2.2.2.2.1 k2_h1
theorem k2_off152_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off152 arg7_r0) a + S1x1x256x16.size a ≤ S2x1x256x16.size a := fun i k2_t1 arg7_r0 k2_hw3 k2_h1 => k2_hw3.2.2.2.2.2.2.2.2.2.2.2.2.2.2.2.1 k2_h1
theorem k2_off155_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off155 arg7_r0) a + S1x1x256x16.size a ≤ S2x1x256x16.size a := fun i k2_t1 arg7_r0 k2_hw3 k2_h1 => k2_hw3.2.2.2.2.2.2.2.2.2.2.2.2.2.2.2.2.1 k2_h1
theorem k2_off158_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off158 arg7_r0) a + S1x1x256x16.size a ≤ S2x1x256x16.size a := fun i k2_t1 arg7_r0 k2_hw3 k2_h1 => k2_hw3.2.2.2.2.2.2.2.2.2.2.2.2.2.2.2.2.2.1 k2_h1
theorem k2_off161_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off161 arg7_r0) a + S1x1x256x16.size a ≤ S2x1x256x16.size a := fun i k2_t1 arg7_r0 k2_hw3 k2_h1 => k2_hw3.2.2.2.2.2.2.2.2.2.2.2.2.2.2.2.2.2.2.1 k2_h1
theorem k2_off164_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off164 arg7_r0) a + S1x1x256x16.size a ≤ S2x1x256x16.size a := fun i k2_t1 arg7_r0 k2_hw3 k2_h1 => k2_hw3.2.2.2.2.2.2.2.2.2.2.2.2.2.2.2.2.2.2.2.1 k2_h1
theorem k2_off167_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off167 arg7_r0) a + S1x1x256x16.size a ≤ S2x1x256x16.size a := fun i k2_t1 arg7_r0 k2_hw3 k2_h1 => k2_hw3.2.2.2.2.2.2.2.2.2.2.2.2.2.2.2.2.2.2.2.2.1 k2_h1
theorem k2_off170_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off170 arg7_r0) a + S1x1x256x16.size a ≤ S2x1x256x16.size a := fun i k2_t1 arg7_r0 k2_hw3 k2_h1 => k2_hw3.2.2.2.2.2.2.2.2.2.2.2.2.2.2.2.2.2.2.2.2.2.1 k2_h1
theorem k2_off173_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off173 arg7_r0) a + S1x1x256x16.size a ≤ S2x1x256x16.size a := fun i k2_t1 arg7_r0 k2_hw3 k2_h1 => k2_hw3.2.2.2.2.2.2.2.2.2.2.2.2.2.2.2.2.2.2.2.2.2.2.1 k2_h1
theorem k2_off176_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off176 arg7_r0) a + S1x1x256x16.size a ≤ S2x1x256x16.size a := fun i k2_t1 arg7_r0 k2_hw3 k2_h1 => k2_hw3.2.2.2.2.2.2.2.2.2.2.2.2.2.2.2.2.2.2.2.2.2.2.2.1 k2_h1
theorem k2_off179_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off179 arg7_r0) a + S1x1x256x16.size a ≤ S2x1x256x16.size a := fun i k2_t1 arg7_r0 k2_hw3 k2_h1 => k2_hw3.2.2.2.2.2.2.2.2.2.2.2.2.2.2.2.2.2.2.2.2.2.2.2.2.1 k2_h1
theorem k2_off182_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off182 arg7_r0) a + S1x1x256x16.size a ≤ S2x1x256x16.size a := fun i k2_t1 arg7_r0 k2_hw3 k2_h1 => k2_hw3.2.2.2.2.2.2.2.2.2.2.2.2.2.2.2.2.2.2.2.2.2.2.2.2.2.1 k2_h1
theorem k2_off185_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off185 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.1 k2_h1
theorem k2_off188_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off188 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.2.1 k2_h1
theorem k2_off191_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off191 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.2.2.1 k2_h1
theorem k2_off194_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off194 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.2.2.2.1 k2_h1
theorem k2_off197_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off197 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.2.2.2.2.1 k2_h1
theorem k2_off200_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off200 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.2.2.2.2.2.1 k2_h1
theorem k2_off203_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off203 arg7_r0) a + S1x1x256x16.size a ≤ S2x1x256x16.size a := fun i k2_t1 arg7_r0 k2_hw3 k2_h1 => k2_hw3.2.2.2.2.2.2.2.2.2.2.2.2.2.2.2.2.2.2.2.2.2.2.2.2.2.2.2.2.2.2.2.2 k2_h1

def k2_off204 (k2_t65 : Fin k2_t65_loop.trips) : Fin 3 → Nat :=
  let c0_i32_405_r0 : BitVec 32 := 0#32
  let v308_r0 : Index := Scalar.indexCast c0_i32_405_r0
  let c0_i32_403_r0 : BitVec 32 := 0#32
  let c0_i32_380_r0 : BitVec 32 := 0#32
  let c1_i32_382_r0 : BitVec 32 := 1#32
  let arg11_r0 : BitVec 32 := Scf.iv c0_i32_380_r0 c1_i32_382_r0 k2_t65
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let v309_r0 : Index := Scalar.indexCast v305_r0
  let c0_r0 : Index := 0#32
  ![0, v309_r0.toNat, 0]
def k2_off205 (k2_t65 : Fin k2_t65_loop.trips) : Fin 3 → Nat :=
  let c0_i32_410_r0 : BitVec 32 := 0#32
  let v315_r0 : Index := Scalar.indexCast c0_i32_410_r0
  let c0_i32_403_r0 : BitVec 32 := 0#32
  let c0_i32_380_r0 : BitVec 32 := 0#32
  let c1_i32_382_r0 : BitVec 32 := 1#32
  let arg11_r0 : BitVec 32 := Scf.iv c0_i32_380_r0 c1_i32_382_r0 k2_t65
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c1_i32_409_r0 : BitVec 32 := 1#32
  let v312_r0 : BitVec 32 := Scalar.addi v305_r0 c1_i32_409_r0
  let v316_r0 : Index := Scalar.indexCast v312_r0
  let c0_414_r0 : Index := 0#32
  ![0, v316_r0.toNat, 0]
def k2_off206 (arg7_r0 : BitVec 32) : Fin 4 → Nat :=
  let c2_i32_402_r0 : BitVec 32 := 2#32
  let v302_r0 : BitVec 32 := Scalar.remui arg7_r0 c2_i32_402_r0
  let c0_i32_405_r0 : BitVec 32 := 0#32
  let c0_i32_406_r0 : BitVec 32 := 0#32
  let c0_i32_407_r0 : BitVec 32 := 0#32
  ![v302_r0.toNat, 0, 0, 0]
def k2_cond7 (i : grid2.Coords) (k2_t1 : Fin (k2_t1_loop i).trips) (arg9_r0 : BitVec 32) (arg10_r0 : BitVec 32) : BitVec 1 :=
  let c0_i32_92_r0 : BitVec 32 := 0#32
  let v117_r0 : BitVec 32 := Scalar.addi arg9_r0 c0_i32_92_r0
  let true_102_r0 : BitVec 1 := 1#1
  let c1_i32_101_r0 : BitVec 32 := 1#32
  let v130_r0 : BitVec 32 := Scalar.addi arg10_r0 c1_i32_101_r0
  let v131_r0 : BitVec 32 := Scalar.select true_102_r0 v130_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v132_r0 : BitVec 1 := Scalar.cmpi .eq v131_r0 v5
  let c1_i32_104_r0 : BitVec 32 := 1#32
  let v134_r0 : BitVec 32 := Scalar.addi arg9_r0 c1_i32_104_r0
  let v135_r0 : BitVec 32 := Scalar.select v132_r0 v134_r0 arg9_r0
  let c4_i32_105_r0 : BitVec 32 := 4#32
  let v136_r0 : BitVec 1 := Scalar.cmpi .eq v135_r0 c4_i32_105_r0
  let c0_i32_106_r0 : BitVec 32 := 0#32
  let v137_r0 : BitVec 32 := Scalar.select v136_r0 c0_i32_106_r0 v135_r0
  let c0_i32_107_r0 : BitVec 32 := 0#32
  let v138_r0 : BitVec 32 := Scalar.addi v137_r0 c0_i32_107_r0
  let v261_r0 : BitVec 1 := Scalar.cmpi .ne v117_r0 v138_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c0_i32_103_r0 : BitVec 32 := 0#32
  let v133_r0 : BitVec 32 := Scalar.select v132_r0 c0_i32_103_r0 v131_r0
  let v139_r0 : BitVec 32 := Scalar.addi v133_r0 v10
  let v262_r0 : BitVec 1 := Scalar.cmpi .ne v118_r0 v139_r0
  let v263_r0 : BitVec 1 := Scalar.ori v261_r0 v262_r0
  let c0_i32_44_r0 : BitVec 32 := 0#32
  let c1_i32_51_r0 : BitVec 32 := 1#32
  let arg4_r0 : BitVec 32 := Scf.iv c0_i32_44_r0 c1_i32_51_r0 k2_t1
  let c4_i32_89_r0 : BitVec 32 := 4#32
  let v113_r0 : BitVec 32 := Scalar.muli c4_i32_89_r0 v5
  let c1_i32_91_r0 : BitVec 32 := 1#32
  let v115_r0 : BitVec 32 := Scalar.subi v113_r0 c1_i32_91_r0
  let v116_r0 : BitVec 1 := Scalar.cmpi .eq arg4_r0 v115_r0
  let v264_r0 : BitVec 1 := Scalar.ori v263_r0 v116_r0
  let v265_r0 : BitVec 32 := Scalar.extui v264_r0
  let c0_i32_385_r0 : BitVec 32 := 0#32
  let v266_r0 : BitVec 1 := Scalar.cmpi .ne v265_r0 c0_i32_385_r0
  v266_r0

def k2_off207 (i : grid2.Coords) (arg9_r0 : BitVec 32) (arg10_r0 : BitVec 32) : Fin 3 → Nat :=
  let c1_i32_403_r0 : BitVec 32 := 1#32
  let c0_i32_92_r0 : BitVec 32 := 0#32
  let v117_r0 : BitVec 32 := Scalar.addi arg9_r0 c0_i32_92_r0
  let v303_r0 : BitVec 32 := Scalar.muli c1_i32_403_r0 v117_r0
  let c0_i32_408_r0 : BitVec 32 := 0#32
  let c16_i32_404_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let v304_r0 : BitVec 32 := Scalar.muli c16_i32_404_r0 v118_r0
  ![v303_r0.toNat, 0, v304_r0.toNat]
def k2_off208 (arg7_r0 : BitVec 32) : Fin 1 → Nat :=
  let c2_i32_402_r0 : BitVec 32 := 2#32
  let v302_r0 : BitVec 32 := Scalar.remui arg7_r0 c2_i32_402_r0
  ![v302_r0.toNat]
def k2_off209 (arg8_r0 : BitVec 32) : Fin 4 → Nat :=
  let c2_i32_402_r0 : BitVec 32 := 2#32
  let v302_r0 : BitVec 32 := Scalar.remui arg8_r0 c2_i32_402_r0
  let c0_i32_405_r0 : BitVec 32 := 0#32
  let c0_i32_406_r0 : BitVec 32 := 0#32
  let c0_i32_407_r0 : BitVec 32 := 0#32
  ![v302_r0.toNat, 0, 0, 0]
def k2_cond9 (i : grid2.Coords) (k2_t1 : Fin (k2_t1_loop i).trips) (arg9_r0 : BitVec 32) (arg10_r0 : BitVec 32) : BitVec 1 :=
  let c0_i32_92_r0 : BitVec 32 := 0#32
  let v117_r0 : BitVec 32 := Scalar.addi arg9_r0 c0_i32_92_r0
  let true_94_r0 : BitVec 1 := 1#1
  let c1_i32_93_r0 : BitVec 32 := 1#32
  let v119_r0 : BitVec 32 := Scalar.subi arg10_r0 c1_i32_93_r0
  let v120_r0 : BitVec 32 := Scalar.select true_94_r0 v119_r0 arg10_r0
  let c_m1_i32_95_r0 : BitVec 32 := 4294967295#32
  let v121_r0 : BitVec 1 := Scalar.cmpi .eq v120_r0 c_m1_i32_95_r0
  let c1_i32_97_r0 : BitVec 32 := 1#32
  let v124_r0 : BitVec 32 := Scalar.subi arg9_r0 c1_i32_97_r0
  let v125_r0 : BitVec 32 := Scalar.select v121_r0 v124_r0 arg9_r0
  let c_m1_i32_98_r0 : BitVec 32 := 4294967295#32
  let v126_r0 : BitVec 1 := Scalar.cmpi .eq v125_r0 c_m1_i32_98_r0
  let c3_i32_99_r0 : BitVec 32 := 3#32
  let v127_r0 : BitVec 32 := Scalar.select v126_r0 c3_i32_99_r0 v125_r0
  let c0_i32_100_r0 : BitVec 32 := 0#32
  let v128_r0 : BitVec 32 := Scalar.addi v127_r0 c0_i32_100_r0
  let v278_r0 : BitVec 1 := Scalar.cmpi .ne v117_r0 v128_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c1_i32_96_r0 : BitVec 32 := 1#32
  let v122_r0 : BitVec 32 := Scalar.subi v5 c1_i32_96_r0
  let v123_r0 : BitVec 32 := Scalar.select v121_r0 v122_r0 v120_r0
  let v129_r0 : BitVec 32 := Scalar.addi v123_r0 v10
  let v279_r0 : BitVec 1 := Scalar.cmpi .ne v118_r0 v129_r0
  let v280_r0 : BitVec 1 := Scalar.ori v278_r0 v279_r0
  let c0_i32_44_r0 : BitVec 32 := 0#32
  let c1_i32_51_r0 : BitVec 32 := 1#32
  let arg4_r0 : BitVec 32 := Scf.iv c0_i32_44_r0 c1_i32_51_r0 k2_t1
  let c0_i32_90_r0 : BitVec 32 := 0#32
  let v114_r0 : BitVec 1 := Scalar.cmpi .eq arg4_r0 c0_i32_90_r0
  let true_391_r0 : BitVec 1 := 1#1
  let v281_r0 : BitVec 1 := Scalar.xori v114_r0 true_391_r0
  let v282_r0 : BitVec 1 := Scalar.andi v280_r0 v281_r0
  let v283_r0 : BitVec 32 := Scalar.extui v282_r0
  let c0_i32_392_r0 : BitVec 32 := 0#32
  let v284_r0 : BitVec 1 := Scalar.cmpi .ne v283_r0 c0_i32_392_r0
  v284_r0

def k2_off210 (i : grid2.Coords) (arg9_r0 : BitVec 32) (arg10_r0 : BitVec 32) : Fin 3 → Nat :=
  let c1_i32_403_r0 : BitVec 32 := 1#32
  let true_94_r0 : BitVec 1 := 1#1
  let c1_i32_93_r0 : BitVec 32 := 1#32
  let v119_r0 : BitVec 32 := Scalar.subi arg10_r0 c1_i32_93_r0
  let v120_r0 : BitVec 32 := Scalar.select true_94_r0 v119_r0 arg10_r0
  let c_m1_i32_95_r0 : BitVec 32 := 4294967295#32
  let v121_r0 : BitVec 1 := Scalar.cmpi .eq v120_r0 c_m1_i32_95_r0
  let c1_i32_97_r0 : BitVec 32 := 1#32
  let v124_r0 : BitVec 32 := Scalar.subi arg9_r0 c1_i32_97_r0
  let v125_r0 : BitVec 32 := Scalar.select v121_r0 v124_r0 arg9_r0
  let c_m1_i32_98_r0 : BitVec 32 := 4294967295#32
  let v126_r0 : BitVec 1 := Scalar.cmpi .eq v125_r0 c_m1_i32_98_r0
  let c3_i32_99_r0 : BitVec 32 := 3#32
  let v127_r0 : BitVec 32 := Scalar.select v126_r0 c3_i32_99_r0 v125_r0
  let c0_i32_100_r0 : BitVec 32 := 0#32
  let v128_r0 : BitVec 32 := Scalar.addi v127_r0 c0_i32_100_r0
  let v303_r0 : BitVec 32 := Scalar.muli c1_i32_403_r0 v128_r0
  let c0_i32_408_r0 : BitVec 32 := 0#32
  let c16_i32_404_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let c1_i32_96_r0 : BitVec 32 := 1#32
  let v122_r0 : BitVec 32 := Scalar.subi v5 c1_i32_96_r0
  let v123_r0 : BitVec 32 := Scalar.select v121_r0 v122_r0 v120_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v129_r0 : BitVec 32 := Scalar.addi v123_r0 v10
  let v304_r0 : BitVec 32 := Scalar.muli c16_i32_404_r0 v129_r0
  ![v303_r0.toNat, 0, v304_r0.toNat]
def k2_off211 (arg8_r0 : BitVec 32) : Fin 1 → Nat :=
  let c2_i32_402_r0 : BitVec 32 := 2#32
  let v302_r0 : BitVec 32 := Scalar.remui arg8_r0 c2_i32_402_r0
  ![v302_r0.toNat]

def k2_chk1 (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg9_r0 arg10_r0 = 1#1), ∀ a, (k2_off4 arg5_r0) a + S1x1x256x16.size a ≤ S2x1x256x16.size a) ∧
  (∀ (k2_h1 : k2_cond1 i = 1#1), ∀ (k2_h3 : k2_cond3 i k2_t1 arg9_r0 arg10_r0 = 1#1), ∀ a, (k2_off5 i arg9_r0 arg10_r0) a + S1x256x16.size a ≤ S4x256x256.size a) ∧
  (∀ (k2_h1 : k2_cond1 i = 1#1), ∀ (k2_h3 : k2_cond3 i k2_t1 arg9_r0 arg10_r0 = 1#1), ∀ a, (k2_off6 arg5_r0) a + S1.size a ≤ S2.size a) ∧
  (∀ (k2_h1 : k2_cond1 i = 1#1), ∀ (k2_h4 : k2_cond4 i k2_t1 arg9_r0 arg10_r0 = 1#1), ∀ a, (k2_off7 arg6_r0) a + S1x1x256x16.size a ≤ S2x1x256x16.size a) ∧
  (∀ (k2_h1 : k2_cond1 i = 1#1), ∀ (k2_h4 : k2_cond4 i k2_t1 arg9_r0 arg10_r0 = 1#1), ∀ a, (k2_off8 i arg9_r0 arg10_r0) a + S1x256x16.size a ≤ S4x256x256.size a) ∧
  (∀ (k2_h1 : k2_cond1 i = 1#1), ∀ (k2_h4 : k2_cond4 i k2_t1 arg9_r0 arg10_r0 = 1#1), ∀ a, (k2_off9 arg6_r0) a + S1.size a ≤ S2.size a) ∧
  (∀ (k2_h1 : k2_cond1 i = 1#1), ∀ (k2_h7 : k2_cond7 i k2_t1 arg9_r0 arg10_r0 = 1#1), ∀ a, (k2_off206 arg7_r0) a + S1x1x256x16.size a ≤ S2x1x256x16.size a) ∧
  (∀ (k2_h1 : k2_cond1 i = 1#1), ∀ (k2_h7 : k2_cond7 i k2_t1 arg9_r0 arg10_r0 = 1#1), ∀ a, (k2_off207 i arg9_r0 arg10_r0) a + S1x256x16.size a ≤ S4x256x256.size a) ∧
  (∀ (k2_h1 : k2_cond1 i = 1#1), ∀ (k2_h7 : k2_cond7 i k2_t1 arg9_r0 arg10_r0 = 1#1), ∀ a, (k2_off208 arg7_r0) a + S1.size a ≤ S2.size a) ∧
  (∀ (k2_h1 : k2_cond1 i = 1#1), ∀ (k2_h9 : k2_cond9 i k2_t1 arg9_r0 arg10_r0 = 1#1), ∀ a, (k2_off209 arg8_r0) a + S1x1x256x16.size a ≤ S2x1x256x16.size a) ∧
  (∀ (k2_h1 : k2_cond1 i = 1#1), ∀ (k2_h9 : k2_cond9 i k2_t1 arg9_r0 arg10_r0 = 1#1), ∀ a, (k2_off210 i arg9_r0 arg10_r0) a + S1x256x16.size a ≤ S4x256x256.size a) ∧
  (∀ (k2_h1 : k2_cond1 i = 1#1), ∀ (k2_h9 : k2_cond9 i k2_t1 arg9_r0 arg10_r0 = 1#1), ∀ a, (k2_off211 arg8_r0) a + S1.size a ≤ S2.size a)
theorem k2_off4_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h3 : k2_cond3 i k2_t1 arg9_r0 arg10_r0 = 1#1), ∀ a, (k2_off4 arg5_r0) a + S1x1x256x16.size a ≤ S2x1x256x16.size a := fun i k2_t1 arg5_r0 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h3 : k2_cond3 i k2_t1 arg9_r0 arg10_r0 = 1#1), ∀ a, (k2_off5 i arg9_r0 arg10_r0) a + S1x256x16.size a ≤ S4x256x256.size a := fun i k2_t1 arg5_r0 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h3 : k2_cond3 i k2_t1 arg9_r0 arg10_r0 = 1#1), ∀ a, (k2_off6 arg5_r0) a + S1.size a ≤ S2.size a := fun i k2_t1 arg5_r0 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h4 : k2_cond4 i k2_t1 arg9_r0 arg10_r0 = 1#1), ∀ a, (k2_off7 arg6_r0) a + S1x1x256x16.size a ≤ S2x1x256x16.size a := fun i k2_t1 arg5_r0 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h4 : k2_cond4 i k2_t1 arg9_r0 arg10_r0 = 1#1), ∀ a, (k2_off8 i arg9_r0 arg10_r0) a + S1x256x16.size a ≤ S4x256x256.size a := fun i k2_t1 arg5_r0 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h4 : k2_cond4 i k2_t1 arg9_r0 arg10_r0 = 1#1), ∀ a, (k2_off9 arg6_r0) a + S1.size a ≤ S2.size a := fun i k2_t1 arg5_r0 arg6_r0 arg7_r0 arg8_r0 arg9_r0 arg10_r0 k2_hw1 k2_h1 k2_h4 => k2_hw1.2.2.2.2.2.1 k2_h1 k2_h4
theorem k2_off206_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h7 : k2_cond7 i k2_t1 arg9_r0 arg10_r0 = 1#1), ∀ a, (k2_off206 arg7_r0) a + S1x1x256x16.size a ≤ S2x1x256x16.size a := fun i k2_t1 arg5_r0 arg6_r0 arg7_r0 arg8_r0 arg9_r0 arg10_r0 k2_hw1 k2_h1 k2_h7 => k2_hw1.2.2.2.2.2.2.1 k2_h1 k2_h7
theorem k2_off207_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h7 : k2_cond7 i k2_t1 arg9_r0 arg10_r0 = 1#1), ∀ a, (k2_off207 i arg9_r0 arg10_r0) a + S1x256x16.size a ≤ S4x256x256.size a := fun i k2_t1 arg5_r0 arg6_r0 arg7_r0 arg8_r0 arg9_r0 arg10_r0 k2_hw1 k2_h1 k2_h7 => k2_hw1.2.2.2.2.2.2.2.1 k2_h1 k2_h7
theorem k2_off208_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h7 : k2_cond7 i k2_t1 arg9_r0 arg10_r0 = 1#1), ∀ a, (k2_off208 arg7_r0) a + S1.size a ≤ S2.size a := fun i k2_t1 arg5_r0 arg6_r0 arg7_r0 arg8_r0 arg9_r0 arg10_r0 k2_hw1 k2_h1 k2_h7 => k2_hw1.2.2.2.2.2.2.2.2.1 k2_h1 k2_h7
theorem k2_off209_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h9 : k2_cond9 i k2_t1 arg9_r0 arg10_r0 = 1#1), ∀ a, (k2_off209 arg8_r0) a + S1x1x256x16.size a ≤ S2x1x256x16.size a := fun i k2_t1 arg5_r0 arg6_r0 arg7_r0 arg8_r0 arg9_r0 arg10_r0 k2_hw1 k2_h1 k2_h9 => k2_hw1.2.2.2.2.2.2.2.2.2.1 k2_h1 k2_h9
theorem k2_off210_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h9 : k2_cond9 i k2_t1 arg9_r0 arg10_r0 = 1#1), ∀ a, (k2_off210 i arg9_r0 arg10_r0) a + S1x256x16.size a ≤ S4x256x256.size a := fun i k2_t1 arg5_r0 arg6_r0 arg7_r0 arg8_r0 arg9_r0 arg10_r0 k2_hw1 k2_h1 k2_h9 => k2_hw1.2.2.2.2.2.2.2.2.2.2.1 k2_h1 k2_h9
theorem k2_off211_inb : ∀ (i : grid2.Coords) (k2_t1 : Fin (k2_t1_loop i).trips) (arg5_r0 : BitVec 32) (arg6_r0 : BitVec 32) (arg7_r0 : BitVec 32) (arg8_r0 : BitVec 32) (arg9_r0 : BitVec 32) (arg10_r0 : BitVec 32) (k2_hw1 : k2_chk1 i k2_t1 arg5_r0 arg6_r0 arg7_r0 arg8_r0 arg9_r0 arg10_r0), ∀ (k2_h1 : k2_cond1 i = 1#1), ∀ (k2_h9 : k2_cond9 i k2_t1 arg9_r0 arg10_r0 = 1#1), ∀ a, (k2_off211 arg8_r0) a + S1.size a ≤ S2.size a := fun i k2_t1 arg5_r0 arg6_r0 arg7_r0 arg8_r0 arg9_r0 arg10_r0 k2_hw1 k2_h1 k2_h9 => k2_hw1.2.2.2.2.2.2.2.2.2.2.2 k2_h1 k2_h9

@[reducible] def k2_t66_loop (i : grid2.Coords) : Scf.Loop 32 :=
  let c0_i32_44_r0 : BitVec 32 := 0#32
  let c4_i32 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v11 : BitVec 32 := Scalar.muli c4_i32 v5
  let v55_r0 : BitVec 32 := Scalar.subi v11 c0_i32_44_r0
  let c1_i32_50_r0 : BitVec 32 := 1#32
  let v57_r0 : BitVec 32 := Scalar.divsi v55_r0 c1_i32_50_r0
  let v58_r0 : BitVec 32 := Scalar.muli v57_r0 c1_i32_50_r0
  let v59_r0 : BitVec 32 := Scalar.addi c0_i32_44_r0 v58_r0
  let v56_r0 : BitVec 32 := Scalar.addi c0_i32_44_r0 v55_r0
  let c1_i32_52_r0 : BitVec 32 := 1#32
  ⟨v59_r0, v56_r0, c1_i32_52_r0⟩
def k2_off212 (arg5_r0 : BitVec 32) : Fin 4 → Nat :=
  let c2_i32_402_r0 : BitVec 32 := 2#32
  let v302_r0 : BitVec 32 := Scalar.remui arg5_r0 c2_i32_402_r0
  let c0_i32_405_r0 : BitVec 32 := 0#32
  let c0_i32_406_r0 : BitVec 32 := 0#32
  let c0_i32_407_r0 : BitVec 32 := 0#32
  ![v302_r0.toNat, 0, 0, 0]
def k2_cond10 (i : grid2.Coords) (k2_t66 : Fin (k2_t66_loop i).trips) (arg9_r0 : BitVec 32) (arg10_r0 : BitVec 32) : BitVec 1 :=
  let c0_i32_92_r0 : BitVec 32 := 0#32
  let v117_r0 : BitVec 32 := Scalar.addi arg9_r0 c0_i32_92_r0
  let true_102_r0 : BitVec 1 := 1#1
  let c1_i32_101_r0 : BitVec 32 := 1#32
  let v130_r0 : BitVec 32 := Scalar.addi arg10_r0 c1_i32_101_r0
  let v131_r0 : BitVec 32 := Scalar.select true_102_r0 v130_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v132_r0 : BitVec 1 := Scalar.cmpi .eq v131_r0 v5
  let c1_i32_104_r0 : BitVec 32 := 1#32
  let v134_r0 : BitVec 32 := Scalar.addi arg9_r0 c1_i32_104_r0
  let v135_r0 : BitVec 32 := Scalar.select v132_r0 v134_r0 arg9_r0
  let c4_i32_105_r0 : BitVec 32 := 4#32
  let v136_r0 : BitVec 1 := Scalar.cmpi .eq v135_r0 c4_i32_105_r0
  let c0_i32_106_r0 : BitVec 32 := 0#32
  let v137_r0 : BitVec 32 := Scalar.select v136_r0 c0_i32_106_r0 v135_r0
  let c0_i32_107_r0 : BitVec 32 := 0#32
  let v138_r0 : BitVec 32 := Scalar.addi v137_r0 c0_i32_107_r0
  let v150_r0 : BitVec 1 := Scalar.cmpi .ne v117_r0 v138_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c0_i32_103_r0 : BitVec 32 := 0#32
  let v133_r0 : BitVec 32 := Scalar.select v132_r0 c0_i32_103_r0 v131_r0
  let v139_r0 : BitVec 32 := Scalar.addi v133_r0 v10
  let v151_r0 : BitVec 1 := Scalar.cmpi .ne v118_r0 v139_r0
  let v152_r0 : BitVec 1 := Scalar.ori v150_r0 v151_r0
  let c0_i32_44_r0 : BitVec 32 := 0#32
  let c4_i32 : BitVec 32 := 4#32
  let v11 : BitVec 32 := Scalar.muli c4_i32 v5
  let v55_r0 : BitVec 32 := Scalar.subi v11 c0_i32_44_r0
  let c1_i32_50_r0 : BitVec 32 := 1#32
  let v57_r0 : BitVec 32 := Scalar.divsi v55_r0 c1_i32_50_r0
  let v58_r0 : BitVec 32 := Scalar.muli v57_r0 c1_i32_50_r0
  let v59_r0 : BitVec 32 := Scalar.addi c0_i32_44_r0 v58_r0
  let c1_i32_52_r0 : BitVec 32 := 1#32
  let arg4_r0 : BitVec 32 := Scf.iv v59_r0 c1_i32_52_r0 k2_t66
  let c4_i32_89_r0 : BitVec 32 := 4#32
  let v113_r0 : BitVec 32 := Scalar.muli c4_i32_89_r0 v5
  let c2_i32_r0 : BitVec 32 := 2#32
  let v153_r0 : BitVec 32 := Scalar.subi v113_r0 c2_i32_r0
  let c1_i32_115_r0 : BitVec 32 := 1#32
  let v154_r0 : BitVec 32 := Scalar.addi v153_r0 c1_i32_115_r0
  let v155_r0 : BitVec 1 := Scalar.cmpi .sge arg4_r0 v154_r0
  let true_116_r0 : BitVec 1 := 1#1
  let v156_r0 : BitVec 1 := Scalar.xori v155_r0 true_116_r0
  let v157_r0 : BitVec 1 := Scalar.andi v152_r0 v156_r0
  let true_117_r0 : BitVec 1 := 1#1
  let v158_r0 : BitVec 1 := Scalar.andi v157_r0 true_117_r0
  let v159_r0 : BitVec 32 := Scalar.extui v158_r0
  let c0_i32_118_r0 : BitVec 32 := 0#32
  let v160_r0 : BitVec 1 := Scalar.cmpi .ne v159_r0 c0_i32_118_r0
  v160_r0

def k2_off213 (i : grid2.Coords) (arg9_r0 : BitVec 32) (arg10_r0 : BitVec 32) : Fin 3 → Nat :=
  let c1_i32_403_r0 : BitVec 32 := 1#32
  let true_102_r0 : BitVec 1 := 1#1
  let c1_i32_101_r0 : BitVec 32 := 1#32
  let v130_r0 : BitVec 32 := Scalar.addi arg10_r0 c1_i32_101_r0
  let v131_r0 : BitVec 32 := Scalar.select true_102_r0 v130_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v132_r0 : BitVec 1 := Scalar.cmpi .eq v131_r0 v5
  let c1_i32_104_r0 : BitVec 32 := 1#32
  let v134_r0 : BitVec 32 := Scalar.addi arg9_r0 c1_i32_104_r0
  let v135_r0 : BitVec 32 := Scalar.select v132_r0 v134_r0 arg9_r0
  let c4_i32_105_r0 : BitVec 32 := 4#32
  let v136_r0 : BitVec 1 := Scalar.cmpi .eq v135_r0 c4_i32_105_r0
  let c0_i32_106_r0 : BitVec 32 := 0#32
  let v137_r0 : BitVec 32 := Scalar.select v136_r0 c0_i32_106_r0 v135_r0
  let c0_i32_107_r0 : BitVec 32 := 0#32
  let v138_r0 : BitVec 32 := Scalar.addi v137_r0 c0_i32_107_r0
  let v303_r0 : BitVec 32 := Scalar.muli c1_i32_403_r0 v138_r0
  let c0_i32_408_r0 : BitVec 32 := 0#32
  let c16_i32_404_r0 : BitVec 32 := 16#32
  let c0_i32_103_r0 : BitVec 32 := 0#32
  let v133_r0 : BitVec 32 := Scalar.select v132_r0 c0_i32_103_r0 v131_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v139_r0 : BitVec 32 := Scalar.addi v133_r0 v10
  let v304_r0 : BitVec 32 := Scalar.muli c16_i32_404_r0 v139_r0
  ![v303_r0.toNat, 0, v304_r0.toNat]
def k2_off214 (arg5_r0 : BitVec 32) : Fin 1 → Nat :=
  let c2_i32_402_r0 : BitVec 32 := 2#32
  let v302_r0 : BitVec 32 := Scalar.remui arg5_r0 c2_i32_402_r0
  ![v302_r0.toNat]
def k2_off215 (arg6_r0 : BitVec 32) : Fin 4 → Nat :=
  let c2_i32_404_r0 : BitVec 32 := 2#32
  let v304_r0 : BitVec 32 := Scalar.remui arg6_r0 c2_i32_404_r0
  let c0_i32_405_r0 : BitVec 32 := 0#32
  let c0_i32_406_r0 : BitVec 32 := 0#32
  let c0_i32_407_r0 : BitVec 32 := 0#32
  ![v304_r0.toNat, 0, 0, 0]
def k2_cond11 (i : grid2.Coords) (k2_t66 : Fin (k2_t66_loop i).trips) (arg9_r0 : BitVec 32) (arg10_r0 : BitVec 32) : BitVec 1 :=
  let c0_i32_92_r0 : BitVec 32 := 0#32
  let v117_r0 : BitVec 32 := Scalar.addi arg9_r0 c0_i32_92_r0
  let true_94_r0 : BitVec 1 := 1#1
  let c1_i32_93_r0 : BitVec 32 := 1#32
  let v119_r0 : BitVec 32 := Scalar.subi arg10_r0 c1_i32_93_r0
  let v120_r0 : BitVec 32 := Scalar.select true_94_r0 v119_r0 arg10_r0
  let c_m1_i32_95_r0 : BitVec 32 := 4294967295#32
  let v121_r0 : BitVec 1 := Scalar.cmpi .eq v120_r0 c_m1_i32_95_r0
  let c1_i32_97_r0 : BitVec 32 := 1#32
  let v124_r0 : BitVec 32 := Scalar.subi arg9_r0 c1_i32_97_r0
  let v125_r0 : BitVec 32 := Scalar.select v121_r0 v124_r0 arg9_r0
  let c_m1_i32_98_r0 : BitVec 32 := 4294967295#32
  let v126_r0 : BitVec 1 := Scalar.cmpi .eq v125_r0 c_m1_i32_98_r0
  let c3_i32_99_r0 : BitVec 32 := 3#32
  let v127_r0 : BitVec 32 := Scalar.select v126_r0 c3_i32_99_r0 v125_r0
  let c0_i32_100_r0 : BitVec 32 := 0#32
  let v128_r0 : BitVec 32 := Scalar.addi v127_r0 c0_i32_100_r0
  let v172_r0 : BitVec 1 := Scalar.cmpi .ne v117_r0 v128_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c1_i32_96_r0 : BitVec 32 := 1#32
  let v122_r0 : BitVec 32 := Scalar.subi v5 c1_i32_96_r0
  let v123_r0 : BitVec 32 := Scalar.select v121_r0 v122_r0 v120_r0
  let v129_r0 : BitVec 32 := Scalar.addi v123_r0 v10
  let v173_r0 : BitVec 1 := Scalar.cmpi .ne v118_r0 v129_r0
  let v174_r0 : BitVec 1 := Scalar.ori v172_r0 v173_r0
  let c0_i32_44_r0 : BitVec 32 := 0#32
  let c4_i32 : BitVec 32 := 4#32
  let v11 : BitVec 32 := Scalar.muli c4_i32 v5
  let v55_r0 : BitVec 32 := Scalar.subi v11 c0_i32_44_r0
  let c1_i32_50_r0 : BitVec 32 := 1#32
  let v57_r0 : BitVec 32 := Scalar.divsi v55_r0 c1_i32_50_r0
  let v58_r0 : BitVec 32 := Scalar.muli v57_r0 c1_i32_50_r0
  let v59_r0 : BitVec 32 := Scalar.addi c0_i32_44_r0 v58_r0
  let c1_i32_52_r0 : BitVec 32 := 1#32
  let arg4_r0 : BitVec 32 := Scf.iv v59_r0 c1_i32_52_r0 k2_t66
  let c0_i32_90_r0 : BitVec 32 := 0#32
  let v114_r0 : BitVec 1 := Scalar.cmpi .eq arg4_r0 c0_i32_90_r0
  let v175_r0 : BitVec 1 := Scalar.ori v174_r0 v114_r0
  let c0_i32_124_r0 : BitVec 32 := 0#32
  let v176_r0 : BitVec 1 := Scalar.cmpi .sge arg4_r0 c0_i32_124_r0
  let v177_r0 : BitVec 1 := Scalar.andi v175_r0 v176_r0
  let v178_r0 : BitVec 32 := Scalar.extui v177_r0
  let c0_i32_125_r0 : BitVec 32 := 0#32
  let v179_r0 : BitVec 1 := Scalar.cmpi .ne v178_r0 c0_i32_125_r0
  v179_r0

def k2_off216 (i : grid2.Coords) (arg9_r0 : BitVec 32) (arg10_r0 : BitVec 32) : Fin 3 → Nat :=
  let c1_i32_402_r0 : BitVec 32 := 1#32
  let c0_i32_92_r0 : BitVec 32 := 0#32
  let v117_r0 : BitVec 32 := Scalar.addi arg9_r0 c0_i32_92_r0
  let v302_r0 : BitVec 32 := Scalar.muli c1_i32_402_r0 v117_r0
  let c0_i32_408_r0 : BitVec 32 := 0#32
  let c16_i32_403_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let v303_r0 : BitVec 32 := Scalar.muli c16_i32_403_r0 v118_r0
  ![v302_r0.toNat, 0, v303_r0.toNat]
def k2_off217 (arg6_r0 : BitVec 32) : Fin 1 → Nat :=
  let c2_i32_404_r0 : BitVec 32 := 2#32
  let v304_r0 : BitVec 32 := Scalar.remui arg6_r0 c2_i32_404_r0
  ![v304_r0.toNat]
@[reducible] def k2_t67_loop : Scf.Loop 32 :=
  let c0_i32_130_r0 : BitVec 32 := 0#32
  let c64_i32_r0 : BitVec 32 := 64#32
  let v190_r0 : BitVec 32 := Scalar.addi c0_i32_130_r0 c64_i32_r0
  let c1_i32_131_r0 : BitVec 32 := 1#32
  ⟨c0_i32_130_r0, v190_r0, c1_i32_131_r0⟩
def k2_off218 (arg6_r0 : BitVec 32) : Fin 4 → Nat :=
  let c2_i32_128_r0 : BitVec 32 := 2#32
  let v188_r0 : BitVec 32 := Scalar.remui arg6_r0 c2_i32_128_r0
  let c0_i32_407_r0 : BitVec 32 := 0#32
  let c0_i32_408_r0 : BitVec 32 := 0#32
  let c0_i32_409_r0 : BitVec 32 := 0#32
  ![v188_r0.toNat, 0, 0, 0]

def k2_off219 (k2_t67 : Fin k2_t67_loop.trips) : Fin 3 → Nat :=
  let c0_i32_406_r0 : BitVec 32 := 0#32
  let v310_r0 : Index := Scalar.indexCast c0_i32_406_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t67
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let v311_r0 : Index := Scalar.indexCast v307_r0
  let c0_r0 : Index := 0#32
  ![0, v311_r0.toNat, 0]
def k2_off220 (k2_t67 : Fin k2_t67_loop.trips) : Fin 3 → Nat :=
  let c0_i32_411_r0 : BitVec 32 := 0#32
  let v317_r0 : Index := Scalar.indexCast c0_i32_411_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t67
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let c1_i32_410_r0 : BitVec 32 := 1#32
  let v314_r0 : BitVec 32 := Scalar.addi v307_r0 c1_i32_410_r0
  let v318_r0 : Index := Scalar.indexCast v314_r0
  let c0_415_r0 : Index := 0#32
  ![0, v318_r0.toNat, 0]
def k2_off221 (arg7_r0 : BitVec 32) : Fin 4 → Nat :=
  let c2_i32_129_r0 : BitVec 32 := 2#32
  let v189_r0 : BitVec 32 := Scalar.remui arg7_r0 c2_i32_129_r0
  let c0_i32_417_r0 : BitVec 32 := 0#32
  let c0_i32_418_r0 : BitVec 32 := 0#32
  let c0_i32_419_r0 : BitVec 32 := 0#32
  ![v189_r0.toNat, 0, 0, 0]

def k2_off222 (k2_t67 : Fin k2_t67_loop.trips) : Fin 3 → Nat :=
  let c0_i32_416_r0 : BitVec 32 := 0#32
  let v324_r0 : Index := Scalar.indexCast c0_i32_416_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t67
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let v325_r0 : Index := Scalar.indexCast v307_r0
  let c0_420_r0 : Index := 0#32
  ![0, v325_r0.toNat, 0]
def k2_off223 (k2_t67 : Fin k2_t67_loop.trips) : Fin 3 → Nat :=
  let c0_i32_422_r0 : BitVec 32 := 0#32
  let v333_r0 : Index := Scalar.indexCast c0_i32_422_r0
  let c0_i32_403_r0 : BitVec 32 := 0#32
  let c0_i32_130_r0 : BitVec 32 := 0#32
  let c1_i32_131_r0 : BitVec 32 := 1#32
  let arg11_r0 : BitVec 32 := Scf.iv c0_i32_130_r0 c1_i32_131_r0 k2_t67
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c_m1_i32_405_r0 : BitVec 32 := 4294967295#32
  let v306_r0 : BitVec 32 := Scalar.andi v305_r0 c_m1_i32_405_r0
  let v307_r0 : BitVec 32 := Scalar.addi v305_r0 v306_r0
  let c1_i32_421_r0 : BitVec 32 := 1#32
  let v330_r0 : BitVec 32 := Scalar.addi v307_r0 c1_i32_421_r0
  let v334_r0 : Index := Scalar.indexCast v330_r0
  let c0_426_r0 : Index := 0#32
  ![0, v334_r0.toNat, 0]
@[reducible] def k2_t68_loop : Scf.Loop 32 :=
  let c0_i32_133_r0 : BitVec 32 := 0#32
  let c64_i32_134_r0 : BitVec 32 := 64#32
  let v191_r0 : BitVec 32 := Scalar.addi c0_i32_133_r0 c64_i32_134_r0
  let c1_i32_135_r0 : BitVec 32 := 1#32
  ⟨c0_i32_133_r0, v191_r0, c1_i32_135_r0⟩
def k2_off224 (arg6_r0 : BitVec 32) : Fin 4 → Nat :=
  let c2_i32_128_r0 : BitVec 32 := 2#32
  let v188_r0 : BitVec 32 := Scalar.remui arg6_r0 c2_i32_128_r0
  let c0_i32_408_r0 : BitVec 32 := 0#32
  let c0_i32_409_r0 : BitVec 32 := 0#32
  let c0_i32_410_r0 : BitVec 32 := 0#32
  ![v188_r0.toNat, 0, 0, 0]

def k2_chk5 (i : grid2.Coords) (k2_t66 : Fin (k2_t66_loop i).trips) (arg6_r0 : BitVec 32) : Prop :=
  (∀ (k2_h1 : k2_cond1 i = 1#1), ∀ a, (k2_off218 arg6_r0) a + S1x1x256x16.size a ≤ S2x1x256x16.size a) ∧
  (∀ (k2_h1 : k2_cond1 i = 1#1), ∀ a, (k2_off224 arg6_r0) a + S1x1x256x16.size a ≤ S2x1x256x16.size a)
theorem k2_off218_inb : ∀ (i : grid2.Coords) (k2_t66 : Fin (k2_t66_loop i).trips) (arg6_r0 : BitVec 32) (k2_hw5 : k2_chk5 i k2_t66 arg6_r0), ∀ (k2_h1 : k2_cond1 i = 1#1), ∀ a, (k2_off218 arg6_r0) a + S1x1x256x16.size a ≤ S2x1x256x16.size a := fun i k2_t66 arg6_r0 k2_hw5 k2_h1 => k2_hw5.1 k2_h1
theorem k2_off224_inb : ∀ (i : grid2.Coords) (k2_t66 : Fin (k2_t66_loop i).trips) (arg6_r0 : BitVec 32) (k2_hw5 : k2_chk5 i k2_t66 arg6_r0), ∀ (k2_h1 : k2_cond1 i = 1#1), ∀ a, (k2_off224 arg6_r0) a + S1x1x256x16.size a ≤ S2x1x256x16.size a := fun i k2_t66 arg6_r0 k2_hw5 k2_h1 => k2_hw5.2 k2_h1

def k2_off225 (k2_t68 : Fin k2_t68_loop.trips) : Fin 3 → Nat :=
  let c0_i32_407_r0 : BitVec 32 := 0#32
  let v311_r0 : Index := Scalar.indexCast c0_i32_407_r0
  let c0_i32_403_r0 : BitVec 32 := 0#32
  let c0_i32_133_r0 : BitVec 32 := 0#32
  let c1_i32_135_r0 : BitVec 32 := 1#32
  let arg11_r0 : BitVec 32 := Scf.iv c0_i32_133_r0 c1_i32_135_r0 k2_t68
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c1_i32_405_r0 : BitVec 32 := 1#32
  let v306_r0 : BitVec 32 := Scalar.addi v305_r0 c1_i32_405_r0
  let c_m1_i32_406_r0 : BitVec 32 := 4294967295#32
  let v307_r0 : BitVec 32 := Scalar.andi v306_r0 c_m1_i32_406_r0
  let v308_r0 : BitVec 32 := Scalar.addi v306_r0 v307_r0
  let v312_r0 : Index := Scalar.indexCast v308_r0
  let c0_r0 : Index := 0#32
  ![0, v312_r0.toNat, 0]
def k2_off226 (k2_t68 : Fin k2_t68_loop.trips) : Fin 3 → Nat :=
  let c0_i32_412_r0 : BitVec 32 := 0#32
  let v318_r0 : Index := Scalar.indexCast c0_i32_412_r0
  let c0_i32_403_r0 : BitVec 32 := 0#32
  let c0_i32_133_r0 : BitVec 32 := 0#32
  let c1_i32_135_r0 : BitVec 32 := 1#32
  let arg11_r0 : BitVec 32 := Scf.iv c0_i32_133_r0 c1_i32_135_r0 k2_t68
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c1_i32_405_r0 : BitVec 32 := 1#32
  let v306_r0 : BitVec 32 := Scalar.addi v305_r0 c1_i32_405_r0
  let c_m1_i32_406_r0 : BitVec 32 := 4294967295#32
  let v307_r0 : BitVec 32 := Scalar.andi v306_r0 c_m1_i32_406_r0
  let v308_r0 : BitVec 32 := Scalar.addi v306_r0 v307_r0
  let c1_i32_411_r0 : BitVec 32 := 1#32
  let v315_r0 : BitVec 32 := Scalar.addi v308_r0 c1_i32_411_r0
  let v319_r0 : Index := Scalar.indexCast v315_r0
  let c0_416_r0 : Index := 0#32
  ![0, v319_r0.toNat, 0]
def k2_off227 (arg7_r0 : BitVec 32) : Fin 4 → Nat :=
  let c2_i32_129_r0 : BitVec 32 := 2#32
  let v189_r0 : BitVec 32 := Scalar.remui arg7_r0 c2_i32_129_r0
  let c0_i32_418_r0 : BitVec 32 := 0#32
  let c0_i32_419_r0 : BitVec 32 := 0#32
  let c0_i32_420_r0 : BitVec 32 := 0#32
  ![v189_r0.toNat, 0, 0, 0]
@[reducible] def k2_t69_loop : Scf.Loop 32 :=
  let c0_i32_137_r0 : BitVec 32 := 0#32
  let c64_i32_138_r0 : BitVec 32 := 64#32
  let v192_r0 : BitVec 32 := Scalar.addi c0_i32_137_r0 c64_i32_138_r0
  let c1_i32_139_r0 : BitVec 32 := 1#32
  ⟨c0_i32_137_r0, v192_r0, c1_i32_139_r0⟩
def k2_off228 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off229 (k2_t69 : Fin k2_t69_loop.trips) : Fin 3 → Nat :=
  let c0_i32_405_r0 : BitVec 32 := 0#32
  let v310_r0 : Index := Scalar.indexCast c0_i32_405_r0
  let c0_i32_403_r0 : BitVec 32 := 0#32
  let c0_i32_137_r0 : BitVec 32 := 0#32
  let c1_i32_139_r0 : BitVec 32 := 1#32
  let arg11_r0 : BitVec 32 := Scf.iv c0_i32_137_r0 c1_i32_139_r0 k2_t69
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m2_i32_404_r0 : BitVec 32 := 4294967294#32
  let v306_r0 : BitVec 32 := Scalar.andi v305_r0 c_m2_i32_404_r0
  let v307_r0 : BitVec 32 := Scalar.addi v305_r0 v306_r0
  let v311_r0 : Index := Scalar.indexCast v307_r0
  let c0_r0 : Index := 0#32
  ![0, v311_r0.toNat, 0]
def k2_off230 (k2_t69 : Fin k2_t69_loop.trips) : Fin 3 → Nat :=
  let c0_i32_410_r0 : BitVec 32 := 0#32
  let v317_r0 : Index := Scalar.indexCast c0_i32_410_r0
  let c0_i32_403_r0 : BitVec 32 := 0#32
  let c0_i32_137_r0 : BitVec 32 := 0#32
  let c1_i32_139_r0 : BitVec 32 := 1#32
  let arg11_r0 : BitVec 32 := Scf.iv c0_i32_137_r0 c1_i32_139_r0 k2_t69
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m2_i32_404_r0 : BitVec 32 := 4294967294#32
  let v306_r0 : BitVec 32 := Scalar.andi v305_r0 c_m2_i32_404_r0
  let v307_r0 : BitVec 32 := Scalar.addi v305_r0 v306_r0
  let c2_i32_409_r0 : BitVec 32 := 2#32
  let v314_r0 : BitVec 32 := Scalar.addi v307_r0 c2_i32_409_r0
  let v318_r0 : Index := Scalar.indexCast v314_r0
  let c0_414_r0 : Index := 0#32
  ![0, v318_r0.toNat, 0]
@[reducible] def k2_t70_loop : Scf.Loop 32 :=
  let c0_i32_141_r0 : BitVec 32 := 0#32
  let c64_i32_142_r0 : BitVec 32 := 64#32
  let v193_r0 : BitVec 32 := Scalar.addi c0_i32_141_r0 c64_i32_142_r0
  let c1_i32_143_r0 : BitVec 32 := 1#32
  ⟨c0_i32_141_r0, v193_r0, c1_i32_143_r0⟩
def k2_off231 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off232 (k2_t70 : Fin k2_t70_loop.trips) : Fin 3 → Nat :=
  let c0_i32_406_r0 : BitVec 32 := 0#32
  let v311_r0 : Index := Scalar.indexCast c0_i32_406_r0
  let c0_i32_403_r0 : BitVec 32 := 0#32
  let c0_i32_141_r0 : BitVec 32 := 0#32
  let c1_i32_143_r0 : BitVec 32 := 1#32
  let arg11_r0 : BitVec 32 := Scf.iv c0_i32_141_r0 c1_i32_143_r0 k2_t70
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m2_i32_405_r0 : BitVec 32 := 4294967294#32
  let v307_r0 : BitVec 32 := Scalar.andi v306_r0 c_m2_i32_405_r0
  let v308_r0 : BitVec 32 := Scalar.addi v306_r0 v307_r0
  let v312_r0 : Index := Scalar.indexCast v308_r0
  let c0_r0 : Index := 0#32
  ![0, v312_r0.toNat, 0]
def k2_off233 (k2_t70 : Fin k2_t70_loop.trips) : Fin 3 → Nat :=
  let c0_i32_411_r0 : BitVec 32 := 0#32
  let v318_r0 : Index := Scalar.indexCast c0_i32_411_r0
  let c0_i32_403_r0 : BitVec 32 := 0#32
  let c0_i32_141_r0 : BitVec 32 := 0#32
  let c1_i32_143_r0 : BitVec 32 := 1#32
  let arg11_r0 : BitVec 32 := Scf.iv c0_i32_141_r0 c1_i32_143_r0 k2_t70
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m2_i32_405_r0 : BitVec 32 := 4294967294#32
  let v307_r0 : BitVec 32 := Scalar.andi v306_r0 c_m2_i32_405_r0
  let v308_r0 : BitVec 32 := Scalar.addi v306_r0 v307_r0
  let c2_i32_410_r0 : BitVec 32 := 2#32
  let v315_r0 : BitVec 32 := Scalar.addi v308_r0 c2_i32_410_r0
  let v319_r0 : Index := Scalar.indexCast v315_r0
  let c0_415_r0 : Index := 0#32
  ![0, v319_r0.toNat, 0]
@[reducible] def k2_t71_loop : Scf.Loop 32 :=
  let c0_i32_145_r0 : BitVec 32 := 0#32
  let c64_i32_146_r0 : BitVec 32 := 64#32
  let v194_r0 : BitVec 32 := Scalar.addi c0_i32_145_r0 c64_i32_146_r0
  let c1_i32_147_r0 : BitVec 32 := 1#32
  ⟨c0_i32_145_r0, v194_r0, c1_i32_147_r0⟩
def k2_off234 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off235 (k2_t71 : Fin k2_t71_loop.trips) : Fin 3 → Nat :=
  let c0_i32_405_r0 : BitVec 32 := 0#32
  let v310_r0 : Index := Scalar.indexCast c0_i32_405_r0
  let c0_i32_403_r0 : BitVec 32 := 0#32
  let c0_i32_145_r0 : BitVec 32 := 0#32
  let c1_i32_147_r0 : BitVec 32 := 1#32
  let arg11_r0 : BitVec 32 := Scf.iv c0_i32_145_r0 c1_i32_147_r0 k2_t71
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off236 (k2_t71 : Fin k2_t71_loop.trips) : Fin 3 → Nat :=
  let c0_i32_410_r0 : BitVec 32 := 0#32
  let v317_r0 : Index := Scalar.indexCast c0_i32_410_r0
  let c0_i32_403_r0 : BitVec 32 := 0#32
  let c0_i32_145_r0 : BitVec 32 := 0#32
  let c1_i32_147_r0 : BitVec 32 := 1#32
  let arg11_r0 : BitVec 32 := Scf.iv c0_i32_145_r0 c1_i32_147_r0 k2_t71
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t72_loop : Scf.Loop 32 :=
  let c0_i32_149_r0 : BitVec 32 := 0#32
  let c64_i32_150_r0 : BitVec 32 := 64#32
  let v195_r0 : BitVec 32 := Scalar.addi c0_i32_149_r0 c64_i32_150_r0
  let c1_i32_151_r0 : BitVec 32 := 1#32
  ⟨c0_i32_149_r0, v195_r0, c1_i32_151_r0⟩
def k2_off237 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off238 (k2_t72 : Fin k2_t72_loop.trips) : Fin 3 → Nat :=
  let c0_i32_406_r0 : BitVec 32 := 0#32
  let v311_r0 : Index := Scalar.indexCast c0_i32_406_r0
  let c0_i32_403_r0 : BitVec 32 := 0#32
  let c0_i32_149_r0 : BitVec 32 := 0#32
  let c1_i32_151_r0 : BitVec 32 := 1#32
  let arg11_r0 : BitVec 32 := Scf.iv c0_i32_149_r0 c1_i32_151_r0 k2_t72
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off239 (k2_t72 : Fin k2_t72_loop.trips) : Fin 3 → Nat :=
  let c0_i32_411_r0 : BitVec 32 := 0#32
  let v318_r0 : Index := Scalar.indexCast c0_i32_411_r0
  let c0_i32_403_r0 : BitVec 32 := 0#32
  let c0_i32_149_r0 : BitVec 32 := 0#32
  let c1_i32_151_r0 : BitVec 32 := 1#32
  let arg11_r0 : BitVec 32 := Scf.iv c0_i32_149_r0 c1_i32_151_r0 k2_t72
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_404_r0 : BitVec 32 := 2#32
  let v306_r0 : BitVec 32 := Scalar.addi v305_r0 c2_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t73_loop : Scf.Loop 32 :=
  let c0_i32_153_r0 : BitVec 32 := 0#32
  let c64_i32_154_r0 : BitVec 32 := 64#32
  let v196_r0 : BitVec 32 := Scalar.addi c0_i32_153_r0 c64_i32_154_r0
  let c1_i32_155_r0 : BitVec 32 := 1#32
  ⟨c0_i32_153_r0, v196_r0, c1_i32_155_r0⟩
def k2_off240 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off241 (k2_t73 : Fin k2_t73_loop.trips) : Fin 3 → Nat :=
  let c0_i32_405_r0 : BitVec 32 := 0#32
  let v310_r0 : Index := Scalar.indexCast c0_i32_405_r0
  let c0_i32_403_r0 : BitVec 32 := 0#32
  let c0_i32_153_r0 : BitVec 32 := 0#32
  let c1_i32_155_r0 : BitVec 32 := 1#32
  let arg11_r0 : BitVec 32 := Scf.iv c0_i32_153_r0 c1_i32_155_r0 k2_t73
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m4_i32_404_r0 : BitVec 32 := 4294967292#32
  let v306_r0 : BitVec 32 := Scalar.andi v305_r0 c_m4_i32_404_r0
  let v307_r0 : BitVec 32 := Scalar.addi v305_r0 v306_r0
  let v311_r0 : Index := Scalar.indexCast v307_r0
  let c0_r0 : Index := 0#32
  ![0, v311_r0.toNat, 0]
def k2_off242 (k2_t73 : Fin k2_t73_loop.trips) : Fin 3 → Nat :=
  let c0_i32_410_r0 : BitVec 32 := 0#32
  let v317_r0 : Index := Scalar.indexCast c0_i32_410_r0
  let c0_i32_403_r0 : BitVec 32 := 0#32
  let c0_i32_153_r0 : BitVec 32 := 0#32
  let c1_i32_155_r0 : BitVec 32 := 1#32
  let arg11_r0 : BitVec 32 := Scf.iv c0_i32_153_r0 c1_i32_155_r0 k2_t73
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m4_i32_404_r0 : BitVec 32 := 4294967292#32
  let v306_r0 : BitVec 32 := Scalar.andi v305_r0 c_m4_i32_404_r0
  let v307_r0 : BitVec 32 := Scalar.addi v305_r0 v306_r0
  let c4_i32_409_r0 : BitVec 32 := 4#32
  let v314_r0 : BitVec 32 := Scalar.addi v307_r0 c4_i32_409_r0
  let v318_r0 : Index := Scalar.indexCast v314_r0
  let c0_414_r0 : Index := 0#32
  ![0, v318_r0.toNat, 0]
@[reducible] def k2_t74_loop : Scf.Loop 32 :=
  let c0_i32_157_r0 : BitVec 32 := 0#32
  let c64_i32_158_r0 : BitVec 32 := 64#32
  let v197_r0 : BitVec 32 := Scalar.addi c0_i32_157_r0 c64_i32_158_r0
  let c1_i32_159_r0 : BitVec 32 := 1#32
  ⟨c0_i32_157_r0, v197_r0, c1_i32_159_r0⟩
def k2_off243 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off244 (k2_t74 : Fin k2_t74_loop.trips) : Fin 3 → Nat :=
  let c0_i32_406_r0 : BitVec 32 := 0#32
  let v311_r0 : Index := Scalar.indexCast c0_i32_406_r0
  let c0_i32_403_r0 : BitVec 32 := 0#32
  let c0_i32_157_r0 : BitVec 32 := 0#32
  let c1_i32_159_r0 : BitVec 32 := 1#32
  let arg11_r0 : BitVec 32 := Scf.iv c0_i32_157_r0 c1_i32_159_r0 k2_t74
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m4_i32_405_r0 : BitVec 32 := 4294967292#32
  let v307_r0 : BitVec 32 := Scalar.andi v306_r0 c_m4_i32_405_r0
  let v308_r0 : BitVec 32 := Scalar.addi v306_r0 v307_r0
  let v312_r0 : Index := Scalar.indexCast v308_r0
  let c0_r0 : Index := 0#32
  ![0, v312_r0.toNat, 0]
def k2_off245 (k2_t74 : Fin k2_t74_loop.trips) : Fin 3 → Nat :=
  let c0_i32_411_r0 : BitVec 32 := 0#32
  let v318_r0 : Index := Scalar.indexCast c0_i32_411_r0
  let c0_i32_403_r0 : BitVec 32 := 0#32
  let c0_i32_157_r0 : BitVec 32 := 0#32
  let c1_i32_159_r0 : BitVec 32 := 1#32
  let arg11_r0 : BitVec 32 := Scf.iv c0_i32_157_r0 c1_i32_159_r0 k2_t74
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m4_i32_405_r0 : BitVec 32 := 4294967292#32
  let v307_r0 : BitVec 32 := Scalar.andi v306_r0 c_m4_i32_405_r0
  let v308_r0 : BitVec 32 := Scalar.addi v306_r0 v307_r0
  let c4_i32_410_r0 : BitVec 32 := 4#32
  let v315_r0 : BitVec 32 := Scalar.addi v308_r0 c4_i32_410_r0
  let v319_r0 : Index := Scalar.indexCast v315_r0
  let c0_415_r0 : Index := 0#32
  ![0, v319_r0.toNat, 0]
@[reducible] def k2_t75_loop : Scf.Loop 32 :=
  let c0_i32_161_r0 : BitVec 32 := 0#32
  let c64_i32_162_r0 : BitVec 32 := 64#32
  let v198_r0 : BitVec 32 := Scalar.addi c0_i32_161_r0 c64_i32_162_r0
  let c1_i32_163_r0 : BitVec 32 := 1#32
  ⟨c0_i32_161_r0, v198_r0, c1_i32_163_r0⟩
def k2_off246 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off247 (k2_t75 : Fin k2_t75_loop.trips) : Fin 3 → Nat :=
  let c0_i32_404_r0 : BitVec 32 := 0#32
  let v310_r0 : Index := Scalar.indexCast c0_i32_404_r0
  let c0_i32_403_r0 : BitVec 32 := 0#32
  let c0_i32_161_r0 : BitVec 32 := 0#32
  let c1_i32_163_r0 : BitVec 32 := 1#32
  let arg11_r0 : BitVec 32 := Scf.iv c0_i32_161_r0 c1_i32_163_r0 k2_t75
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off248 (k2_t75 : Fin k2_t75_loop.trips) : Fin 3 → Nat :=
  let c0_i32_409_r0 : BitVec 32 := 0#32
  let v317_r0 : Index := Scalar.indexCast c0_i32_409_r0
  let c0_i32_403_r0 : BitVec 32 := 0#32
  let c0_i32_161_r0 : BitVec 32 := 0#32
  let c1_i32_163_r0 : BitVec 32 := 1#32
  let arg11_r0 : BitVec 32 := Scf.iv c0_i32_161_r0 c1_i32_163_r0 k2_t75
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t76_loop : Scf.Loop 32 :=
  let c0_i32_165_r0 : BitVec 32 := 0#32
  let c64_i32_166_r0 : BitVec 32 := 64#32
  let v199_r0 : BitVec 32 := Scalar.addi c0_i32_165_r0 c64_i32_166_r0
  let c1_i32_167_r0 : BitVec 32 := 1#32
  ⟨c0_i32_165_r0, v199_r0, c1_i32_167_r0⟩
def k2_off249 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off250 (k2_t76 : Fin k2_t76_loop.trips) : Fin 3 → Nat :=
  let c0_i32_405_r0 : BitVec 32 := 0#32
  let v311_r0 : Index := Scalar.indexCast c0_i32_405_r0
  let c0_i32_403_r0 : BitVec 32 := 0#32
  let c0_i32_165_r0 : BitVec 32 := 0#32
  let c1_i32_167_r0 : BitVec 32 := 1#32
  let arg11_r0 : BitVec 32 := Scf.iv c0_i32_165_r0 c1_i32_167_r0 k2_t76
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off251 (k2_t76 : Fin k2_t76_loop.trips) : Fin 3 → Nat :=
  let c0_i32_410_r0 : BitVec 32 := 0#32
  let v318_r0 : Index := Scalar.indexCast c0_i32_410_r0
  let c0_i32_403_r0 : BitVec 32 := 0#32
  let c0_i32_165_r0 : BitVec 32 := 0#32
  let c1_i32_167_r0 : BitVec 32 := 1#32
  let arg11_r0 : BitVec 32 := Scf.iv c0_i32_165_r0 c1_i32_167_r0 k2_t76
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m2_i32_r0 : BitVec 32 := 4294967294#32
  let v307_r0 : BitVec 32 := Scalar.andi v306_r0 c_m2_i32_r0
  let v308_r0 : BitVec 32 := Scalar.addi v306_r0 v307_r0
  let c2_i32_409_r0 : BitVec 32 := 2#32
  let v315_r0 : BitVec 32 := Scalar.addi v308_r0 c2_i32_409_r0
  let v319_r0 : Index := Scalar.indexCast v315_r0
  let c0_414_r0 : Index := 0#32
  ![0, v319_r0.toNat, 0]
@[reducible] def k2_t77_loop : Scf.Loop 32 :=
  let c0_i32_169_r0 : BitVec 32 := 0#32
  let c64_i32_170_r0 : BitVec 32 := 64#32
  let v200_r0 : BitVec 32 := Scalar.addi c0_i32_169_r0 c64_i32_170_r0
  let c1_i32_171_r0 : BitVec 32 := 1#32
  ⟨c0_i32_169_r0, v200_r0, c1_i32_171_r0⟩
def k2_off252 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off253 (k2_t77 : Fin k2_t77_loop.trips) : Fin 3 → Nat :=
  let c0_i32_405_r0 : BitVec 32 := 0#32
  let v310_r0 : Index := Scalar.indexCast c0_i32_405_r0
  let c0_i32_403_r0 : BitVec 32 := 0#32
  let c0_i32_169_r0 : BitVec 32 := 0#32
  let c1_i32_171_r0 : BitVec 32 := 1#32
  let arg11_r0 : BitVec 32 := Scf.iv c0_i32_169_r0 c1_i32_171_r0 k2_t77
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off254 (k2_t77 : Fin k2_t77_loop.trips) : Fin 3 → Nat :=
  let c0_i32_410_r0 : BitVec 32 := 0#32
  let v317_r0 : Index := Scalar.indexCast c0_i32_410_r0
  let c0_i32_403_r0 : BitVec 32 := 0#32
  let c0_i32_169_r0 : BitVec 32 := 0#32
  let c1_i32_171_r0 : BitVec 32 := 1#32
  let arg11_r0 : BitVec 32 := Scf.iv c0_i32_169_r0 c1_i32_171_r0 k2_t77
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t78_loop : Scf.Loop 32 :=
  let c0_i32_173_r0 : BitVec 32 := 0#32
  let c64_i32_174_r0 : BitVec 32 := 64#32
  let v201_r0 : BitVec 32 := Scalar.addi c0_i32_173_r0 c64_i32_174_r0
  let c1_i32_175_r0 : BitVec 32 := 1#32
  ⟨c0_i32_173_r0, v201_r0, c1_i32_175_r0⟩
def k2_off255 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off256 (k2_t78 : Fin k2_t78_loop.trips) : Fin 3 → Nat :=
  let c0_i32_406_r0 : BitVec 32 := 0#32
  let v311_r0 : Index := Scalar.indexCast c0_i32_406_r0
  let c0_i32_403_r0 : BitVec 32 := 0#32
  let c0_i32_173_r0 : BitVec 32 := 0#32
  let c1_i32_175_r0 : BitVec 32 := 1#32
  let arg11_r0 : BitVec 32 := Scf.iv c0_i32_173_r0 c1_i32_175_r0 k2_t78
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off257 (k2_t78 : Fin k2_t78_loop.trips) : Fin 3 → Nat :=
  let c0_i32_411_r0 : BitVec 32 := 0#32
  let v318_r0 : Index := Scalar.indexCast c0_i32_411_r0
  let c0_i32_403_r0 : BitVec 32 := 0#32
  let c0_i32_173_r0 : BitVec 32 := 0#32
  let c1_i32_175_r0 : BitVec 32 := 1#32
  let arg11_r0 : BitVec 32 := Scf.iv c0_i32_173_r0 c1_i32_175_r0 k2_t78
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_404_r0 : BitVec 32 := 4#32
  let v306_r0 : BitVec 32 := Scalar.addi v305_r0 c4_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t79_loop : Scf.Loop 32 :=
  let c0_i32_177_r0 : BitVec 32 := 0#32
  let c64_i32_178_r0 : BitVec 32 := 64#32
  let v202_r0 : BitVec 32 := Scalar.addi c0_i32_177_r0 c64_i32_178_r0
  let c1_i32_179_r0 : BitVec 32 := 1#32
  ⟨c0_i32_177_r0, v202_r0, c1_i32_179_r0⟩
def k2_off258 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off259 (k2_t79 : Fin k2_t79_loop.trips) : Fin 3 → Nat :=
  let c0_i32_405_r0 : BitVec 32 := 0#32
  let v310_r0 : Index := Scalar.indexCast c0_i32_405_r0
  let c0_i32_403_r0 : BitVec 32 := 0#32
  let c0_i32_177_r0 : BitVec 32 := 0#32
  let c1_i32_179_r0 : BitVec 32 := 1#32
  let arg11_r0 : BitVec 32 := Scf.iv c0_i32_177_r0 c1_i32_179_r0 k2_t79
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m8_i32_404_r0 : BitVec 32 := 4294967288#32
  let v306_r0 : BitVec 32 := Scalar.andi v305_r0 c_m8_i32_404_r0
  let v307_r0 : BitVec 32 := Scalar.addi v305_r0 v306_r0
  let v311_r0 : Index := Scalar.indexCast v307_r0
  let c0_r0 : Index := 0#32
  ![0, v311_r0.toNat, 0]
def k2_off260 (k2_t79 : Fin k2_t79_loop.trips) : Fin 3 → Nat :=
  let c0_i32_409_r0 : BitVec 32 := 0#32
  let v317_r0 : Index := Scalar.indexCast c0_i32_409_r0
  let c0_i32_403_r0 : BitVec 32 := 0#32
  let c0_i32_177_r0 : BitVec 32 := 0#32
  let c1_i32_179_r0 : BitVec 32 := 1#32
  let arg11_r0 : BitVec 32 := Scf.iv c0_i32_177_r0 c1_i32_179_r0 k2_t79
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m8_i32_404_r0 : BitVec 32 := 4294967288#32
  let v306_r0 : BitVec 32 := Scalar.andi v305_r0 c_m8_i32_404_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_413_r0 : Index := 0#32
  ![0, v318_r0.toNat, 0]
@[reducible] def k2_t80_loop : Scf.Loop 32 :=
  let c0_i32_181_r0 : BitVec 32 := 0#32
  let c64_i32_182_r0 : BitVec 32 := 64#32
  let v203_r0 : BitVec 32 := Scalar.addi c0_i32_181_r0 c64_i32_182_r0
  let c1_i32_183_r0 : BitVec 32 := 1#32
  ⟨c0_i32_181_r0, v203_r0, c1_i32_183_r0⟩
def k2_off261 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off262 (k2_t80 : Fin k2_t80_loop.trips) : Fin 3 → Nat :=
  let c0_i32_405_r0 : BitVec 32 := 0#32
  let v311_r0 : Index := Scalar.indexCast c0_i32_405_r0
  let c0_i32_403_r0 : BitVec 32 := 0#32
  let c0_i32_181_r0 : BitVec 32 := 0#32
  let c1_i32_183_r0 : BitVec 32 := 1#32
  let arg11_r0 : BitVec 32 := Scf.iv c0_i32_181_r0 c1_i32_183_r0 k2_t80
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m8_i32_404_r0 : BitVec 32 := 4294967288#32
  let v307_r0 : BitVec 32 := Scalar.andi v306_r0 c_m8_i32_404_r0
  let v308_r0 : BitVec 32 := Scalar.addi v306_r0 v307_r0
  let v312_r0 : Index := Scalar.indexCast v308_r0
  let c0_r0 : Index := 0#32
  ![0, v312_r0.toNat, 0]
def k2_off263 (k2_t80 : Fin k2_t80_loop.trips) : Fin 3 → Nat :=
  let c0_i32_410_r0 : BitVec 32 := 0#32
  let v318_r0 : Index := Scalar.indexCast c0_i32_410_r0
  let c0_i32_403_r0 : BitVec 32 := 0#32
  let c0_i32_181_r0 : BitVec 32 := 0#32
  let c1_i32_183_r0 : BitVec 32 := 1#32
  let arg11_r0 : BitVec 32 := Scf.iv c0_i32_181_r0 c1_i32_183_r0 k2_t80
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m8_i32_404_r0 : BitVec 32 := 4294967288#32
  let v307_r0 : BitVec 32 := Scalar.andi v306_r0 c_m8_i32_404_r0
  let v308_r0 : BitVec 32 := Scalar.addi v306_r0 v307_r0
  let c8_i32_409_r0 : BitVec 32 := 8#32
  let v315_r0 : BitVec 32 := Scalar.addi v308_r0 c8_i32_409_r0
  let v319_r0 : Index := Scalar.indexCast v315_r0
  let c0_414_r0 : Index := 0#32
  ![0, v319_r0.toNat, 0]
@[reducible] def k2_t81_loop : Scf.Loop 32 :=
  let c0_i32_185_r0 : BitVec 32 := 0#32
  let c64_i32_186_r0 : BitVec 32 := 64#32
  let v204_r0 : BitVec 32 := Scalar.addi c0_i32_185_r0 c64_i32_186_r0
  let c1_i32_187_r0 : BitVec 32 := 1#32
  ⟨c0_i32_185_r0, v204_r0, c1_i32_187_r0⟩
def k2_off264 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off265 (k2_t81 : Fin k2_t81_loop.trips) : Fin 3 → Nat :=
  let c0_i32_404_r0 : BitVec 32 := 0#32
  let v310_r0 : Index := Scalar.indexCast c0_i32_404_r0
  let c0_i32_403_r0 : BitVec 32 := 0#32
  let c0_i32_185_r0 : BitVec 32 := 0#32
  let c1_i32_187_r0 : BitVec 32 := 1#32
  let arg11_r0 : BitVec 32 := Scf.iv c0_i32_185_r0 c1_i32_187_r0 k2_t81
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off266 (k2_t81 : Fin k2_t81_loop.trips) : Fin 3 → Nat :=
  let c0_i32_409_r0 : BitVec 32 := 0#32
  let v317_r0 : Index := Scalar.indexCast c0_i32_409_r0
  let c0_i32_403_r0 : BitVec 32 := 0#32
  let c0_i32_185_r0 : BitVec 32 := 0#32
  let c1_i32_187_r0 : BitVec 32 := 1#32
  let arg11_r0 : BitVec 32 := Scf.iv c0_i32_185_r0 c1_i32_187_r0 k2_t81
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t82_loop : Scf.Loop 32 :=
  let c0_i32_189_r0 : BitVec 32 := 0#32
  let c64_i32_190_r0 : BitVec 32 := 64#32
  let v205_r0 : BitVec 32 := Scalar.addi c0_i32_189_r0 c64_i32_190_r0
  let c1_i32_191_r0 : BitVec 32 := 1#32
  ⟨c0_i32_189_r0, v205_r0, c1_i32_191_r0⟩
def k2_off267 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off268 (k2_t82 : Fin k2_t82_loop.trips) : Fin 3 → Nat :=
  let c0_i32_404_r0 : BitVec 32 := 0#32
  let v311_r0 : Index := Scalar.indexCast c0_i32_404_r0
  let c0_i32_403_r0 : BitVec 32 := 0#32
  let c0_i32_189_r0 : BitVec 32 := 0#32
  let c1_i32_191_r0 : BitVec 32 := 1#32
  let arg11_r0 : BitVec 32 := Scf.iv c0_i32_189_r0 c1_i32_191_r0 k2_t82
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off269 (k2_t82 : Fin k2_t82_loop.trips) : Fin 3 → Nat :=
  let c0_i32_409_r0 : BitVec 32 := 0#32
  let v318_r0 : Index := Scalar.indexCast c0_i32_409_r0
  let c0_i32_403_r0 : BitVec 32 := 0#32
  let c0_i32_189_r0 : BitVec 32 := 0#32
  let c1_i32_191_r0 : BitVec 32 := 1#32
  let arg11_r0 : BitVec 32 := Scf.iv c0_i32_189_r0 c1_i32_191_r0 k2_t82
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m4_i32_r0 : BitVec 32 := 4294967292#32
  let v307_r0 : BitVec 32 := Scalar.andi v306_r0 c_m4_i32_r0
  let v308_r0 : BitVec 32 := Scalar.addi v306_r0 v307_r0
  let c4_i32_408_r0 : BitVec 32 := 4#32
  let v315_r0 : BitVec 32 := Scalar.addi v308_r0 c4_i32_408_r0
  let v319_r0 : Index := Scalar.indexCast v315_r0
  let c0_413_r0 : Index := 0#32
  ![0, v319_r0.toNat, 0]
@[reducible] def k2_t83_loop : Scf.Loop 32 :=
  let c0_i32_193_r0 : BitVec 32 := 0#32
  let c64_i32_194_r0 : BitVec 32 := 64#32
  let v206_r0 : BitVec 32 := Scalar.addi c0_i32_193_r0 c64_i32_194_r0
  let c1_i32_195_r0 : BitVec 32 := 1#32
  ⟨c0_i32_193_r0, v206_r0, c1_i32_195_r0⟩
def k2_off270 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off271 (k2_t83 : Fin k2_t83_loop.trips) : Fin 3 → Nat :=
  let c0_i32_404_r0 : BitVec 32 := 0#32
  let v310_r0 : Index := Scalar.indexCast c0_i32_404_r0
  let c0_i32_403_r0 : BitVec 32 := 0#32
  let c0_i32_193_r0 : BitVec 32 := 0#32
  let c1_i32_195_r0 : BitVec 32 := 1#32
  let arg11_r0 : BitVec 32 := Scf.iv c0_i32_193_r0 c1_i32_195_r0 k2_t83
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off272 (k2_t83 : Fin k2_t83_loop.trips) : Fin 3 → Nat :=
  let c0_i32_409_r0 : BitVec 32 := 0#32
  let v317_r0 : Index := Scalar.indexCast c0_i32_409_r0
  let c0_i32_403_r0 : BitVec 32 := 0#32
  let c0_i32_193_r0 : BitVec 32 := 0#32
  let c1_i32_195_r0 : BitVec 32 := 1#32
  let arg11_r0 : BitVec 32 := Scf.iv c0_i32_193_r0 c1_i32_195_r0 k2_t83
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t84_loop : Scf.Loop 32 :=
  let c0_i32_197_r0 : BitVec 32 := 0#32
  let c64_i32_198_r0 : BitVec 32 := 64#32
  let v207_r0 : BitVec 32 := Scalar.addi c0_i32_197_r0 c64_i32_198_r0
  let c1_i32_199_r0 : BitVec 32 := 1#32
  ⟨c0_i32_197_r0, v207_r0, c1_i32_199_r0⟩
def k2_off273 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off274 (k2_t84 : Fin k2_t84_loop.trips) : Fin 3 → Nat :=
  let c0_i32_404_r0 : BitVec 32 := 0#32
  let v311_r0 : Index := Scalar.indexCast c0_i32_404_r0
  let c0_i32_403_r0 : BitVec 32 := 0#32
  let c0_i32_197_r0 : BitVec 32 := 0#32
  let c1_i32_199_r0 : BitVec 32 := 1#32
  let arg11_r0 : BitVec 32 := Scf.iv c0_i32_197_r0 c1_i32_199_r0 k2_t84
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off275 (k2_t84 : Fin k2_t84_loop.trips) : Fin 3 → Nat :=
  let c0_i32_409_r0 : BitVec 32 := 0#32
  let v318_r0 : Index := Scalar.indexCast c0_i32_409_r0
  let c0_i32_403_r0 : BitVec 32 := 0#32
  let c0_i32_197_r0 : BitVec 32 := 0#32
  let c1_i32_199_r0 : BitVec 32 := 1#32
  let arg11_r0 : BitVec 32 := Scf.iv c0_i32_197_r0 c1_i32_199_r0 k2_t84
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m2_i32_r0 : BitVec 32 := 4294967294#32
  let v307_r0 : BitVec 32 := Scalar.andi v306_r0 c_m2_i32_r0
  let v308_r0 : BitVec 32 := Scalar.addi v306_r0 v307_r0
  let c2_i32_408_r0 : BitVec 32 := 2#32
  let v315_r0 : BitVec 32 := Scalar.addi v308_r0 c2_i32_408_r0
  let v319_r0 : Index := Scalar.indexCast v315_r0
  let c0_413_r0 : Index := 0#32
  ![0, v319_r0.toNat, 0]
@[reducible] def k2_t85_loop : Scf.Loop 32 :=
  let c0_i32_201_r0 : BitVec 32 := 0#32
  let c64_i32_202_r0 : BitVec 32 := 64#32
  let v208_r0 : BitVec 32 := Scalar.addi c0_i32_201_r0 c64_i32_202_r0
  let c1_i32_203_r0 : BitVec 32 := 1#32
  ⟨c0_i32_201_r0, v208_r0, c1_i32_203_r0⟩
def k2_off276 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off277 (k2_t85 : Fin k2_t85_loop.trips) : Fin 3 → Nat :=
  let c0_i32_405_r0 : BitVec 32 := 0#32
  let v310_r0 : Index := Scalar.indexCast c0_i32_405_r0
  let c0_i32_403_r0 : BitVec 32 := 0#32
  let c0_i32_201_r0 : BitVec 32 := 0#32
  let c1_i32_203_r0 : BitVec 32 := 1#32
  let arg11_r0 : BitVec 32 := Scf.iv c0_i32_201_r0 c1_i32_203_r0 k2_t85
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off278 (k2_t85 : Fin k2_t85_loop.trips) : Fin 3 → Nat :=
  let c0_i32_410_r0 : BitVec 32 := 0#32
  let v317_r0 : Index := Scalar.indexCast c0_i32_410_r0
  let c0_i32_403_r0 : BitVec 32 := 0#32
  let c0_i32_201_r0 : BitVec 32 := 0#32
  let c1_i32_203_r0 : BitVec 32 := 1#32
  let arg11_r0 : BitVec 32 := Scf.iv c0_i32_201_r0 c1_i32_203_r0 k2_t85
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t86_loop : Scf.Loop 32 :=
  let c0_i32_205_r0 : BitVec 32 := 0#32
  let c64_i32_206_r0 : BitVec 32 := 64#32
  let v209_r0 : BitVec 32 := Scalar.addi c0_i32_205_r0 c64_i32_206_r0
  let c1_i32_207_r0 : BitVec 32 := 1#32
  ⟨c0_i32_205_r0, v209_r0, c1_i32_207_r0⟩
def k2_off279 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off280 (k2_t86 : Fin k2_t86_loop.trips) : Fin 3 → Nat :=
  let c0_i32_405_r0 : BitVec 32 := 0#32
  let v311_r0 : Index := Scalar.indexCast c0_i32_405_r0
  let c0_i32_403_r0 : BitVec 32 := 0#32
  let c0_i32_205_r0 : BitVec 32 := 0#32
  let c1_i32_207_r0 : BitVec 32 := 1#32
  let arg11_r0 : BitVec 32 := Scf.iv c0_i32_205_r0 c1_i32_207_r0 k2_t86
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m1_i32_404_r0 : BitVec 32 := 4294967295#32
  let v307_r0 : BitVec 32 := Scalar.andi v306_r0 c_m1_i32_404_r0
  let v308_r0 : BitVec 32 := Scalar.addi v306_r0 v307_r0
  let v312_r0 : Index := Scalar.indexCast v308_r0
  let c0_r0 : Index := 0#32
  ![0, v312_r0.toNat, 0]
def k2_off281 (k2_t86 : Fin k2_t86_loop.trips) : Fin 3 → Nat :=
  let c0_i32_410_r0 : BitVec 32 := 0#32
  let v318_r0 : Index := Scalar.indexCast c0_i32_410_r0
  let c0_i32_403_r0 : BitVec 32 := 0#32
  let c0_i32_205_r0 : BitVec 32 := 0#32
  let c1_i32_207_r0 : BitVec 32 := 1#32
  let arg11_r0 : BitVec 32 := Scf.iv c0_i32_205_r0 c1_i32_207_r0 k2_t86
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v306_r0 : BitVec 32 := Scalar.addi v305_r0 c8_i32_r0
  let c_m1_i32_404_r0 : BitVec 32 := 4294967295#32
  let v307_r0 : BitVec 32 := Scalar.andi v306_r0 c_m1_i32_404_r0
  let v308_r0 : BitVec 32 := Scalar.addi v306_r0 v307_r0
  let c1_i32_409_r0 : BitVec 32 := 1#32
  let v315_r0 : BitVec 32 := Scalar.addi v308_r0 c1_i32_409_r0
  let v319_r0 : Index := Scalar.indexCast v315_r0
  let c0_414_r0 : Index := 0#32
  ![0, v319_r0.toNat, 0]
@[reducible] def k2_t87_loop : Scf.Loop 32 :=
  let c0_i32_209_r0 : BitVec 32 := 0#32
  let c64_i32_210_r0 : BitVec 32 := 64#32
  let v210_r0 : BitVec 32 := Scalar.addi c0_i32_209_r0 c64_i32_210_r0
  let c1_i32_211_r0 : BitVec 32 := 1#32
  ⟨c0_i32_209_r0, v210_r0, c1_i32_211_r0⟩
def k2_off282 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off283 (k2_t87 : Fin k2_t87_loop.trips) : Fin 3 → Nat :=
  let c0_i32_405_r0 : BitVec 32 := 0#32
  let v310_r0 : Index := Scalar.indexCast c0_i32_405_r0
  let c0_i32_403_r0 : BitVec 32 := 0#32
  let c0_i32_209_r0 : BitVec 32 := 0#32
  let c1_i32_211_r0 : BitVec 32 := 1#32
  let arg11_r0 : BitVec 32 := Scf.iv c0_i32_209_r0 c1_i32_211_r0 k2_t87
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m16_i32_404_r0 : BitVec 32 := 4294967280#32
  let v306_r0 : BitVec 32 := Scalar.andi v305_r0 c_m16_i32_404_r0
  let v307_r0 : BitVec 32 := Scalar.addi v305_r0 v306_r0
  let v311_r0 : Index := Scalar.indexCast v307_r0
  let c0_r0 : Index := 0#32
  ![0, v311_r0.toNat, 0]
def k2_off284 (k2_t87 : Fin k2_t87_loop.trips) : Fin 3 → Nat :=
  let c0_i32_410_r0 : BitVec 32 := 0#32
  let v317_r0 : Index := Scalar.indexCast c0_i32_410_r0
  let c0_i32_403_r0 : BitVec 32 := 0#32
  let c0_i32_209_r0 : BitVec 32 := 0#32
  let c1_i32_211_r0 : BitVec 32 := 1#32
  let arg11_r0 : BitVec 32 := Scf.iv c0_i32_209_r0 c1_i32_211_r0 k2_t87
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m16_i32_404_r0 : BitVec 32 := 4294967280#32
  let v306_r0 : BitVec 32 := Scalar.andi v305_r0 c_m16_i32_404_r0
  let v307_r0 : BitVec 32 := Scalar.addi v305_r0 v306_r0
  let c16_i32_409_r0 : BitVec 32 := 16#32
  let v314_r0 : BitVec 32 := Scalar.addi v307_r0 c16_i32_409_r0
  let v318_r0 : Index := Scalar.indexCast v314_r0
  let c0_414_r0 : Index := 0#32
  ![0, v318_r0.toNat, 0]
@[reducible] def k2_t88_loop : Scf.Loop 32 :=
  let c0_i32_213_r0 : BitVec 32 := 0#32
  let c64_i32_214_r0 : BitVec 32 := 64#32
  let v211_r0 : BitVec 32 := Scalar.addi c0_i32_213_r0 c64_i32_214_r0
  let c1_i32_215_r0 : BitVec 32 := 1#32
  ⟨c0_i32_213_r0, v211_r0, c1_i32_215_r0⟩
def k2_off285 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off286 (k2_t88 : Fin k2_t88_loop.trips) : Fin 3 → Nat :=
  let c0_i32_406_r0 : BitVec 32 := 0#32
  let v311_r0 : Index := Scalar.indexCast c0_i32_406_r0
  let c0_i32_403_r0 : BitVec 32 := 0#32
  let c0_i32_213_r0 : BitVec 32 := 0#32
  let c1_i32_215_r0 : BitVec 32 := 1#32
  let arg11_r0 : BitVec 32 := Scf.iv c0_i32_213_r0 c1_i32_215_r0 k2_t88
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m16_i32_405_r0 : BitVec 32 := 4294967280#32
  let v307_r0 : BitVec 32 := Scalar.andi v306_r0 c_m16_i32_405_r0
  let v308_r0 : BitVec 32 := Scalar.addi v306_r0 v307_r0
  let v312_r0 : Index := Scalar.indexCast v308_r0
  let c0_r0 : Index := 0#32
  ![0, v312_r0.toNat, 0]
def k2_off287 (k2_t88 : Fin k2_t88_loop.trips) : Fin 3 → Nat :=
  let c0_i32_411_r0 : BitVec 32 := 0#32
  let v318_r0 : Index := Scalar.indexCast c0_i32_411_r0
  let c0_i32_403_r0 : BitVec 32 := 0#32
  let c0_i32_213_r0 : BitVec 32 := 0#32
  let c1_i32_215_r0 : BitVec 32 := 1#32
  let arg11_r0 : BitVec 32 := Scf.iv c0_i32_213_r0 c1_i32_215_r0 k2_t88
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m16_i32_405_r0 : BitVec 32 := 4294967280#32
  let v307_r0 : BitVec 32 := Scalar.andi v306_r0 c_m16_i32_405_r0
  let v308_r0 : BitVec 32 := Scalar.addi v306_r0 v307_r0
  let c16_i32_410_r0 : BitVec 32 := 16#32
  let v315_r0 : BitVec 32 := Scalar.addi v308_r0 c16_i32_410_r0
  let v319_r0 : Index := Scalar.indexCast v315_r0
  let c0_415_r0 : Index := 0#32
  ![0, v319_r0.toNat, 0]
@[reducible] def k2_t89_loop : Scf.Loop 32 :=
  let c0_i32_217_r0 : BitVec 32 := 0#32
  let c64_i32_218_r0 : BitVec 32 := 64#32
  let v212_r0 : BitVec 32 := Scalar.addi c0_i32_217_r0 c64_i32_218_r0
  let c1_i32_219_r0 : BitVec 32 := 1#32
  ⟨c0_i32_217_r0, v212_r0, c1_i32_219_r0⟩
def k2_off288 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off289 (k2_t89 : Fin k2_t89_loop.trips) : Fin 3 → Nat :=
  let c0_i32_404_r0 : BitVec 32 := 0#32
  let v310_r0 : Index := Scalar.indexCast c0_i32_404_r0
  let c0_i32_403_r0 : BitVec 32 := 0#32
  let c0_i32_217_r0 : BitVec 32 := 0#32
  let c1_i32_219_r0 : BitVec 32 := 1#32
  let arg11_r0 : BitVec 32 := Scf.iv c0_i32_217_r0 c1_i32_219_r0 k2_t89
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let v311_r0 : Index := Scalar.indexCast v307_r0
  let c0_r0 : Index := 0#32
  ![0, v311_r0.toNat, 0]
def k2_off290 (k2_t89 : Fin k2_t89_loop.trips) : Fin 3 → Nat :=
  let c0_i32_408_r0 : BitVec 32 := 0#32
  let v317_r0 : Index := Scalar.indexCast c0_i32_408_r0
  let c0_i32_403_r0 : BitVec 32 := 0#32
  let c0_i32_217_r0 : BitVec 32 := 0#32
  let c1_i32_219_r0 : BitVec 32 := 1#32
  let arg11_r0 : BitVec 32 := Scf.iv c0_i32_217_r0 c1_i32_219_r0 k2_t89
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_412_r0 : Index := 0#32
  ![0, v318_r0.toNat, 0]
@[reducible] def k2_t90_loop : Scf.Loop 32 :=
  let c0_i32_221_r0 : BitVec 32 := 0#32
  let c64_i32_222_r0 : BitVec 32 := 64#32
  let v213_r0 : BitVec 32 := Scalar.addi c0_i32_221_r0 c64_i32_222_r0
  let c1_i32_223_r0 : BitVec 32 := 1#32
  ⟨c0_i32_221_r0, v213_r0, c1_i32_223_r0⟩
def k2_off291 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off292 (k2_t90 : Fin k2_t90_loop.trips) : Fin 3 → Nat :=
  let c0_i32_405_r0 : BitVec 32 := 0#32
  let v311_r0 : Index := Scalar.indexCast c0_i32_405_r0
  let c0_i32_403_r0 : BitVec 32 := 0#32
  let c0_i32_221_r0 : BitVec 32 := 0#32
  let c1_i32_223_r0 : BitVec 32 := 1#32
  let arg11_r0 : BitVec 32 := Scf.iv c0_i32_221_r0 c1_i32_223_r0 k2_t90
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m8_i32_r0 : BitVec 32 := 4294967288#32
  let v307_r0 : BitVec 32 := Scalar.andi v306_r0 c_m8_i32_r0
  let v308_r0 : BitVec 32 := Scalar.addi v306_r0 v307_r0
  let v312_r0 : Index := Scalar.indexCast v308_r0
  let c0_r0 : Index := 0#32
  ![0, v312_r0.toNat, 0]
def k2_off293 (k2_t90 : Fin k2_t90_loop.trips) : Fin 3 → Nat :=
  let c0_i32_409_r0 : BitVec 32 := 0#32
  let v318_r0 : Index := Scalar.indexCast c0_i32_409_r0
  let c0_i32_403_r0 : BitVec 32 := 0#32
  let c0_i32_221_r0 : BitVec 32 := 0#32
  let c1_i32_223_r0 : BitVec 32 := 1#32
  let arg11_r0 : BitVec 32 := Scf.iv c0_i32_221_r0 c1_i32_223_r0 k2_t90
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m8_i32_r0 : BitVec 32 := 4294967288#32
  let v307_r0 : BitVec 32 := Scalar.andi v306_r0 c_m8_i32_r0
  let v308_r0 : BitVec 32 := Scalar.addi v306_r0 v307_r0
  let c8_i32_r0 : BitVec 32 := 8#32
  let v315_r0 : BitVec 32 := Scalar.addi v308_r0 c8_i32_r0
  let v319_r0 : Index := Scalar.indexCast v315_r0
  let c0_413_r0 : Index := 0#32
  ![0, v319_r0.toNat, 0]
@[reducible] def k2_t91_loop : Scf.Loop 32 :=
  let c0_i32_225_r0 : BitVec 32 := 0#32
  let c64_i32_226_r0 : BitVec 32 := 64#32
  let v214_r0 : BitVec 32 := Scalar.addi c0_i32_225_r0 c64_i32_226_r0
  let c1_i32_227_r0 : BitVec 32 := 1#32
  ⟨c0_i32_225_r0, v214_r0, c1_i32_227_r0⟩
def k2_off294 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off295 (k2_t91 : Fin k2_t91_loop.trips) : Fin 3 → Nat :=
  let c0_i32_404_r0 : BitVec 32 := 0#32
  let v310_r0 : Index := Scalar.indexCast c0_i32_404_r0
  let c0_i32_403_r0 : BitVec 32 := 0#32
  let c0_i32_225_r0 : BitVec 32 := 0#32
  let c1_i32_227_r0 : BitVec 32 := 1#32
  let arg11_r0 : BitVec 32 := Scf.iv c0_i32_225_r0 c1_i32_227_r0 k2_t91
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off296 (k2_t91 : Fin k2_t91_loop.trips) : Fin 3 → Nat :=
  let c0_i32_409_r0 : BitVec 32 := 0#32
  let v317_r0 : Index := Scalar.indexCast c0_i32_409_r0
  let c0_i32_403_r0 : BitVec 32 := 0#32
  let c0_i32_225_r0 : BitVec 32 := 0#32
  let c1_i32_227_r0 : BitVec 32 := 1#32
  let arg11_r0 : BitVec 32 := Scf.iv c0_i32_225_r0 c1_i32_227_r0 k2_t91
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t92_loop : Scf.Loop 32 :=
  let c0_i32_229_r0 : BitVec 32 := 0#32
  let c64_i32_230_r0 : BitVec 32 := 64#32
  let v215_r0 : BitVec 32 := Scalar.addi c0_i32_229_r0 c64_i32_230_r0
  let c1_i32_231_r0 : BitVec 32 := 1#32
  ⟨c0_i32_229_r0, v215_r0, c1_i32_231_r0⟩
def k2_off297 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off298 (k2_t92 : Fin k2_t92_loop.trips) : Fin 3 → Nat :=
  let c0_i32_405_r0 : BitVec 32 := 0#32
  let v311_r0 : Index := Scalar.indexCast c0_i32_405_r0
  let c0_i32_403_r0 : BitVec 32 := 0#32
  let c0_i32_229_r0 : BitVec 32 := 0#32
  let c1_i32_231_r0 : BitVec 32 := 1#32
  let arg11_r0 : BitVec 32 := Scf.iv c0_i32_229_r0 c1_i32_231_r0 k2_t92
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off299 (k2_t92 : Fin k2_t92_loop.trips) : Fin 3 → Nat :=
  let c0_i32_410_r0 : BitVec 32 := 0#32
  let v318_r0 : Index := Scalar.indexCast c0_i32_410_r0
  let c0_i32_403_r0 : BitVec 32 := 0#32
  let c0_i32_229_r0 : BitVec 32 := 0#32
  let c1_i32_231_r0 : BitVec 32 := 1#32
  let arg11_r0 : BitVec 32 := Scf.iv c0_i32_229_r0 c1_i32_231_r0 k2_t92
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m4_i32_r0 : BitVec 32 := 4294967292#32
  let v307_r0 : BitVec 32 := Scalar.andi v306_r0 c_m4_i32_r0
  let v308_r0 : BitVec 32 := Scalar.addi v306_r0 v307_r0
  let c4_i32_409_r0 : BitVec 32 := 4#32
  let v315_r0 : BitVec 32 := Scalar.addi v308_r0 c4_i32_409_r0
  let v319_r0 : Index := Scalar.indexCast v315_r0
  let c0_414_r0 : Index := 0#32
  ![0, v319_r0.toNat, 0]
@[reducible] def k2_t93_loop : Scf.Loop 32 :=
  let c0_i32_233_r0 : BitVec 32 := 0#32
  let c64_i32_234_r0 : BitVec 32 := 64#32
  let v216_r0 : BitVec 32 := Scalar.addi c0_i32_233_r0 c64_i32_234_r0
  let c1_i32_235_r0 : BitVec 32 := 1#32
  ⟨c0_i32_233_r0, v216_r0, c1_i32_235_r0⟩
def k2_off300 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off301 (k2_t93 : Fin k2_t93_loop.trips) : Fin 3 → Nat :=
  let c0_i32_404_r0 : BitVec 32 := 0#32
  let v310_r0 : Index := Scalar.indexCast c0_i32_404_r0
  let c0_i32_403_r0 : BitVec 32 := 0#32
  let c0_i32_233_r0 : BitVec 32 := 0#32
  let c1_i32_235_r0 : BitVec 32 := 1#32
  let arg11_r0 : BitVec 32 := Scf.iv c0_i32_233_r0 c1_i32_235_r0 k2_t93
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off302 (k2_t93 : Fin k2_t93_loop.trips) : Fin 3 → Nat :=
  let c0_i32_409_r0 : BitVec 32 := 0#32
  let v317_r0 : Index := Scalar.indexCast c0_i32_409_r0
  let c0_i32_403_r0 : BitVec 32 := 0#32
  let c0_i32_233_r0 : BitVec 32 := 0#32
  let c1_i32_235_r0 : BitVec 32 := 1#32
  let arg11_r0 : BitVec 32 := Scf.iv c0_i32_233_r0 c1_i32_235_r0 k2_t93
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t94_loop : Scf.Loop 32 :=
  let c0_i32_237_r0 : BitVec 32 := 0#32
  let c64_i32_238_r0 : BitVec 32 := 64#32
  let v217_r0 : BitVec 32 := Scalar.addi c0_i32_237_r0 c64_i32_238_r0
  let c1_i32_239_r0 : BitVec 32 := 1#32
  ⟨c0_i32_237_r0, v217_r0, c1_i32_239_r0⟩
def k2_off303 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off304 (k2_t94 : Fin k2_t94_loop.trips) : Fin 3 → Nat :=
  let c0_i32_405_r0 : BitVec 32 := 0#32
  let v311_r0 : Index := Scalar.indexCast c0_i32_405_r0
  let c0_i32_403_r0 : BitVec 32 := 0#32
  let c0_i32_237_r0 : BitVec 32 := 0#32
  let c1_i32_239_r0 : BitVec 32 := 1#32
  let arg11_r0 : BitVec 32 := Scf.iv c0_i32_237_r0 c1_i32_239_r0 k2_t94
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off305 (k2_t94 : Fin k2_t94_loop.trips) : Fin 3 → Nat :=
  let c0_i32_410_r0 : BitVec 32 := 0#32
  let v318_r0 : Index := Scalar.indexCast c0_i32_410_r0
  let c0_i32_403_r0 : BitVec 32 := 0#32
  let c0_i32_237_r0 : BitVec 32 := 0#32
  let c1_i32_239_r0 : BitVec 32 := 1#32
  let arg11_r0 : BitVec 32 := Scf.iv c0_i32_237_r0 c1_i32_239_r0 k2_t94
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m2_i32_r0 : BitVec 32 := 4294967294#32
  let v307_r0 : BitVec 32 := Scalar.andi v306_r0 c_m2_i32_r0
  let v308_r0 : BitVec 32 := Scalar.addi v306_r0 v307_r0
  let c2_i32_409_r0 : BitVec 32 := 2#32
  let v315_r0 : BitVec 32 := Scalar.addi v308_r0 c2_i32_409_r0
  let v319_r0 : Index := Scalar.indexCast v315_r0
  let c0_414_r0 : Index := 0#32
  ![0, v319_r0.toNat, 0]
@[reducible] def k2_t95_loop : Scf.Loop 32 :=
  let c0_i32_241_r0 : BitVec 32 := 0#32
  let c64_i32_242_r0 : BitVec 32 := 64#32
  let v218_r0 : BitVec 32 := Scalar.addi c0_i32_241_r0 c64_i32_242_r0
  let c1_i32_243_r0 : BitVec 32 := 1#32
  ⟨c0_i32_241_r0, v218_r0, c1_i32_243_r0⟩
def k2_off306 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off307 (k2_t95 : Fin k2_t95_loop.trips) : Fin 3 → Nat :=
  let c0_i32_405_r0 : BitVec 32 := 0#32
  let v310_r0 : Index := Scalar.indexCast c0_i32_405_r0
  let c0_i32_403_r0 : BitVec 32 := 0#32
  let c0_i32_241_r0 : BitVec 32 := 0#32
  let c1_i32_243_r0 : BitVec 32 := 1#32
  let arg11_r0 : BitVec 32 := Scf.iv c0_i32_241_r0 c1_i32_243_r0 k2_t95
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off308 (k2_t95 : Fin k2_t95_loop.trips) : Fin 3 → Nat :=
  let c0_i32_410_r0 : BitVec 32 := 0#32
  let v317_r0 : Index := Scalar.indexCast c0_i32_410_r0
  let c0_i32_403_r0 : BitVec 32 := 0#32
  let c0_i32_241_r0 : BitVec 32 := 0#32
  let c1_i32_243_r0 : BitVec 32 := 1#32
  let arg11_r0 : BitVec 32 := Scf.iv c0_i32_241_r0 c1_i32_243_r0 k2_t95
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t96_loop : Scf.Loop 32 :=
  let c0_i32_245_r0 : BitVec 32 := 0#32
  let c64_i32_246_r0 : BitVec 32 := 64#32
  let v219_r0 : BitVec 32 := Scalar.addi c0_i32_245_r0 c64_i32_246_r0
  let c1_i32_247_r0 : BitVec 32 := 1#32
  ⟨c0_i32_245_r0, v219_r0, c1_i32_247_r0⟩
def k2_off309 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off310 (k2_t96 : Fin k2_t96_loop.trips) : Fin 3 → Nat :=
  let c0_i32_406_r0 : BitVec 32 := 0#32
  let v311_r0 : Index := Scalar.indexCast c0_i32_406_r0
  let c0_i32_403_r0 : BitVec 32 := 0#32
  let c0_i32_245_r0 : BitVec 32 := 0#32
  let c1_i32_247_r0 : BitVec 32 := 1#32
  let arg11_r0 : BitVec 32 := Scf.iv c0_i32_245_r0 c1_i32_247_r0 k2_t96
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off311 (k2_t96 : Fin k2_t96_loop.trips) : Fin 3 → Nat :=
  let c0_i32_411_r0 : BitVec 32 := 0#32
  let v318_r0 : Index := Scalar.indexCast c0_i32_411_r0
  let c0_i32_403_r0 : BitVec 32 := 0#32
  let c0_i32_245_r0 : BitVec 32 := 0#32
  let c1_i32_247_r0 : BitVec 32 := 1#32
  let arg11_r0 : BitVec 32 := Scf.iv c0_i32_245_r0 c1_i32_247_r0 k2_t96
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_404_r0 : BitVec 32 := 16#32
  let v306_r0 : BitVec 32 := Scalar.addi v305_r0 c16_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t97_loop : Scf.Loop 32 :=
  let c0_i32_249_r0 : BitVec 32 := 0#32
  let c64_i32_250_r0 : BitVec 32 := 64#32
  let v220_r0 : BitVec 32 := Scalar.addi c0_i32_249_r0 c64_i32_250_r0
  let c1_i32_251_r0 : BitVec 32 := 1#32
  ⟨c0_i32_249_r0, v220_r0, c1_i32_251_r0⟩
def k2_off312 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off313 (k2_t97 : Fin k2_t97_loop.trips) : Fin 3 → Nat :=
  let c0_i32_405_r0 : BitVec 32 := 0#32
  let v310_r0 : Index := Scalar.indexCast c0_i32_405_r0
  let c0_i32_403_r0 : BitVec 32 := 0#32
  let c0_i32_249_r0 : BitVec 32 := 0#32
  let c1_i32_251_r0 : BitVec 32 := 1#32
  let arg11_r0 : BitVec 32 := Scf.iv c0_i32_249_r0 c1_i32_251_r0 k2_t97
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m32_i32_404_r0 : BitVec 32 := 4294967264#32
  let v306_r0 : BitVec 32 := Scalar.andi v305_r0 c_m32_i32_404_r0
  let v307_r0 : BitVec 32 := Scalar.addi v305_r0 v306_r0
  let v311_r0 : Index := Scalar.indexCast v307_r0
  let c0_r0 : Index := 0#32
  ![0, v311_r0.toNat, 0]
def k2_off314 (k2_t97 : Fin k2_t97_loop.trips) : Fin 3 → Nat :=
  let c0_i32_409_r0 : BitVec 32 := 0#32
  let v317_r0 : Index := Scalar.indexCast c0_i32_409_r0
  let c0_i32_403_r0 : BitVec 32 := 0#32
  let c0_i32_249_r0 : BitVec 32 := 0#32
  let c1_i32_251_r0 : BitVec 32 := 1#32
  let arg11_r0 : BitVec 32 := Scf.iv c0_i32_249_r0 c1_i32_251_r0 k2_t97
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m32_i32_404_r0 : BitVec 32 := 4294967264#32
  let v306_r0 : BitVec 32 := Scalar.andi v305_r0 c_m32_i32_404_r0
  let v307_r0 : BitVec 32 := Scalar.addi v305_r0 v306_r0
  let c32_i32_r0 : BitVec 32 := 32#32
  let v314_r0 : BitVec 32 := Scalar.addi v307_r0 c32_i32_r0
  let v318_r0 : Index := Scalar.indexCast v314_r0
  let c0_413_r0 : Index := 0#32
  ![0, v318_r0.toNat, 0]
@[reducible] def k2_t98_loop : Scf.Loop 32 :=
  let c0_i32_253_r0 : BitVec 32 := 0#32
  let c64_i32_254_r0 : BitVec 32 := 64#32
  let v221_r0 : BitVec 32 := Scalar.addi c0_i32_253_r0 c64_i32_254_r0
  let c1_i32_255_r0 : BitVec 32 := 1#32
  ⟨c0_i32_253_r0, v221_r0, c1_i32_255_r0⟩
def k2_off315 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off316 (k2_t98 : Fin k2_t98_loop.trips) : Fin 3 → Nat :=
  let c0_i32_405_r0 : BitVec 32 := 0#32
  let v311_r0 : Index := Scalar.indexCast c0_i32_405_r0
  let c0_i32_403_r0 : BitVec 32 := 0#32
  let c0_i32_253_r0 : BitVec 32 := 0#32
  let c1_i32_255_r0 : BitVec 32 := 1#32
  let arg11_r0 : BitVec 32 := Scf.iv c0_i32_253_r0 c1_i32_255_r0 k2_t98
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m32_i32_404_r0 : BitVec 32 := 4294967264#32
  let v307_r0 : BitVec 32 := Scalar.andi v306_r0 c_m32_i32_404_r0
  let v308_r0 : BitVec 32 := Scalar.addi v306_r0 v307_r0
  let v312_r0 : Index := Scalar.indexCast v308_r0
  let c0_r0 : Index := 0#32
  ![0, v312_r0.toNat, 0]
def k2_off317 (k2_t98 : Fin k2_t98_loop.trips) : Fin 3 → Nat :=
  let c0_i32_410_r0 : BitVec 32 := 0#32
  let v318_r0 : Index := Scalar.indexCast c0_i32_410_r0
  let c0_i32_403_r0 : BitVec 32 := 0#32
  let c0_i32_253_r0 : BitVec 32 := 0#32
  let c1_i32_255_r0 : BitVec 32 := 1#32
  let arg11_r0 : BitVec 32 := Scf.iv c0_i32_253_r0 c1_i32_255_r0 k2_t98
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m32_i32_404_r0 : BitVec 32 := 4294967264#32
  let v307_r0 : BitVec 32 := Scalar.andi v306_r0 c_m32_i32_404_r0
  let v308_r0 : BitVec 32 := Scalar.addi v306_r0 v307_r0
  let c32_i32_409_r0 : BitVec 32 := 32#32
  let v315_r0 : BitVec 32 := Scalar.addi v308_r0 c32_i32_409_r0
  let v319_r0 : Index := Scalar.indexCast v315_r0
  let c0_414_r0 : Index := 0#32
  ![0, v319_r0.toNat, 0]
@[reducible] def k2_t99_loop : Scf.Loop 32 :=
  let c0_i32_257_r0 : BitVec 32 := 0#32
  let c64_i32_258_r0 : BitVec 32 := 64#32
  let v222_r0 : BitVec 32 := Scalar.addi c0_i32_257_r0 c64_i32_258_r0
  let c1_i32_259_r0 : BitVec 32 := 1#32
  ⟨c0_i32_257_r0, v222_r0, c1_i32_259_r0⟩
def k2_off318 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off319 (k2_t99 : Fin k2_t99_loop.trips) : Fin 3 → Nat :=
  let c0_i32_404_r0 : BitVec 32 := 0#32
  let v310_r0 : Index := Scalar.indexCast c0_i32_404_r0
  let c0_i32_403_r0 : BitVec 32 := 0#32
  let c0_i32_257_r0 : BitVec 32 := 0#32
  let c1_i32_259_r0 : BitVec 32 := 1#32
  let arg11_r0 : BitVec 32 := Scf.iv c0_i32_257_r0 c1_i32_259_r0 k2_t99
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let v311_r0 : Index := Scalar.indexCast v307_r0
  let c0_r0 : Index := 0#32
  ![0, v311_r0.toNat, 0]
def k2_off320 (k2_t99 : Fin k2_t99_loop.trips) : Fin 3 → Nat :=
  let c0_i32_409_r0 : BitVec 32 := 0#32
  let v317_r0 : Index := Scalar.indexCast c0_i32_409_r0
  let c0_i32_403_r0 : BitVec 32 := 0#32
  let c0_i32_257_r0 : BitVec 32 := 0#32
  let c1_i32_259_r0 : BitVec 32 := 1#32
  let arg11_r0 : BitVec 32 := Scf.iv c0_i32_257_r0 c1_i32_259_r0 k2_t99
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let c16_i32_408_r0 : BitVec 32 := 16#32
  let v314_r0 : BitVec 32 := Scalar.addi v307_r0 c16_i32_408_r0
  let v318_r0 : Index := Scalar.indexCast v314_r0
  let c0_413_r0 : Index := 0#32
  ![0, v318_r0.toNat, 0]
@[reducible] def k2_t100_loop : Scf.Loop 32 :=
  let c0_i32_261_r0 : BitVec 32 := 0#32
  let c64_i32_262_r0 : BitVec 32 := 64#32
  let v223_r0 : BitVec 32 := Scalar.addi c0_i32_261_r0 c64_i32_262_r0
  let c1_i32_263_r0 : BitVec 32 := 1#32
  ⟨c0_i32_261_r0, v223_r0, c1_i32_263_r0⟩
def k2_off321 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off322 (k2_t100 : Fin k2_t100_loop.trips) : Fin 3 → Nat :=
  let c0_i32_404_r0 : BitVec 32 := 0#32
  let v311_r0 : Index := Scalar.indexCast c0_i32_404_r0
  let c0_i32_403_r0 : BitVec 32 := 0#32
  let c0_i32_261_r0 : BitVec 32 := 0#32
  let c1_i32_263_r0 : BitVec 32 := 1#32
  let arg11_r0 : BitVec 32 := Scf.iv c0_i32_261_r0 c1_i32_263_r0 k2_t100
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m16_i32_r0 : BitVec 32 := 4294967280#32
  let v307_r0 : BitVec 32 := Scalar.andi v306_r0 c_m16_i32_r0
  let v308_r0 : BitVec 32 := Scalar.addi v306_r0 v307_r0
  let v312_r0 : Index := Scalar.indexCast v308_r0
  let c0_r0 : Index := 0#32
  ![0, v312_r0.toNat, 0]
def k2_off323 (k2_t100 : Fin k2_t100_loop.trips) : Fin 3 → Nat :=
  let c0_i32_409_r0 : BitVec 32 := 0#32
  let v318_r0 : Index := Scalar.indexCast c0_i32_409_r0
  let c0_i32_403_r0 : BitVec 32 := 0#32
  let c0_i32_261_r0 : BitVec 32 := 0#32
  let c1_i32_263_r0 : BitVec 32 := 1#32
  let arg11_r0 : BitVec 32 := Scf.iv c0_i32_261_r0 c1_i32_263_r0 k2_t100
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m16_i32_r0 : BitVec 32 := 4294967280#32
  let v307_r0 : BitVec 32 := Scalar.andi v306_r0 c_m16_i32_r0
  let v308_r0 : BitVec 32 := Scalar.addi v306_r0 v307_r0
  let c16_i32_408_r0 : BitVec 32 := 16#32
  let v315_r0 : BitVec 32 := Scalar.addi v308_r0 c16_i32_408_r0
  let v319_r0 : Index := Scalar.indexCast v315_r0
  let c0_413_r0 : Index := 0#32
  ![0, v319_r0.toNat, 0]
@[reducible] def k2_t101_loop : Scf.Loop 32 :=
  let c0_i32_265_r0 : BitVec 32 := 0#32
  let c64_i32_266_r0 : BitVec 32 := 64#32
  let v224_r0 : BitVec 32 := Scalar.addi c0_i32_265_r0 c64_i32_266_r0
  let c1_i32_267_r0 : BitVec 32 := 1#32
  ⟨c0_i32_265_r0, v224_r0, c1_i32_267_r0⟩
def k2_off324 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off325 (k2_t101 : Fin k2_t101_loop.trips) : Fin 3 → Nat :=
  let c0_i32_404_r0 : BitVec 32 := 0#32
  let v310_r0 : Index := Scalar.indexCast c0_i32_404_r0
  let c0_i32_403_r0 : BitVec 32 := 0#32
  let c0_i32_265_r0 : BitVec 32 := 0#32
  let c1_i32_267_r0 : BitVec 32 := 1#32
  let arg11_r0 : BitVec 32 := Scf.iv c0_i32_265_r0 c1_i32_267_r0 k2_t101
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let v311_r0 : Index := Scalar.indexCast v307_r0
  let c0_r0 : Index := 0#32
  ![0, v311_r0.toNat, 0]
def k2_off326 (k2_t101 : Fin k2_t101_loop.trips) : Fin 3 → Nat :=
  let c0_i32_408_r0 : BitVec 32 := 0#32
  let v317_r0 : Index := Scalar.indexCast c0_i32_408_r0
  let c0_i32_403_r0 : BitVec 32 := 0#32
  let c0_i32_265_r0 : BitVec 32 := 0#32
  let c1_i32_267_r0 : BitVec 32 := 1#32
  let arg11_r0 : BitVec 32 := Scf.iv c0_i32_265_r0 c1_i32_267_r0 k2_t101
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_412_r0 : Index := 0#32
  ![0, v318_r0.toNat, 0]
@[reducible] def k2_t102_loop : Scf.Loop 32 :=
  let c0_i32_269_r0 : BitVec 32 := 0#32
  let c64_i32_270_r0 : BitVec 32 := 64#32
  let v225_r0 : BitVec 32 := Scalar.addi c0_i32_269_r0 c64_i32_270_r0
  let c1_i32_271_r0 : BitVec 32 := 1#32
  ⟨c0_i32_269_r0, v225_r0, c1_i32_271_r0⟩
def k2_off327 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off328 (k2_t102 : Fin k2_t102_loop.trips) : Fin 3 → Nat :=
  let c0_i32_404_r0 : BitVec 32 := 0#32
  let v311_r0 : Index := Scalar.indexCast c0_i32_404_r0
  let c0_i32_403_r0 : BitVec 32 := 0#32
  let c0_i32_269_r0 : BitVec 32 := 0#32
  let c1_i32_271_r0 : BitVec 32 := 1#32
  let arg11_r0 : BitVec 32 := Scf.iv c0_i32_269_r0 c1_i32_271_r0 k2_t102
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m8_i32_r0 : BitVec 32 := 4294967288#32
  let v307_r0 : BitVec 32 := Scalar.andi v306_r0 c_m8_i32_r0
  let v308_r0 : BitVec 32 := Scalar.addi v306_r0 v307_r0
  let v312_r0 : Index := Scalar.indexCast v308_r0
  let c0_r0 : Index := 0#32
  ![0, v312_r0.toNat, 0]
def k2_off329 (k2_t102 : Fin k2_t102_loop.trips) : Fin 3 → Nat :=
  let c0_i32_408_r0 : BitVec 32 := 0#32
  let v318_r0 : Index := Scalar.indexCast c0_i32_408_r0
  let c0_i32_403_r0 : BitVec 32 := 0#32
  let c0_i32_269_r0 : BitVec 32 := 0#32
  let c1_i32_271_r0 : BitVec 32 := 1#32
  let arg11_r0 : BitVec 32 := Scf.iv c0_i32_269_r0 c1_i32_271_r0 k2_t102
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m8_i32_r0 : BitVec 32 := 4294967288#32
  let v307_r0 : BitVec 32 := Scalar.andi v306_r0 c_m8_i32_r0
  let v308_r0 : BitVec 32 := Scalar.addi v306_r0 v307_r0
  let c8_i32_r0 : BitVec 32 := 8#32
  let v315_r0 : BitVec 32 := Scalar.addi v308_r0 c8_i32_r0
  let v319_r0 : Index := Scalar.indexCast v315_r0
  let c0_412_r0 : Index := 0#32
  ![0, v319_r0.toNat, 0]
@[reducible] def k2_t103_loop : Scf.Loop 32 :=
  let c0_i32_273_r0 : BitVec 32 := 0#32
  let c64_i32_274_r0 : BitVec 32 := 64#32
  let v226_r0 : BitVec 32 := Scalar.addi c0_i32_273_r0 c64_i32_274_r0
  let c1_i32_275_r0 : BitVec 32 := 1#32
  ⟨c0_i32_273_r0, v226_r0, c1_i32_275_r0⟩
def k2_off330 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off331 (k2_t103 : Fin k2_t103_loop.trips) : Fin 3 → Nat :=
  let c0_i32_404_r0 : BitVec 32 := 0#32
  let v310_r0 : Index := Scalar.indexCast c0_i32_404_r0
  let c0_i32_403_r0 : BitVec 32 := 0#32
  let c0_i32_273_r0 : BitVec 32 := 0#32
  let c1_i32_275_r0 : BitVec 32 := 1#32
  let arg11_r0 : BitVec 32 := Scf.iv c0_i32_273_r0 c1_i32_275_r0 k2_t103
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off332 (k2_t103 : Fin k2_t103_loop.trips) : Fin 3 → Nat :=
  let c0_i32_409_r0 : BitVec 32 := 0#32
  let v317_r0 : Index := Scalar.indexCast c0_i32_409_r0
  let c0_i32_403_r0 : BitVec 32 := 0#32
  let c0_i32_273_r0 : BitVec 32 := 0#32
  let c1_i32_275_r0 : BitVec 32 := 1#32
  let arg11_r0 : BitVec 32 := Scf.iv c0_i32_273_r0 c1_i32_275_r0 k2_t103
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t104_loop : Scf.Loop 32 :=
  let c0_i32_277_r0 : BitVec 32 := 0#32
  let c64_i32_278_r0 : BitVec 32 := 64#32
  let v227_r0 : BitVec 32 := Scalar.addi c0_i32_277_r0 c64_i32_278_r0
  let c1_i32_279_r0 : BitVec 32 := 1#32
  ⟨c0_i32_277_r0, v227_r0, c1_i32_279_r0⟩
def k2_off333 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off334 (k2_t104 : Fin k2_t104_loop.trips) : Fin 3 → Nat :=
  let c0_i32_404_r0 : BitVec 32 := 0#32
  let v311_r0 : Index := Scalar.indexCast c0_i32_404_r0
  let c0_i32_403_r0 : BitVec 32 := 0#32
  let c0_i32_277_r0 : BitVec 32 := 0#32
  let c1_i32_279_r0 : BitVec 32 := 1#32
  let arg11_r0 : BitVec 32 := Scf.iv c0_i32_277_r0 c1_i32_279_r0 k2_t104
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off335 (k2_t104 : Fin k2_t104_loop.trips) : Fin 3 → Nat :=
  let c0_i32_409_r0 : BitVec 32 := 0#32
  let v318_r0 : Index := Scalar.indexCast c0_i32_409_r0
  let c0_i32_403_r0 : BitVec 32 := 0#32
  let c0_i32_277_r0 : BitVec 32 := 0#32
  let c1_i32_279_r0 : BitVec 32 := 1#32
  let arg11_r0 : BitVec 32 := Scf.iv c0_i32_277_r0 c1_i32_279_r0 k2_t104
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m4_i32_r0 : BitVec 32 := 4294967292#32
  let v307_r0 : BitVec 32 := Scalar.andi v306_r0 c_m4_i32_r0
  let v308_r0 : BitVec 32 := Scalar.addi v306_r0 v307_r0
  let c4_i32_408_r0 : BitVec 32 := 4#32
  let v315_r0 : BitVec 32 := Scalar.addi v308_r0 c4_i32_408_r0
  let v319_r0 : Index := Scalar.indexCast v315_r0
  let c0_413_r0 : Index := 0#32
  ![0, v319_r0.toNat, 0]
@[reducible] def k2_t105_loop : Scf.Loop 32 :=
  let c0_i32_281_r0 : BitVec 32 := 0#32
  let c64_i32_282_r0 : BitVec 32 := 64#32
  let v228_r0 : BitVec 32 := Scalar.addi c0_i32_281_r0 c64_i32_282_r0
  let c1_i32_283_r0 : BitVec 32 := 1#32
  ⟨c0_i32_281_r0, v228_r0, c1_i32_283_r0⟩
def k2_off336 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off337 (k2_t105 : Fin k2_t105_loop.trips) : Fin 3 → Nat :=
  let c0_i32_404_r0 : BitVec 32 := 0#32
  let v310_r0 : Index := Scalar.indexCast c0_i32_404_r0
  let c0_i32_403_r0 : BitVec 32 := 0#32
  let c0_i32_281_r0 : BitVec 32 := 0#32
  let c1_i32_283_r0 : BitVec 32 := 1#32
  let arg11_r0 : BitVec 32 := Scf.iv c0_i32_281_r0 c1_i32_283_r0 k2_t105
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off338 (k2_t105 : Fin k2_t105_loop.trips) : Fin 3 → Nat :=
  let c0_i32_409_r0 : BitVec 32 := 0#32
  let v317_r0 : Index := Scalar.indexCast c0_i32_409_r0
  let c0_i32_403_r0 : BitVec 32 := 0#32
  let c0_i32_281_r0 : BitVec 32 := 0#32
  let c1_i32_283_r0 : BitVec 32 := 1#32
  let arg11_r0 : BitVec 32 := Scf.iv c0_i32_281_r0 c1_i32_283_r0 k2_t105
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t106_loop : Scf.Loop 32 :=
  let c0_i32_285_r0 : BitVec 32 := 0#32
  let c64_i32_286_r0 : BitVec 32 := 64#32
  let v229_r0 : BitVec 32 := Scalar.addi c0_i32_285_r0 c64_i32_286_r0
  let c1_i32_287_r0 : BitVec 32 := 1#32
  ⟨c0_i32_285_r0, v229_r0, c1_i32_287_r0⟩
def k2_off339 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off340 (k2_t106 : Fin k2_t106_loop.trips) : Fin 3 → Nat :=
  let c0_i32_404_r0 : BitVec 32 := 0#32
  let v311_r0 : Index := Scalar.indexCast c0_i32_404_r0
  let c0_i32_403_r0 : BitVec 32 := 0#32
  let c0_i32_285_r0 : BitVec 32 := 0#32
  let c1_i32_287_r0 : BitVec 32 := 1#32
  let arg11_r0 : BitVec 32 := Scf.iv c0_i32_285_r0 c1_i32_287_r0 k2_t106
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off341 (k2_t106 : Fin k2_t106_loop.trips) : Fin 3 → Nat :=
  let c0_i32_409_r0 : BitVec 32 := 0#32
  let v318_r0 : Index := Scalar.indexCast c0_i32_409_r0
  let c0_i32_403_r0 : BitVec 32 := 0#32
  let c0_i32_285_r0 : BitVec 32 := 0#32
  let c1_i32_287_r0 : BitVec 32 := 1#32
  let arg11_r0 : BitVec 32 := Scf.iv c0_i32_285_r0 c1_i32_287_r0 k2_t106
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m2_i32_r0 : BitVec 32 := 4294967294#32
  let v307_r0 : BitVec 32 := Scalar.andi v306_r0 c_m2_i32_r0
  let v308_r0 : BitVec 32 := Scalar.addi v306_r0 v307_r0
  let c2_i32_408_r0 : BitVec 32 := 2#32
  let v315_r0 : BitVec 32 := Scalar.addi v308_r0 c2_i32_408_r0
  let v319_r0 : Index := Scalar.indexCast v315_r0
  let c0_413_r0 : Index := 0#32
  ![0, v319_r0.toNat, 0]
@[reducible] def k2_t107_loop : Scf.Loop 32 :=
  let c0_i32_289_r0 : BitVec 32 := 0#32
  let c64_i32_290_r0 : BitVec 32 := 64#32
  let v230_r0 : BitVec 32 := Scalar.addi c0_i32_289_r0 c64_i32_290_r0
  let c1_i32_291_r0 : BitVec 32 := 1#32
  ⟨c0_i32_289_r0, v230_r0, c1_i32_291_r0⟩
def k2_off342 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off343 (k2_t107 : Fin k2_t107_loop.trips) : Fin 3 → Nat :=
  let c0_i32_405_r0 : BitVec 32 := 0#32
  let v310_r0 : Index := Scalar.indexCast c0_i32_405_r0
  let c0_i32_403_r0 : BitVec 32 := 0#32
  let c0_i32_289_r0 : BitVec 32 := 0#32
  let c1_i32_291_r0 : BitVec 32 := 1#32
  let arg11_r0 : BitVec 32 := Scf.iv c0_i32_289_r0 c1_i32_291_r0 k2_t107
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off344 (k2_t107 : Fin k2_t107_loop.trips) : Fin 3 → Nat :=
  let c0_i32_410_r0 : BitVec 32 := 0#32
  let v317_r0 : Index := Scalar.indexCast c0_i32_410_r0
  let c0_i32_403_r0 : BitVec 32 := 0#32
  let c0_i32_289_r0 : BitVec 32 := 0#32
  let c1_i32_291_r0 : BitVec 32 := 1#32
  let arg11_r0 : BitVec 32 := Scf.iv c0_i32_289_r0 c1_i32_291_r0 k2_t107
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t108_loop : Scf.Loop 32 :=
  let c0_i32_293_r0 : BitVec 32 := 0#32
  let c64_i32_294_r0 : BitVec 32 := 64#32
  let v231_r0 : BitVec 32 := Scalar.addi c0_i32_293_r0 c64_i32_294_r0
  let c1_i32_295_r0 : BitVec 32 := 1#32
  ⟨c0_i32_293_r0, v231_r0, c1_i32_295_r0⟩
def k2_off345 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off346 (k2_t108 : Fin k2_t108_loop.trips) : Fin 3 → Nat :=
  let c0_i32_405_r0 : BitVec 32 := 0#32
  let v311_r0 : Index := Scalar.indexCast c0_i32_405_r0
  let c0_i32_403_r0 : BitVec 32 := 0#32
  let c0_i32_293_r0 : BitVec 32 := 0#32
  let c1_i32_295_r0 : BitVec 32 := 1#32
  let arg11_r0 : BitVec 32 := Scf.iv c0_i32_293_r0 c1_i32_295_r0 k2_t108
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m1_i32_404_r0 : BitVec 32 := 4294967295#32
  let v307_r0 : BitVec 32 := Scalar.andi v306_r0 c_m1_i32_404_r0
  let v308_r0 : BitVec 32 := Scalar.addi v306_r0 v307_r0
  let v312_r0 : Index := Scalar.indexCast v308_r0
  let c0_r0 : Index := 0#32
  ![0, v312_r0.toNat, 0]
def k2_off347 (k2_t108 : Fin k2_t108_loop.trips) : Fin 3 → Nat :=
  let c0_i32_410_r0 : BitVec 32 := 0#32
  let v318_r0 : Index := Scalar.indexCast c0_i32_410_r0
  let c0_i32_403_r0 : BitVec 32 := 0#32
  let c0_i32_293_r0 : BitVec 32 := 0#32
  let c1_i32_295_r0 : BitVec 32 := 1#32
  let arg11_r0 : BitVec 32 := Scf.iv c0_i32_293_r0 c1_i32_295_r0 k2_t108
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v306_r0 : BitVec 32 := Scalar.addi v305_r0 c32_i32_r0
  let c_m1_i32_404_r0 : BitVec 32 := 4294967295#32
  let v307_r0 : BitVec 32 := Scalar.andi v306_r0 c_m1_i32_404_r0
  let v308_r0 : BitVec 32 := Scalar.addi v306_r0 v307_r0
  let c1_i32_409_r0 : BitVec 32 := 1#32
  let v315_r0 : BitVec 32 := Scalar.addi v308_r0 c1_i32_409_r0
  let v319_r0 : Index := Scalar.indexCast v315_r0
  let c0_414_r0 : Index := 0#32
  ![0, v319_r0.toNat, 0]
@[reducible] def k2_t109_loop : Scf.Loop 32 :=
  let c0_i32_297_r0 : BitVec 32 := 0#32
  let c64_i32_298_r0 : BitVec 32 := 64#32
  let v232_r0 : BitVec 32 := Scalar.addi c0_i32_297_r0 c64_i32_298_r0
  let c1_i32_299_r0 : BitVec 32 := 1#32
  ⟨c0_i32_297_r0, v232_r0, c1_i32_299_r0⟩
def k2_off348 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off349 (k2_t109 : Fin k2_t109_loop.trips) : Fin 3 → Nat :=
  let c0_i32_405_r0 : BitVec 32 := 0#32
  let v310_r0 : Index := Scalar.indexCast c0_i32_405_r0
  let c0_i32_403_r0 : BitVec 32 := 0#32
  let c0_i32_297_r0 : BitVec 32 := 0#32
  let c1_i32_299_r0 : BitVec 32 := 1#32
  let arg11_r0 : BitVec 32 := Scf.iv c0_i32_297_r0 c1_i32_299_r0 k2_t109
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m64_i32_404_r0 : BitVec 32 := 4294967232#32
  let v306_r0 : BitVec 32 := Scalar.andi v305_r0 c_m64_i32_404_r0
  let v307_r0 : BitVec 32 := Scalar.addi v305_r0 v306_r0
  let v311_r0 : Index := Scalar.indexCast v307_r0
  let c0_r0 : Index := 0#32
  ![0, v311_r0.toNat, 0]
def k2_off350 (k2_t109 : Fin k2_t109_loop.trips) : Fin 3 → Nat :=
  let c0_i32_410_r0 : BitVec 32 := 0#32
  let v317_r0 : Index := Scalar.indexCast c0_i32_410_r0
  let c0_i32_403_r0 : BitVec 32 := 0#32
  let c0_i32_297_r0 : BitVec 32 := 0#32
  let c1_i32_299_r0 : BitVec 32 := 1#32
  let arg11_r0 : BitVec 32 := Scf.iv c0_i32_297_r0 c1_i32_299_r0 k2_t109
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m64_i32_404_r0 : BitVec 32 := 4294967232#32
  let v306_r0 : BitVec 32 := Scalar.andi v305_r0 c_m64_i32_404_r0
  let v307_r0 : BitVec 32 := Scalar.addi v305_r0 v306_r0
  let c64_i32_409_r0 : BitVec 32 := 64#32
  let v314_r0 : BitVec 32 := Scalar.addi v307_r0 c64_i32_409_r0
  let v318_r0 : Index := Scalar.indexCast v314_r0
  let c0_414_r0 : Index := 0#32
  ![0, v318_r0.toNat, 0]
@[reducible] def k2_t110_loop : Scf.Loop 32 :=
  let c0_i32_301_r0 : BitVec 32 := 0#32
  let c64_i32_302_r0 : BitVec 32 := 64#32
  let v233_r0 : BitVec 32 := Scalar.addi c0_i32_301_r0 c64_i32_302_r0
  let c1_i32_303_r0 : BitVec 32 := 1#32
  ⟨c0_i32_301_r0, v233_r0, c1_i32_303_r0⟩
def k2_off351 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off352 (k2_t110 : Fin k2_t110_loop.trips) : Fin 3 → Nat :=
  let c0_i32_406_r0 : BitVec 32 := 0#32
  let v311_r0 : Index := Scalar.indexCast c0_i32_406_r0
  let c0_i32_403_r0 : BitVec 32 := 0#32
  let c0_i32_301_r0 : BitVec 32 := 0#32
  let c1_i32_303_r0 : BitVec 32 := 1#32
  let arg11_r0 : BitVec 32 := Scf.iv c0_i32_301_r0 c1_i32_303_r0 k2_t110
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m64_i32_405_r0 : BitVec 32 := 4294967232#32
  let v307_r0 : BitVec 32 := Scalar.andi v306_r0 c_m64_i32_405_r0
  let v308_r0 : BitVec 32 := Scalar.addi v306_r0 v307_r0
  let v312_r0 : Index := Scalar.indexCast v308_r0
  let c0_r0 : Index := 0#32
  ![0, v312_r0.toNat, 0]
def k2_off353 (k2_t110 : Fin k2_t110_loop.trips) : Fin 3 → Nat :=
  let c0_i32_411_r0 : BitVec 32 := 0#32
  let v318_r0 : Index := Scalar.indexCast c0_i32_411_r0
  let c0_i32_403_r0 : BitVec 32 := 0#32
  let c0_i32_301_r0 : BitVec 32 := 0#32
  let c1_i32_303_r0 : BitVec 32 := 1#32
  let arg11_r0 : BitVec 32 := Scf.iv c0_i32_301_r0 c1_i32_303_r0 k2_t110
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m64_i32_405_r0 : BitVec 32 := 4294967232#32
  let v307_r0 : BitVec 32 := Scalar.andi v306_r0 c_m64_i32_405_r0
  let v308_r0 : BitVec 32 := Scalar.addi v306_r0 v307_r0
  let c64_i32_410_r0 : BitVec 32 := 64#32
  let v315_r0 : BitVec 32 := Scalar.addi v308_r0 c64_i32_410_r0
  let v319_r0 : Index := Scalar.indexCast v315_r0
  let c0_415_r0 : Index := 0#32
  ![0, v319_r0.toNat, 0]
@[reducible] def k2_t111_loop : Scf.Loop 32 :=
  let c0_i32_305_r0 : BitVec 32 := 0#32
  let c64_i32_306_r0 : BitVec 32 := 64#32
  let v234_r0 : BitVec 32 := Scalar.addi c0_i32_305_r0 c64_i32_306_r0
  let c1_i32_307_r0 : BitVec 32 := 1#32
  ⟨c0_i32_305_r0, v234_r0, c1_i32_307_r0⟩
def k2_off354 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off355 (k2_t111 : Fin k2_t111_loop.trips) : Fin 3 → Nat :=
  let c0_i32_404_r0 : BitVec 32 := 0#32
  let v310_r0 : Index := Scalar.indexCast c0_i32_404_r0
  let c0_i32_403_r0 : BitVec 32 := 0#32
  let c0_i32_305_r0 : BitVec 32 := 0#32
  let c1_i32_307_r0 : BitVec 32 := 1#32
  let arg11_r0 : BitVec 32 := Scf.iv c0_i32_305_r0 c1_i32_307_r0 k2_t111
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m32_i32_r0 : BitVec 32 := 4294967264#32
  let v306_r0 : BitVec 32 := Scalar.andi v305_r0 c_m32_i32_r0
  let v307_r0 : BitVec 32 := Scalar.addi v305_r0 v306_r0
  let v311_r0 : Index := Scalar.indexCast v307_r0
  let c0_r0 : Index := 0#32
  ![0, v311_r0.toNat, 0]
def k2_off356 (k2_t111 : Fin k2_t111_loop.trips) : Fin 3 → Nat :=
  let c0_i32_408_r0 : BitVec 32 := 0#32
  let v317_r0 : Index := Scalar.indexCast c0_i32_408_r0
  let c0_i32_403_r0 : BitVec 32 := 0#32
  let c0_i32_305_r0 : BitVec 32 := 0#32
  let c1_i32_307_r0 : BitVec 32 := 1#32
  let arg11_r0 : BitVec 32 := Scf.iv c0_i32_305_r0 c1_i32_307_r0 k2_t111
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m32_i32_r0 : BitVec 32 := 4294967264#32
  let v306_r0 : BitVec 32 := Scalar.andi v305_r0 c_m32_i32_r0
  let v307_r0 : BitVec 32 := Scalar.addi v305_r0 v306_r0
  let c32_i32_r0 : BitVec 32 := 32#32
  let v314_r0 : BitVec 32 := Scalar.addi v307_r0 c32_i32_r0
  let v318_r0 : Index := Scalar.indexCast v314_r0
  let c0_412_r0 : Index := 0#32
  ![0, v318_r0.toNat, 0]
@[reducible] def k2_t112_loop : Scf.Loop 32 :=
  let c0_i32_309_r0 : BitVec 32 := 0#32
  let c64_i32_310_r0 : BitVec 32 := 64#32
  let v235_r0 : BitVec 32 := Scalar.addi c0_i32_309_r0 c64_i32_310_r0
  let c1_i32_311_r0 : BitVec 32 := 1#32
  ⟨c0_i32_309_r0, v235_r0, c1_i32_311_r0⟩
def k2_off357 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off358 (k2_t112 : Fin k2_t112_loop.trips) : Fin 3 → Nat :=
  let c0_i32_405_r0 : BitVec 32 := 0#32
  let v311_r0 : Index := Scalar.indexCast c0_i32_405_r0
  let c0_i32_403_r0 : BitVec 32 := 0#32
  let c0_i32_309_r0 : BitVec 32 := 0#32
  let c1_i32_311_r0 : BitVec 32 := 1#32
  let arg11_r0 : BitVec 32 := Scf.iv c0_i32_309_r0 c1_i32_311_r0 k2_t112
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m32_i32_r0 : BitVec 32 := 4294967264#32
  let v307_r0 : BitVec 32 := Scalar.andi v306_r0 c_m32_i32_r0
  let v308_r0 : BitVec 32 := Scalar.addi v306_r0 v307_r0
  let v312_r0 : Index := Scalar.indexCast v308_r0
  let c0_r0 : Index := 0#32
  ![0, v312_r0.toNat, 0]
def k2_off359 (k2_t112 : Fin k2_t112_loop.trips) : Fin 3 → Nat :=
  let c0_i32_409_r0 : BitVec 32 := 0#32
  let v318_r0 : Index := Scalar.indexCast c0_i32_409_r0
  let c0_i32_403_r0 : BitVec 32 := 0#32
  let c0_i32_309_r0 : BitVec 32 := 0#32
  let c1_i32_311_r0 : BitVec 32 := 1#32
  let arg11_r0 : BitVec 32 := Scf.iv c0_i32_309_r0 c1_i32_311_r0 k2_t112
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m32_i32_r0 : BitVec 32 := 4294967264#32
  let v307_r0 : BitVec 32 := Scalar.andi v306_r0 c_m32_i32_r0
  let v308_r0 : BitVec 32 := Scalar.addi v306_r0 v307_r0
  let c32_i32_r0 : BitVec 32 := 32#32
  let v315_r0 : BitVec 32 := Scalar.addi v308_r0 c32_i32_r0
  let v319_r0 : Index := Scalar.indexCast v315_r0
  let c0_413_r0 : Index := 0#32
  ![0, v319_r0.toNat, 0]
@[reducible] def k2_t113_loop : Scf.Loop 32 :=
  let c0_i32_313_r0 : BitVec 32 := 0#32
  let c64_i32_314_r0 : BitVec 32 := 64#32
  let v236_r0 : BitVec 32 := Scalar.addi c0_i32_313_r0 c64_i32_314_r0
  let c1_i32_315_r0 : BitVec 32 := 1#32
  ⟨c0_i32_313_r0, v236_r0, c1_i32_315_r0⟩
def k2_off360 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off361 (k2_t113 : Fin k2_t113_loop.trips) : Fin 3 → Nat :=
  let c0_i32_404_r0 : BitVec 32 := 0#32
  let v310_r0 : Index := Scalar.indexCast c0_i32_404_r0
  let c0_i32_403_r0 : BitVec 32 := 0#32
  let c0_i32_313_r0 : BitVec 32 := 0#32
  let c1_i32_315_r0 : BitVec 32 := 1#32
  let arg11_r0 : BitVec 32 := Scf.iv c0_i32_313_r0 c1_i32_315_r0 k2_t113
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let v311_r0 : Index := Scalar.indexCast v307_r0
  let c0_r0 : Index := 0#32
  ![0, v311_r0.toNat, 0]
def k2_off362 (k2_t113 : Fin k2_t113_loop.trips) : Fin 3 → Nat :=
  let c0_i32_409_r0 : BitVec 32 := 0#32
  let v317_r0 : Index := Scalar.indexCast c0_i32_409_r0
  let c0_i32_403_r0 : BitVec 32 := 0#32
  let c0_i32_313_r0 : BitVec 32 := 0#32
  let c1_i32_315_r0 : BitVec 32 := 1#32
  let arg11_r0 : BitVec 32 := Scf.iv c0_i32_313_r0 c1_i32_315_r0 k2_t113
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m16_i32_r0 : BitVec 32 := 4294967280#32
  let v306_r0 : BitVec 32 := Scalar.andi v305_r0 c_m16_i32_r0
  let v307_r0 : BitVec 32 := Scalar.addi v305_r0 v306_r0
  let c16_i32_408_r0 : BitVec 32 := 16#32
  let v314_r0 : BitVec 32 := Scalar.addi v307_r0 c16_i32_408_r0
  let v318_r0 : Index := Scalar.indexCast v314_r0
  let c0_413_r0 : Index := 0#32
  ![0, v318_r0.toNat, 0]
@[reducible] def k2_t114_loop : Scf.Loop 32 :=
  let c0_i32_317_r0 : BitVec 32 := 0#32
  let c64_i32_318_r0 : BitVec 32 := 64#32
  let v237_r0 : BitVec 32 := Scalar.addi c0_i32_317_r0 c64_i32_318_r0
  let c1_i32_319_r0 : BitVec 32 := 1#32
  ⟨c0_i32_317_r0, v237_r0, c1_i32_319_r0⟩
def k2_off363 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off364 (k2_t114 : Fin k2_t114_loop.trips) : Fin 3 → Nat :=
  let c0_i32_405_r0 : BitVec 32 := 0#32
  let v311_r0 : Index := Scalar.indexCast c0_i32_405_r0
  let c0_i32_403_r0 : BitVec 32 := 0#32
  let c0_i32_317_r0 : BitVec 32 := 0#32
  let c1_i32_319_r0 : BitVec 32 := 1#32
  let arg11_r0 : BitVec 32 := Scf.iv c0_i32_317_r0 c1_i32_319_r0 k2_t114
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m16_i32_r0 : BitVec 32 := 4294967280#32
  let v307_r0 : BitVec 32 := Scalar.andi v306_r0 c_m16_i32_r0
  let v308_r0 : BitVec 32 := Scalar.addi v306_r0 v307_r0
  let v312_r0 : Index := Scalar.indexCast v308_r0
  let c0_r0 : Index := 0#32
  ![0, v312_r0.toNat, 0]
def k2_off365 (k2_t114 : Fin k2_t114_loop.trips) : Fin 3 → Nat :=
  let c0_i32_410_r0 : BitVec 32 := 0#32
  let v318_r0 : Index := Scalar.indexCast c0_i32_410_r0
  let c0_i32_403_r0 : BitVec 32 := 0#32
  let c0_i32_317_r0 : BitVec 32 := 0#32
  let c1_i32_319_r0 : BitVec 32 := 1#32
  let arg11_r0 : BitVec 32 := Scf.iv c0_i32_317_r0 c1_i32_319_r0 k2_t114
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m16_i32_r0 : BitVec 32 := 4294967280#32
  let v307_r0 : BitVec 32 := Scalar.andi v306_r0 c_m16_i32_r0
  let v308_r0 : BitVec 32 := Scalar.addi v306_r0 v307_r0
  let c16_i32_409_r0 : BitVec 32 := 16#32
  let v315_r0 : BitVec 32 := Scalar.addi v308_r0 c16_i32_409_r0
  let v319_r0 : Index := Scalar.indexCast v315_r0
  let c0_414_r0 : Index := 0#32
  ![0, v319_r0.toNat, 0]
@[reducible] def k2_t115_loop : Scf.Loop 32 :=
  let c0_i32_321_r0 : BitVec 32 := 0#32
  let c64_i32_322_r0 : BitVec 32 := 64#32
  let v238_r0 : BitVec 32 := Scalar.addi c0_i32_321_r0 c64_i32_322_r0
  let c1_i32_323_r0 : BitVec 32 := 1#32
  ⟨c0_i32_321_r0, v238_r0, c1_i32_323_r0⟩
def k2_off366 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off367 (k2_t115 : Fin k2_t115_loop.trips) : Fin 3 → Nat :=
  let c0_i32_404_r0 : BitVec 32 := 0#32
  let v310_r0 : Index := Scalar.indexCast c0_i32_404_r0
  let c0_i32_403_r0 : BitVec 32 := 0#32
  let c0_i32_321_r0 : BitVec 32 := 0#32
  let c1_i32_323_r0 : BitVec 32 := 1#32
  let arg11_r0 : BitVec 32 := Scf.iv c0_i32_321_r0 c1_i32_323_r0 k2_t115
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let v311_r0 : Index := Scalar.indexCast v307_r0
  let c0_r0 : Index := 0#32
  ![0, v311_r0.toNat, 0]
def k2_off368 (k2_t115 : Fin k2_t115_loop.trips) : Fin 3 → Nat :=
  let c0_i32_408_r0 : BitVec 32 := 0#32
  let v317_r0 : Index := Scalar.indexCast c0_i32_408_r0
  let c0_i32_403_r0 : BitVec 32 := 0#32
  let c0_i32_321_r0 : BitVec 32 := 0#32
  let c1_i32_323_r0 : BitVec 32 := 1#32
  let arg11_r0 : BitVec 32 := Scf.iv c0_i32_321_r0 c1_i32_323_r0 k2_t115
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m8_i32_r0 : BitVec 32 := 4294967288#32
  let v306_r0 : BitVec 32 := Scalar.andi v305_r0 c_m8_i32_r0
  let v307_r0 : BitVec 32 := Scalar.addi v305_r0 v306_r0
  let c8_i32_r0 : BitVec 32 := 8#32
  let v314_r0 : BitVec 32 := Scalar.addi v307_r0 c8_i32_r0
  let v318_r0 : Index := Scalar.indexCast v314_r0
  let c0_412_r0 : Index := 0#32
  ![0, v318_r0.toNat, 0]
@[reducible] def k2_t116_loop : Scf.Loop 32 :=
  let c0_i32_325_r0 : BitVec 32 := 0#32
  let c64_i32_326_r0 : BitVec 32 := 64#32
  let v239_r0 : BitVec 32 := Scalar.addi c0_i32_325_r0 c64_i32_326_r0
  let c1_i32_327_r0 : BitVec 32 := 1#32
  ⟨c0_i32_325_r0, v239_r0, c1_i32_327_r0⟩
def k2_off369 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off370 (k2_t116 : Fin k2_t116_loop.trips) : Fin 3 → Nat :=
  let c0_i32_405_r0 : BitVec 32 := 0#32
  let v311_r0 : Index := Scalar.indexCast c0_i32_405_r0
  let c0_i32_403_r0 : BitVec 32 := 0#32
  let c0_i32_325_r0 : BitVec 32 := 0#32
  let c1_i32_327_r0 : BitVec 32 := 1#32
  let arg11_r0 : BitVec 32 := Scf.iv c0_i32_325_r0 c1_i32_327_r0 k2_t116
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m8_i32_r0 : BitVec 32 := 4294967288#32
  let v307_r0 : BitVec 32 := Scalar.andi v306_r0 c_m8_i32_r0
  let v308_r0 : BitVec 32 := Scalar.addi v306_r0 v307_r0
  let v312_r0 : Index := Scalar.indexCast v308_r0
  let c0_r0 : Index := 0#32
  ![0, v312_r0.toNat, 0]
def k2_off371 (k2_t116 : Fin k2_t116_loop.trips) : Fin 3 → Nat :=
  let c0_i32_409_r0 : BitVec 32 := 0#32
  let v318_r0 : Index := Scalar.indexCast c0_i32_409_r0
  let c0_i32_403_r0 : BitVec 32 := 0#32
  let c0_i32_325_r0 : BitVec 32 := 0#32
  let c1_i32_327_r0 : BitVec 32 := 1#32
  let arg11_r0 : BitVec 32 := Scf.iv c0_i32_325_r0 c1_i32_327_r0 k2_t116
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m8_i32_r0 : BitVec 32 := 4294967288#32
  let v307_r0 : BitVec 32 := Scalar.andi v306_r0 c_m8_i32_r0
  let v308_r0 : BitVec 32 := Scalar.addi v306_r0 v307_r0
  let c8_i32_r0 : BitVec 32 := 8#32
  let v315_r0 : BitVec 32 := Scalar.addi v308_r0 c8_i32_r0
  let v319_r0 : Index := Scalar.indexCast v315_r0
  let c0_413_r0 : Index := 0#32
  ![0, v319_r0.toNat, 0]
@[reducible] def k2_t117_loop : Scf.Loop 32 :=
  let c0_i32_329_r0 : BitVec 32 := 0#32
  let c64_i32_330_r0 : BitVec 32 := 64#32
  let v240_r0 : BitVec 32 := Scalar.addi c0_i32_329_r0 c64_i32_330_r0
  let c1_i32_331_r0 : BitVec 32 := 1#32
  ⟨c0_i32_329_r0, v240_r0, c1_i32_331_r0⟩
def k2_off372 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off373 (k2_t117 : Fin k2_t117_loop.trips) : Fin 3 → Nat :=
  let c0_i32_404_r0 : BitVec 32 := 0#32
  let v310_r0 : Index := Scalar.indexCast c0_i32_404_r0
  let c0_i32_403_r0 : BitVec 32 := 0#32
  let c0_i32_329_r0 : BitVec 32 := 0#32
  let c1_i32_331_r0 : BitVec 32 := 1#32
  let arg11_r0 : BitVec 32 := Scf.iv c0_i32_329_r0 c1_i32_331_r0 k2_t117
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let v311_r0 : Index := Scalar.indexCast v307_r0
  let c0_r0 : Index := 0#32
  ![0, v311_r0.toNat, 0]
def k2_off374 (k2_t117 : Fin k2_t117_loop.trips) : Fin 3 → Nat :=
  let c0_i32_409_r0 : BitVec 32 := 0#32
  let v317_r0 : Index := Scalar.indexCast c0_i32_409_r0
  let c0_i32_403_r0 : BitVec 32 := 0#32
  let c0_i32_329_r0 : BitVec 32 := 0#32
  let c1_i32_331_r0 : BitVec 32 := 1#32
  let arg11_r0 : BitVec 32 := Scf.iv c0_i32_329_r0 c1_i32_331_r0 k2_t117
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m4_i32_r0 : BitVec 32 := 4294967292#32
  let v306_r0 : BitVec 32 := Scalar.andi v305_r0 c_m4_i32_r0
  let v307_r0 : BitVec 32 := Scalar.addi v305_r0 v306_r0
  let c4_i32_408_r0 : BitVec 32 := 4#32
  let v314_r0 : BitVec 32 := Scalar.addi v307_r0 c4_i32_408_r0
  let v318_r0 : Index := Scalar.indexCast v314_r0
  let c0_413_r0 : Index := 0#32
  ![0, v318_r0.toNat, 0]
@[reducible] def k2_t118_loop : Scf.Loop 32 :=
  let c0_i32_333_r0 : BitVec 32 := 0#32
  let c64_i32_334_r0 : BitVec 32 := 64#32
  let v241_r0 : BitVec 32 := Scalar.addi c0_i32_333_r0 c64_i32_334_r0
  let c1_i32_335_r0 : BitVec 32 := 1#32
  ⟨c0_i32_333_r0, v241_r0, c1_i32_335_r0⟩
def k2_off375 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off376 (k2_t118 : Fin k2_t118_loop.trips) : Fin 3 → Nat :=
  let c0_i32_405_r0 : BitVec 32 := 0#32
  let v311_r0 : Index := Scalar.indexCast c0_i32_405_r0
  let c0_i32_403_r0 : BitVec 32 := 0#32
  let c0_i32_333_r0 : BitVec 32 := 0#32
  let c1_i32_335_r0 : BitVec 32 := 1#32
  let arg11_r0 : BitVec 32 := Scf.iv c0_i32_333_r0 c1_i32_335_r0 k2_t118
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m4_i32_r0 : BitVec 32 := 4294967292#32
  let v307_r0 : BitVec 32 := Scalar.andi v306_r0 c_m4_i32_r0
  let v308_r0 : BitVec 32 := Scalar.addi v306_r0 v307_r0
  let v312_r0 : Index := Scalar.indexCast v308_r0
  let c0_r0 : Index := 0#32
  ![0, v312_r0.toNat, 0]
def k2_off377 (k2_t118 : Fin k2_t118_loop.trips) : Fin 3 → Nat :=
  let c0_i32_410_r0 : BitVec 32 := 0#32
  let v318_r0 : Index := Scalar.indexCast c0_i32_410_r0
  let c0_i32_403_r0 : BitVec 32 := 0#32
  let c0_i32_333_r0 : BitVec 32 := 0#32
  let c1_i32_335_r0 : BitVec 32 := 1#32
  let arg11_r0 : BitVec 32 := Scf.iv c0_i32_333_r0 c1_i32_335_r0 k2_t118
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m4_i32_r0 : BitVec 32 := 4294967292#32
  let v307_r0 : BitVec 32 := Scalar.andi v306_r0 c_m4_i32_r0
  let v308_r0 : BitVec 32 := Scalar.addi v306_r0 v307_r0
  let c4_i32_409_r0 : BitVec 32 := 4#32
  let v315_r0 : BitVec 32 := Scalar.addi v308_r0 c4_i32_409_r0
  let v319_r0 : Index := Scalar.indexCast v315_r0
  let c0_414_r0 : Index := 0#32
  ![0, v319_r0.toNat, 0]
@[reducible] def k2_t119_loop : Scf.Loop 32 :=
  let c0_i32_337_r0 : BitVec 32 := 0#32
  let c64_i32_338_r0 : BitVec 32 := 64#32
  let v242_r0 : BitVec 32 := Scalar.addi c0_i32_337_r0 c64_i32_338_r0
  let c1_i32_339_r0 : BitVec 32 := 1#32
  ⟨c0_i32_337_r0, v242_r0, c1_i32_339_r0⟩
def k2_off378 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off379 (k2_t119 : Fin k2_t119_loop.trips) : Fin 3 → Nat :=
  let c0_i32_404_r0 : BitVec 32 := 0#32
  let v310_r0 : Index := Scalar.indexCast c0_i32_404_r0
  let c0_i32_403_r0 : BitVec 32 := 0#32
  let c0_i32_337_r0 : BitVec 32 := 0#32
  let c1_i32_339_r0 : BitVec 32 := 1#32
  let arg11_r0 : BitVec 32 := Scf.iv c0_i32_337_r0 c1_i32_339_r0 k2_t119
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let v311_r0 : Index := Scalar.indexCast v307_r0
  let c0_r0 : Index := 0#32
  ![0, v311_r0.toNat, 0]
def k2_off380 (k2_t119 : Fin k2_t119_loop.trips) : Fin 3 → Nat :=
  let c0_i32_409_r0 : BitVec 32 := 0#32
  let v317_r0 : Index := Scalar.indexCast c0_i32_409_r0
  let c0_i32_403_r0 : BitVec 32 := 0#32
  let c0_i32_337_r0 : BitVec 32 := 0#32
  let c1_i32_339_r0 : BitVec 32 := 1#32
  let arg11_r0 : BitVec 32 := Scf.iv c0_i32_337_r0 c1_i32_339_r0 k2_t119
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m2_i32_r0 : BitVec 32 := 4294967294#32
  let v306_r0 : BitVec 32 := Scalar.andi v305_r0 c_m2_i32_r0
  let v307_r0 : BitVec 32 := Scalar.addi v305_r0 v306_r0
  let c2_i32_408_r0 : BitVec 32 := 2#32
  let v314_r0 : BitVec 32 := Scalar.addi v307_r0 c2_i32_408_r0
  let v318_r0 : Index := Scalar.indexCast v314_r0
  let c0_413_r0 : Index := 0#32
  ![0, v318_r0.toNat, 0]
@[reducible] def k2_t120_loop : Scf.Loop 32 :=
  let c0_i32_341_r0 : BitVec 32 := 0#32
  let c64_i32_342_r0 : BitVec 32 := 64#32
  let v243_r0 : BitVec 32 := Scalar.addi c0_i32_341_r0 c64_i32_342_r0
  let c1_i32_343_r0 : BitVec 32 := 1#32
  ⟨c0_i32_341_r0, v243_r0, c1_i32_343_r0⟩
def k2_off381 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off382 (k2_t120 : Fin k2_t120_loop.trips) : Fin 3 → Nat :=
  let c0_i32_405_r0 : BitVec 32 := 0#32
  let v311_r0 : Index := Scalar.indexCast c0_i32_405_r0
  let c0_i32_403_r0 : BitVec 32 := 0#32
  let c0_i32_341_r0 : BitVec 32 := 0#32
  let c1_i32_343_r0 : BitVec 32 := 1#32
  let arg11_r0 : BitVec 32 := Scf.iv c0_i32_341_r0 c1_i32_343_r0 k2_t120
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m2_i32_r0 : BitVec 32 := 4294967294#32
  let v307_r0 : BitVec 32 := Scalar.andi v306_r0 c_m2_i32_r0
  let v308_r0 : BitVec 32 := Scalar.addi v306_r0 v307_r0
  let v312_r0 : Index := Scalar.indexCast v308_r0
  let c0_r0 : Index := 0#32
  ![0, v312_r0.toNat, 0]
def k2_off383 (k2_t120 : Fin k2_t120_loop.trips) : Fin 3 → Nat :=
  let c0_i32_410_r0 : BitVec 32 := 0#32
  let v318_r0 : Index := Scalar.indexCast c0_i32_410_r0
  let c0_i32_403_r0 : BitVec 32 := 0#32
  let c0_i32_341_r0 : BitVec 32 := 0#32
  let c1_i32_343_r0 : BitVec 32 := 1#32
  let arg11_r0 : BitVec 32 := Scf.iv c0_i32_341_r0 c1_i32_343_r0 k2_t120
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m2_i32_r0 : BitVec 32 := 4294967294#32
  let v307_r0 : BitVec 32 := Scalar.andi v306_r0 c_m2_i32_r0
  let v308_r0 : BitVec 32 := Scalar.addi v306_r0 v307_r0
  let c2_i32_409_r0 : BitVec 32 := 2#32
  let v315_r0 : BitVec 32 := Scalar.addi v308_r0 c2_i32_409_r0
  let v319_r0 : Index := Scalar.indexCast v315_r0
  let c0_414_r0 : Index := 0#32
  ![0, v319_r0.toNat, 0]
@[reducible] def k2_t121_loop : Scf.Loop 32 :=
  let c0_i32_345_r0 : BitVec 32 := 0#32
  let c64_i32_346_r0 : BitVec 32 := 64#32
  let v244_r0 : BitVec 32 := Scalar.addi c0_i32_345_r0 c64_i32_346_r0
  let c1_i32_347_r0 : BitVec 32 := 1#32
  ⟨c0_i32_345_r0, v244_r0, c1_i32_347_r0⟩
def k2_off384 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]
def k2_off385 (k2_t121 : Fin k2_t121_loop.trips) : Fin 3 → Nat :=
  let c0_i32_405_r0 : BitVec 32 := 0#32
  let v310_r0 : Index := Scalar.indexCast c0_i32_405_r0
  let c0_i32_403_r0 : BitVec 32 := 0#32
  let c0_i32_345_r0 : BitVec 32 := 0#32
  let c1_i32_347_r0 : BitVec 32 := 1#32
  let arg11_r0 : BitVec 32 := Scf.iv c0_i32_345_r0 c1_i32_347_r0 k2_t121
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let v311_r0 : Index := Scalar.indexCast v307_r0
  let c0_r0 : Index := 0#32
  ![0, v311_r0.toNat, 0]
def k2_off386 (k2_t121 : Fin k2_t121_loop.trips) : Fin 3 → Nat :=
  let c0_i32_410_r0 : BitVec 32 := 0#32
  let v317_r0 : Index := Scalar.indexCast c0_i32_410_r0
  let c0_i32_403_r0 : BitVec 32 := 0#32
  let c0_i32_345_r0 : BitVec 32 := 0#32
  let c1_i32_347_r0 : BitVec 32 := 1#32
  let arg11_r0 : BitVec 32 := Scf.iv c0_i32_345_r0 c1_i32_347_r0 k2_t121
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c_m1_i32_404_r0 : BitVec 32 := 4294967295#32
  let v306_r0 : BitVec 32 := Scalar.andi v305_r0 c_m1_i32_404_r0
  let v307_r0 : BitVec 32 := Scalar.addi v305_r0 v306_r0
  let c1_i32_409_r0 : BitVec 32 := 1#32
  let v314_r0 : BitVec 32 := Scalar.addi v307_r0 c1_i32_409_r0
  let v318_r0 : Index := Scalar.indexCast v314_r0
  let c0_414_r0 : Index := 0#32
  ![0, v318_r0.toNat, 0]
@[reducible] def k2_t122_loop : Scf.Loop 32 :=
  let c0_i32_349_r0 : BitVec 32 := 0#32
  let c64_i32_350_r0 : BitVec 32 := 64#32
  let v245_r0 : BitVec 32 := Scalar.addi c0_i32_349_r0 c64_i32_350_r0
  let c1_i32_351_r0 : BitVec 32 := 1#32
  ⟨c0_i32_349_r0, v245_r0, c1_i32_351_r0⟩
def k2_off387 (arg7_r0 : BitVec 32) : Fin 4 → Nat :=
  let c2_i32_129_r0 : BitVec 32 := 2#32
  let v189_r0 : BitVec 32 := Scalar.remui arg7_r0 c2_i32_129_r0
  let c0_i32_407_r0 : BitVec 32 := 0#32
  let c0_i32_408_r0 : BitVec 32 := 0#32
  let c0_i32_409_r0 : BitVec 32 := 0#32
  ![v189_r0.toNat, 0, 0, 0]
def k2_off388 (k2_t122 : Fin k2_t122_loop.trips) : Fin 3 → Nat :=
  let c0_i32_406_r0 : BitVec 32 := 0#32
  let v311_r0 : Index := Scalar.indexCast c0_i32_406_r0
  let c0_i32_403_r0 : BitVec 32 := 0#32
  let c0_i32_349_r0 : BitVec 32 := 0#32
  let c1_i32_351_r0 : BitVec 32 := 1#32
  let arg11_r0 : BitVec 32 := Scf.iv c0_i32_349_r0 c1_i32_351_r0 k2_t122
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m1_i32_405_r0 : BitVec 32 := 4294967295#32
  let v307_r0 : BitVec 32 := Scalar.andi v306_r0 c_m1_i32_405_r0
  let v308_r0 : BitVec 32 := Scalar.addi v306_r0 v307_r0
  let v312_r0 : Index := Scalar.indexCast v308_r0
  let c0_r0 : Index := 0#32
  ![0, v312_r0.toNat, 0]
def k2_off389 (k2_t122 : Fin k2_t122_loop.trips) : Fin 3 → Nat :=
  let c0_i32_411_r0 : BitVec 32 := 0#32
  let v318_r0 : Index := Scalar.indexCast c0_i32_411_r0
  let c0_i32_403_r0 : BitVec 32 := 0#32
  let c0_i32_349_r0 : BitVec 32 := 0#32
  let c1_i32_351_r0 : BitVec 32 := 1#32
  let arg11_r0 : BitVec 32 := Scf.iv c0_i32_349_r0 c1_i32_351_r0 k2_t122
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_404_r0 : BitVec 32 := 64#32
  let v306_r0 : BitVec 32 := Scalar.addi v305_r0 c64_i32_404_r0
  let c_m1_i32_405_r0 : BitVec 32 := 4294967295#32
  let v307_r0 : BitVec 32 := Scalar.andi v306_r0 c_m1_i32_405_r0
  let v308_r0 : BitVec 32 := Scalar.addi v306_r0 v307_r0
  let c1_i32_410_r0 : BitVec 32 := 1#32
  let v315_r0 : BitVec 32 := Scalar.addi v308_r0 c1_i32_410_r0
  let v319_r0 : Index := Scalar.indexCast v315_r0
  let c0_415_r0 : Index := 0#32
  ![0, v319_r0.toNat, 0]
@[reducible] def k2_t123_loop : Scf.Loop 32 :=
  let c0_i32_353_r0 : BitVec 32 := 0#32
  let c128_i32_r0 : BitVec 32 := 128#32
  let v246_r0 : BitVec 32 := Scalar.addi c0_i32_353_r0 c128_i32_r0
  let c1_i32_354_r0 : BitVec 32 := 1#32
  ⟨c0_i32_353_r0, v246_r0, c1_i32_354_r0⟩
def k2_off390 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off391 (k2_t123 : Fin k2_t123_loop.trips) : Fin 3 → Nat :=
  let c0_i32_404_r0 : BitVec 32 := 0#32
  let v308_r0 : Index := Scalar.indexCast c0_i32_404_r0
  let c0_i32_403_r0 : BitVec 32 := 0#32
  let c0_i32_353_r0 : BitVec 32 := 0#32
  let c1_i32_354_r0 : BitVec 32 := 1#32
  let arg11_r0 : BitVec 32 := Scf.iv c0_i32_353_r0 c1_i32_354_r0 k2_t123
  let c1_i32_402_r0 : BitVec 32 := 1#32
  let v302_r0 : BitVec 32 := Scalar.muli arg11_r0 c1_i32_402_r0
  let v303_r0 : BitVec 32 := Scalar.addi c0_i32_403_r0 v302_r0
  let c_m128_i32_r0 : BitVec 32 := 4294967168#32
  let v304_r0 : BitVec 32 := Scalar.andi v303_r0 c_m128_i32_r0
  let v305_r0 : BitVec 32 := Scalar.addi v303_r0 v304_r0
  let v309_r0 : Index := Scalar.indexCast v305_r0
  let c0_r0 : Index := 0#32
  ![0, v309_r0.toNat, 0]
def k2_off392 (k2_t123 : Fin k2_t123_loop.trips) : Fin 3 → Nat :=
  let c0_i32_409_r0 : BitVec 32 := 0#32
  let v315_r0 : Index := Scalar.indexCast c0_i32_409_r0
  let c0_i32_403_r0 : BitVec 32 := 0#32
  let c0_i32_353_r0 : BitVec 32 := 0#32
  let c1_i32_354_r0 : BitVec 32 := 1#32
  let arg11_r0 : BitVec 32 := Scf.iv c0_i32_353_r0 c1_i32_354_r0 k2_t123
  let c1_i32_402_r0 : BitVec 32 := 1#32
  let v302_r0 : BitVec 32 := Scalar.muli arg11_r0 c1_i32_402_r0
  let v303_r0 : BitVec 32 := Scalar.addi c0_i32_403_r0 v302_r0
  let c_m128_i32_r0 : BitVec 32 := 4294967168#32
  let v304_r0 : BitVec 32 := Scalar.andi v303_r0 c_m128_i32_r0
  let v305_r0 : BitVec 32 := Scalar.addi v303_r0 v304_r0
  let c128_i32_408_r0 : BitVec 32 := 128#32
  let v312_r0 : BitVec 32 := Scalar.addi v305_r0 c128_i32_408_r0
  let v316_r0 : Index := Scalar.indexCast v312_r0
  let c0_413_r0 : Index := 0#32
  ![0, v316_r0.toNat, 0]
@[reducible] def k2_t124_loop : Scf.Loop 32 :=
  let c0_i32_356_r0 : BitVec 32 := 0#32
  let c128_i32_357_r0 : BitVec 32 := 128#32
  let v247_r0 : BitVec 32 := Scalar.addi c0_i32_356_r0 c128_i32_357_r0
  let c1_i32_358_r0 : BitVec 32 := 1#32
  ⟨c0_i32_356_r0, v247_r0, c1_i32_358_r0⟩
def k2_off393 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off394 (k2_t124 : Fin k2_t124_loop.trips) : Fin 3 → Nat :=
  let c0_i32_404_r0 : BitVec 32 := 0#32
  let v308_r0 : Index := Scalar.indexCast c0_i32_404_r0
  let c0_i32_403_r0 : BitVec 32 := 0#32
  let c0_i32_356_r0 : BitVec 32 := 0#32
  let c1_i32_358_r0 : BitVec 32 := 1#32
  let arg11_r0 : BitVec 32 := Scf.iv c0_i32_356_r0 c1_i32_358_r0 k2_t124
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let v309_r0 : Index := Scalar.indexCast v305_r0
  let c0_r0 : Index := 0#32
  ![0, v309_r0.toNat, 0]
def k2_off395 (k2_t124 : Fin k2_t124_loop.trips) : Fin 3 → Nat :=
  let c0_i32_409_r0 : BitVec 32 := 0#32
  let v315_r0 : Index := Scalar.indexCast c0_i32_409_r0
  let c0_i32_403_r0 : BitVec 32 := 0#32
  let c0_i32_356_r0 : BitVec 32 := 0#32
  let c1_i32_358_r0 : BitVec 32 := 1#32
  let arg11_r0 : BitVec 32 := Scf.iv c0_i32_356_r0 c1_i32_358_r0 k2_t124
  let c1_i32_402_r0 : BitVec 32 := 1#32
  let v302_r0 : BitVec 32 := Scalar.muli arg11_r0 c1_i32_402_r0
  let v303_r0 : BitVec 32 := Scalar.addi c0_i32_403_r0 v302_r0
  let c_m64_i32_r0 : BitVec 32 := 4294967232#32
  let v304_r0 : BitVec 32 := Scalar.andi v303_r0 c_m64_i32_r0
  let v305_r0 : BitVec 32 := Scalar.addi v303_r0 v304_r0
  let c64_i32_408_r0 : BitVec 32 := 64#32
  let v312_r0 : BitVec 32 := Scalar.addi v305_r0 c64_i32_408_r0
  let v316_r0 : Index := Scalar.indexCast v312_r0
  let c0_413_r0 : Index := 0#32
  ![0, v316_r0.toNat, 0]
@[reducible] def k2_t125_loop : Scf.Loop 32 :=
  let c0_i32_360_r0 : BitVec 32 := 0#32
  let c128_i32_361_r0 : BitVec 32 := 128#32
  let v248_r0 : BitVec 32 := Scalar.addi c0_i32_360_r0 c128_i32_361_r0
  let c1_i32_362_r0 : BitVec 32 := 1#32
  ⟨c0_i32_360_r0, v248_r0, c1_i32_362_r0⟩
def k2_off396 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off397 (k2_t125 : Fin k2_t125_loop.trips) : Fin 3 → Nat :=
  let c0_i32_404_r0 : BitVec 32 := 0#32
  let v308_r0 : Index := Scalar.indexCast c0_i32_404_r0
  let c0_i32_403_r0 : BitVec 32 := 0#32
  let c0_i32_360_r0 : BitVec 32 := 0#32
  let c1_i32_362_r0 : BitVec 32 := 1#32
  let arg11_r0 : BitVec 32 := Scf.iv c0_i32_360_r0 c1_i32_362_r0 k2_t125
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let v309_r0 : Index := Scalar.indexCast v305_r0
  let c0_r0 : Index := 0#32
  ![0, v309_r0.toNat, 0]
def k2_off398 (k2_t125 : Fin k2_t125_loop.trips) : Fin 3 → Nat :=
  let c0_i32_408_r0 : BitVec 32 := 0#32
  let v315_r0 : Index := Scalar.indexCast c0_i32_408_r0
  let c0_i32_403_r0 : BitVec 32 := 0#32
  let c0_i32_360_r0 : BitVec 32 := 0#32
  let c1_i32_362_r0 : BitVec 32 := 1#32
  let arg11_r0 : BitVec 32 := Scf.iv c0_i32_360_r0 c1_i32_362_r0 k2_t125
  let c1_i32_402_r0 : BitVec 32 := 1#32
  let v302_r0 : BitVec 32 := Scalar.muli arg11_r0 c1_i32_402_r0
  let v303_r0 : BitVec 32 := Scalar.addi c0_i32_403_r0 v302_r0
  let c_m32_i32_r0 : BitVec 32 := 4294967264#32
  let v304_r0 : BitVec 32 := Scalar.andi v303_r0 c_m32_i32_r0
  let v305_r0 : BitVec 32 := Scalar.addi v303_r0 v304_r0
  let c32_i32_r0 : BitVec 32 := 32#32
  let v312_r0 : BitVec 32 := Scalar.addi v305_r0 c32_i32_r0
  let v316_r0 : Index := Scalar.indexCast v312_r0
  let c0_412_r0 : Index := 0#32
  ![0, v316_r0.toNat, 0]
@[reducible] def k2_t126_loop : Scf.Loop 32 :=
  let c0_i32_364_r0 : BitVec 32 := 0#32
  let c128_i32_365_r0 : BitVec 32 := 128#32
  let v249_r0 : BitVec 32 := Scalar.addi c0_i32_364_r0 c128_i32_365_r0
  let c1_i32_366_r0 : BitVec 32 := 1#32
  ⟨c0_i32_364_r0, v249_r0, c1_i32_366_r0⟩
def k2_off399 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off400 (k2_t126 : Fin k2_t126_loop.trips) : Fin 3 → Nat :=
  let c0_i32_404_r0 : BitVec 32 := 0#32
  let v308_r0 : Index := Scalar.indexCast c0_i32_404_r0
  let c0_i32_403_r0 : BitVec 32 := 0#32
  let c0_i32_364_r0 : BitVec 32 := 0#32
  let c1_i32_366_r0 : BitVec 32 := 1#32
  let arg11_r0 : BitVec 32 := Scf.iv c0_i32_364_r0 c1_i32_366_r0 k2_t126
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let v309_r0 : Index := Scalar.indexCast v305_r0
  let c0_r0 : Index := 0#32
  ![0, v309_r0.toNat, 0]
def k2_off401 (k2_t126 : Fin k2_t126_loop.trips) : Fin 3 → Nat :=
  let c0_i32_409_r0 : BitVec 32 := 0#32
  let v315_r0 : Index := Scalar.indexCast c0_i32_409_r0
  let c0_i32_403_r0 : BitVec 32 := 0#32
  let c0_i32_364_r0 : BitVec 32 := 0#32
  let c1_i32_366_r0 : BitVec 32 := 1#32
  let arg11_r0 : BitVec 32 := Scf.iv c0_i32_364_r0 c1_i32_366_r0 k2_t126
  let c1_i32_402_r0 : BitVec 32 := 1#32
  let v302_r0 : BitVec 32 := Scalar.muli arg11_r0 c1_i32_402_r0
  let v303_r0 : BitVec 32 := Scalar.addi c0_i32_403_r0 v302_r0
  let c_m16_i32_r0 : BitVec 32 := 4294967280#32
  let v304_r0 : BitVec 32 := Scalar.andi v303_r0 c_m16_i32_r0
  let v305_r0 : BitVec 32 := Scalar.addi v303_r0 v304_r0
  let c16_i32_408_r0 : BitVec 32 := 16#32
  let v312_r0 : BitVec 32 := Scalar.addi v305_r0 c16_i32_408_r0
  let v316_r0 : Index := Scalar.indexCast v312_r0
  let c0_413_r0 : Index := 0#32
  ![0, v316_r0.toNat, 0]
@[reducible] def k2_t127_loop : Scf.Loop 32 :=
  let c0_i32_368_r0 : BitVec 32 := 0#32
  let c128_i32_369_r0 : BitVec 32 := 128#32
  let v250_r0 : BitVec 32 := Scalar.addi c0_i32_368_r0 c128_i32_369_r0
  let c1_i32_370_r0 : BitVec 32 := 1#32
  ⟨c0_i32_368_r0, v250_r0, c1_i32_370_r0⟩
def k2_off402 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off403 (k2_t127 : Fin k2_t127_loop.trips) : Fin 3 → Nat :=
  let c0_i32_404_r0 : BitVec 32 := 0#32
  let v308_r0 : Index := Scalar.indexCast c0_i32_404_r0
  let c0_i32_403_r0 : BitVec 32 := 0#32
  let c0_i32_368_r0 : BitVec 32 := 0#32
  let c1_i32_370_r0 : BitVec 32 := 1#32
  let arg11_r0 : BitVec 32 := Scf.iv c0_i32_368_r0 c1_i32_370_r0 k2_t127
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let v309_r0 : Index := Scalar.indexCast v305_r0
  let c0_r0 : Index := 0#32
  ![0, v309_r0.toNat, 0]
def k2_off404 (k2_t127 : Fin k2_t127_loop.trips) : Fin 3 → Nat :=
  let c0_i32_408_r0 : BitVec 32 := 0#32
  let v315_r0 : Index := Scalar.indexCast c0_i32_408_r0
  let c0_i32_403_r0 : BitVec 32 := 0#32
  let c0_i32_368_r0 : BitVec 32 := 0#32
  let c1_i32_370_r0 : BitVec 32 := 1#32
  let arg11_r0 : BitVec 32 := Scf.iv c0_i32_368_r0 c1_i32_370_r0 k2_t127
  let c1_i32_402_r0 : BitVec 32 := 1#32
  let v302_r0 : BitVec 32 := Scalar.muli arg11_r0 c1_i32_402_r0
  let v303_r0 : BitVec 32 := Scalar.addi c0_i32_403_r0 v302_r0
  let c_m8_i32_r0 : BitVec 32 := 4294967288#32
  let v304_r0 : BitVec 32 := Scalar.andi v303_r0 c_m8_i32_r0
  let v305_r0 : BitVec 32 := Scalar.addi v303_r0 v304_r0
  let c8_i32_r0 : BitVec 32 := 8#32
  let v312_r0 : BitVec 32 := Scalar.addi v305_r0 c8_i32_r0
  let v316_r0 : Index := Scalar.indexCast v312_r0
  let c0_412_r0 : Index := 0#32
  ![0, v316_r0.toNat, 0]
@[reducible] def k2_t128_loop : Scf.Loop 32 :=
  let c0_i32_372_r0 : BitVec 32 := 0#32
  let c128_i32_373_r0 : BitVec 32 := 128#32
  let v251_r0 : BitVec 32 := Scalar.addi c0_i32_372_r0 c128_i32_373_r0
  let c1_i32_374_r0 : BitVec 32 := 1#32
  ⟨c0_i32_372_r0, v251_r0, c1_i32_374_r0⟩
def k2_off405 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off406 (k2_t128 : Fin k2_t128_loop.trips) : Fin 3 → Nat :=
  let c0_i32_404_r0 : BitVec 32 := 0#32
  let v308_r0 : Index := Scalar.indexCast c0_i32_404_r0
  let c0_i32_403_r0 : BitVec 32 := 0#32
  let c0_i32_372_r0 : BitVec 32 := 0#32
  let c1_i32_374_r0 : BitVec 32 := 1#32
  let arg11_r0 : BitVec 32 := Scf.iv c0_i32_372_r0 c1_i32_374_r0 k2_t128
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let v309_r0 : Index := Scalar.indexCast v305_r0
  let c0_r0 : Index := 0#32
  ![0, v309_r0.toNat, 0]
def k2_off407 (k2_t128 : Fin k2_t128_loop.trips) : Fin 3 → Nat :=
  let c0_i32_409_r0 : BitVec 32 := 0#32
  let v315_r0 : Index := Scalar.indexCast c0_i32_409_r0
  let c0_i32_403_r0 : BitVec 32 := 0#32
  let c0_i32_372_r0 : BitVec 32 := 0#32
  let c1_i32_374_r0 : BitVec 32 := 1#32
  let arg11_r0 : BitVec 32 := Scf.iv c0_i32_372_r0 c1_i32_374_r0 k2_t128
  let c1_i32_402_r0 : BitVec 32 := 1#32
  let v302_r0 : BitVec 32 := Scalar.muli arg11_r0 c1_i32_402_r0
  let v303_r0 : BitVec 32 := Scalar.addi c0_i32_403_r0 v302_r0
  let c_m4_i32_r0 : BitVec 32 := 4294967292#32
  let v304_r0 : BitVec 32 := Scalar.andi v303_r0 c_m4_i32_r0
  let v305_r0 : BitVec 32 := Scalar.addi v303_r0 v304_r0
  let c4_i32_408_r0 : BitVec 32 := 4#32
  let v312_r0 : BitVec 32 := Scalar.addi v305_r0 c4_i32_408_r0
  let v316_r0 : Index := Scalar.indexCast v312_r0
  let c0_413_r0 : Index := 0#32
  ![0, v316_r0.toNat, 0]
@[reducible] def k2_t129_loop : Scf.Loop 32 :=
  let c0_i32_376_r0 : BitVec 32 := 0#32
  let c128_i32_377_r0 : BitVec 32 := 128#32
  let v252_r0 : BitVec 32 := Scalar.addi c0_i32_376_r0 c128_i32_377_r0
  let c1_i32_378_r0 : BitVec 32 := 1#32
  ⟨c0_i32_376_r0, v252_r0, c1_i32_378_r0⟩
def k2_off408 (arg7_r0 : BitVec 32) : Fin 4 → Nat :=
  let c2_i32_129_r0 : BitVec 32 := 2#32
  let v189_r0 : BitVec 32 := Scalar.remui arg7_r0 c2_i32_129_r0
  let c0_i32_405_r0 : BitVec 32 := 0#32
  let c0_i32_406_r0 : BitVec 32 := 0#32
  let c0_i32_407_r0 : BitVec 32 := 0#32
  ![v189_r0.toNat, 0, 0, 0]
def k2_off409 (k2_t129 : Fin k2_t129_loop.trips) : Fin 3 → Nat :=
  let c0_i32_404_r0 : BitVec 32 := 0#32
  let v308_r0 : Index := Scalar.indexCast c0_i32_404_r0
  let c0_i32_403_r0 : BitVec 32 := 0#32
  let c0_i32_376_r0 : BitVec 32 := 0#32
  let c1_i32_378_r0 : BitVec 32 := 1#32
  let arg11_r0 : BitVec 32 := Scf.iv c0_i32_376_r0 c1_i32_378_r0 k2_t129
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let v309_r0 : Index := Scalar.indexCast v305_r0
  let c0_r0 : Index := 0#32
  ![0, v309_r0.toNat, 0]
def k2_off410 (k2_t129 : Fin k2_t129_loop.trips) : Fin 3 → Nat :=
  let c0_i32_409_r0 : BitVec 32 := 0#32
  let v315_r0 : Index := Scalar.indexCast c0_i32_409_r0
  let c0_i32_403_r0 : BitVec 32 := 0#32
  let c0_i32_376_r0 : BitVec 32 := 0#32
  let c1_i32_378_r0 : BitVec 32 := 1#32
  let arg11_r0 : BitVec 32 := Scf.iv c0_i32_376_r0 c1_i32_378_r0 k2_t129
  let c1_i32_402_r0 : BitVec 32 := 1#32
  let v302_r0 : BitVec 32 := Scalar.muli arg11_r0 c1_i32_402_r0
  let v303_r0 : BitVec 32 := Scalar.addi c0_i32_403_r0 v302_r0
  let c_m2_i32_r0 : BitVec 32 := 4294967294#32
  let v304_r0 : BitVec 32 := Scalar.andi v303_r0 c_m2_i32_r0
  let v305_r0 : BitVec 32 := Scalar.addi v303_r0 v304_r0
  let c2_i32_408_r0 : BitVec 32 := 2#32
  let v312_r0 : BitVec 32 := Scalar.addi v305_r0 c2_i32_408_r0
  let v316_r0 : Index := Scalar.indexCast v312_r0
  let c0_413_r0 : Index := 0#32
  ![0, v316_r0.toNat, 0]
@[reducible] def k2_t130_loop : Scf.Loop 32 :=
  let c0_i32_380_r0 : BitVec 32 := 0#32
  let c128_i32_381_r0 : BitVec 32 := 128#32
  let v253_r0 : BitVec 32 := Scalar.addi c0_i32_380_r0 c128_i32_381_r0
  let c1_i32_382_r0 : BitVec 32 := 1#32
  ⟨c0_i32_380_r0, v253_r0, c1_i32_382_r0⟩
def k2_off411 (arg7_r0 : BitVec 32) : Fin 4 → Nat :=
  let c2_i32_129_r0 : BitVec 32 := 2#32
  let v189_r0 : BitVec 32 := Scalar.remui arg7_r0 c2_i32_129_r0
  let c0_i32_406_r0 : BitVec 32 := 0#32
  let c0_i32_407_r0 : BitVec 32 := 0#32
  let c0_i32_408_r0 : BitVec 32 := 0#32
  ![v189_r0.toNat, 0, 0, 0]

def k2_chk6_0 (i : grid2.Coords) (k2_t66 : Fin (k2_t66_loop i).trips) (arg7_r0 : BitVec 32) : Prop :=
  (∀ (k2_h1 : k2_cond1 i = 1#1), ∀ a, (k2_off221 arg7_r0) a + S1x1x256x16.size a ≤ S2x1x256x16.size a) ∧
  (∀ (k2_h1 : k2_cond1 i = 1#1), ∀ a, (k2_off227 arg7_r0) a + S1x1x256x16.size a ≤ S2x1x256x16.size a) ∧
  (∀ (k2_h1 : k2_cond1 i = 1#1), ∀ a, (k2_off228 arg7_r0) a + S1x1x256x16.size a ≤ S2x1x256x16.size a) ∧
  (∀ (k2_h1 : k2_cond1 i = 1#1), ∀ a, (k2_off231 arg7_r0) a + S1x1x256x16.size a ≤ S2x1x256x16.size a) ∧
  (∀ (k2_h1 : k2_cond1 i = 1#1), ∀ a, (k2_off234 arg7_r0) a + S1x1x256x16.size a ≤ S2x1x256x16.size a) ∧
  (∀ (k2_h1 : k2_cond1 i = 1#1), ∀ a, (k2_off237 arg7_r0) a + S1x1x256x16.size a ≤ S2x1x256x16.size a) ∧
  (∀ (k2_h1 : k2_cond1 i = 1#1), ∀ a, (k2_off240 arg7_r0) a + S1x1x256x16.size a ≤ S2x1x256x16.size a) ∧
  (∀ (k2_h1 : k2_cond1 i = 1#1), ∀ a, (k2_off243 arg7_r0) a + S1x1x256x16.size a ≤ S2x1x256x16.size a) ∧
  (∀ (k2_h1 : k2_cond1 i = 1#1), ∀ a, (k2_off246 arg7_r0) a + S1x1x256x16.size a ≤ S2x1x256x16.size a) ∧
  (∀ (k2_h1 : k2_cond1 i = 1#1), ∀ a, (k2_off249 arg7_r0) a + S1x1x256x16.size a ≤ S2x1x256x16.size a) ∧
  (∀ (k2_h1 : k2_cond1 i = 1#1), ∀ a, (k2_off252 arg7_r0) a + S1x1x256x16.size a ≤ S2x1x256x16.size a) ∧
  (∀ (k2_h1 : k2_cond1 i = 1#1), ∀ a, (k2_off255 arg7_r0) a + S1x1x256x16.size a ≤ S2x1x256x16.size a) ∧
  (∀ (k2_h1 : k2_cond1 i = 1#1), ∀ a, (k2_off258 arg7_r0) a + S1x1x256x16.size a ≤ S2x1x256x16.size a) ∧
  (∀ (k2_h1 : k2_cond1 i = 1#1), ∀ a, (k2_off261 arg7_r0) a + S1x1x256x16.size a ≤ S2x1x256x16.size a) ∧
  (∀ (k2_h1 : k2_cond1 i = 1#1), ∀ a, (k2_off264 arg7_r0) a + S1x1x256x16.size a ≤ S2x1x256x16.size a) ∧
  (∀ (k2_h1 : k2_cond1 i = 1#1), ∀ a, (k2_off267 arg7_r0) a + S1x1x256x16.size a ≤ S2x1x256x16.size a) ∧
  (∀ (k2_h1 : k2_cond1 i = 1#1), ∀ a, (k2_off270 arg7_r0) a + S1x1x256x16.size a ≤ S2x1x256x16.size a) ∧
  (∀ (k2_h1 : k2_cond1 i = 1#1), ∀ a, (k2_off273 arg7_r0) a + S1x1x256x16.size a ≤ S2x1x256x16.size a) ∧
  (∀ (k2_h1 : k2_cond1 i = 1#1), ∀ a, (k2_off276 arg7_r0) a + S1x1x256x16.size a ≤ S2x1x256x16.size a) ∧
  (∀ (k2_h1 : k2_cond1 i = 1#1), ∀ a, (k2_off279 arg7_r0) a + S1x1x256x16.size a ≤ S2x1x256x16.size a) ∧
  (∀ (k2_h1 : k2_cond1 i = 1#1), ∀ a, (k2_off282 arg7_r0) a + S1x1x256x16.size a ≤ S2x1x256x16.size a) ∧
  (∀ (k2_h1 : k2_cond1 i = 1#1), ∀ a, (k2_off285 arg7_r0) a + S1x1x256x16.size a ≤ S2x1x256x16.size a) ∧
  (∀ (k2_h1 : k2_cond1 i = 1#1), ∀ a, (k2_off288 arg7_r0) a + S1x1x256x16.size a ≤ S2x1x256x16.size a) ∧
  (∀ (k2_h1 : k2_cond1 i = 1#1), ∀ a, (k2_off291 arg7_r0) a + S1x1x256x16.size a ≤ S2x1x256x16.size a) ∧
  (∀ (k2_h1 : k2_cond1 i = 1#1), ∀ a, (k2_off294 arg7_r0) a + S1x1x256x16.size a ≤ S2x1x256x16.size a) ∧
  (∀ (k2_h1 : k2_cond1 i = 1#1), ∀ a, (k2_off297 arg7_r0) a + S1x1x256x16.size a ≤ S2x1x256x16.size a) ∧
  (∀ (k2_h1 : k2_cond1 i = 1#1), ∀ a, (k2_off300 arg7_r0) a + S1x1x256x16.size a ≤ S2x1x256x16.size a) ∧
  (∀ (k2_h1 : k2_cond1 i = 1#1), ∀ a, (k2_off303 arg7_r0) a + S1x1x256x16.size a ≤ S2x1x256x16.size a) ∧
  (∀ (k2_h1 : k2_cond1 i = 1#1), ∀ a, (k2_off306 arg7_r0) a + S1x1x256x16.size a ≤ S2x1x256x16.size a) ∧
  (∀ (k2_h1 : k2_cond1 i = 1#1), ∀ a, (k2_off309 arg7_r0) a + S1x1x256x16.size a ≤ S2x1x256x16.size a) ∧
  (∀ (k2_h1 : k2_cond1 i = 1#1), ∀ a, (k2_off312 arg7_r0) a + S1x1x256x16.size a ≤ S2x1x256x16.size a) ∧
  (∀ (k2_h1 : k2_cond1 i = 1#1), ∀ a, (k2_off315 arg7_r0) a + S1x1x256x16.size a ≤ S2x1x256x16.size a)
def k2_chk6_1 (i : grid2.Coords) (k2_t66 : Fin (k2_t66_loop i).trips) (arg7_r0 : BitVec 32) : Prop :=
  (∀ (k2_h1 : k2_cond1 i = 1#1), ∀ a, (k2_off318 arg7_r0) a + S1x1x256x16.size a ≤ S2x1x256x16.size a) ∧
  (∀ (k2_h1 : k2_cond1 i = 1#1), ∀ a, (k2_off321 arg7_r0) a + S1x1x256x16.size a ≤ S2x1x256x16.size a) ∧
  (∀ (k2_h1 : k2_cond1 i = 1#1), ∀ a, (k2_off324 arg7_r0) a + S1x1x256x16.size a ≤ S2x1x256x16.size a) ∧
  (∀ (k2_h1 : k2_cond1 i = 1#1), ∀ a, (k2_off327 arg7_r0) a + S1x1x256x16.size a ≤ S2x1x256x16.size a) ∧
  (∀ (k2_h1 : k2_cond1 i = 1#1), ∀ a, (k2_off330 arg7_r0) a + S1x1x256x16.size a ≤ S2x1x256x16.size a) ∧
  (∀ (k2_h1 : k2_cond1 i = 1#1), ∀ a, (k2_off333 arg7_r0) a + S1x1x256x16.size a ≤ S2x1x256x16.size a) ∧
  (∀ (k2_h1 : k2_cond1 i = 1#1), ∀ a, (k2_off336 arg7_r0) a + S1x1x256x16.size a ≤ S2x1x256x16.size a) ∧
  (∀ (k2_h1 : k2_cond1 i = 1#1), ∀ a, (k2_off339 arg7_r0) a + S1x1x256x16.size a ≤ S2x1x256x16.size a) ∧
  (∀ (k2_h1 : k2_cond1 i = 1#1), ∀ a, (k2_off342 arg7_r0) a + S1x1x256x16.size a ≤ S2x1x256x16.size a) ∧
  (∀ (k2_h1 : k2_cond1 i = 1#1), ∀ a, (k2_off345 arg7_r0) a + S1x1x256x16.size a ≤ S2x1x256x16.size a) ∧
  (∀ (k2_h1 : k2_cond1 i = 1#1), ∀ a, (k2_off348 arg7_r0) a + S1x1x256x16.size a ≤ S2x1x256x16.size a) ∧
  (∀ (k2_h1 : k2_cond1 i = 1#1), ∀ a, (k2_off351 arg7_r0) a + S1x1x256x16.size a ≤ S2x1x256x16.size a) ∧
  (∀ (k2_h1 : k2_cond1 i = 1#1), ∀ a, (k2_off354 arg7_r0) a + S1x1x256x16.size a ≤ S2x1x256x16.size a) ∧
  (∀ (k2_h1 : k2_cond1 i = 1#1), ∀ a, (k2_off357 arg7_r0) a + S1x1x256x16.size a ≤ S2x1x256x16.size a) ∧
  (∀ (k2_h1 : k2_cond1 i = 1#1), ∀ a, (k2_off360 arg7_r0) a + S1x1x256x16.size a ≤ S2x1x256x16.size a) ∧
  (∀ (k2_h1 : k2_cond1 i = 1#1), ∀ a, (k2_off363 arg7_r0) a + S1x1x256x16.size a ≤ S2x1x256x16.size a) ∧
  (∀ (k2_h1 : k2_cond1 i = 1#1), ∀ a, (k2_off366 arg7_r0) a + S1x1x256x16.size a ≤ S2x1x256x16.size a) ∧
  (∀ (k2_h1 : k2_cond1 i = 1#1), ∀ a, (k2_off369 arg7_r0) a + S1x1x256x16.size a ≤ S2x1x256x16.size a) ∧
  (∀ (k2_h1 : k2_cond1 i = 1#1), ∀ a, (k2_off372 arg7_r0) a + S1x1x256x16.size a ≤ S2x1x256x16.size a) ∧
  (∀ (k2_h1 : k2_cond1 i = 1#1), ∀ a, (k2_off375 arg7_r0) a + S1x1x256x16.size a ≤ S2x1x256x16.size a) ∧
  (∀ (k2_h1 : k2_cond1 i = 1#1), ∀ a, (k2_off378 arg7_r0) a + S1x1x256x16.size a ≤ S2x1x256x16.size a) ∧
  (∀ (k2_h1 : k2_cond1 i = 1#1), ∀ a, (k2_off381 arg7_r0) a + S1x1x256x16.size a ≤ S2x1x256x16.size a) ∧
  (∀ (k2_h1 : k2_cond1 i = 1#1), ∀ a, (k2_off384 arg7_r0) a + S1x1x256x16.size a ≤ S2x1x256x16.size a) ∧
  (∀ (k2_h1 : k2_cond1 i = 1#1), ∀ a, (k2_off387 arg7_r0) a + S1x1x256x16.size a ≤ S2x1x256x16.size a) ∧
  (∀ (k2_h1 : k2_cond1 i = 1#1), ∀ a, (k2_off390 arg7_r0) a + S1x1x256x16.size a ≤ S2x1x256x16.size a) ∧
  (∀ (k2_h1 : k2_cond1 i = 1#1), ∀ a, (k2_off393 arg7_r0) a + S1x1x256x16.size a ≤ S2x1x256x16.size a) ∧
  (∀ (k2_h1 : k2_cond1 i = 1#1), ∀ a, (k2_off396 arg7_r0) a + S1x1x256x16.size a ≤ S2x1x256x16.size a) ∧
  (∀ (k2_h1 : k2_cond1 i = 1#1), ∀ a, (k2_off399 arg7_r0) a + S1x1x256x16.size a ≤ S2x1x256x16.size a) ∧
  (∀ (k2_h1 : k2_cond1 i = 1#1), ∀ a, (k2_off402 arg7_r0) a + S1x1x256x16.size a ≤ S2x1x256x16.size a) ∧
  (∀ (k2_h1 : k2_cond1 i = 1#1), ∀ a, (k2_off405 arg7_r0) a + S1x1x256x16.size a ≤ S2x1x256x16.size a) ∧
  (∀ (k2_h1 : k2_cond1 i = 1#1), ∀ a, (k2_off408 arg7_r0) a + S1x1x256x16.size a ≤ S2x1x256x16.size a) ∧
  (∀ (k2_h1 : k2_cond1 i = 1#1), ∀ a, (k2_off411 arg7_r0) a + S1x1x256x16.size a ≤ S2x1x256x16.size a)
def k2_chk6 (i : grid2.Coords) (k2_t66 : Fin (k2_t66_loop i).trips) (arg7_r0 : BitVec 32) : Prop :=
  k2_chk6_0 i k2_t66 arg7_r0 ∧
  k2_chk6_1 i k2_t66 arg7_r0
theorem k2_off221_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off221 arg7_r0) a + S1x1x256x16.size a ≤ S2x1x256x16.size a := fun i k2_t66 arg7_r0 k2_hw6 k2_h1 => k2_hw6.1.1 k2_h1
theorem k2_off227_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off227 arg7_r0) a + S1x1x256x16.size a ≤ S2x1x256x16.size a := fun i k2_t66 arg7_r0 k2_hw6 k2_h1 => k2_hw6.1.2.1 k2_h1
theorem k2_off228_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off228 arg7_r0) a + S1x1x256x16.size a ≤ S2x1x256x16.size a := fun i k2_t66 arg7_r0 k2_hw6 k2_h1 => k2_hw6.1.2.2.1 k2_h1
theorem k2_off231_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off231 arg7_r0) a + S1x1x256x16.size a ≤ S2x1x256x16.size a := fun i k2_t66 arg7_r0 k2_hw6 k2_h1 => k2_hw6.1.2.2.2.1 k2_h1
theorem k2_off234_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off234 arg7_r0) a + S1x1x256x16.size a ≤ S2x1x256x16.size a := fun i k2_t66 arg7_r0 k2_hw6 k2_h1 => k2_hw6.1.2.2.2.2.1 k2_h1
theorem k2_off237_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off237 arg7_r0) a + S1x1x256x16.size a ≤ S2x1x256x16.size a := fun i k2_t66 arg7_r0 k2_hw6 k2_h1 => k2_hw6.1.2.2.2.2.2.1 k2_h1
theorem k2_off240_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off240 arg7_r0) a + S1x1x256x16.size a ≤ S2x1x256x16.size a := fun i k2_t66 arg7_r0 k2_hw6 k2_h1 => k2_hw6.1.2.2.2.2.2.2.1 k2_h1
theorem k2_off243_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off243 arg7_r0) a + S1x1x256x16.size a ≤ S2x1x256x16.size a := fun i k2_t66 arg7_r0 k2_hw6 k2_h1 => k2_hw6.1.2.2.2.2.2.2.2.1 k2_h1
theorem k2_off246_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off246 arg7_r0) a + S1x1x256x16.size a ≤ S2x1x256x16.size a := fun i k2_t66 arg7_r0 k2_hw6 k2_h1 => k2_hw6.1.2.2.2.2.2.2.2.2.1 k2_h1
theorem k2_off249_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off249 arg7_r0) a + S1x1x256x16.size a ≤ S2x1x256x16.size a := fun i k2_t66 arg7_r0 k2_hw6 k2_h1 => k2_hw6.1.2.2.2.2.2.2.2.2.2.1 k2_h1
theorem k2_off252_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off252 arg7_r0) a + S1x1x256x16.size a ≤ S2x1x256x16.size a := fun i k2_t66 arg7_r0 k2_hw6 k2_h1 => k2_hw6.1.2.2.2.2.2.2.2.2.2.2.1 k2_h1
theorem k2_off255_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off255 arg7_r0) a + S1x1x256x16.size a ≤ S2x1x256x16.size a := fun i k2_t66 arg7_r0 k2_hw6 k2_h1 => k2_hw6.1.2.2.2.2.2.2.2.2.2.2.2.1 k2_h1
theorem k2_off258_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off258 arg7_r0) a + S1x1x256x16.size a ≤ S2x1x256x16.size a := fun i k2_t66 arg7_r0 k2_hw6 k2_h1 => k2_hw6.1.2.2.2.2.2.2.2.2.2.2.2.2.1 k2_h1
theorem k2_off261_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off261 arg7_r0) a + S1x1x256x16.size a ≤ S2x1x256x16.size a := fun i k2_t66 arg7_r0 k2_hw6 k2_h1 => k2_hw6.1.2.2.2.2.2.2.2.2.2.2.2.2.2.1 k2_h1
theorem k2_off264_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off264 arg7_r0) a + S1x1x256x16.size a ≤ S2x1x256x16.size a := fun i k2_t66 arg7_r0 k2_hw6 k2_h1 => k2_hw6.1.2.2.2.2.2.2.2.2.2.2.2.2.2.2.1 k2_h1
theorem k2_off267_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off267 arg7_r0) a + S1x1x256x16.size a ≤ S2x1x256x16.size a := fun i k2_t66 arg7_r0 k2_hw6 k2_h1 => k2_hw6.1.2.2.2.2.2.2.2.2.2.2.2.2.2.2.2.1 k2_h1
theorem k2_off270_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off270 arg7_r0) a + S1x1x256x16.size a ≤ S2x1x256x16.size a := fun i k2_t66 arg7_r0 k2_hw6 k2_h1 => k2_hw6.1.2.2.2.2.2.2.2.2.2.2.2.2.2.2.2.2.1 k2_h1
theorem k2_off273_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off273 arg7_r0) a + S1x1x256x16.size a ≤ S2x1x256x16.size a := fun i k2_t66 arg7_r0 k2_hw6 k2_h1 => k2_hw6.1.2.2.2.2.2.2.2.2.2.2.2.2.2.2.2.2.2.1 k2_h1
theorem k2_off276_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off276 arg7_r0) a + S1x1x256x16.size a ≤ S2x1x256x16.size a := fun i k2_t66 arg7_r0 k2_hw6 k2_h1 => k2_hw6.1.2.2.2.2.2.2.2.2.2.2.2.2.2.2.2.2.2.2.1 k2_h1
theorem k2_off279_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off279 arg7_r0) a + S1x1x256x16.size a ≤ S2x1x256x16.size a := fun i k2_t66 arg7_r0 k2_hw6 k2_h1 => k2_hw6.1.2.2.2.2.2.2.2.2.2.2.2.2.2.2.2.2.2.2.2.1 k2_h1
theorem k2_off282_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off282 arg7_r0) a + S1x1x256x16.size a ≤ S2x1x256x16.size a := fun i k2_t66 arg7_r0 k2_hw6 k2_h1 => k2_hw6.1.2.2.2.2.2.2.2.2.2.2.2.2.2.2.2.2.2.2.2.2.1 k2_h1
theorem k2_off285_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off285 arg7_r0) a + S1x1x256x16.size a ≤ S2x1x256x16.size a := fun i k2_t66 arg7_r0 k2_hw6 k2_h1 => k2_hw6.1.2.2.2.2.2.2.2.2.2.2.2.2.2.2.2.2.2.2.2.2.2.1 k2_h1
theorem k2_off288_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off288 arg7_r0) a + S1x1x256x16.size a ≤ S2x1x256x16.size a := fun i k2_t66 arg7_r0 k2_hw6 k2_h1 => k2_hw6.1.2.2.2.2.2.2.2.2.2.2.2.2.2.2.2.2.2.2.2.2.2.2.1 k2_h1
theorem k2_off291_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off291 arg7_r0) a + S1x1x256x16.size a ≤ S2x1x256x16.size a := fun i k2_t66 arg7_r0 k2_hw6 k2_h1 => k2_hw6.1.2.2.2.2.2.2.2.2.2.2.2.2.2.2.2.2.2.2.2.2.2.2.2.1 k2_h1
theorem k2_off294_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off294 arg7_r0) a + S1x1x256x16.size a ≤ S2x1x256x16.size a := fun i k2_t66 arg7_r0 k2_hw6 k2_h1 => k2_hw6.1.2.2.2.2.2.2.2.2.2.2.2.2.2.2.2.2.2.2.2.2.2.2.2.2.1 k2_h1
theorem k2_off297_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off297 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.1 k2_h1
theorem k2_off300_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off300 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.2.1 k2_h1
theorem k2_off303_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off303 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.2.2.1 k2_h1
theorem k2_off306_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off306 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.2.2.2.1 k2_h1
theorem k2_off309_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off309 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.2.2.2.2.1 k2_h1
theorem k2_off312_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off312 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.2.2.2.2.2.1 k2_h1
theorem k2_off315_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off315 arg7_r0) a + S1x1x256x16.size a ≤ S2x1x256x16.size a := fun i k2_t66 arg7_r0 k2_hw6 k2_h1 => k2_hw6.1.2.2.2.2.2.2.2.2.2.2.2.2.2.2.2.2.2.2.2.2.2.2.2.2.2.2.2.2.2.2.2 k2_h1
theorem k2_off318_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off318 arg7_r0) a + S1x1x256x16.size a ≤ S2x1x256x16.size a := fun i k2_t66 arg7_r0 k2_hw6 k2_h1 => k2_hw6.2.1 k2_h1
theorem k2_off321_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off321 arg7_r0) a + S1x1x256x16.size a ≤ S2x1x256x16.size a := fun i k2_t66 arg7_r0 k2_hw6 k2_h1 => k2_hw6.2.2.1 k2_h1
theorem k2_off324_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off324 arg7_r0) a + S1x1x256x16.size a ≤ S2x1x256x16.size a := fun i k2_t66 arg7_r0 k2_hw6 k2_h1 => k2_hw6.2.2.2.1 k2_h1
theorem k2_off327_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off327 arg7_r0) a + S1x1x256x16.size a ≤ S2x1x256x16.size a := fun i k2_t66 arg7_r0 k2_hw6 k2_h1 => k2_hw6.2.2.2.2.1 k2_h1
theorem k2_off330_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off330 arg7_r0) a + S1x1x256x16.size a ≤ S2x1x256x16.size a := fun i k2_t66 arg7_r0 k2_hw6 k2_h1 => k2_hw6.2.2.2.2.2.1 k2_h1
theorem k2_off333_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off333 arg7_r0) a + S1x1x256x16.size a ≤ S2x1x256x16.size a := fun i k2_t66 arg7_r0 k2_hw6 k2_h1 => k2_hw6.2.2.2.2.2.2.1 k2_h1
theorem k2_off336_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off336 arg7_r0) a + S1x1x256x16.size a ≤ S2x1x256x16.size a := fun i k2_t66 arg7_r0 k2_hw6 k2_h1 => k2_hw6.2.2.2.2.2.2.2.1 k2_h1
theorem k2_off339_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off339 arg7_r0) a + S1x1x256x16.size a ≤ S2x1x256x16.size a := fun i k2_t66 arg7_r0 k2_hw6 k2_h1 => k2_hw6.2.2.2.2.2.2.2.2.1 k2_h1
theorem k2_off342_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off342 arg7_r0) a + S1x1x256x16.size a ≤ S2x1x256x16.size a := fun i k2_t66 arg7_r0 k2_hw6 k2_h1 => k2_hw6.2.2.2.2.2.2.2.2.2.1 k2_h1
theorem k2_off345_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off345 arg7_r0) a + S1x1x256x16.size a ≤ S2x1x256x16.size a := fun i k2_t66 arg7_r0 k2_hw6 k2_h1 => k2_hw6.2.2.2.2.2.2.2.2.2.2.1 k2_h1
theorem k2_off348_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off348 arg7_r0) a + S1x1x256x16.size a ≤ S2x1x256x16.size a := fun i k2_t66 arg7_r0 k2_hw6 k2_h1 => k2_hw6.2.2.2.2.2.2.2.2.2.2.2.1 k2_h1
theorem k2_off351_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off351 arg7_r0) a + S1x1x256x16.size a ≤ S2x1x256x16.size a := fun i k2_t66 arg7_r0 k2_hw6 k2_h1 => k2_hw6.2.2.2.2.2.2.2.2.2.2.2.2.1 k2_h1
theorem k2_off354_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off354 arg7_r0) a + S1x1x256x16.size a ≤ S2x1x256x16.size a := fun i k2_t66 arg7_r0 k2_hw6 k2_h1 => k2_hw6.2.2.2.2.2.2.2.2.2.2.2.2.2.1 k2_h1
theorem k2_off357_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off357 arg7_r0) a + S1x1x256x16.size a ≤ S2x1x256x16.size a := fun i k2_t66 arg7_r0 k2_hw6 k2_h1 => k2_hw6.2.2.2.2.2.2.2.2.2.2.2.2.2.2.1 k2_h1
theorem k2_off360_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off360 arg7_r0) a + S1x1x256x16.size a ≤ S2x1x256x16.size a := fun i k2_t66 arg7_r0 k2_hw6 k2_h1 => k2_hw6.2.2.2.2.2.2.2.2.2.2.2.2.2.2.2.1 k2_h1
theorem k2_off363_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off363 arg7_r0) a + S1x1x256x16.size a ≤ S2x1x256x16.size a := fun i k2_t66 arg7_r0 k2_hw6 k2_h1 => k2_hw6.2.2.2.2.2.2.2.2.2.2.2.2.2.2.2.2.1 k2_h1
theorem k2_off366_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off366 arg7_r0) a + S1x1x256x16.size a ≤ S2x1x256x16.size a := fun i k2_t66 arg7_r0 k2_hw6 k2_h1 => k2_hw6.2.2.2.2.2.2.2.2.2.2.2.2.2.2.2.2.2.1 k2_h1
theorem k2_off369_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off369 arg7_r0) a + S1x1x256x16.size a ≤ S2x1x256x16.size a := fun i k2_t66 arg7_r0 k2_hw6 k2_h1 => k2_hw6.2.2.2.2.2.2.2.2.2.2.2.2.2.2.2.2.2.2.1 k2_h1
theorem k2_off372_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off372 arg7_r0) a + S1x1x256x16.size a ≤ S2x1x256x16.size a := fun i k2_t66 arg7_r0 k2_hw6 k2_h1 => k2_hw6.2.2.2.2.2.2.2.2.2.2.2.2.2.2.2.2.2.2.2.1 k2_h1
theorem k2_off375_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off375 arg7_r0) a + S1x1x256x16.size a ≤ S2x1x256x16.size a := fun i k2_t66 arg7_r0 k2_hw6 k2_h1 => k2_hw6.2.2.2.2.2.2.2.2.2.2.2.2.2.2.2.2.2.2.2.2.1 k2_h1
theorem k2_off378_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off378 arg7_r0) a + S1x1x256x16.size a ≤ S2x1x256x16.size a := fun i k2_t66 arg7_r0 k2_hw6 k2_h1 => k2_hw6.2.2.2.2.2.2.2.2.2.2.2.2.2.2.2.2.2.2.2.2.2.1 k2_h1
theorem k2_off381_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off381 arg7_r0) a + S1x1x256x16.size a ≤ S2x1x256x16.size a := fun i k2_t66 arg7_r0 k2_hw6 k2_h1 => k2_hw6.2.2.2.2.2.2.2.2.2.2.2.2.2.2.2.2.2.2.2.2.2.2.1 k2_h1
theorem k2_off384_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off384 arg7_r0) a + S1x1x256x16.size a ≤ S2x1x256x16.size a := fun i k2_t66 arg7_r0 k2_hw6 k2_h1 => k2_hw6.2.2.2.2.2.2.2.2.2.2.2.2.2.2.2.2.2.2.2.2.2.2.2.1 k2_h1
theorem k2_off387_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off387 arg7_r0) a + S1x1x256x16.size a ≤ S2x1x256x16.size a := fun i k2_t66 arg7_r0 k2_hw6 k2_h1 => k2_hw6.2.2.2.2.2.2.2.2.2.2.2.2.2.2.2.2.2.2.2.2.2.2.2.2.1 k2_h1
theorem k2_off390_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off390 arg7_r0) a + S1x1x256x16.size a ≤ S2x1x256x16.size a := fun i k2_t66 arg7_r0 k2_hw6 k2_h1 => k2_hw6.2.2.2.2.2.2.2.2.2.2.2.2.2.2.2.2.2.2.2.2.2.2.2.2.2.1 k2_h1
theorem k2_off393_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off393 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.1 k2_h1
theorem k2_off396_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off396 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.2.1 k2_h1
theorem k2_off399_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off399 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.2.2.1 k2_h1
theorem k2_off402_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off402 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.2.2.2.1 k2_h1
theorem k2_off405_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off405 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.2.2.2.2.1 k2_h1
theorem k2_off408_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off408 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.2.2.2.2.2.1 k2_h1
theorem k2_off411_inb : ∀ (i : grid2.Coords) (k2_t66 : Fin (k2_t66_loop i).trips) (arg7_r0 : BitVec 32) (k2_hw6 : k2_chk6 i k2_t66 arg7_r0), ∀ (k2_h1 : k2_cond1 i = 1#1), ∀ a, (k2_off411 arg7_r0) a + S1x1x256x16.size a ≤ S2x1x256x16.size a := fun i k2_t66 arg7_r0 k2_hw6 k2_h1 => k2_hw6.2.2.2.2.2.2.2.2.2.2.2.2.2.2.2.2.2.2.2.2.2.2.2.2.2.2.2.2.2.2.2.2 k2_h1

def k2_off412 (k2_t130 : Fin k2_t130_loop.trips) : Fin 3 → Nat :=
  let c0_i32_405_r0 : BitVec 32 := 0#32
  let v308_r0 : Index := Scalar.indexCast c0_i32_405_r0
  let c0_i32_403_r0 : BitVec 32 := 0#32
  let c0_i32_380_r0 : BitVec 32 := 0#32
  let c1_i32_382_r0 : BitVec 32 := 1#32
  let arg11_r0 : BitVec 32 := Scf.iv c0_i32_380_r0 c1_i32_382_r0 k2_t130
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let v309_r0 : Index := Scalar.indexCast v305_r0
  let c0_r0 : Index := 0#32
  ![0, v309_r0.toNat, 0]
def k2_off413 (k2_t130 : Fin k2_t130_loop.trips) : Fin 3 → Nat :=
  let c0_i32_410_r0 : BitVec 32 := 0#32
  let v315_r0 : Index := Scalar.indexCast c0_i32_410_r0
  let c0_i32_403_r0 : BitVec 32 := 0#32
  let c0_i32_380_r0 : BitVec 32 := 0#32
  let c1_i32_382_r0 : BitVec 32 := 1#32
  let arg11_r0 : BitVec 32 := Scf.iv c0_i32_380_r0 c1_i32_382_r0 k2_t130
  let c1_i32_402_r0 : BitVec 32 := 1#32
  let v302_r0 : BitVec 32 := Scalar.muli arg11_r0 c1_i32_402_r0
  let v303_r0 : BitVec 32 := Scalar.addi c0_i32_403_r0 v302_r0
  let c_m1_i32_404_r0 : BitVec 32 := 4294967295#32
  let v304_r0 : BitVec 32 := Scalar.andi v303_r0 c_m1_i32_404_r0
  let v305_r0 : BitVec 32 := Scalar.addi v303_r0 v304_r0
  let c1_i32_409_r0 : BitVec 32 := 1#32
  let v312_r0 : BitVec 32 := Scalar.addi v305_r0 c1_i32_409_r0
  let v316_r0 : Index := Scalar.indexCast v312_r0
  let c0_414_r0 : Index := 0#32
  ![0, v316_r0.toNat, 0]
def k2_off414 (arg7_r0 : BitVec 32) : Fin 4 → Nat :=
  let c2_i32_402_r0 : BitVec 32 := 2#32
  let v302_r0 : BitVec 32 := Scalar.remui arg7_r0 c2_i32_402_r0
  let c0_i32_405_r0 : BitVec 32 := 0#32
  let c0_i32_406_r0 : BitVec 32 := 0#32
  let c0_i32_407_r0 : BitVec 32 := 0#32
  ![v302_r0.toNat, 0, 0, 0]
def k2_cond14 (i : grid2.Coords) (k2_t66 : Fin (k2_t66_loop i).trips) (arg9_r0 : BitVec 32) (arg10_r0 : BitVec 32) : BitVec 1 :=
  let c0_i32_92_r0 : BitVec 32 := 0#32
  let v117_r0 : BitVec 32 := Scalar.addi arg9_r0 c0_i32_92_r0
  let true_102_r0 : BitVec 1 := 1#1
  let c1_i32_101_r0 : BitVec 32 := 1#32
  let v130_r0 : BitVec 32 := Scalar.addi arg10_r0 c1_i32_101_r0
  let v131_r0 : BitVec 32 := Scalar.select true_102_r0 v130_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v132_r0 : BitVec 1 := Scalar.cmpi .eq v131_r0 v5
  let c1_i32_104_r0 : BitVec 32 := 1#32
  let v134_r0 : BitVec 32 := Scalar.addi arg9_r0 c1_i32_104_r0
  let v135_r0 : BitVec 32 := Scalar.select v132_r0 v134_r0 arg9_r0
  let c4_i32_105_r0 : BitVec 32 := 4#32
  let v136_r0 : BitVec 1 := Scalar.cmpi .eq v135_r0 c4_i32_105_r0
  let c0_i32_106_r0 : BitVec 32 := 0#32
  let v137_r0 : BitVec 32 := Scalar.select v136_r0 c0_i32_106_r0 v135_r0
  let c0_i32_107_r0 : BitVec 32 := 0#32
  let v138_r0 : BitVec 32 := Scalar.addi v137_r0 c0_i32_107_r0
  let v261_r0 : BitVec 1 := Scalar.cmpi .ne v117_r0 v138_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c0_i32_103_r0 : BitVec 32 := 0#32
  let v133_r0 : BitVec 32 := Scalar.select v132_r0 c0_i32_103_r0 v131_r0
  let v139_r0 : BitVec 32 := Scalar.addi v133_r0 v10
  let v262_r0 : BitVec 1 := Scalar.cmpi .ne v118_r0 v139_r0
  let v263_r0 : BitVec 1 := Scalar.ori v261_r0 v262_r0
  let c0_i32_44_r0 : BitVec 32 := 0#32
  let c4_i32 : BitVec 32 := 4#32
  let v11 : BitVec 32 := Scalar.muli c4_i32 v5
  let v55_r0 : BitVec 32 := Scalar.subi v11 c0_i32_44_r0
  let c1_i32_50_r0 : BitVec 32 := 1#32
  let v57_r0 : BitVec 32 := Scalar.divsi v55_r0 c1_i32_50_r0
  let v58_r0 : BitVec 32 := Scalar.muli v57_r0 c1_i32_50_r0
  let v59_r0 : BitVec 32 := Scalar.addi c0_i32_44_r0 v58_r0
  let c1_i32_52_r0 : BitVec 32 := 1#32
  let arg4_r0 : BitVec 32 := Scf.iv v59_r0 c1_i32_52_r0 k2_t66
  let c4_i32_89_r0 : BitVec 32 := 4#32
  let v113_r0 : BitVec 32 := Scalar.muli c4_i32_89_r0 v5
  let c1_i32_91_r0 : BitVec 32 := 1#32
  let v115_r0 : BitVec 32 := Scalar.subi v113_r0 c1_i32_91_r0
  let v116_r0 : BitVec 1 := Scalar.cmpi .eq arg4_r0 v115_r0
  let v264_r0 : BitVec 1 := Scalar.ori v263_r0 v116_r0
  let v265_r0 : BitVec 32 := Scalar.extui v264_r0
  let c0_i32_385_r0 : BitVec 32 := 0#32
  let v266_r0 : BitVec 1 := Scalar.cmpi .ne v265_r0 c0_i32_385_r0
  v266_r0

def k2_off415 (i : grid2.Coords) (arg9_r0 : BitVec 32) (arg10_r0 : BitVec 32) : Fin 3 → Nat :=
  let c1_i32_403_r0 : BitVec 32 := 1#32
  let c0_i32_92_r0 : BitVec 32 := 0#32
  let v117_r0 : BitVec 32 := Scalar.addi arg9_r0 c0_i32_92_r0
  let v303_r0 : BitVec 32 := Scalar.muli c1_i32_403_r0 v117_r0
  let c0_i32_408_r0 : BitVec 32 := 0#32
  let c16_i32_404_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let v304_r0 : BitVec 32 := Scalar.muli c16_i32_404_r0 v118_r0
  ![v303_r0.toNat, 0, v304_r0.toNat]
def k2_off416 (arg7_r0 : BitVec 32) : Fin 1 → Nat :=
  let c2_i32_402_r0 : BitVec 32 := 2#32
  let v302_r0 : BitVec 32 := Scalar.remui arg7_r0 c2_i32_402_r0
  ![v302_r0.toNat]
def k2_off417 (arg8_r0 : BitVec 32) : Fin 4 → Nat :=
  let c2_i32_402_r0 : BitVec 32 := 2#32
  let v302_r0 : BitVec 32 := Scalar.remui arg8_r0 c2_i32_402_r0
  let c0_i32_405_r0 : BitVec 32 := 0#32
  let c0_i32_406_r0 : BitVec 32 := 0#32
  let c0_i32_407_r0 : BitVec 32 := 0#32
  ![v302_r0.toNat, 0, 0, 0]
def k2_cond16 (i : grid2.Coords) (k2_t66 : Fin (k2_t66_loop i).trips) (arg9_r0 : BitVec 32) (arg10_r0 : BitVec 32) : BitVec 1 :=
  let c0_i32_92_r0 : BitVec 32 := 0#32
  let v117_r0 : BitVec 32 := Scalar.addi arg9_r0 c0_i32_92_r0
  let true_94_r0 : BitVec 1 := 1#1
  let c1_i32_93_r0 : BitVec 32 := 1#32
  let v119_r0 : BitVec 32 := Scalar.subi arg10_r0 c1_i32_93_r0
  let v120_r0 : BitVec 32 := Scalar.select true_94_r0 v119_r0 arg10_r0
  let c_m1_i32_95_r0 : BitVec 32 := 4294967295#32
  let v121_r0 : BitVec 1 := Scalar.cmpi .eq v120_r0 c_m1_i32_95_r0
  let c1_i32_97_r0 : BitVec 32 := 1#32
  let v124_r0 : BitVec 32 := Scalar.subi arg9_r0 c1_i32_97_r0
  let v125_r0 : BitVec 32 := Scalar.select v121_r0 v124_r0 arg9_r0
  let c_m1_i32_98_r0 : BitVec 32 := 4294967295#32
  let v126_r0 : BitVec 1 := Scalar.cmpi .eq v125_r0 c_m1_i32_98_r0
  let c3_i32_99_r0 : BitVec 32 := 3#32
  let v127_r0 : BitVec 32 := Scalar.select v126_r0 c3_i32_99_r0 v125_r0
  let c0_i32_100_r0 : BitVec 32 := 0#32
  let v128_r0 : BitVec 32 := Scalar.addi v127_r0 c0_i32_100_r0
  let v278_r0 : BitVec 1 := Scalar.cmpi .ne v117_r0 v128_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_3 : BitVec 32 := 16#32
  let v6 : BitVec 1 := Scalar.cmpi .slt v3 c16_i32_3
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v118_r0 : BitVec 32 := Scalar.addi arg10_r0 v10
  let c1_i32_96_r0 : BitVec 32 := 1#32
  let v122_r0 : BitVec 32 := Scalar.subi v5 c1_i32_96_r0
  let v123_r0 : BitVec 32 := Scalar.select v121_r0 v122_r0 v120_r0
  let v129_r0 : BitVec 32 := Scalar.addi v123_r0 v10
  let v279_r0 : BitVec 1 := Scalar.cmpi .ne v118_r0 v129_r0
  let v280_r0 : BitVec 1 := Scalar.ori v278_r0 v279_r0
  let c0_i32_44_r0 : BitVec 32 := 0#32
  let c4_i32 : BitVec 32 := 4#32
  let v11 : BitVec 32 := Scalar.muli c4_i32 v5
  let v55_r0 : BitVec 32 := Scalar.subi v11 c0_i32_44_r0
  let c1_i32_50_r0 : BitVec 32 := 1#32
  let v57_r0 : BitVec 32 := Scalar.divsi v55_r0 c1_i32_50_r0
  let v58_r0 : BitVec 32 := Scalar.muli v57_r0 c1_i32_50_r0
  let v59_r0 : BitVec 32 := Scalar.addi c0_i32_44_r0 v58_r0
  let c1_i32_52_r0 : BitVec 32 := 1#32
  let arg4_r0 : BitVec 32 := Scf.iv v59_r0 c1_i32_52_r0 k2_t66
  let c0_i32_90_r0 : BitVec 32 := 0#32
  let v114_r0 : BitVec 1 := Scalar.cmpi .eq arg4_r0 c0_i32_90_r0
  let true_391_r0 : BitVec 1 := 1#1
  let v281_r0 : BitVec 1 := Scalar.xori v114_r0 true_391_r0
  let v282_r0 : BitVec 1 := Scalar.andi v280_r0 v281_r0
  let v283_r0 : BitVec 32 := Scalar.extui v282_r0
  let c0_i32_392_r0 : BitVec 32 := 0#32
  let v284_r0 : BitVec 1 := Scalar.cmpi .ne v283_r0 c0_i32_392_r0
  v284_r0

def k2_off418 (i : grid2.Coords) (arg9_r0 : BitVec 32) (arg10_r0 : BitVec 32) : Fin 3 → Nat :=
  let c1_i32_403_r0 : BitVec 32 := 1#32
  let true_94_r0 : BitVec 1 := 1#1
  let c1_i32_93_r0 : BitVec 32 := 1#32
  let v119_r0 : BitVec 32 := Scalar.subi arg10_r0 c1_i32_93_r0
  let v120_r0 : BitVec 32 := Scalar.select true_94_r0 v119_r0 arg10_r0
  let c_m1_i32_95_r0 : BitVec 32 := 4294967295#32
  let v121_r0 : BitVec 1 := Scalar.cmpi .eq v120_r0 c_m1_i32_95_r0
  let c1_i32_97_r0 : BitVec 32 := 1#32
  let v124_r0 : BitVec 32 := Scalar.subi arg9_r0 c1_i32_97_r0
  let v125_r0 : BitVec 32 := Scalar.select v121_r0 v124_r0 arg9_r0
  let c_m1_i32_98_r0 : BitVec 32 := 4294967295#32
  let v126_r0 : BitVec 1 := Scalar.cmpi .eq v125_r0 c_m1_i32_98_r0
  let c3_i32_99_r0 : BitVec 32 := 3#32
  let v127_r0 : BitVec 32 := Scalar.select v126_r0 c3_i32_99_r0 v125_r0
  let c0_i32_100_r0 : BitVec 32 := 0#32
  let v128_r0 : BitVec 32 := Scalar.addi v127_r0 c0_i32_100_r0
  let v303_r0 : BitVec 32 := Scalar.muli c1_i32_403_r0 v128_r0
  let c0_i32_408_r0 : BitVec 32 := 0#32
  let c16_i32_404_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let c1_i32_96_r0 : BitVec 32 := 1#32
  let v122_r0 : BitVec 32 := Scalar.subi v5 c1_i32_96_r0
  let v123_r0 : BitVec 32 := Scalar.select v121_r0 v122_r0 v120_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v129_r0 : BitVec 32 := Scalar.addi v123_r0 v10
  let v304_r0 : BitVec 32 := Scalar.muli c16_i32_404_r0 v129_r0
  ![v303_r0.toNat, 0, v304_r0.toNat]
def k2_off419 (arg8_r0 : BitVec 32) : Fin 1 → Nat :=
  let c2_i32_402_r0 : BitVec 32 := 2#32
  let v302_r0 : BitVec 32 := Scalar.remui arg8_r0 c2_i32_402_r0
  ![v302_r0.toNat]

def k2_chk4 (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t66 arg9_r0 arg10_r0 = 1#1), ∀ a, (k2_off212 arg5_r0) a + S1x1x256x16.size a ≤ S2x1x256x16.size a) ∧
  (∀ (k2_h1 : k2_cond1 i = 1#1), ∀ (k2_h10 : k2_cond10 i k2_t66 arg9_r0 arg10_r0 = 1#1), ∀ a, (k2_off213 i arg9_r0 arg10_r0) a + S1x256x16.size a ≤ S4x256x256.size a) ∧
  (∀ (k2_h1 : k2_cond1 i = 1#1), ∀ (k2_h10 : k2_cond10 i k2_t66 arg9_r0 arg10_r0 = 1#1), ∀ a, (k2_off214 arg5_r0) a + S1.size a ≤ S2.size a) ∧
  (∀ (k2_h1 : k2_cond1 i = 1#1), ∀ (k2_h11 : k2_cond11 i k2_t66 arg9_r0 arg10_r0 = 1#1), ∀ a, (k2_off215 arg6_r0) a + S1x1x256x16.size a ≤ S2x1x256x16.size a) ∧
  (∀ (k2_h1 : k2_cond1 i = 1#1), ∀ (k2_h11 : k2_cond11 i k2_t66 arg9_r0 arg10_r0 = 1#1), ∀ a, (k2_off216 i arg9_r0 arg10_r0) a + S1x256x16.size a ≤ S4x256x256.size a) ∧
  (∀ (k2_h1 : k2_cond1 i = 1#1), ∀ (k2_h11 : k2_cond11 i k2_t66 arg9_r0 arg10_r0 = 1#1), ∀ a, (k2_off217 arg6_r0) a + S1.size a ≤ S2.size a) ∧
  (∀ (k2_h1 : k2_cond1 i = 1#1), ∀ (k2_h14 : k2_cond14 i k2_t66 arg9_r0 arg10_r0 = 1#1), ∀ a, (k2_off414 arg7_r0) a + S1x1x256x16.size a ≤ S2x1x256x16.size a) ∧
  (∀ (k2_h1 : k2_cond1 i = 1#1), ∀ (k2_h14 : k2_cond14 i k2_t66 arg9_r0 arg10_r0 = 1#1), ∀ a, (k2_off415 i arg9_r0 arg10_r0) a + S1x256x16.size a ≤ S4x256x256.size a) ∧
  (∀ (k2_h1 : k2_cond1 i = 1#1), ∀ (k2_h14 : k2_cond14 i k2_t66 arg9_r0 arg10_r0 = 1#1), ∀ a, (k2_off416 arg7_r0) a + S1.size a ≤ S2.size a) ∧
  (∀ (k2_h1 : k2_cond1 i = 1#1), ∀ (k2_h16 : k2_cond16 i k2_t66 arg9_r0 arg10_r0 = 1#1), ∀ a, (k2_off417 arg8_r0) a + S1x1x256x16.size a ≤ S2x1x256x16.size a) ∧
  (∀ (k2_h1 : k2_cond1 i = 1#1), ∀ (k2_h16 : k2_cond16 i k2_t66 arg9_r0 arg10_r0 = 1#1), ∀ a, (k2_off418 i arg9_r0 arg10_r0) a + S1x256x16.size a ≤ S4x256x256.size a) ∧
  (∀ (k2_h1 : k2_cond1 i = 1#1), ∀ (k2_h16 : k2_cond16 i k2_t66 arg9_r0 arg10_r0 = 1#1), ∀ a, (k2_off419 arg8_r0) a + S1.size a ≤ S2.size a)
theorem k2_off212_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h10 : k2_cond10 i k2_t66 arg9_r0 arg10_r0 = 1#1), ∀ a, (k2_off212 arg5_r0) a + S1x1x256x16.size a ≤ S2x1x256x16.size a := fun i k2_t66 arg5_r0 arg6_r0 arg7_r0 arg8_r0 arg9_r0 arg10_r0 k2_hw4 k2_h1 k2_h10 => k2_hw4.1 k2_h1 k2_h10
theorem k2_off213_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h10 : k2_cond10 i k2_t66 arg9_r0 arg10_r0 = 1#1), ∀ a, (k2_off213 i arg9_r0 arg10_r0) a + S1x256x16.size a ≤ S4x256x256.size a := fun i k2_t66 arg5_r0 arg6_r0 arg7_r0 arg8_r0 arg9_r0 arg10_r0 k2_hw4 k2_h1 k2_h10 => k2_hw4.2.1 k2_h1 k2_h10
theorem k2_off214_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h10 : k2_cond10 i k2_t66 arg9_r0 arg10_r0 = 1#1), ∀ a, (k2_off214 arg5_r0) a + S1.size a ≤ S2.size a := fun i k2_t66 arg5_r0 arg6_r0 arg7_r0 arg8_r0 arg9_r0 arg10_r0 k2_hw4 k2_h1 k2_h10 => k2_hw4.2.2.1 k2_h1 k2_h10
theorem k2_off215_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h11 : k2_cond11 i k2_t66 arg9_r0 arg10_r0 = 1#1), ∀ a, (k2_off215 arg6_r0) a + S1x1x256x16.size a ≤ S2x1x256x16.size a := fun i k2_t66 arg5_r0 arg6_r0 arg7_r0 arg8_r0 arg9_r0 arg10_r0 k2_hw4 k2_h1 k2_h11 => k2_hw4.2.2.2.1 k2_h1 k2_h11
theorem k2_off216_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h11 : k2_cond11 i k2_t66 arg9_r0 arg10_r0 = 1#1), ∀ a, (k2_off216 i arg9_r0 arg10_r0) a + S1x256x16.size a ≤ S4x256x256.size a := fun i k2_t66 arg5_r0 arg6_r0 arg7_r0 arg8_r0 arg9_r0 arg10_r0 k2_hw4 k2_h1 k2_h11 => k2_hw4.2.2.2.2.1 k2_h1 k2_h11
theorem k2_off217_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h11 : k2_cond11 i k2_t66 arg9_r0 arg10_r0 = 1#1), ∀ a, (k2_off217 arg6_r0) a + S1.size a ≤ S2.size a := fun i k2_t66 arg5_r0 arg6_r0 arg7_r0 arg8_r0 arg9_r0 arg10_r0 k2_hw4 k2_h1 k2_h11 => k2_hw4.2.2.2.2.2.1 k2_h1 k2_h11
theorem k2_off414_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h14 : k2_cond14 i k2_t66 arg9_r0 arg10_r0 = 1#1), ∀ a, (k2_off414 arg7_r0) a + S1x1x256x16.size a ≤ S2x1x256x16.size a := fun i k2_t66 arg5_r0 arg6_r0 arg7_r0 arg8_r0 arg9_r0 arg10_r0 k2_hw4 k2_h1 k2_h14 => k2_hw4.2.2.2.2.2.2.1 k2_h1 k2_h14
theorem k2_off415_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h14 : k2_cond14 i k2_t66 arg9_r0 arg10_r0 = 1#1), ∀ a, (k2_off415 i arg9_r0 arg10_r0) a + S1x256x16.size a ≤ S4x256x256.size a := fun i k2_t66 arg5_r0 arg6_r0 arg7_r0 arg8_r0 arg9_r0 arg10_r0 k2_hw4 k2_h1 k2_h14 => k2_hw4.2.2.2.2.2.2.2.1 k2_h1 k2_h14
theorem k2_off416_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h14 : k2_cond14 i k2_t66 arg9_r0 arg10_r0 = 1#1), ∀ a, (k2_off416 arg7_r0) a + S1.size a ≤ S2.size a := fun i k2_t66 arg5_r0 arg6_r0 arg7_r0 arg8_r0 arg9_r0 arg10_r0 k2_hw4 k2_h1 k2_h14 => k2_hw4.2.2.2.2.2.2.2.2.1 k2_h1 k2_h14
theorem k2_off417_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h16 : k2_cond16 i k2_t66 arg9_r0 arg10_r0 = 1#1), ∀ a, (k2_off417 arg8_r0) a + S1x1x256x16.size a ≤ S2x1x256x16.size a := fun i k2_t66 arg5_r0 arg6_r0 arg7_r0 arg8_r0 arg9_r0 arg10_r0 k2_hw4 k2_h1 k2_h16 => k2_hw4.2.2.2.2.2.2.2.2.2.1 k2_h1 k2_h16
theorem k2_off418_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h16 : k2_cond16 i k2_t66 arg9_r0 arg10_r0 = 1#1), ∀ a, (k2_off418 i arg9_r0 arg10_r0) a + S1x256x16.size a ≤ S4x256x256.size a := fun i k2_t66 arg5_r0 arg6_r0 arg7_r0 arg8_r0 arg9_r0 arg10_r0 k2_hw4 k2_h1 k2_h16 => k2_hw4.2.2.2.2.2.2.2.2.2.2.1 k2_h1 k2_h16
theorem k2_off419_inb : ∀ (i : grid2.Coords) (k2_t66 : Fin (k2_t66_loop i).trips) (arg5_r0 : BitVec 32) (arg6_r0 : BitVec 32) (arg7_r0 : BitVec 32) (arg8_r0 : BitVec 32) (arg9_r0 : BitVec 32) (arg10_r0 : BitVec 32) (k2_hw4 : k2_chk4 i k2_t66 arg5_r0 arg6_r0 arg7_r0 arg8_r0 arg9_r0 arg10_r0), ∀ (k2_h1 : k2_cond1 i = 1#1), ∀ (k2_h16 : k2_cond16 i k2_t66 arg9_r0 arg10_r0 = 1#1), ∀ a, (k2_off419 arg8_r0) a + S1.size a ≤ S2.size a := fun i k2_t66 arg5_r0 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c4_i32 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let v11 : BitVec 32 := Scalar.muli c4_i32 v5
  let c1_i32_60_r0 : BitVec 32 := 1#32
  let v71_r0 : BitVec 32 := Scalar.subi v11 c1_i32_60_r0
  let c4_i32_61_r0 : BitVec 32 := 4#32
  let v72_r0 : BitVec 32 := Scalar.muli c4_i32_61_r0 v5
  let c1_i32_63_r0 : BitVec 32 := 1#32
  let v74_r0 : BitVec 32 := Scalar.subi v72_r0 c1_i32_63_r0
  let v75_r0 : BitVec 1 := Scalar.cmpi .eq v71_r0 v74_r0
  let v111_r0 : BitVec 32 := Scalar.extui v75_r0
  let c0_i32_88_r0 : BitVec 32 := 0#32
  let v112_r0 : BitVec 1 := Scalar.cmpi .ne v111_r0 c0_i32_88_r0
  v112_r0

def k2_off420 (v61_3_r0 : BitVec 32) : Fin 4 → Nat :=
  let c2_i32_r0 : BitVec 32 := 2#32
  let v113_r0 : BitVec 32 := Scalar.remui v61_3_r0 c2_i32_r0
  let c0_i32_91_r0 : BitVec 32 := 0#32
  let c0_i32_92_r0 : BitVec 32 := 0#32
  let c0_i32_93_r0 : BitVec 32 := 0#32
  ![v113_r0.toNat, 0, 0, 0]

def k2_off421 (i : grid2.Coords) (v61_5_r0 : BitVec 32) (v61_4_r0 : BitVec 32) : Fin 3 → Nat :=
  let c1_i32_89_r0 : BitVec 32 := 1#32
  let true_54_r0 : BitVec 1 := 1#1
  let c1_i32_53_r0 : BitVec 32 := 1#32
  let v62_r0 : BitVec 32 := Scalar.subi v61_5_r0 c1_i32_53_r0
  let v63_r0 : BitVec 32 := Scalar.select true_54_r0 v62_r0 v61_5_r0
  let c_m1_i32_55_r0 : BitVec 32 := 4294967295#32
  let v64_r0 : BitVec 1 := Scalar.cmpi .eq v63_r0 c_m1_i32_55_r0
  let c1_i32_57_r0 : BitVec 32 := 1#32
  let v67_r0 : BitVec 32 := Scalar.subi v61_4_r0 c1_i32_57_r0
  let v68_r0 : BitVec 32 := Scalar.select v64_r0 v67_r0 v61_4_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32_64_r0 : BitVec 32 := 0#32
  let v76_r0 : BitVec 32 := Scalar.addi v70_r0 c0_i32_64_r0
  let v114_r0 : BitVec 32 := Scalar.muli c1_i32_89_r0 v76_r0
  let c0_i32_94_r0 : BitVec 32 := 0#32
  let c16_i32_90_r0 : BitVec 32 := 16#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c1_i32_1 : BitVec 32 := 1#32
  let c0_i32_2 : BitVec 32 := 0#32
  let v5 : BitVec 32 := Scalar.select v4 c1_i32_1 c0_i32_2
  let c1_i32_56_r0 : BitVec 32 := 1#32
  let v65_r0 : BitVec 32 := Scalar.subi v5 c1_i32_56_r0
  let v66_r0 : BitVec 32 := Scalar.select v64_r0 v65_r0 v63_r0
  let c16_i32_3 : BitVec 32 := 16#32
  let v6 : BitVec 1 := Scalar.cmpi .slt v3 c16_i32_3
  let v7 : BitVec 32 := Scalar.muli v3 v5
  let c0_i32_4 : BitVec 32 := 0#32
  let v8 : BitVec 32 := Scalar.muli v3 c0_i32_4
  let c16_i32_5 : BitVec 32 := 16#32
  let v9 : BitVec 32 := Scalar.addi v8 c16_i32_5
  let v10 : BitVec 32 := Scalar.select v6 v7 v9
  let v77_r0 : BitVec 32 := Scalar.addi v66_r0 v10
  let v115_r0 : BitVec 32 := Scalar.muli c16_i32_90_r0 v77_r0
  ![v114_r0.toNat, 0, v115_r0.toNat]

def k2_chk8 (i : grid2.Coords) (v61_5_r0 : BitVec 32) (v61_4_r0 : BitVec 32) : Prop :=
  (∀ (k2_h1 : k2_cond1 i = 1#1), ∀ (k2_h18 : k2_cond18 i = 1#1), ∀ a, (k2_off421 i v61_5_r0 v61_4_r0) a + S1x256x16.size a ≤ S4x256x256.size a)
theorem k2_off421_inb : ∀ (i : grid2.Coords) (v61_5_r0 : BitVec 32) (v61_4_r0 : BitVec 32) (k2_hw8 : k2_chk8 i v61_5_r0 v61_4_r0), ∀ (k2_h1 : k2_cond1 i = 1#1), ∀ (k2_h18 : k2_cond18 i = 1#1), ∀ a, (k2_off421 i v61_5_r0 v61_4_r0) a + S1x256x16.size a ≤ S4x256x256.size a := fun i v61_5_r0 v61_4_r0 k2_hw8 k2_h1 k2_h18 => k2_hw8 k2_h1 k2_h18

def k2_off422 (v61_3_r0 : BitVec 32) : Fin 1 → Nat :=
  let c2_i32_r0 : BitVec 32 := 2#32
  let v113_r0 : BitVec 32 := Scalar.remui v61_3_r0 c2_i32_r0
  ![v113_r0.toNat]
def k2_off423 (v61_3_r0 : BitVec 32) : Fin 4 → Nat :=
  let c2_i32_r0 : BitVec 32 := 2#32
  let v113_r0 : BitVec 32 := Scalar.remui v61_3_r0 c2_i32_r0
  let c0_i32_96_r0 : BitVec 32 := 0#32
  let c0_i32_97_r0 : BitVec 32 := 0#32
  let c0_i32_98_r0 : BitVec 32 := 0#32
  ![v113_r0.toNat, 0, 0, 0]

def k2_chk7 (i : grid2.Coords) (v61_3_r0 : BitVec 32) : Prop :=
  (∀ (k2_h1 : k2_cond1 i = 1#1), ∀ (k2_h18 : k2_cond18 i = 1#1), ∀ a, (k2_off420 v61_3_r0) a + S1x1x256x16.size a ≤ S2x1x256x16.size a) ∧
  (∀ (k2_h1 : k2_cond1 i = 1#1), ∀ (k2_h18 : k2_cond18 i = 1#1), ∀ a, (k2_off422 v61_3_r0) a + S1.size a ≤ S2.size a) ∧
  (∀ (k2_h1 : k2_cond1 i = 1#1), ∀ (k2_h18 : k2_cond18 i = 1#1), ∀ a, (k2_off423 v61_3_r0) a + S1x1x256x16.size a ≤ S2x1x256x16.size a)
theorem k2_off420_inb : ∀ (i : grid2.Coords) (v61_3_r0 : BitVec 32) (k2_hw7 : k2_chk7 i v61_3_r0), ∀ (k2_h1 : k2_cond1 i = 1#1), ∀ (k2_h18 : k2_cond18 i = 1#1), ∀ a, (k2_off420 v61_3_r0) a + S1x1x256x16.size a ≤ S2x1x256x16.size a := fun i v61_3_r0 k2_hw7 k2_h1 k2_h18 => k2_hw7.1 k2_h1 k2_h18
theorem k2_off422_inb : ∀ (i : grid2.Coords) (v61_3_r0 : BitVec 32) (k2_hw7 : k2_chk7 i v61_3_r0), ∀ (k2_h1 : k2_cond1 i = 1#1), ∀ (k2_h18 : k2_cond18 i = 1#1), ∀ a, (k2_off422 v61_3_r0) a + S1.size a ≤ S2.size a := fun i v61_3_r0 k2_hw7 k2_h1 k2_h18 => k2_hw7.2.1 k2_h1 k2_h18
theorem k2_off423_inb : ∀ (i : grid2.Coords) (v61_3_r0 : BitVec 32) (k2_hw7 : k2_chk7 i v61_3_r0), ∀ (k2_h1 : k2_cond1 i = 1#1), ∀ (k2_h18 : k2_cond18 i = 1#1), ∀ a, (k2_off423 v61_3_r0) a + S1x1x256x16.size a ≤ S2x1x256x16.size a := fun i v61_3_r0 k2_hw7 k2_h1 k2_h18 => k2_hw7.2.2 k2_h1 k2_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_feats" => some ((1 / 768 : ℝ) : EReal)
  | _ => none
-- ==== ReferenceIdeal.lean ====
abbrev S32x768x16x16 : Shape := ⟨4, ![32, 768, 16, 16]⟩
abbrev S256 : Shape := ⟨1, ![256]⟩
abbrev S32x768x256 : Shape := ⟨3, ![32, 768, 256]⟩
abbrev S32x256x768 : Shape := ⟨3, ![32, 256, 768]⟩
abbrev S32x256x256 : Shape := ⟨3, ![32, 256, 256]⟩
abbrev S_ : Shape := ⟨0, ![]⟩
abbrev S32x256x16x16 : Shape := ⟨4, ![32, 256, 16, 16]⟩
abbrev S256x16x16x32 : Shape := ⟨4, ![256, 16, 16, 32]⟩
abbrev S256x1 : Shape := ⟨2, ![256, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x768x16x16, .f32⟩
  | .hbm, ⟨1, _⟩ => ⟨S256, .i32⟩
  | .hbm, ⟨2, _⟩ => ⟨S32x768x256, .f32⟩
  | .hbm, ⟨3, _⟩ => ⟨S32x256x768, .f32⟩
  | .hbm, ⟨4, _⟩ => ⟨S32x256x256, .f32⟩
  | .hbm, ⟨5, _⟩ => ⟨S_, .f32⟩
  | .hbm, ⟨6, _⟩ => ⟨S32x256x256, .f32⟩
  | .hbm, ⟨7, _⟩ => ⟨S32x256x256, .f32⟩
  | .hbm, ⟨8, _⟩ => ⟨S32x256x16x16, .f32⟩
  | .hbm, ⟨9, _⟩ => ⟨S32x256x16x16, .f32⟩
  | .hbm, ⟨10, _⟩ => ⟨S32x256x16x16, .f32⟩
  | .hbm, ⟨11, _⟩ => ⟨S32x256x16x16, .f32⟩
  | .hbm, ⟨12, _⟩ => ⟨S256x16x16x32, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x16x16x32, .f32⟩
  | .hbm, ⟨22, _⟩ => ⟨S32x256x16x16, .f32⟩
  | _, _ => ⟨S32x768x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.Network.lean ====
/-
  The BITONIC NETWORK over 256 rows, as mathematics.

  A `Pass` is one counted loop of compare-exchanges: at level `k` and distance `j` it takes the pairs `(i, i + j)` of rows
  lying in the blocks of `k` rows of one parity, one pair per trip, and leaves the larger of the two first (a descending
  pass) or the smaller first (an ascending one). `passes` lists the loops in order. The module shows
    • that a pass, run pair after pair, is the compare-exchange of all its pairs at once (`Pass.run_eq`, `Pass.runFrom_eq`),
      its pairs being disjoint, so that the two passes of one level and distance are one `stage`;
    • that the stages together sort: over a linear order, the value they leave at row `r` is at least `t` exactly when
      `r` is below the number of input rows that are at least `t` (`sort_spec`).
  The second is proved one threshold `t` at a time, on the predicate "at least `t`": after level `k` every block of `k` rows
  is an initial (or, in an odd block, a final) segment, and inside a level a block of `j` rows is a cyclic interval.
-/
module

public import Mathlib.Algebra.BigOperators.Fin
public import Mathlib.Algebra.BigOperators.Ring.Finset
public import Mathlib.Data.Fintype.BigOperators
public import Mathlib.Order.MinMax
public import Mathlib.Tactic.Ring
public import Mathlib.Tactic.Positivity
public import Mathlib.Tactic.SplitIfs
public import Mathlib.Tactic.NormNum
public import Mathlib.Tactic.Tauto

@[expose] public section

namespace Cert.Proof.Network

variable {β : Type}

/-! ## Passes -/

/-- One loop of compare-exchanges: level `k`, distance `j`, and whether it orders its pairs upward. -/
structure Pass where
  k : ℕ
  j : ℕ
  asc : Bool

namespace Pass

/-- Its number of pairs: all 128 at the last level, half of them before. -/
def trips (P : Pass) : ℕ := if P.k = 256 then 128 else 64

/-- The pair its trip `t` takes, counted among the 128 pairs of the stage. -/
def pair (P : Pass) (t : ℕ) : ℕ :=
  if P.k = 256 then t else t + (t - t % (P.k / 2)) + if P.asc then P.k / 2 else 0

/-- The first row of that pair, -/
def lo (P : Pass) (t : ℕ) : ℕ := P.pair t + (P.pair t - P.pair t % P.j)

/-- and the second. -/
def hi (P : Pass) (t : ℕ) : ℕ := P.lo t + P.j

/-- The trip that takes row `r`. -/
def code (P : Pass) (r : ℕ) : ℕ :=
  let p := r % P.j + r / (2 * P.j) * P.j
  if P.k = 256 then p else p % (P.k / 2) + p / P.k * (P.k / 2)

/-- Row `r` is in one of the pass's pairs. -/
def Covers (P : Pass) (r : ℕ) : Prop := r < 256 ∧ (r / P.k % 2 = 1 ↔ P.asc = true)

instance (P : Pass) (r : ℕ) : Decidable (P.Covers r) := by unfold Covers; infer_instance

/-- What the pass leaves at the first row of a pair holding `x` and `y`, -/
def fst (mx mn : β → β → β) (P : Pass) (x y : β) : β := if P.asc then mn x y else mx x y

/-- and at the second. -/
def snd (mx mn : β → β → β) (P : Pass) (x y : β) : β := if P.asc then mx x y else mn x y

/-- One trip: rows `lo t` and `hi t` of `g` rewritten from those of `s`. -/
def trip (mx mn : β → β → β) (P : Pass) (t : ℕ) (s g : ℕ → β) : ℕ → β := fun r =>
  if r = P.hi t then P.snd mx mn (s (P.lo t)) (s (P.hi t))
  else if r = P.lo t then P.fst mx mn (s (P.lo t)) (s (P.hi t))
  else g r

/-- The first `n` trips, reading what they rewrite. -/
def run (mx mn : β → β → β) (P : Pass) : ℕ → (ℕ → β) → ℕ → β
  | 0, g => g
  | n + 1, g => P.trip mx mn n (P.run mx mn n g) (P.run mx mn n g)

/-- The first `n` trips, reading rows `s` and rewriting rows `g`. -/
def runFrom (mx mn : β → β → β) (P : Pass) (s : ℕ → β) : ℕ → (ℕ → β) → ℕ → β
  | 0, g => g
  | n + 1, g => P.trip mx mn n s (P.runFrom mx mn s n g)

/-- The whole pass, in place. -/
def all (mx mn : β → β → β) (g : ℕ → β) (P : Pass) : ℕ → β := P.run mx mn P.trips g

end Pass

/-- Level `k`, distance `j` at once: every row against its partner, downward in the even blocks of `k` rows and upward
    in the odd ones. -/
def stage (mx mn : β → β → β) (k j : ℕ) (g : ℕ → β) : ℕ → β := fun r =>
  if r < 256 then
    if r / j % 2 = 0 then if r / k % 2 = 0 then mx (g r) (g (r + j)) else mn (g r) (g (r + j))
    else if r / k % 2 = 0 then mn (g (r - j)) (g r) else mx (g (r - j)) (g r)
  else g r

/-- The levels and distances, in order. -/
def stages : List (ℕ × ℕ) :=
  [(2, 1), (4, 2), (4, 1), (8, 4), (8, 2), (8, 1), (16, 8), (16, 4), (16, 2), (16, 1),
   (32, 16), (32, 8), (32, 4), (32, 2), (32, 1), (64, 32), (64, 16), (64, 8), (64, 4), (64, 2), (64, 1),
   (128, 64), (128, 32), (128, 16), (128, 8), (128, 4), (128, 2), (128, 1),
   (256, 128), (256, 64), (256, 32), (256, 16), (256, 8), (256, 4), (256, 2), (256, 1)]

/-- The loops of one level and distance: the last level's blocks are all even. -/
def passesOf (p : ℕ × ℕ) : List Pass :=
  if p.1 = 256 then [⟨p.1, p.2, false⟩] else [⟨p.1, p.2, false⟩, ⟨p.1, p.2, true⟩]

/-- The loops, in order. -/
def passes : List Pass := stages.flatMap passesOf

/-! ## A pass is its pairs at once -/

/-- What the pairs of a pass are: each trip's rows are covered, are that trip's by `code`, and lie either side of the
    distance's bit; each covered row is its trip's. -/
def Pass.Good (P : Pass) : Prop :=
  (∀ t < P.trips, P.Covers (P.lo t) ∧ P.Covers (P.hi t) ∧ P.code (P.lo t) = t ∧ P.code (P.hi t) = t
    ∧ P.lo t / P.j % 2 = 0 ∧ P.hi t / P.j % 2 = 1)
  ∧ ∀ r < 256, P.Covers r → P.code r < P.trips ∧ (r = P.lo (P.code r) ∨ r = P.hi (P.code r))

instance (P : Pass) : Decidable P.Good := by unfold Pass.Good; infer_instance

theorem good_passes : ∀ P ∈ passes, P.Good := by decide +kernel

section Passes

variable (mx mn : β → β → β)

theorem Pass.stage_lo {P : Pass} (hP : P.Good) {t : ℕ} (ht : t < P.trips) (s : ℕ → β) :
    stage mx mn P.k P.j s (P.lo t) = P.fst mx mn (s (P.lo t)) (s (P.hi t)) := by
  obtain ⟨h1, -, -, -, h5, -⟩ := hP.1 t ht
  obtain ⟨hlt, hasc⟩ := h1
  unfold stage Pass.fst
  rw [if_pos hlt, if_pos h5]
  change (if P.lo t / P.k % 2 = 0 then mx (s (P.lo t)) (s (P.hi t)) else mn (s (P.lo t)) (s (P.hi t))) = _
  cases h : P.asc
  · rw [if_pos (by have : ¬ P.lo t / P.k % 2 = 1 := by simp [hasc, h]
                   omega)]
    rfl
  · rw [if_neg (by have : P.lo t / P.k % 2 = 1 := hasc.2 h
                   omega)]
    rfl

theorem Pass.stage_hi {P : Pass} (hP : P.Good) {t : ℕ} (ht : t < P.trips) (s : ℕ → β) :
    stage mx mn P.k P.j s (P.hi t) = P.snd mx mn (s (P.lo t)) (s (P.hi t)) := by
  obtain ⟨-, h1, -, -, -, h6⟩ := hP.1 t ht
  obtain ⟨hlt, hasc⟩ := h1
  have hs : P.hi t - P.j = P.lo t := by unfold Pass.hi; omega
  unfold stage Pass.snd
  rw [if_pos hlt, if_neg (by omega), hs]
  cases h : P.asc
  · rw [if_pos (by have : ¬ P.hi t / P.k % 2 = 1 := by simp [hasc, h]
                   omega)]
    rfl
  · rw [if_neg (by have : P.hi t / P.k % 2 = 1 := hasc.2 h
                   omega)]
    rfl

/-- After `n` trips from rows `s`: the covered rows of those trips are the stage's of `s`, the others untouched. -/
theorem Pass.runFrom_lt {P : Pass} (hP : P.Good) (s g : ℕ → β) : ∀ n ≤ P.trips, ∀ r,
    P.runFrom mx mn s n g r = if P.Covers r ∧ P.code r < n then stage mx mn P.k P.j s r else g r := by
  intro n
  induction n with
  | zero => intro _ r; simp [Pass.runFrom]
  | succ n ih =>
    intro hn r
    have hn' : n < P.trips := hn
    obtain ⟨hl, hh, cl, ch, -, -⟩ := hP.1 n hn'
    show P.trip mx mn n s (P.runFrom mx mn s n g) r = _
    unfold Pass.trip
    by_cases e1 : r = P.hi n
    · subst e1
      rw [if_pos rfl, if_pos ⟨hh, by omega⟩, Pass.stage_hi mx mn hP hn']
    · rw [if_neg e1]
      by_cases e2 : r = P.lo n
      · subst e2
        rw [if_pos rfl, if_pos ⟨hl, by omega⟩, Pass.stage_lo mx mn hP hn']
      · rw [if_neg e2, ih (by omega)]
        refine if_congr (and_congr_right fun hc => ?_) rfl rfl
        have := (hP.2 r hc.1 hc).2
        constructor
        · intro h; omega
        · intro h
          rcases Nat.lt_succ_iff_lt_or_eq.1 h with h | h
          · exact h
          · rw [h] at this; exact absurd this (by tauto)

/-- The whole pass from rows `s`. -/
theorem Pass.runFrom_eq {P : Pass} (hP : P.Good) (s g : ℕ → β) (r : ℕ) :
    P.runFrom mx mn s P.trips g r = if P.Covers r then stage mx mn P.k P.j s r else g r := by
  rw [Pass.runFrom_lt mx mn hP s g _ le_rfl]
  refine if_congr (and_iff_left_of_imp fun hc => (hP.2 r hc.1 hc).1) rfl rfl

/-- Reading what it rewrites changes nothing: no trip reads a row an earlier one wrote. -/
theorem Pass.run_eq_runFrom {P : Pass} (hP : P.Good) (g : ℕ → β) : ∀ n ≤ P.trips, P.run mx mn n g = P.runFrom mx mn g n g := by
  intro n
  induction n with
  | zero => intro _; rfl
  | succ n ih =>
    intro hn
    have hn' : n < P.trips := hn
    obtain ⟨hl, hh, cl, ch, -, -⟩ := hP.1 n hn'
    show P.trip mx mn n (P.run mx mn n g) (P.run mx mn n g) = P.trip mx mn n g (P.runFrom mx mn g n g)
    rw [ih (by omega)]
    have h1 : P.runFrom mx mn g n g (P.lo n) = g (P.lo n) := by
      rw [Pass.runFrom_lt mx mn hP g g n (by omega), if_neg (by rw [cl]; omega)]
    have h2 : P.runFrom mx mn g n g (P.hi n) = g (P.hi n) := by
      rw [Pass.runFrom_lt mx mn hP g g n (by omega), if_neg (by rw [ch]; omega)]
    funext r
    unfold Pass.trip
    rw [h1, h2]

/-- The whole pass in place. -/
theorem Pass.all_eq {P : Pass} (hP : P.Good) (g : ℕ → β) (r : ℕ) :
    P.all mx mn g r = if P.Covers r then stage mx mn P.k P.j g r else g r := by
  unfold Pass.all
  rw [Pass.run_eq_runFrom mx mn hP g _ le_rfl, Pass.runFrom_eq mx mn hP]

/-- A stage's facts: a row and its partner are rows, in one block of the level. -/
def GoodStage (p : ℕ × ℕ) : Prop :=
  ∀ r < 256, (r / p.2 % 2 = 0 → r + p.2 < 256 ∧ (r + p.2) / p.1 = r / p.1)
    ∧ (r / p.2 % 2 ≠ 0 → (r - p.2) / p.1 = r / p.1) ∧ (p.1 = 256 → r / p.1 = 0)

instance (p : ℕ × ℕ) : Decidable (GoodStage p) := by unfold GoodStage; infer_instance

theorem good_stages : ∀ p ∈ stages, GoodStage p := by decide +kernel

/-- `stage` at a row asks only for the rows of its block. -/
theorem stage_congr {p : ℕ × ℕ} (hp : GoodStage p) {g g' : ℕ → β} {r : ℕ} (hr : r < 256)
    (h : ∀ r' < 256, r' / p.1 = r / p.1 → g r' = g' r') : stage mx mn p.1 p.2 g r = stage mx mn p.1 p.2 g' r := by
  obtain ⟨h1, h2, -⟩ := hp r hr
  unfold stage
  rw [if_pos hr, if_pos hr]
  by_cases e : r / p.2 % 2 = 0
  · rw [if_pos e, if_pos e, h r hr rfl, h _ (h1 e).1 (h1 e).2]
  · rw [if_neg e, if_neg e, h r hr rfl, h (r - p.2) (by omega) (h2 e)]

/-- The passes of a stage are the stage. -/
theorem passesOf_eq {p : ℕ × ℕ} (hp : p ∈ stages) (g : ℕ → β) :
    (passesOf p).foldl (Pass.all mx mn) g = stage mx mn p.1 p.2 g := by
  have hg := good_stages p hp
  have hP : ∀ P ∈ passesOf p, P.Good := fun P h => good_passes P (List.mem_flatMap.2 ⟨p, hp, h⟩)
  have hout : ∀ (g : ℕ → β) r, ¬ r < 256 → stage mx mn p.1 p.2 g r = g r := fun g r h => by unfold stage; rw [if_neg h]
  funext r
  by_cases hk : p.1 = 256
  · have e : passesOf p = [⟨p.1, p.2, false⟩] := by unfold passesOf; rw [if_pos hk]
    rw [e] at hP ⊢
    show Pass.all mx mn g ⟨p.1, p.2, false⟩ r = _
    rw [Pass.all_eq mx mn (hP _ (by simp))]
    by_cases hr : r < 256
    · rw [if_pos ⟨hr, by have := (hg r hr).2.2 hk; simp [this]⟩]
    · rw [if_neg (fun h => hr h.1), hout g r hr]
  · have e : passesOf p = [⟨p.1, p.2, false⟩, ⟨p.1, p.2, true⟩] := by unfold passesOf; rw [if_neg hk]
    rw [e] at hP ⊢
    show Pass.all mx mn (Pass.all mx mn g ⟨p.1, p.2, false⟩) ⟨p.1, p.2, true⟩ r = _
    have hD := hP ⟨p.1, p.2, false⟩ (by simp)
    have hA := hP ⟨p.1, p.2, true⟩ (by simp)
    rw [Pass.all_eq mx mn hA]
    by_cases hr : r < 256
    · by_cases h1 : r / p.1 % 2 = 1
      · rw [if_pos ⟨hr, by simp [h1]⟩]
        refine stage_congr mx mn hg hr fun r' hr' h' => ?_
        rw [Pass.all_eq mx mn hD, if_neg]
        rintro ⟨-, h⟩
        have h1' : r' / p.1 % 2 = 1 := by rw [h']; exact h1
        exact absurd (h.1 h1') (by simp)
      · rw [if_neg (fun h => h1 (h.2.2 rfl)), Pass.all_eq mx mn hD, if_pos ⟨hr, by simp [h1]⟩]
    · rw [if_neg (fun h => hr h.1), Pass.all_eq mx mn hD, if_neg (fun h => hr h.1), hout g r hr]

/-- The passes in order are the stages in order. -/
theorem foldl_passes (g : ℕ → β) :
    passes.foldl (Pass.all mx mn) g = stages.foldl (fun g p => stage mx mn p.1 p.2 g) g := by
  have : ∀ (l : List (ℕ × ℕ)), (∀ p ∈ l, p ∈ stages) → ∀ g : ℕ → β,
      (l.flatMap passesOf).foldl (Pass.all mx mn) g = l.foldl (fun g p => stage mx mn p.1 p.2 g) g := by
    intro l
    induction l with
    | nil => intro _ g; rfl
    | cons p l ih =>
      intro h g
      rw [List.flatMap_cons, List.foldl_append, passesOf_eq mx mn (h p (by simp)), List.foldl_cons,
        ih fun q hq => h q (by simp [hq])]
  exact this stages (fun _ h => h) g

end Passes

/-! ## The stages sort -/

section Sorting

/-- A stage seen through a threshold: "at least `t`" of a maximum is a disjunction, of a minimum a conjunction. -/
theorem le_stage {α : Type} [LinearOrder α] (k j : ℕ) (g : ℕ → α) (t : α) :
    (fun r => t ≤ stage max min k j g r) = stage Or And k j (fun r => t ≤ g r) := by
  funext r
  unfold stage
  split_ifs <;> simp [le_max_iff, le_min_iff]

theorem le_stages {α : Type} [LinearOrder α] (t : α) (l : List (ℕ × ℕ)) : ∀ g : ℕ → α,
    (fun r => t ≤ l.foldl (fun g p => stage max min p.1 p.2 g) g r)
      = l.foldl (fun e p => stage Or And p.1 p.2 e) (fun r => t ≤ g r) := by
  induction l with
  | nil => intro g; rfl
  | cons p l ih => intro g; rw [List.foldl_cons, List.foldl_cons, ih, le_stage]

/-- After level `k`: every even block of `k` rows is an initial segment, every odd one a final segment. -/
def Level (k : ℕ) (e : ℕ → Prop) : Prop :=
  ∀ b, b * k + k ≤ 256 → ∃ c, ∀ i < k, e (b * k + i) ↔ if b % 2 = 0 then i < c else k - 1 - i < c

/-- Inside level `k`, after distance `j`: in every block of `k` rows, each block of `j` rows is a cyclic interval, all of
    one shift, their lengths the successive parts of one length `c`. -/
def Mid (k j : ℕ) (e : ℕ → Prop) : Prop :=
  ∀ b, b * k + k ≤ 256 → ∃ s c, ∀ i < k,
    e (b * k + i) ↔ if b % 2 = 0 then (i + s) % j < c - i / j * j else (i + s) % j < c - (k / j - 1 - i / j) * j

/-- Two segments of opposite directions make a cyclic interval. -/
theorem mid_of_level {h : ℕ} (hh : 0 < h) {e : ℕ → Prop} (he : Level h e) : Mid (2 * h) (2 * h) e := by
  intro b hb
  have e0 : b * (2 * h) = 2 * b * h := by ring
  have e1 : (2 * b + 1) * h = b * (2 * h) + h := by ring
  obtain ⟨c₁, h₁⟩ := he (2 * b) (by omega)
  obtain ⟨c₂, h₂⟩ := he (2 * b + 1) (by omega)
  refine ⟨min c₂ h, min c₁ h + min c₂ h, fun i hi => ?_⟩
  have hd : i / (2 * h) = 0 := Nat.div_eq_of_lt hi
  have hk : 2 * h / (2 * h) = 1 := Nat.div_self (by omega)
  have goal : e (b * (2 * h) + i) ↔ (i + min c₂ h) % (2 * h) < min c₁ h + min c₂ h := by
    by_cases hlt : i < h
    · have := h₁ i hlt
      rw [if_pos (by omega)] at this
      rw [e0, this, Nat.mod_eq_of_lt (by omega)]
      omega
    · have := h₂ (i - h) (by omega)
      rw [if_neg (by omega), e1, show b * (2 * h) + h + (i - h) = b * (2 * h) + i by omega] at this
      rw [this]
      by_cases hw : i + min c₂ h < 2 * h
      · rw [Nat.mod_eq_of_lt hw]; omega
      · rw [Nat.mod_eq_sub_mod (by omega), Nat.mod_eq_of_lt (by omega)]; omega
  rw [goal, hd, hk]
  simp

/-- A compare-exchange at distance `j` halves the cyclic intervals. -/
theorem mid_stage {j q : ℕ} (hj : 0 < j) {e : ℕ → Prop} (he : Mid (2 * j * q) (2 * j) e) :
    Mid (2 * j * q) j (stage Or And (2 * j * q) j e) := by
  intro b hb
  obtain ⟨s, c, H⟩ := he b hb
  refine ⟨s, c, fun i hi => ?_⟩
  have hq : 0 < q := by rcases Nat.eq_zero_or_pos q with h | h; · (subst h; omega)
                        exact h
  -- the row's block and its bit
  have hr : b * (2 * j * q) + i < 256 := by omega
  have hk : 0 < 2 * j * q := by positivity
  have hbk : (b * (2 * j * q) + i) / (2 * j * q) = b := by
    rw [mul_comm b, Nat.mul_add_div hk, Nat.div_eq_of_lt hi, add_zero]
  have hbj : (b * (2 * j * q) + i) / j = 2 * (b * q) + i / j := by
    rw [show b * (2 * j * q) + i = j * (2 * (b * q)) + i by ring, Nat.mul_add_div hj]
  -- the quotients
  have hA : i / (2 * j) = i / j / 2 := by rw [mul_comm, Nat.div_div_eq_div_mul]
  have hmod : ∀ x, x % (2 * j) = x % j + j * (x / j % 2) := fun x => by rw [mul_comm 2 j, Nat.mod_mul]
  have hkj : 2 * j * q / j = 2 * q := by rw [show 2 * j * q = j * (2 * q) by ring, Nat.mul_div_cancel_left _ hj]
  have hkj2 : 2 * j * q / (2 * j) = q := Nat.mul_div_cancel_left _ (by omega)
  have hAq : i / j / 2 < q := by
    rw [← hA]; exact Nat.div_lt_of_lt_mul hi
  obtain ⟨A, hAdef⟩ : ∃ A, A = i / j / 2 := ⟨_, rfl⟩
  obtain ⟨R, hR⟩ : ∃ R, q = A + 1 + R := ⟨q - A - 1, by omega⟩
  have hi_eq : i = j * (i / j) + i % j := (Nat.div_add_mod i j).symm
  have hij : i % j < j := Nat.mod_lt _ hj
  have hsj : (i + s) % j < j := Nat.mod_lt _ hj
  unfold stage
  rw [if_pos hr, hbk, hbj, hkj]
  by_cases hB : i / j % 2 = 0
  · have hd : i / j = 2 * A := by omega
    have hi2 : i + j < 2 * j * q := by
      have : j * (i / j) = 2 * (j * A) := by rw [hd]; ring
      have : 2 * j * q = 2 * (j * A) + 2 * j + 2 * (j * R) := by rw [hR]; ring
      omega
    have hd2 : (i + j) / j = 2 * A + 1 := by rw [Nat.add_div_right _ hj, hd]
    have hA2 : (i + j) / (2 * j) = A := by rw [mul_comm, ← Nat.div_div_eq_div_mul, hd2]; omega
    have hs2 : (i + j + s) % j = (i + s) % j := by rw [show i + j + s = i + s + j by ring, Nat.add_mod_right]
    have hs3 : (i + j + s) / j = (i + s) / j + 1 := by rw [show i + j + s = i + s + j by ring, Nat.add_div_right _ hj]
    have H1 := H i hi
    have H2 := H (i + j) hi2
    rw [← add_assoc] at H2
    rw [hmod, hA, ← hAdef, hkj2] at H1
    rw [hmod, hA2, hs2, hs3, hkj2] at H2
    rw [if_pos (by omega), H1, H2, hd]
    have p1 : A * (2 * j) = 2 * (j * A) := by ring
    have p2 : (q - 1 - A) * (2 * j) = 2 * (j * R) := by rw [show q - 1 - A = R by omega]; ring
    have p3 : 2 * A * j = 2 * (j * A) := by ring
    have p4 : (2 * q - 1 - 2 * A) * j = 2 * (j * R) + j := by rw [show 2 * q - 1 - 2 * A = 2 * R + 1 by omega]; ring
    rw [p1, p2, p3, p4]
    generalize j * A = PA
    generalize j * R = PR
    generalize (i + s) / j = D
    rcases Nat.mod_two_eq_zero_or_one D with hD | hD
    · have hD' : (D + 1) % 2 = 1 := by omega
      rw [hD, hD', mul_zero, mul_one]
      by_cases hb2 : b % 2 = 0
      · simp only [if_pos hb2]; omega
      · simp only [if_neg hb2]; omega
    · have hD' : (D + 1) % 2 = 0 := by omega
      rw [hD, hD', mul_zero, mul_one]
      by_cases hb2 : b % 2 = 0
      · simp only [if_pos hb2]; omega
      · simp only [if_neg hb2]; omega
  · have hd : i / j = 2 * A + 1 := by omega
    have hge : j ≤ i := by
      have : j * (i / j) = 2 * (j * A) + j := by rw [hd]; ring
      omega
    obtain ⟨i', rfl⟩ : ∃ i', i = i' + j := ⟨i - j, by omega⟩
    have hd0 : i' / j = 2 * A := by rw [Nat.add_div_right _ hj] at hd; omega
    have hA2 : i' / (2 * j) = A := by rw [mul_comm, ← Nat.div_div_eq_div_mul, hd0]; omega
    have hs2 : (i' + j + s) % j = (i' + s) % j := by rw [show i' + j + s = i' + s + j by ring, Nat.add_mod_right]
    have hs3 : (i' + j + s) / j = (i' + s) / j + 1 := by rw [show i' + j + s = i' + s + j by ring, Nat.add_div_right _ hj]
    have H1 := H (i' + j) hi
    have H2 := H i' (by omega)
    rw [hmod, hA, ← hAdef, hs2, hs3, hkj2] at H1
    rw [hmod, hA2, hkj2] at H2
    rw [hs2] at hsj
    rw [if_neg (by omega), show b * (2 * j * q) + (i' + j) - j = b * (2 * j * q) + i' by omega, H1, H2, hd, hs2]
    have p1 : A * (2 * j) = 2 * (j * A) := by ring
    have p2 : (q - 1 - A) * (2 * j) = 2 * (j * R) := by rw [show q - 1 - A = R by omega]; ring
    have p3 : (2 * A + 1) * j = 2 * (j * A) + j := by ring
    have p4 : (2 * q - 1 - (2 * A + 1)) * j = 2 * (j * R) := by rw [show 2 * q - 1 - (2 * A + 1) = 2 * R by omega]; ring
    rw [p1, p2, p3, p4]
    generalize j * A = PA
    generalize j * R = PR
    generalize (i' + s) / j = D
    rcases Nat.mod_two_eq_zero_or_one D with hD | hD
    · have hD' : (D + 1) % 2 = 1 := by omega
      rw [hD, hD', mul_zero, mul_one]
      by_cases hb2 : b % 2 = 0
      · simp only [if_pos hb2]; omega
      · simp only [if_neg hb2]; omega
    · have hD' : (D + 1) % 2 = 0 := by omega
      rw [hD, hD', mul_zero, mul_one]
      by_cases hb2 : b % 2 = 0
      · simp only [if_pos hb2]; omega
      · simp only [if_neg hb2]; omega

/-- At distance one the intervals are the segments of the level. -/
theorem level_of_mid {k : ℕ} {e : ℕ → Prop} (he : Mid k 1 e) : Level k e := by
  intro b hb
  obtain ⟨s, c, H⟩ := he b hb
  refine ⟨c, fun i hi => ?_⟩
  rw [H i hi]
  simp only [Nat.mod_one, Nat.div_one, mul_one]
  by_cases hb2 : b % 2 = 0
  · simp only [if_pos hb2]; omega
  · simp only [if_neg hb2]; omega

/-- A single row is a segment. -/
theorem level_one (e : ℕ → Prop) : Level 1 e := by
  classical
  intro b _
  refine ⟨if e b then 1 else 0, fun i hi => ?_⟩
  obtain rfl : i = 0 := by omega
  by_cases h : e b <;> simp [h]

/-- All the stages: the 256 rows are an initial segment. -/
theorem level_stages (e : ℕ → Prop) : Level 256 (stages.foldl (fun e p => stage Or And p.1 p.2 e) e) := by
  have step : ∀ {j q k : ℕ} {e : ℕ → Prop}, 0 < j → 2 * j * q = k → Mid k (2 * j) e → Mid k j (stage Or And k j e) :=
    fun hj hk h => by subst hk; exact mid_stage hj h
  have up : ∀ {h : ℕ} {e : ℕ → Prop}, 0 < h → Level h e → Mid (2 * h) (2 * h) e := fun hh h => mid_of_level hh h
  have h2 := level_of_mid (step (j := 1) (q := 1) (by omega) rfl (up (by omega) (level_one e)))
  have h4 := level_of_mid (step (j := 1) (q := 2) (by omega) rfl (step (j := 2) (q := 1) (by omega) rfl (up (by omega) h2)))
  have h8 := level_of_mid (step (j := 1) (q := 4) (by omega) rfl (step (j := 2) (q := 2) (by omega) rfl
    (step (j := 4) (q := 1) (by omega) rfl (up (by omega) h4))))
  have h16 := level_of_mid (step (j := 1) (q := 8) (by omega) rfl (step (j := 2) (q := 4) (by omega) rfl
    (step (j := 4) (q := 2) (by omega) rfl (step (j := 8) (q := 1) (by omega) rfl (up (by omega) h8)))))
  have h32 := level_of_mid (step (j := 1) (q := 16) (by omega) rfl (step (j := 2) (q := 8) (by omega) rfl
    (step (j := 4) (q := 4) (by omega) rfl (step (j := 8) (q := 2) (by omega) rfl
      (step (j := 16) (q := 1) (by omega) rfl (up (by omega) h16))))))
  have h64 := level_of_mid (step (j := 1) (q := 32) (by omega) rfl (step (j := 2) (q := 16) (by omega) rfl
    (step (j := 4) (q := 8) (by omega) rfl (step (j := 8) (q := 4) (by omega) rfl
      (step (j := 16) (q := 2) (by omega) rfl (step (j := 32) (q := 1) (by omega) rfl (up (by omega) h32)))))))
  have h128 := level_of_mid (step (j := 1) (q := 64) (by omega) rfl (step (j := 2) (q := 32) (by omega) rfl
    (step (j := 4) (q := 16) (by omega) rfl (step (j := 8) (q := 8) (by omega) rfl
      (step (j := 16) (q := 4) (by omega) rfl (step (j := 32) (q := 2) (by omega) rfl
        (step (j := 64) (q := 1) (by omega) rfl (up (by omega) h64))))))))
  exact level_of_mid (step (j := 1) (q := 128) (by omega) rfl (step (j := 2) (q := 64) (by omega) rfl
    (step (j := 4) (q := 32) (by omega) rfl (step (j := 8) (q := 16) (by omega) rfl
      (step (j := 16) (q := 8) (by omega) rfl (step (j := 32) (q := 4) (by omega) rfl
        (step (j := 64) (q := 2) (by omega) rfl (step (j := 128) (q := 1) (by omega) rfl (up (by omega) h128)))))))))

open Classical in
/-- How many of the 256 rows satisfy `e`. -/
noncomputable def count (e : ℕ → Prop) : ℕ := ∑ r ∈ Finset.range 256, if e r then 1 else 0

/-- A stage keeps the count: a disjunction and a conjunction hold as often as their two arguments. -/
theorem count_stage {p : ℕ × ℕ} (hp : p ∈ stages) (e : ℕ → Prop) : count (stage Or And p.1 p.2 e) = count e := by
  classical
  have hg := good_stages p hp
  have hb : ∀ r < 256, (r / p.2 % 2 = 0 → (r + p.2) / p.2 % 2 = 1) ∧ (¬ r / p.2 % 2 = 0 → p.2 ≤ r ∧ (r - p.2) / p.2 % 2 = 0) := by
    revert p; decide +kernel
  let τ : ℕ → ℕ := fun r => if r / p.2 % 2 = 0 then r + p.2 else r - p.2
  have hτ : ∀ r < 256, τ r < 256 ∧ τ (τ r) = r := by
    intro r hr
    by_cases h : r / p.2 % 2 = 0
    · have h1 := (hg r hr).1 h
      have h2 := (hb r hr).1 h
      have e1 : τ r = r + p.2 := if_pos h
      refine ⟨by omega, ?_⟩
      rw [e1]
      show (if (r + p.2) / p.2 % 2 = 0 then _ else _) = r
      rw [if_neg (by omega)]; omega
    · have h2 := (hb r hr).2 h
      have e1 : τ r = r - p.2 := if_neg h
      refine ⟨by omega, ?_⟩
      rw [e1]
      show (if (r - p.2) / p.2 % 2 = 0 then _ else _) = r
      rw [if_pos h2.2]; omega
  have hsum : ∀ f : ℕ → ℕ, ∑ r ∈ Finset.range 256, f (τ r) = ∑ r ∈ Finset.range 256, f r := fun f =>
    Finset.sum_nbij' τ τ (fun r hr => by simpa using (hτ r (by simpa using hr)).1)
      (fun r hr => by simpa using (hτ r (by simpa using hr)).1)
      (fun r hr => (hτ r (by simpa using hr)).2) (fun r hr => (hτ r (by simpa using hr)).2) (fun _ _ => rfl)
  have hpt : ∀ r ∈ Finset.range 256,
      ((if stage Or And p.1 p.2 e r then 1 else 0) + (if stage Or And p.1 p.2 e (τ r) then 1 else 0) : ℕ)
        = (if e r then 1 else 0) + (if e (τ r) then 1 else 0) := by
    intro r hr
    have hr : r < 256 := by simpa using hr
    obtain ⟨hτ1, hτ2⟩ := hτ r hr
    by_cases h : r / p.2 % 2 = 0
    · have h1 := (hg r hr).1 h
      have h2 := (hb r hr).1 h
      have e1 : τ r = r + p.2 := if_pos h
      rw [e1]
      unfold stage
      rw [if_pos hr, if_pos h1.1, if_pos h, if_neg (show ¬ (r + p.2) / p.2 % 2 = 0 by omega), h1.2, Nat.add_sub_cancel]
      by_cases hk : r / p.1 % 2 = 0 <;> by_cases a : e r <;> by_cases b : e (r + p.2) <;> simp [hk, a, b]
    · have h2 := (hb r hr).2 h
      have h3 := (hg r hr).2.1 h
      have e1 : τ r = r - p.2 := if_neg h
      rw [e1]
      unfold stage
      rw [if_pos hr, if_pos (show r - p.2 < 256 by omega), if_neg h, if_pos h2.2, h3, Nat.sub_add_cancel h2.1]
      by_cases hk : r / p.1 % 2 = 0 <;> by_cases a : e r <;> by_cases b : e (r - p.2) <;> simp [hk, a, b]
  have h1 := Finset.sum_congr (rfl : Finset.range 256 = _) hpt
  rw [Finset.sum_add_distrib, Finset.sum_add_distrib, hsum (fun r => if stage Or And p.1 p.2 e r then 1 else 0),
    hsum (fun r => if e r then 1 else 0)] at h1
  unfold count
  omega

theorem count_stages (e : ℕ → Prop) : count (stages.foldl (fun e p => stage Or And p.1 p.2 e) e) = count e := by
  have : ∀ l : List (ℕ × ℕ), (∀ p ∈ l, p ∈ stages) → ∀ e : ℕ → Prop,
      count (l.foldl (fun e p => stage Or And p.1 p.2 e) e) = count e := by
    intro l
    induction l with
    | nil => intro _ e; rfl
    | cons p l ih => intro h e; rw [List.foldl_cons, ih (fun q hq => h q (by simp [hq])), count_stage (h p (by simp))]
  exact this stages (fun _ h => h) e

/-- An initial segment of the 256 rows is as long as its count. -/
theorem lt_count_of_segment {e : ℕ → Prop} {c : ℕ} (h : ∀ i < 256, e i ↔ i < c) {r : ℕ} (hr : r < 256) : e r ↔ r < count e := by
  classical
  have hc : count e = min c 256 := by
    unfold count
    rw [← Finset.card_filter]
    have : (Finset.range 256).filter e = Finset.range (min c 256) := by
      ext i
      simp only [Finset.mem_filter, Finset.mem_range, lt_min_iff]
      constructor
      · rintro ⟨h1, h2⟩; exact ⟨(h i h1).1 h2, h1⟩
      · rintro ⟨h1, h2⟩; exact ⟨h2, (h i h2).2 h1⟩
    rw [this, Finset.card_range]
  rw [h r hr, hc]; omega

/-- THE NETWORK SORTS: what the passes leave at row `r` is at least `t` exactly when `r` is below the number of input
    rows at least `t`. -/
theorem sort_spec {α : Type} [LinearOrder α] (g : ℕ → α) (t : α) {r : ℕ} (hr : r < 256) :
    t ≤ passes.foldl (Pass.all max min) g r ↔ r < count fun m => t ≤ g m := by
  rw [foldl_passes]
  have h := congrFun (le_stages t stages g) r
  rw [show (t ≤ stages.foldl (fun g p => stage max min p.1 p.2 g) g r) = _ from h]
  obtain ⟨c, hc⟩ := level_stages (fun m => t ≤ g m) 0 (by norm_num)
  have hseg : ∀ i < 256, stages.foldl (fun e p => stage Or And p.1 p.2 e) (fun m => t ≤ g m) i ↔ i < c := fun i hi => by
    have := hc i hi
    rw [zero_mul, zero_add, if_pos (by norm_num)] at this
    exact this
  rw [lt_count_of_segment hseg hr, count_stages]

/-- Rows antitone in `r`, and a rearrangement of `g`'s, are what the passes leave. -/
theorem eq_of_antitone_perm {α : Type} [LinearOrder α] (g y : ℕ → α) (σ : Equiv.Perm (Fin 256))
    (hσ : ∀ r : Fin 256, y r = g (σ r)) (hy : ∀ i j : ℕ, i ≤ j → j < 256 → y j ≤ y i) {r : ℕ} (hr : r < 256) :
    passes.foldl (Pass.all max min) g r = y r := by
  classical
  have key : ∀ t, t ≤ passes.foldl (Pass.all max min) g r ↔ t ≤ y r := by
    intro t
    rw [sort_spec g t hr]
    have hcnt : count (fun m => t ≤ g m) = count fun m => t ≤ y m := by
      unfold count
      rw [Finset.sum_range, Finset.sum_range, ← Equiv.sum_comp σ]
      exact Finset.sum_congr rfl fun i _ => by
        by_cases h : t ≤ g (σ i) <;> simp [hσ i, h]
    rw [hcnt]
    obtain ⟨c, hc⟩ : ∃ c, ∀ i < 256, t ≤ y i ↔ i < c := by
      by_cases hall : ∀ i < 256, t ≤ y i
      · exact ⟨256, fun i hi => ⟨fun _ => hi, fun _ => hall i hi⟩⟩
      · have hex : ∃ i, i < 256 ∧ ¬ t ≤ y i := by
          by_contra h; exact hall fun i hi => by by_contra h'; exact h ⟨i, hi, h'⟩
        refine ⟨Nat.find hex, fun i hi => ⟨fun h => ?_, fun h => ?_⟩⟩
        · by_contra hle
          have := Nat.find_spec hex
          exact this.2 (h.trans (hy _ _ (by omega) hi))
        · by_contra h'; exact Nat.find_min hex h ⟨hi, h'⟩
    exact (lt_count_of_segment hc hr).symm
  exact le_antisymm ((key _).1 le_rfl) ((key _).2 le_rfl)

end Sorting

end Cert.Proof.Network
-- ==== Proof.Compare.lean ====
/-
  ONE LOOP of compare-exchanges as the tile runs it. A tile keeps 256 rows of 16 lanes in a slot of its buffer; a trip of a
  loop loads two rows, computes their lanewise maximum and minimum, and stores them back to the same two row numbers (the
  first two loops read one slot and write another). `Holds` says what rows a slot holds; `trip` is one trip as printed, over
  its row offsets and payloads; `wp_loop` runs a whole loop: a slot holding `g` comes to hold what the `Pass` makes of `g`.
-/
module

public import proofs.«01_k».proof.Defs
public import proofs.«01_k».proof.Proof.Network
public import Idealize.ShloMosaic.Lib.SparseCore.Quiescent
public import Idealize.ShloMosaic.Lib.SparseCore.Ops
public import Idealize.ShloMosaic.Lib.Tactic
public import Idealize.ShloMosaic.Lib.Pipeline.RegionsLoop
public import Idealize.ShloMosaic.Lib.Writes
public import proofs.«01_k».proof.Proof.Gen.KernelIdeal
public import proofs.«01_k».proof.Proof.Gen.KernelIdeal.Skeleton

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev 𝒱₀ : Variants := Variants.none

abbrev cV (L : grid2.Coords) : Fin τ.nSC := (L 0).castLE hcore2
abbrev jV (L : grid2.Coords) : Fin τ.nSub := (L 1).castLE hsub2

/-- A row as a load reads it and a store writes it. -/
abbrev Row (F : FTy → Type) : Type := Vec F S1x1x16 .f32

/-- The lanewise maximum of two rows, -/
def rmax (x y : Row F) : Row F :=
  shapeCast S1x1x16 (maximumf (shapeCast S16 x shapeCasts_S1x1x16_S16) (shapeCast S16 y shapeCasts_S1x1x16_S16)) shapeCasts_S16_S1x1x16
/-- and the lanewise minimum. -/
def rmin (x y : Row F) : Row F :=
  shapeCast S1x1x16 (minimumf (shapeCast S16 x shapeCasts_S1x1x16_S16) (shapeCast S16 y shapeCasts_S1x1x16_S16)) shapeCasts_S16_S1x1x16

section Loop

variable (d : Dev nD) (L : grid2.Coords)

/-- What a tile's slot is addressed as. -/
abbrev Slot : Type := Memref sig .scVector .vmem S1x256x16 .f32

theorem row_inb (r : ℕ) (h : r < 256) : ∀ a, (![0, r, 0] : Fin 3 → ℕ) a + S1x1x16.size a ≤ S1x256x16.size a := by
  intro a
  match a with
  | 0 => show 0 + 1 ≤ 1; omega
  | 1 => show r + 1 ≤ 256; omega
  | 2 => show 0 + 16 ≤ 16; omega

/-- Row `r` of a slot. -/
abbrev rowRect (r : ℕ) (h : r < 256) : Rect S1x256x16 := Rect.unit (s := S1x256x16) ![0, r, 0] S1x1x16.size (row_inb r h)

/-- The slot `v` holds the rows `g`. -/
def Holds (v : Slot) (g : ℕ → Row F) : sProp 𝕄 :=
  iprop(∃ f : Buf (Elt F) (v.view.loc (V d (cV L) (jV L))),
    ⌜∀ r (h : r < 256) (x : S1x1x16.Idx), v.view.read (Elt F) f ((rowRect r h).emb x) = g r x⌝
      ∗ (v.view.loc (V d (cV L) (jV L)) ↦[v.view.set]{fullShare} f))

/-- Only the 256 rows matter. -/
theorem Holds_congr (v : Slot) {g g' : ℕ → Row F} (h : ∀ r < 256, g r = g' r) : Holds d L v g ⊢ Holds d L v g' := by
  unfold Holds
  iintro ⟨%f, %hf, H⟩
  iexists f
  isplitr
  · ipureintro; intro r hr x; rw [hf r hr x, h r hr]
  · iexact H

/-- One trip as printed: rows `o₁` and `o₂` of `s` loaded, the two results stored to rows `o₁'` and `o₂'` of `v` (each store
    preceded by a load nothing reads). -/
def trip (s v : Slot) (o₁ o₂ o₁' o₂' : Fin 3 → ℕ) (h₁ : ∀ a, o₁ a + S1x1x16.size a ≤ S1x256x16.size a)
    (h₂ : ∀ a, o₂ a + S1x1x16.size a ≤ S1x256x16.size a) (h₁' : ∀ a, o₁' a + S1x1x16.size a ≤ S1x256x16.size a)
    (h₂' : ∀ a, o₂' a + S1x1x16.size a ≤ S1x256x16.size a) (p₁ p₂ : Row F → Row F → Row F) :
    Prog (TpuEff nD τ sig (Elt F) Λ₀ (.scVector (cV L) (jV L))) Unit :=
  .op (.load s (Rect.unit (s := S1x256x16) o₁ S1x1x16.size h₁).toLoadRect (View.loadsAt_vmem h_S1x1x16)) fun x =>
  .op (.load s (Rect.unit (s := S1x256x16) o₂ S1x1x16.size h₂).toLoadRect (View.loadsAt_vmem h_S1x1x16)) fun y =>
  .op (.load v (Rect.unit (s := S1x256x16) o₁' S1x1x16.size h₁').toLoadRect (View.loadsAt_vmem h_S1x1x16)) fun _ =>
  .op (.store v (Rect.unit (s := S1x256x16) o₁' S1x1x16.size h₁') (p₁ x y) Finset.univ (View.stores_vmem_bits_univ h_S1x1x16 rfl) (.inl rfl)) fun _ =>
  .op (.load v (Rect.unit (s := S1x256x16) o₂' S1x1x16.size h₂').toLoadRect (View.loadsAt_vmem h_S1x1x16)) fun _ =>
  .op (.store v (Rect.unit (s := S1x256x16) o₂' S1x1x16.size h₂') (p₂ x y) Finset.univ (View.stores_vmem_bits_univ h_S1x1x16 rfl) (.inl rfl)) fun _ =>
  .ret ⟨⟩

/-- What the two stores leave at row `r`. -/
theorem read_stores (v : Slot) (f : Buf (Elt F) (v.view.loc (V d (cV L) (jV L)))) {a b : ℕ} (ha : a < 256) (hb : b < 256) (x y : Row F)
    (r : ℕ) (hr : r < 256) (l : S1x1x16.Idx) :
    v.view.read (Elt F) ((v.access (rowRect b hb)).write (Elt F) ((v.access (rowRect a ha)).write (Elt F) f x Finset.univ) y Finset.univ)
        ((rowRect r hr).emb l)
      = if r = b then y l else if r = a then x l else v.view.read (Elt F) f ((rowRect r hr).emb l) := by
  have e0 : (((rowRect r hr).emb l) 0).val = (l 0).val := by show 0 + 1 * (l 0).val = _; omega
  have e1 : (((rowRect r hr).emb l) 1).val = r := by
    show r + 1 * (l 1).val = r
    have : (l 1).val < 1 := (l 1).isLt
    omega
  have hmiss : ∀ (a : ℕ) (ha : a < 256) (w : Row F) (Ls : List (View.Piece (Elt F) S1x256x16 .f32)), r ≠ a →
      v.view.read (Elt F) (v.view.writes (Elt F) f (⟨rowRect a ha, w⟩ :: Ls)) ((rowRect r hr).emb l)
        = v.view.read (Elt F) (v.view.writes (Elt F) f Ls) ((rowRect r hr).emb l) := fun a ha w Ls hne =>
    View.read_writes_cons_miss_of_axis v.view f ⟨rowRect a ha, w⟩ Ls _ 1 a 1 rfl rfl rfl (by rw [e1]; omega)
  change v.view.read (Elt F) (v.view.writes (Elt F) f [⟨rowRect b hb, y⟩, ⟨rowRect a ha, x⟩]) _ = _
  split
  · next h => subst h; exact View.read_writes_cons_hit v.view f (rowRect r hb) y _ l _ rfl
  · next h =>
    rw [hmiss b hb y _ h]
    split
    · next h' => subst h'; exact View.read_writes_cons_hit v.view f (rowRect r ha) x _ l _ rfl
    · next h' => exact hmiss a ha x [] h'

/-- A load of row `r` of a slot. -/
theorem wp_load_row (v : Slot) (f : Buf (Elt F) (v.view.loc (V d (cV L) (jV L)))) (r : ℕ) (hr : r < 256) (h)
    (k : Row F → Prog (TpuEff nD τ sig (Elt F) Λ₀ (.scVector (cV L) (jV L))) Unit) (Q : Unit → sProp 𝕄) :
    (v.view.loc (V d (cV L) (jV L)) ↦[v.view.set]{fullShare} f)
      ⊢ iprop(((v.view.loc (V d (cV L) (jV L)) ↦[v.view.set]{fullShare} f)
            -∗ wp frame (wpE (defs₀ (F := F)) 𝒱₀ (V d (cV L) (jV L)) none) Set.univ (k ((v.access (rowRect r hr)).read (Elt F) f)) Q)
          -∗ wp frame (wpE (defs₀ (F := F)) 𝒱₀ (V d (cV L) (jV L)) none) Set.univ (.op (.load v (rowRect r hr).toLoadRect h) k) Q) :=
  wp_load_rect 𝒱₀ (V d (cV L) (jV L)) none Set.univ (m := v) (r := rowRect r hr) (v.view.set_slice_subset _)

/-- A store of `w` to row `r` of a slot. -/
theorem wp_store_row (v : Slot) (f : Buf (Elt F) (v.view.loc (V d (cV L) (jV L)))) (r : ℕ) (hr : r < 256) (w : Row F) (h h')
    (k : Unit → Prog (TpuEff nD τ sig (Elt F) Λ₀ (.scVector (cV L) (jV L))) Unit) (Q : Unit → sProp 𝕄) :
    (v.view.loc (V d (cV L) (jV L)) ↦[v.view.set]{fullShare} f)
      ⊢ iprop(((v.view.loc (V d (cV L) (jV L)) ↦[v.view.set]{fullShare} (v.access (rowRect r hr)).write (Elt F) f w Finset.univ)
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.store v (rowRect r hr) w Finset.univ h h') k) Q) :=
  wp_store 𝒱₀ (V d (cV L) (jV L)) none Set.univ (m := v) (r := rowRect r hr) (w := w) (Mk := Finset.univ) (v.setOn_access_subset _ _)

variable (mx mn : Row F → Row F → Row F)

/-- What a trip of the pass `P` leaves in the slot it stores to, over the rows `s` it read. -/
theorem holds_trip (P : Pass) (t : ℕ) (v : Slot) (s g : ℕ → Row F) (f : Buf (Elt F) (v.view.loc (V d (cV L) (jV L))))
    (hf : ∀ r (h : r < 256) (x : S1x1x16.Idx), v.view.read (Elt F) f ((rowRect r h).emb x) = g r x) (hl : P.lo t < 256) (hh : P.hi t < 256)
    (x y : Row F) (hx : x = s (P.lo t)) (hy : y = s (P.hi t)) :
    (v.view.loc (V d (cV L) (jV L)) ↦[v.view.set]{fullShare}
        (v.access (rowRect (P.hi t) hh)).write (Elt F) ((v.access (rowRect (P.lo t) hl)).write (Elt F) f (P.fst mx mn x y) Finset.univ)
          (P.snd mx mn x y) Finset.univ) ⊢ Holds d L v (P.trip mx mn t s g) := by
  unfold Holds
  iintro H
  iexists _
  isplitr; rotate_left
  · iexact H
  ipureintro
  intro r hr l
  refine (read_stores d L v f hl hh _ _ r hr l).trans ?_
  rw [hf r hr l, hx, hy]
  unfold Pass.trip
  split_ifs <;> rfl

/-- One trip in place. -/
theorem wp_trip_self (P : Pass) (t : ℕ) (v : Slot) (g : ℕ → Row F) (hl : P.lo t < 256) (hh : P.hi t < 256) (h₁ h₂ h₁' h₂') :
    Holds d L v g ⊢ wp frame (wpE (defs₀ (F := F)) 𝒱₀ (V d (cV L) (jV L)) none) Set.univ
      (trip L v v ![0, P.lo t, 0] ![0, P.hi t, 0] ![0, P.lo t, 0] ![0, P.hi t, 0] h₁ h₂ h₁' h₂' (P.fst mx mn) (P.snd mx mn))
      fun _ => Holds d L v (P.trip mx mn t g g) := by
  unfold trip
  iintro H0
  ihave H1 := (Entails.of_eq (by unfold Holds; rfl)) $$ H0
  icases H1 with ⟨%f, %hf, H⟩
  iapply (wp_load_row d L v f (P.lo t) hl) $$ [H]; · iexact H
  iintro H
  iapply (wp_load_row d L v f (P.hi t) hh) $$ [H]; · iexact H
  iintro H
  iapply (wp_load_row d L v f (P.lo t) hl) $$ [H]; · iexact H
  iintro H
  iapply (wp_store_row d L v f (P.lo t) hl) $$ [H]; · iexact H
  iintro H
  iapply (wp_load_row d L v _ (P.hi t) hh) $$ [H]; · iexact H
  iintro H
  iapply (wp_store_row d L v _ (P.hi t) hh) $$ [H]; · iexact H
  iintro H
  rw [wp_ret]
  imodintro
  iapply (holds_trip d L mx mn P t v g g f hf hl hh
    ((v.access (rowRect (P.lo t) hl)).read (Elt F) f) ((v.access (rowRect (P.hi t) hh)).read (Elt F) f)
    (funext fun x => hf _ hl x) (funext fun x => hf _ hh x)) $$ H

/-- One trip from another slot. -/
theorem wp_trip_from (P : Pass) (t : ℕ) (u v : Slot) (s g : ℕ → Row F) (hl : P.lo t < 256) (hh : P.hi t < 256) (h₁ h₂ h₁' h₂') :
    iprop(Holds d L u s ∗ Holds d L v g) ⊢ wp frame (wpE (defs₀ (F := F)) 𝒱₀ (V d (cV L) (jV L)) none) Set.univ
      (trip L u v ![0, P.lo t, 0] ![0, P.hi t, 0] ![0, P.lo t, 0] ![0, P.hi t, 0] h₁ h₂ h₁' h₂' (P.fst mx mn) (P.snd mx mn))
      fun _ => iprop(Holds d L u s ∗ Holds d L v (P.trip mx mn t s g)) := by
  unfold trip
  iintro ⟨Hu0, H0⟩
  ihave Hu1 := (Entails.of_eq (by unfold Holds; rfl)) $$ Hu0
  ihave H1 := (Entails.of_eq (by unfold Holds; rfl)) $$ H0
  icases Hu1 with ⟨%fu, %hfu, Hu⟩
  icases H1 with ⟨%f, %hf, H⟩
  iapply (wp_load_row d L u fu (P.lo t) hl) $$ [Hu]; · iexact Hu
  iintro Hu
  iapply (wp_load_row d L u fu (P.hi t) hh) $$ [Hu]; · iexact Hu
  iintro Hu
  iapply (wp_load_row d L v f (P.lo t) hl) $$ [H]; · iexact H
  iintro H
  iapply (wp_store_row d L v f (P.lo t) hl) $$ [H]; · iexact H
  iintro H
  iapply (wp_load_row d L v _ (P.hi t) hh) $$ [H]; · iexact H
  iintro H
  iapply (wp_store_row d L v _ (P.hi t) hh) $$ [H]; · iexact H
  iintro H
  rw [wp_ret]
  imodintro
  isplitl [Hu]
  · unfold Holds; iexists fu
    isplitr
    · ipureintro; exact hfu
    · iexact Hu
  · iapply (holds_trip d L mx mn P t v s g f hf hl hh
      ((u.access (rowRect (P.lo t) hl)).read (Elt F) fu) ((u.access (rowRect (P.hi t) hh)).read (Elt F) fu)
      (funext fun x => hfu _ hl x) (funext fun x => hfu _ hh x)) $$ H

/-! ## A whole loop -/

section Whole

variable {l : Scf.Loop 32} {ok : l.OK} {P : Pass} {body : Fin l.trips → Unit → Prog (TpuEff nD τ sig (Elt F) Λ₀ (.scVector (cV L) (jV L))) Unit}
  {o₁ o₂ o₁' o₂' : Fin l.trips → Fin 3 → ℕ} {h₁ : ∀ t a, o₁ t a + S1x1x16.size a ≤ S1x256x16.size a}
  {h₂ : ∀ t a, o₂ t a + S1x1x16.size a ≤ S1x256x16.size a} {h₁' : ∀ t a, o₁' t a + S1x1x16.size a ≤ S1x256x16.size a}
  {h₂' : ∀ t a, o₂' t a + S1x1x16.size a ≤ S1x256x16.size a}

/-- The offsets of trip `t` are the pass's rows. -/
def Offsets (P : Pass) {n : ℕ} (o₁ o₂ o₁' o₂' : Fin n → Fin 3 → ℕ) : Prop :=
  n = P.trips ∧ ∀ t : Fin n, o₁ t = ![0, P.lo t, 0] ∧ o₂ t = ![0, P.hi t, 0] ∧ o₁' t = ![0, P.lo t, 0] ∧ o₂' t = ![0, P.hi t, 0]

instance (P : Pass) {n : ℕ} (o₁ o₂ o₁' o₂' : Fin n → Fin 3 → ℕ) : Decidable (Offsets P o₁ o₂ o₁' o₂') := by
  unfold Offsets; infer_instance

/-- A loop in place, at the head of a program: the rest runs from the slot the pass left. -/
theorem wp_loop_then {α : Type} {rest : Unit → Prog (TpuEff nD τ sig (Elt F) Λ₀ (.scVector (cV L) (jV L))) α} (v : Slot) (g : ℕ → Row F)
    (R : sProp 𝕄) (Q : α → sProp 𝕄)
    (hb : ∀ t, body t ⟨⟩ = trip L v v (o₁ t) (o₂ t) (o₁' t) (o₂' t) (h₁ t) (h₂ t) (h₁' t) (h₂' t) (P.fst mx mn) (P.snd mx mn))
    (ho : Offsets P o₁ o₂ o₁' o₂')
    (hrest : iprop(Holds d L v (P.all mx mn g) ∗ R) ⊢ wp frame (wpE (defs₀ (F := F)) 𝒱₀ (V d (cV L) (jV L)) none) Set.univ (rest ⟨⟩) Q) :
    iprop(Holds d L v g ∗ R) ⊢ wp frame (wpE (defs₀ (F := F)) 𝒱₀ (V d (cV L) (jV L)) none) Set.univ (l.for ok ⟨⟩ body >>= rest) Q := by
  iintro ⟨H, HR⟩
  iapply (Scf.wp_for_bind frame (wpE (defs₀ (F := F)) 𝒱₀ (V d (cV L) (jV L)) none) Set.univ l.lb l.ub l.st ok ⟨⟩ body
    (fun n _ => Holds d L v (P.run mx mn n g)) ?_) $$ [H]
  · intro t _
    obtain ⟨e₁, e₂, e₁', e₂'⟩ := ho.2 t
    have hl : P.lo t < 256 := by have := h₁ t 1; rw [e₁] at this; exact this
    have hh : P.hi t < 256 := by have := h₂ t 1; rw [e₂] at this; exact this
    rw [hb t]
    simp only [e₁, e₂, e₁', e₂']
    exact wp_trip_self d L mx mn P t v (P.run mx mn t g) hl hh _ _ _ _
  · iexact H
  · iintro %_ H
    rw [show Scf.trips l.lb l.ub l.st = P.trips from ho.1]
    iapply hrest
    isplitl [H]
    · iexact H
    · iexact HR

/-- The same in a run of passes. -/
theorem wp_loop_self {rest : Unit → Prog (TpuEff nD τ sig (Elt F) Λ₀ (.scVector (cV L) (jV L))) Unit} (v : Slot) (g : ℕ → Row F)
    (R : sProp 𝕄) (Ps : List Pass)
    (hb : ∀ t, body t ⟨⟩ = trip L v v (o₁ t) (o₂ t) (o₁' t) (o₂' t) (h₁ t) (h₂ t) (h₁' t) (h₂' t) (P.fst mx mn) (P.snd mx mn))
    (ho : Offsets P o₁ o₂ o₁' o₂')
    (hrest : iprop(Holds d L v (P.all mx mn g) ∗ R) ⊢ wp frame (wpE (defs₀ (F := F)) 𝒱₀ (V d (cV L) (jV L)) none) Set.univ (rest ⟨⟩)
      fun _ => iprop(Holds d L v (Ps.foldl (Pass.all mx mn) (P.all mx mn g)) ∗ R)) :
    iprop(Holds d L v g ∗ R) ⊢ wp frame (wpE (defs₀ (F := F)) 𝒱₀ (V d (cV L) (jV L)) none) Set.univ (l.for ok ⟨⟩ body >>= rest)
      fun _ => iprop(Holds d L v ((P :: Ps).foldl (Pass.all mx mn) g) ∗ R) :=
  wp_loop_then d L mx mn v g R _ hb ho hrest

/-- The end of a run of passes. -/
theorem wp_loops_end (v : Slot) (g : ℕ → Row F) (R : sProp 𝕄) :
    iprop(Holds d L v g ∗ R) ⊢ wp frame (wpE (defs₀ (F := F)) 𝒱₀ (V d (cV L) (jV L)) none) Set.univ (pure ⟨⟩ : Prog _ Unit)
      fun _ => iprop(Holds d L v (([] : List Pass).foldl (Pass.all mx mn) g) ∗ R) := by
  rw [wp_pure]
  iintro H
  imodintro
  iexact H

/-- A loop from another slot, at the head of a program. -/
theorem wp_loop_from {α : Type} {rest : Unit → Prog (TpuEff nD τ sig (Elt F) Λ₀ (.scVector (cV L) (jV L))) α} (u v : Slot) (s g : ℕ → Row F)
    (R : sProp 𝕄) (Q : α → sProp 𝕄)
    (hb : ∀ t, body t ⟨⟩ = trip L u v (o₁ t) (o₂ t) (o₁' t) (o₂' t) (h₁ t) (h₂ t) (h₁' t) (h₂' t) (P.fst mx mn) (P.snd mx mn))
    (ho : Offsets P o₁ o₂ o₁' o₂')
    (hrest : iprop(Holds d L u s ∗ Holds d L v (P.runFrom mx mn s P.trips g) ∗ R)
      ⊢ wp frame (wpE (defs₀ (F := F)) 𝒱₀ (V d (cV L) (jV L)) none) Set.univ (rest ⟨⟩) Q) :
    iprop(Holds d L u s ∗ Holds d L v g ∗ R) ⊢ wp frame (wpE (defs₀ (F := F)) 𝒱₀ (V d (cV L) (jV L)) none) Set.univ (l.for ok ⟨⟩ body >>= rest) Q := by
  iintro ⟨Hu, Hv, HR⟩
  iapply (Scf.wp_for_bind frame (wpE (defs₀ (F := F)) 𝒱₀ (V d (cV L) (jV L)) none) Set.univ l.lb l.ub l.st ok ⟨⟩ body
    (fun n _ => iprop(Holds d L u s ∗ Holds d L v (P.runFrom mx mn s n g))) ?_) $$ [Hu Hv]
  · intro t _
    obtain ⟨e₁, e₂, e₁', e₂'⟩ := ho.2 t
    have hl : P.lo t < 256 := by have := h₁ t 1; rw [e₁] at this; exact this
    have hh : P.hi t < 256 := by have := h₂ t 1; rw [e₂] at this; exact this
    rw [hb t]
    simp only [e₁, e₂, e₁', e₂']
    exact wp_trip_from d L mx mn P t u v s (P.runFrom mx mn s t g) hl hh _ _ _ _
  · isplitl [Hu]
    · iexact Hu
    · iexact Hv
  · iintro %_ ⟨Hu, Hv⟩
    rw [show Scf.trips l.lb l.ub l.st = P.trips from ho.1]
    iapply hrest
    isplitl [Hu]
    · iexact Hu
    isplitl [Hv]
    · iexact Hv
    · iexact HR

end Whole

end Loop

end Cert.Proof.Sort
-- ==== Proof.Passes.lean ====
/-
  THE TILE'S LOOPS are the network's passes, in order. The printed loops come in parts of a few each: the first part reads the
  slot a block was fetched into and writes the slot it is sent out from, the others work on the latter in place. Each printed
  trip is `trip` by unfolding, at row offsets computed trip by trip to be the pass's.
-/
module

public import proofs.«01_k».proof.Proof.Compare

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A slot of one of the tile's two double buffers. -/
abbrev slot (B : Memref sig .scVector .vmem S2x1x256x16 .f32) (o : Fin 4 → ℕ) (h : ∀ a, o a + S1x1x256x16.size a ≤ S2x1x256x16.size a) : Slot :=
  (B.slice (Rect.unit (s := S2x1x256x16) o S1x1x256x16.size h) (fun _ => rfl)).squeeze S1x256x16 squeezes_S1x1x256x16_S1x256x16

section Parts

variable (d : Dev nD) (i : grid2.Coords)
variable (arg2 : Memref sig .scVector .hbm S4x256x256 .f32) (harg2 : arg2.IsWhole) (arg3 : Memref sig .scVector .hbm S4x256x256 .f32)
  (harg3 : arg3.IsWhole) (A : Memref sig .scVector .vmem S2x1x256x16 .f32) (hA : A.IsWhole) (v12 : DmaSems sig S2)
  (B : Memref sig .scVector .vmem S2x1x256x16 .f32) (hB : B.IsWhole) (v13 : DmaSems sig S2)
variable (h1 : k2_cond1 i = 1#1) (t : Fin (k2_t1_loop i).trips) (arg6 arg7 : BitVec 32) (hw3 : k2_chk3 i t arg7) (hw2 : k2_chk2 i t arg6)

/-- The slot a trip's block was fetched into, -/
abbrev inSlot : Slot := slot A (k2_off10 arg6) (k2_off10_inb i t arg6 hw2 h1)
/-- and the slot it is sorted in and sent out from. -/
abbrev outSlot : Slot := slot B (k2_off13 arg7) (k2_off13_inb i t arg7 hw3 h1)

/-- The passes of each part. -/
def seg67 : List Pass :=
  [⟨4, 2, false⟩, ⟨4, 2, true⟩, ⟨4, 1, false⟩, ⟨4, 1, true⟩, ⟨8, 4, false⟩, ⟨8, 4, true⟩, ⟨8, 2, false⟩]
def seg68 : List Pass :=
  [⟨8, 2, true⟩, ⟨8, 1, false⟩, ⟨8, 1, true⟩, ⟨16, 8, false⟩, ⟨16, 8, true⟩, ⟨16, 4, false⟩, ⟨16, 4, true⟩, ⟨16, 2, false⟩,
   ⟨16, 2, true⟩, ⟨16, 1, false⟩]
def seg69 : List Pass :=
  [⟨16, 1, true⟩, ⟨32, 16, false⟩, ⟨32, 16, true⟩, ⟨32, 8, false⟩, ⟨32, 8, true⟩, ⟨32, 4, false⟩, ⟨32, 4, true⟩, ⟨32, 2, false⟩,
   ⟨32, 2, true⟩, ⟨32, 1, false⟩]
def seg70 : List Pass :=
  [⟨32, 1, true⟩, ⟨64, 32, false⟩, ⟨64, 32, true⟩, ⟨64, 16, false⟩, ⟨64, 16, true⟩, ⟨64, 8, false⟩, ⟨64, 8, true⟩, ⟨64, 4, false⟩,
   ⟨64, 4, true⟩, ⟨64, 2, false⟩]
def seg71 : List Pass :=
  [⟨64, 2, true⟩, ⟨64, 1, false⟩, ⟨64, 1, true⟩, ⟨128, 64, false⟩, ⟨128, 64, true⟩, ⟨128, 32, false⟩, ⟨128, 32, true⟩,
   ⟨128, 16, false⟩, ⟨128, 16, true⟩, ⟨128, 8, false⟩]
def seg72 : List Pass :=
  [⟨128, 8, true⟩, ⟨128, 4, false⟩, ⟨128, 4, true⟩, ⟨128, 2, false⟩, ⟨128, 2, true⟩, ⟨128, 1, false⟩, ⟨128, 1, true⟩,
   ⟨256, 128, false⟩, ⟨256, 64, false⟩, ⟨256, 32, false⟩]
def seg73 : List Pass := [⟨256, 16, false⟩, ⟨256, 8, false⟩, ⟨256, 4, false⟩, ⟨256, 2, false⟩, ⟨256, 1, false⟩]

theorem passes_eq : passes = ⟨2, 1, false⟩ :: ⟨2, 1, true⟩ :: (seg67 ++ (seg68 ++ (seg69 ++ (seg70 ++ (seg71 ++ (seg72 ++ seg73)))))) := rfl

/-- What the first part leaves of the fetched rows `s`. -/
def after67 (s : ℕ → Row F) : ℕ → Row F :=
  seg67.foldl (Pass.all rmax rmin) (Pass.all rmax rmin (Pass.all rmax rmin s ⟨2, 1, false⟩) ⟨2, 1, true⟩)

/-- The first stage run from another slot leaves what it leaves in place: its two passes cover all rows. -/
theorem first_stage (s g : ℕ → Row F) (r : ℕ) (hr : r < 256) :
    Pass.runFrom rmax rmin ⟨2, 1, true⟩ s (Pass.trips ⟨2, 1, true⟩) (Pass.runFrom rmax rmin ⟨2, 1, false⟩ s (Pass.trips ⟨2, 1, false⟩) g) r
      = Pass.all rmax rmin (Pass.all rmax rmin s ⟨2, 1, false⟩) ⟨2, 1, true⟩ r := by
  have hD : Pass.Good ⟨2, 1, false⟩ := good_passes _ (by rw [passes_eq]; simp)
  have hA : Pass.Good ⟨2, 1, true⟩ := good_passes _ (by rw [passes_eq]; simp)
  have e : Pass.all rmax rmin (Pass.all rmax rmin s ⟨2, 1, false⟩) ⟨2, 1, true⟩ = stage rmax rmin 2 1 s :=
    passesOf_eq rmax rmin (p := (2, 1)) (by simp [stages]) s
  rw [e, Pass.runFrom_eq rmax rmin hA, Pass.runFrom_eq rmax rmin hD]
  by_cases h : r / 2 % 2 = 1
  · rw [if_pos ⟨hr, by simp [h]⟩]
  · rw [if_neg (fun hc => h (hc.2.2 rfl)), if_pos ⟨hr, by simp [h]⟩]

/-- The first part: the slot it sorts in ends with what its passes make of the fetched rows. -/
theorem wp_part67 (v186 c0 : BitVec 32) (s g : ℕ → Row F) (R : sProp 𝕄) :
    iprop(Holds d i (inSlot i A h1 t arg6 hw2) s ∗ Holds d i (outSlot i B h1 t arg7 hw3) g ∗ R)
      ⊢ wp frame (wpE (defs₀ (F := F)) 𝒱₀ (V d (cV i) (jV i)) none) Set.univ
        (k2_part67 i arg2 harg2 arg3 harg3 A hA v12 B hB v13 h1 t arg6 arg7 hw3 hw2 v186 c0)
        fun _ => iprop(Holds d i (outSlot i B h1 t arg7 hw3) (after67 s) ∗ Holds d i (inSlot i A h1 t arg6 hw2) s ∗ R) := by
  rw [k2_part67_eq_skeleton]
  unfold k2_part67_skel
  simp only [pure_bind, ite_self]
  apply wp_loop_from d i rmax rmin (P := ⟨2, 1, false⟩)
  case hb => intro t; rfl
  case ho => decide +kernel
  apply wp_loop_from d i rmax rmin (P := ⟨2, 1, true⟩)
  case hb => intro t; rfl
  case ho => decide +kernel
  refine BIBase.Entails.trans (Q := iprop(Holds d i (outSlot i B h1 t arg7 hw3) (Pass.all rmax rmin (Pass.all rmax rmin s ⟨2, 1, false⟩) ⟨2, 1, true⟩)
    ∗ Holds d i (inSlot i A h1 t arg6 hw2) s ∗ R)) ?_ ?_
  · iintro ⟨Hs, Hg, HR⟩
    isplitl [Hg]
    · iapply (Holds_congr d i _ (first_stage s g)) $$ Hg
    isplitl [Hs]
    · iexact Hs
    · iexact HR
  unfold after67 seg67
  repeat' apply wp_loop_self d i rmax rmin
  all_goals first | exact wp_loops_end d i rmax rmin _ _ _ | (intro t; rfl) | decide +kernel

/-- The next five parts, each in place. -/
theorem wp_part68 (g : ℕ → Row F) (R : sProp 𝕄) : iprop(Holds d i (outSlot i B h1 t arg7 hw3) g ∗ R)
    ⊢ wp frame (wpE (defs₀ (F := F)) 𝒱₀ (V d (cV i) (jV i)) none) Set.univ
      (k2_part68 i arg2 harg2 arg3 harg3 A hA v12 B hB v13 h1 t arg7 hw3)
      fun _ => iprop(Holds d i (outSlot i B h1 t arg7 hw3) (seg68.foldl (Pass.all rmax rmin) g) ∗ R) := by
  rw [k2_part68_eq_skeleton]
  unfold k2_part68_skel seg68
  repeat' apply wp_loop_self d i rmax rmin
  all_goals first | exact wp_loops_end d i rmax rmin _ _ _ | (intro t; rfl) | decide +kernel

theorem wp_part69 (g : ℕ → Row F) (R : sProp 𝕄) : iprop(Holds d i (outSlot i B h1 t arg7 hw3) g ∗ R)
    ⊢ wp frame (wpE (defs₀ (F := F)) 𝒱₀ (V d (cV i) (jV i)) none) Set.univ
      (k2_part69 i arg2 harg2 arg3 harg3 A hA v12 B hB v13 h1 t arg7 hw3)
      fun _ => iprop(Holds d i (outSlot i B h1 t arg7 hw3) (seg69.foldl (Pass.all rmax rmin) g) ∗ R) := by
  rw [k2_part69_eq_skeleton]
  unfold k2_part69_skel seg69
  repeat' apply wp_loop_self d i rmax rmin
  all_goals first | exact wp_loops_end d i rmax rmin _ _ _ | (intro t; rfl) | decide +kernel

theorem wp_part70 (g : ℕ → Row F) (R : sProp 𝕄) : iprop(Holds d i (outSlot i B h1 t arg7 hw3) g ∗ R)
    ⊢ wp frame (wpE (defs₀ (F := F)) 𝒱₀ (V d (cV i) (jV i)) none) Set.univ
      (k2_part70 i arg2 harg2 arg3 harg3 A hA v12 B hB v13 h1 t arg7 hw3)
      fun _ => iprop(Holds d i (outSlot i B h1 t arg7 hw3) (seg70.foldl (Pass.all rmax rmin) g) ∗ R) := by
  rw [k2_part70_eq_skeleton]
  unfold k2_part70_skel seg70
  repeat' apply wp_loop_self d i rmax rmin
  all_goals first | exact wp_loops_end d i rmax rmin _ _ _ | (intro t; rfl) | decide +kernel

theorem wp_part71 (g : ℕ → Row F) (R : sProp 𝕄) : iprop(Holds d i (outSlot i B h1 t arg7 hw3) g ∗ R)
    ⊢ wp frame (wpE (defs₀ (F := F)) 𝒱₀ (V d (cV i) (jV i)) none) Set.univ
      (k2_part71 i arg2 harg2 arg3 harg3 A hA v12 B hB v13 h1 t arg7 hw3)
      fun _ => iprop(Holds d i (outSlot i B h1 t arg7 hw3) (seg71.foldl (Pass.all rmax rmin) g) ∗ R) := by
  rw [k2_part71_eq_skeleton]
  unfold k2_part71_skel seg71
  repeat' apply wp_loop_self d i rmax rmin
  all_goals first | exact wp_loops_end d i rmax rmin _ _ _ | (intro t; rfl) | decide +kernel

theorem wp_part72 (g : ℕ → Row F) (R : sProp 𝕄) : iprop(Holds d i (outSlot i B h1 t arg7 hw3) g ∗ R)
    ⊢ wp frame (wpE (defs₀ (F := F)) 𝒱₀ (V d (cV i) (jV i)) none) Set.univ
      (k2_part72 i arg2 harg2 arg3 harg3 A hA v12 B hB v13 h1 t arg7 hw3)
      fun _ => iprop(Holds d i (outSlot i B h1 t arg7 hw3) (seg72.foldl (Pass.all rmax rmin) g) ∗ R) := by
  rw [k2_part72_eq_skeleton]
  unfold k2_part72_skel seg72
  repeat' apply wp_loop_self d i rmax rmin
  all_goals first | exact wp_loops_end d i rmax rmin _ _ _ | (intro t; rfl) | decide +kernel

end Parts

end Cert.Proof.Sort
-- ==== Proof.Scalars.lean ====
/-
  THE TILE'S SCALARS. A tile of SparseCore 0 runs four trips, one per batch; the carry counts the fetches issued, the fetches
  waited for, the blocks sorted, the sends waited for, and the batch. Every condition and offset of a trip is computed here from
  that carry, for each of the sixteen tiles and four trips.
-/
module

public import proofs.«01_k».proof.Proof.Gen.KernelIdeal.Skeleton

@[expose] public section

namespace Cert.Proof.Sort

open Cert.KernelIdeal Cert.KernelIdeal.Gen
open Idealize.ShloMosaic

/-- The coordinates of subcore `s` of SparseCore `c`. -/
def coordsV (c : Fin (grid2.bound 0)) (s : Fin (grid2.bound 1)) : grid2.Coords :=
  fun | 0 => c | 1 => s | ⟨_ + 2, h⟩ => absurd h (Nat.not_lt.2 (Nat.le_add_left _ _))

/-- Tile `s` of SparseCore 0. -/
abbrev tile (s : Fin 16) : grid2.Coords := coordsV ⟨0, by decide⟩ ⟨s.val, s.isLt⟩
/-- Tile `s` of SparseCore 1, which has no work. -/
abbrev idle (s : Fin 16) : grid2.Coords := coordsV ⟨1, by decide⟩ ⟨s.val, s.isLt⟩

/-- The loop's carry at the head of trip `n`. -/
abbrev carry (n : ℕ) : BitVec 32 × BitVec 32 × BitVec 32 × BitVec 32 × BitVec 32 × BitVec 32 :=
  (BitVec.ofNat 32 (min (n + 1) 4), BitVec.ofNat 32 n, BitVec.ofNat 32 n, BitVec.ofNat 32 (n - 1), BitVec.ofNat 32 (n % 4), 0#32)

theorem cond1_idle : ∀ s, k2_cond1 (idle s) = 0#1 := by decide +kernel
theorem cond1_tile : ∀ s, k2_cond1 (tile s) = 1#1 := by decide +kernel
theorem cond2_tile : ∀ s, k2_cond2 (tile s) = 1#1 := by decide +kernel
theorem cond18_tile : ∀ s, k2_cond18 (tile s) = 1#1 := by decide +kernel
theorem trips_tile : ∀ s, (k2_t1_loop (tile s)).trips = 4 := by decide +kernel
theorem trips66_tile : ∀ s, (k2_t66_loop (tile s)).trips = 0 := by decide +kernel

section Trip

/-- What a trip tests, -/
theorem cond3_tile : ∀ (s : Fin 16) (t : Fin (k2_t1_loop (tile s)).trips), k2_cond3 (tile s) t (BitVec.ofNat 32 (t.val % 4)) 0#32 = 1#1 ↔ t.val < 3 := by
  decide +kernel
theorem cond4_tile : ∀ (s : Fin 16) (t : Fin (k2_t1_loop (tile s)).trips), k2_cond4 (tile s) t (BitVec.ofNat 32 (t.val % 4)) 0#32 = 1#1 := by
  decide +kernel
theorem cond7_tile : ∀ (s : Fin 16) (t : Fin (k2_t1_loop (tile s)).trips), k2_cond7 (tile s) t (BitVec.ofNat 32 (t.val % 4)) 0#32 = 1#1 := by
  decide +kernel
theorem cond9_tile : ∀ (s : Fin 16) (t : Fin (k2_t1_loop (tile s)).trips), k2_cond9 (tile s) t (BitVec.ofNat 32 (t.val % 4)) 0#32 = 1#1 ↔ 0 < t.val := by
  decide +kernel

/-- what it checks, -/
theorem chk1_tile : ∀ (s : Fin 16) (t : Fin (k2_t1_loop (tile s)).trips),
    k2_chk1 (tile s) t (BitVec.ofNat 32 (min (t.val + 1) 4)) (BitVec.ofNat 32 t.val) (BitVec.ofNat 32 t.val) (BitVec.ofNat 32 (t.val - 1))
      (BitVec.ofNat 32 (t.val % 4)) 0#32 := by decide +kernel
theorem chk2_tile : ∀ (s : Fin 16) (t : Fin (k2_t1_loop (tile s)).trips), k2_chk2 (tile s) t (BitVec.ofNat 32 t.val) := by decide +kernel
theorem chk3_tile : ∀ (s : Fin 16) (t : Fin (k2_t1_loop (tile s)).trips), k2_chk3 (tile s) t (BitVec.ofNat 32 t.val) := by decide +kernel
theorem chk7_tile : ∀ (s : Fin 16), k2_chk7 (tile s) 3#32 := by decide +kernel
theorem chk8_tile : ∀ (s : Fin 16), k2_chk8 (tile s) 0#32 0#32 := by decide +kernel

/-- and where its slots and blocks lie: slot `n % 2` of each buffer, batch `b % 4` and columns `16 s` on of each array. -/
abbrev slotOff (n : ℕ) : Fin 4 → ℕ := ![n % 2, 0, 0, 0]
abbrev blockOff (s : Fin 16) (b : ℕ) : Fin 3 → ℕ := ![b % 4, 0, 16 * s.val]
abbrev semOff (n : ℕ) : Fin 1 → ℕ := ![n % 2]

theorem slotOff_inb : ∀ n a, slotOff n a + S1x1x256x16.size a ≤ S2x1x256x16.size a := by
  intro n a
  have : n % 2 < 2 := Nat.mod_lt _ (by decide)
  match a with
  | 0 => show n % 2 + 1 ≤ 2; omega
  | 1 => exact le_refl _
  | 2 => exact le_refl _
  | 3 => exact le_refl _
theorem blockOff_inb : ∀ (s : Fin 16) b a, blockOff s b a + S1x256x16.size a ≤ S4x256x256.size a := by
  intro s b a
  have : b % 4 < 4 := Nat.mod_lt _ (by decide)
  match a with
  | 0 => show b % 4 + 1 ≤ 4; omega
  | 1 => exact le_refl _
  | 2 => show 16 * s.val + 16 ≤ 256; omega
theorem semOff_inb : ∀ n a, semOff n a + S1.size a ≤ S2.size a := by
  intro n a
  have : n % 2 < 2 := Nat.mod_lt _ (by decide)
  match a with
  | 0 => show n % 2 + 1 ≤ 2; omega

theorem off1_eq : k2_off1 = slotOff 0 := by decide +kernel
theorem off2_eq : ∀ s, k2_off2 (tile s) = blockOff s 0 := by decide +kernel
theorem off3_eq : k2_off3 = semOff 0 := by decide +kernel
theorem off4_eq : ∀ t < 3, k2_off4 (BitVec.ofNat 32 (min (t + 1) 4)) = slotOff (t + 1) := by decide +kernel
theorem off5_eq : ∀ s, ∀ t < 3, k2_off5 (tile s) (BitVec.ofNat 32 (t % 4)) 0#32 = blockOff s (t + 1) := by decide +kernel
theorem off6_eq : ∀ t < 3, k2_off6 (BitVec.ofNat 32 (min (t + 1) 4)) = semOff (t + 1) := by decide +kernel
theorem off7_eq : ∀ t < 4, k2_off7 (BitVec.ofNat 32 t) = slotOff t := by decide +kernel
theorem off8_eq : ∀ s, ∀ t < 4, k2_off8 (tile s) (BitVec.ofNat 32 (t % 4)) 0#32 = blockOff s t := by decide +kernel
theorem off9_eq : ∀ t < 4, k2_off9 (BitVec.ofNat 32 t) = semOff t := by decide +kernel
theorem off10_eq : ∀ t < 4, k2_off10 (BitVec.ofNat 32 t) = slotOff t := by decide +kernel
theorem off13_eq : ∀ t < 4, k2_off13 (BitVec.ofNat 32 t) = slotOff t := by decide +kernel
theorem off206_eq : ∀ t < 4, k2_off206 (BitVec.ofNat 32 t) = slotOff t := by decide +kernel
theorem off207_eq : ∀ s, ∀ t < 4, k2_off207 (tile s) (BitVec.ofNat 32 (t % 4)) 0#32 = blockOff s t := by decide +kernel
theorem off208_eq : ∀ t < 4, k2_off208 (BitVec.ofNat 32 t) = semOff t := by decide +kernel
theorem off209_eq : ∀ t < 4, 0 < t → k2_off209 (BitVec.ofNat 32 (t - 1)) = slotOff (t - 1) := by decide +kernel
theorem off210_eq : ∀ s, ∀ t < 4, 0 < t → k2_off210 (tile s) (BitVec.ofNat 32 (t % 4)) 0#32 = blockOff s (t - 1) := by decide +kernel
theorem off211_eq : ∀ t < 4, 0 < t → k2_off211 (BitVec.ofNat 32 (t - 1)) = semOff (t - 1) := by decide +kernel
theorem off421_eq : ∀ s, k2_off421 (tile s) 0#32 0#32 = blockOff s 3 := by decide +kernel
theorem off422_eq : k2_off422 3#32 = semOff 3 := by decide +kernel
theorem off423_eq : k2_off423 3#32 = slotOff 3 := by decide +kernel

end Trip

end Cert.Proof.Sort
-- ==== Proof.Copies.lean ====
/-
  THE TILE'S COPIES. A block (one batch, one tile's sixteen columns) is fetched into a slot of the first buffer, and a slot of the
  second is sent to the block of the result: each copy is issued on its slot's semaphore and waited for later. In between the
  tile holds the copy's delivery: the fetched slot holds the block's rows; the sent block holds the rows the slot held.
-/
module

public import proofs.«01_k».proof.Proof.Passes
public import proofs.«01_k».proof.Proof.Scalars
public import Idealize.ShloMosaic.Lib.ViewIndex

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F] [Named F]

local notation "𝕄" => MT nD τ sig (HIx 1) (Elt F) ℕ UU ℕ
local notation "xV" => (Memref.whole Cert.KernelIdeal.main_v2_scv : Memref Cert.KernelIdeal.sig Kind.scVector Space.hbm Cert.KernelIdeal.S4x256x256 EltTy.f32)
local notation "yV" => (Memref.whole Cert.KernelIdeal.main_v5_scv : Memref Cert.KernelIdeal.sig Kind.scVector Space.hbm Cert.KernelIdeal.S4x256x256 EltTy.f32)
local notation "aV" => (Memref.whole Cert.KernelIdeal.cc2_scoped0 : Memref Cert.KernelIdeal.sig Kind.scVector Space.vmem Cert.KernelIdeal.S2x1x256x16 EltTy.f32)
local notation "bV" => (Memref.whole Cert.KernelIdeal.cc2_scoped2 : Memref Cert.KernelIdeal.sig Kind.scVector Space.vmem Cert.KernelIdeal.S2x1x256x16 EltTy.f32)
local notation "aS" => (cc2_scoped1 : DmaSems Cert.KernelIdeal.sig Cert.KernelIdeal.S2)
local notation "bS" => (cc2_scoped3 : DmaSems Cert.KernelIdeal.sig Cert.KernelIdeal.S2)

/-- Tile `s` of SparseCore 0, as a thread. -/
abbrev thr (d : Dev nD) (s : Fin 16) : Thread nD τ := V d (cV (tile s)) (jV (tile s))

/-- A block of an array, at any offsets, -/
abbrev block (M : Memref sig .scVector .hbm S4x256x256 .f32) (o : Fin 3 → ℕ) (h : ∀ a, o a + S1x256x16.size a ≤ S4x256x256.size a) :
    Memref sig .scVector .hbm S1x256x16 .f32 :=
  M.slice (Rect.unit (s := S4x256x256) o S1x256x16.size h) (fun _ => rfl)
/-- and a slot's semaphore. -/
abbrev cell (M : DmaSems sig S2) (o : Fin 1 → ℕ) (h : ∀ a, o a + S1.size a ≤ S2.size a) : DmaSem sig :=
  ((M.slice (Rect.unit (s := S2) o S1.size h)).squeeze S_ squeezes_S1_S_).sem

abbrev xB (s : Fin 16) (b : ℕ) : Memref sig .scVector .hbm S1x256x16 .f32 := block xV (blockOff s b) (blockOff_inb s b)
abbrev yB (s : Fin 16) (b : ℕ) : Memref sig .scVector .hbm S1x256x16 .f32 := block yV (blockOff s b) (blockOff_inb s b)
abbrev aSl (n : ℕ) : Slot := slot aV (slotOff n) (slotOff_inb n)
abbrev bSl (n : ℕ) : Slot := slot bV (slotOff n) (slotOff_inb n)
abbrev aC (n : ℕ) : SemLoc sig := .dma (cell aS (semOff n) (semOff_inb n))
abbrev bC (n : ℕ) : SemLoc sig := .dma (cell bS (semOff n) (semOff_inb n))

/-- A block's rows. -/
def rowsOf (u : S1x256x16.Idx → Elt F .f32) : ℕ → Row F :=
  fun r x => u ((rowRect (r % 256) (Nat.mod_lt _ (by decide))).emb x)

theorem rowsOf_lt (u : S1x256x16.Idx → Elt F .f32) {r : ℕ} (h : r < 256) (x) : rowsOf u r x = u ((rowRect r h).emb x) := by
  unfold rowsOf
  congr 3
  all_goals simp [Nat.mod_eq_of_lt h]

/-- Every index of a block lies in a row. -/
theorem exists_row (j : S1x256x16.Idx) : ∃ (r : ℕ) (h : r < 256) (x : S1x1x16.Idx), j = (rowRect r h).emb x := by
  refine ⟨(j 1).val, (j 1).isLt, (fun a => ⟨![0, 0, (j 2).val] a, ?_⟩ : S1x1x16.Idx), ?_⟩
  · match a with
    | 0 => exact Nat.one_pos
    | 1 => exact Nat.one_pos
    | 2 => exact (j 2).isLt
  · funext a
    match a with
    | 0 => exact Fin.ext (by have : (j 0).val < 1 := (j 0).isLt; simp [Rect.emb, Rect.unit]; omega)
    | 1 => exact Fin.ext (by simp [Rect.emb, Rect.unit])
    | 2 => exact Fin.ext (by simp [Rect.emb, Rect.unit])

variable (d : Dev nD) (s : Fin 16)

/-- A slot at any contents. -/
def Any (v : Slot) : sProp 𝕄 := iprop(∃ g : ℕ → Row F, Holds d (tile s) v g)

theorem Any_of_pts (v : Slot) (f) : (v.view.loc (thr d s) ↦[v.view.set]{fullShare} f : sProp 𝕄) ⊢ Any (F := F) d s v := by
  unfold Any Holds
  iintro H
  iexists rowsOf (v.view.read (Elt F) f)
  iexists f
  isplitr
  · ipureintro
    intro r h x
    exact (rowsOf_lt _ h x).symm
  · iexact H

theorem pts_of_Any (v : Slot) : Any (F := F) d s v ⊢ iprop(∃ f, (v.view.loc (thr d s) ↦[v.view.set]{fullShare} f)) := by
  unfold Any Holds
  iintro ⟨%g, %f, -, H⟩
  iexists f
  iexact H

variable (X : Buf (Elt F) ((thr d s).loc main_v2_scv)) (Y : Buf (Elt F) ((thr d s).loc main_v5_scv))

abbrev xPts (b : ℕ) : sProp 𝕄 := (xB s b).view.loc (thr d s) ↦[(xB s b).view.set]{fullShare} X
abbrev yPts (b : ℕ) (f : Buf (Elt F) ((thr d s).loc main_v5_scv)) : sProp 𝕄 := (yB s b).view.loc (thr d s) ↦[(yB s b).view.set]{fullShare} f

/-- The rows of block `b`. -/
abbrev rows (b : ℕ) : ℕ → Row F := rowsOf ((xB s b).view.read (Elt F) X)

/-- The result array's block `b` holds rows `g`. -/
def Sorted (g : ℕ → ℕ → Row F) : Prop :=
  ∀ b, ∀ r (h : r < 256) x, (yB s b).view.read (Elt F) Y ((rowRect r h).emb x) = g b r x

/-- A fetch under way into slot `n`, of block `b`; a send under way from slot `n`, to block `b`. -/
def Fetching (n b : ℕ) : sProp 𝕄 :=
  Flight countersEmb (thr d s) (aC n) (default : HIx 1) (aSl 0).view.dmaCredit
    iprop(Holds d (tile s) (aSl n) (rows d s X b) ∗ xPts d s X b)
def Sending (n b : ℕ) : sProp 𝕄 :=
  Flight countersEmb (thr d s) (bC n) (default : HIx 1) (yB s 0).view.dmaCredit
    iprop(yPts d s b Y ∗ Any (F := F) d s (bSl n))

variable {α : Type}

/-- One operation at the head of a program. -/
theorem lift_bind {Ef : Type → Type} {β γ : Type} (e : Ef β) (k : β → Prog Ef γ) : (Prog.lift e >>= k) = .op e k := rfl

theorem wp_fetch {k : PUnit → Prog (TpuEff nD τ sig (Elt F) Λ₀ (.scVector (cV (tile s)) (jV (tile s)))) α} {Q : α → sProp 𝕄} (n b : ℕ)
    {o₁ : Fin 4 → ℕ} {o₂ : Fin 3 → ℕ} {o₃ : Fin 1 → ℕ} {h₁ : ∀ a, o₁ a + S1x1x256x16.size a ≤ S2x1x256x16.size a}
    {h₂ : ∀ a, o₂ a + S1x256x16.size a ≤ S4x256x256.size a} {h₃ : ∀ a, o₃ a + S1.size a ≤ S2.size a} (e₁ : o₁ = slotOff n) (e₂ : o₂ = blockOff s b) (e₃ : o₃ = semOff n)
    {hsrc : (block xV o₂ h₂).view.WordExact} {hdst : (slot aV o₁ h₁).view.WordExact}
    {hsem : DmaTarget.Typed (nD := nD) (p := (thr d s).2) .hbm (.dma (cell aS o₃ h₃)) (.here (slot aV o₁ h₁))} :
    iprop(Any (F := F) d s (aSl n) ∗ semVal (thr d s, aC n) 0 ∗ xPts d s X b)
      ⊢ iprop((Fetching d s X n b -∗ wp frame (wpE (defs₀ (F := F)) 𝒱₀ (thr d s) none) Set.univ (k ⟨⟩) Q)
        -∗ wp frame (wpE (defs₀ (F := F)) 𝒱₀ (thr d s) none) Set.univ
          (.op (.enqueueDma (block xV o₂ h₂) (.here (slot aV o₁ h₁)) (.dma (cell aS o₃ h₃)) hsrc hdst hsem) k) Q) := by
  subst e₁ e₂ e₃
  iintro ⟨HA, Hv, Hx⟩ Hk
  ihave HA := (pts_of_Any d s (aSl n)) $$ HA
  icases HA with ⟨%f, HA⟩
  iapply (Transfers.wp_dmaLocal countersEmb 𝒱₀ (thr d s) none (default : HIx 1) (aSl 0).view.dmaCredit (by rfl) (by decide)
    (Finset.Subset.refl _)) $$ [HA Hv Hx]
  · isplitl [Hx]
    · iexact Hx
    isplitl [HA]
    · iexact HA
    · iexact Hv
  iintro Hfl
  iapply Hk
  unfold Fetching
  iapply (Transfers.Flight_mono countersEmb (thr d s) ?_) $$ Hfl
  iintro ⟨HA, Hx⟩
  isplitl [HA]
  · unfold Holds
    iexists _
    isplitr
    swap
    · iexact HA
    ipureintro
    intro r h x
    rw [View.read_write_univ]
    exact (rowsOf_lt _ h x).symm
  · iexact Hx

theorem wp_fetched {k : PUnit → Prog (TpuEff nD τ sig (Elt F) Λ₀ (.scVector (cV (tile s)) (jV (tile s)))) α} {Q : α → sProp 𝕄} (n b : ℕ)
    {o₁ : Fin 4 → ℕ} {o₂ : Fin 3 → ℕ} {o₃ : Fin 1 → ℕ} {h₁ : ∀ a, o₁ a + S1x1x256x16.size a ≤ S2x1x256x16.size a}
    {h₂ : ∀ a, o₂ a + S1x256x16.size a ≤ S4x256x256.size a} {h₃ : ∀ a, o₃ a + S1.size a ≤ S2.size a} (e₃ : o₃ = semOff n)
    {hsrc : (block xV o₂ h₂).view.WordExact} {hdst : (slot aV o₁ h₁).view.WordExact}
    (O : CellTallies nD τ sig (HIx 1)) (W : Waits sig (HIx 1)) :
    iprop(MayWaits (thr d s) (default : HIx 1) O ∗ Fetching d s X n b ∗ owes (thr d s) O W)
      ⊢ iprop((iprop(Holds d (tile s) (aSl n) (rows d s X b) ∗ xPts d s X b ∗ semVal (thr d s, aC n) 0
            ∗ owes (thr d s) O (insert (aC n, (default : HIx 1)) W))
          -∗ wp frame (wpE (defs₀ (F := F)) 𝒱₀ (thr d s) none) Set.univ (k ⟨⟩) Q)
        -∗ wp frame (wpE (defs₀ (F := F)) 𝒱₀ (thr d s) none) Set.univ
          (.op (.waitDma2 (cell aS o₃ h₃) (block xV o₂ h₂) (slot aV o₁ h₁) hsrc hdst) k) Q) := by
  subst e₃
  iintro ⟨#Hmw, Hfl, HO⟩ Hk
  unfold Fetching
  iapply (Transfers.wp_waitLocalO countersEmb 𝒱₀ (thr d s) none (default : HIx 1) (by rfl)) $$ [Hfl HO]
  · isplitl [Hfl]
    · iexact Hfl
    isplitl [HO]
    · iexact HO
    iapply (Transfers.MayWaits.elim (aC n)) $$ Hmw
  iintro ⟨⟨HA, Hx⟩, Hv, HO⟩
  iapply Hk
  isplitl [HA]
  · iexact HA
  isplitl [Hx]
  · iexact Hx
  isplitl [Hv]
  · iexact Hv
  · iexact HO

theorem wp_send {k : PUnit → Prog (TpuEff nD τ sig (Elt F) Λ₀ (.scVector (cV (tile s)) (jV (tile s)))) α} {Q : α → sProp 𝕄} (n b : ℕ)
    {o₁ : Fin 4 → ℕ} {o₂ : Fin 3 → ℕ} {o₃ : Fin 1 → ℕ} {h₁ : ∀ a, o₁ a + S1x1x256x16.size a ≤ S2x1x256x16.size a}
    {h₂ : ∀ a, o₂ a + S1x256x16.size a ≤ S4x256x256.size a} {h₃ : ∀ a, o₃ a + S1.size a ≤ S2.size a} (e₁ : o₁ = slotOff n) (e₂ : o₂ = blockOff s b) (e₃ : o₃ = semOff n)
    {hsrc : (slot bV o₁ h₁).view.WordExact} {hdst : (block yV o₂ h₂).view.WordExact}
    {hsem : DmaTarget.Typed (nD := nD) (p := (thr d s).2) .vmem (.dma (cell bS o₃ h₃)) (.here (block yV o₂ h₂))}
    (g : ℕ → ℕ → Row F) (hY : Sorted d s Y g) (f : Buf (Elt F) ((thr d s).loc main_v5_scv)) :
    iprop(Holds d (tile s) (bSl n) (g b) ∗ semVal (thr d s, bC n) 0 ∗ yPts d s b f)
      ⊢ iprop((Sending d s Y n b -∗ wp frame (wpE (defs₀ (F := F)) 𝒱₀ (thr d s) none) Set.univ (k ⟨⟩) Q)
        -∗ wp frame (wpE (defs₀ (F := F)) 𝒱₀ (thr d s) none) Set.univ
          (.op (.enqueueDma (slot bV o₁ h₁) (.here (block yV o₂ h₂)) (.dma (cell bS o₃ h₃)) hsrc hdst hsem) k) Q) := by
  subst e₁ e₂ e₃
  unfold Holds
  iintro ⟨⟨%fb, %hb, HB⟩, Hv, Hy⟩ Hk
  iapply (Transfers.wp_dmaLocal countersEmb 𝒱₀ (thr d s) none (default : HIx 1) (yB s 0).view.dmaCredit (by rfl)
    (View.amount_pos _ (bC n) (by decide)) (Finset.Subset.refl _)) $$ [HB Hv Hy]
  · isplitl [HB]
    · iexact HB
    isplitl [Hy]
    · iexact Hy
    · iexact Hv
  iintro Hfl
  iapply Hk
  unfold Sending
  iapply (Transfers.Flight_mono countersEmb (thr d s) ?_) $$ Hfl
  iintro ⟨Hy, HB⟩
  isplitl [Hy]
  · iapply (Entails.of_eq (pointsTo_congr ?_)) $$ Hy
    intro i hi
    obtain ⟨j, -, rfl⟩ := Finset.mem_map.mp hi
    obtain ⟨r, h, x, rfl⟩ := exists_row j
    refine View.eq_of_read_eq ?_
    rw [View.read_write_univ, hY b r h x]
    exact hb r h x
  · iapply (Any_of_pts d s (bSl n)) $$ HB

theorem wp_sent {k : PUnit → Prog (TpuEff nD τ sig (Elt F) Λ₀ (.scVector (cV (tile s)) (jV (tile s)))) α} {Q : α → sProp 𝕄} (n b : ℕ)
    {o₁ : Fin 4 → ℕ} {o₂ : Fin 3 → ℕ} {o₃ : Fin 1 → ℕ} {h₁ : ∀ a, o₁ a + S1x1x256x16.size a ≤ S2x1x256x16.size a}
    {h₂ : ∀ a, o₂ a + S1x256x16.size a ≤ S4x256x256.size a} {h₃ : ∀ a, o₃ a + S1.size a ≤ S2.size a} (e₃ : o₃ = semOff n)
    {hsrc : (slot bV o₁ h₁).view.WordExact} {hdst : (block yV o₂ h₂).view.WordExact}
    (O : CellTallies nD τ sig (HIx 1)) (W : Waits sig (HIx 1)) :
    iprop(MayWaits (thr d s) (default : HIx 1) O ∗ Sending d s Y n b ∗ owes (thr d s) O W)
      ⊢ iprop((iprop(yPts d s b Y ∗ Any (F := F) d s (bSl n) ∗ semVal (thr d s, bC n) 0
            ∗ owes (thr d s) O (insert (bC n, (default : HIx 1)) W))
          -∗ wp frame (wpE (defs₀ (F := F)) 𝒱₀ (thr d s) none) Set.univ (k ⟨⟩) Q)
        -∗ wp frame (wpE (defs₀ (F := F)) 𝒱₀ (thr d s) none) Set.univ
          (.op (.waitDma2 (cell bS o₃ h₃) (slot bV o₁ h₁) (block yV o₂ h₂) hsrc hdst) k) Q) := by
  subst e₃
  iintro ⟨#Hmw, Hfl, HO⟩ Hk
  unfold Sending
  iapply (Transfers.wp_waitLocalO countersEmb 𝒱₀ (thr d s) none (default : HIx 1) (by rfl)) $$ [Hfl HO]
  · isplitl [Hfl]
    · iexact Hfl
    isplitl [HO]
    · iexact HO
    iapply (Transfers.MayWaits.elim (bC n)) $$ Hmw
  iintro ⟨⟨Hy, HB⟩, Hv, HO⟩
  iapply Hk
  isplitl [Hy]
  · iexact Hy
  isplitl [HB]
  · iexact HB
  isplitl [Hv]
  · iexact Hv
  · iexact HO

end Cert.Proof.Sort
-- ==== Proof.Tile.lean ====
/-
  A TRIP OF THE TILE. At its head block `n` is under way into its slot and block `n - 1` under way out of its own; the trip issues
  the fetch of block `n + 1`, waits for block `n`, sorts it from one buffer into the other, issues its send, and waits for the send
  of block `n - 1`.
-/
module

public import proofs.«01_k».proof.Proof.Copies

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F] [Named F]

local notation "𝕄" => MT nD τ sig (HIx 1) (Elt F) ℕ UU ℕ
local notation "xV" => (Memref.whole Cert.KernelIdeal.main_v2_scv : Memref Cert.KernelIdeal.sig Kind.scVector Space.hbm Cert.KernelIdeal.S4x256x256 EltTy.f32)
local notation "yV" => (Memref.whole Cert.KernelIdeal.main_v5_scv : Memref Cert.KernelIdeal.sig Kind.scVector Space.hbm Cert.KernelIdeal.S4x256x256 EltTy.f32)
local notation "aV" => (Memref.whole Cert.KernelIdeal.cc2_scoped0 : Memref Cert.KernelIdeal.sig Kind.scVector Space.vmem Cert.KernelIdeal.S2x1x256x16 EltTy.f32)
local notation "bV" => (Memref.whole Cert.KernelIdeal.cc2_scoped2 : Memref Cert.KernelIdeal.sig Kind.scVector Space.vmem Cert.KernelIdeal.S2x1x256x16 EltTy.f32)
local notation "aS" => (cc2_scoped1 : DmaSems Cert.KernelIdeal.sig Cert.KernelIdeal.S2)
local notation "bS" => (cc2_scoped3 : DmaSems Cert.KernelIdeal.sig Cert.KernelIdeal.S2)

variable (d : Dev nD) (s : Fin 16)
variable (X : Buf (Elt F) ((thr d s).loc main_v2_scv)) (Y Y₀ : Buf (Elt F) ((thr d s).loc main_v5_scv))

/-- Slots alternate. -/
theorem slot_congr {B : Memref sig .scVector .vmem S2x1x256x16 .f32} {o o' : Fin 4 → ℕ} {h h'} (e : o = o') : slot B o h = slot B o' h' := by
  subst e; rfl
theorem cell_congr {M : DmaSems sig S2} {o o' : Fin 1 → ℕ} {h h'} (e : o = o') : cell M o h = cell M o' h' := by
  subst e; rfl
theorem slotOff_two (n : ℕ) : slotOff (n + 2) = slotOff n := by simp [slotOff]
theorem semOff_two (n : ℕ) : semOff (n + 2) = semOff n := by simp [semOff]
theorem aSl_two (n : ℕ) : aSl (n + 2) = aSl n := slot_congr (slotOff_two n)
theorem bSl_two (n : ℕ) : bSl (n + 2) = bSl n := slot_congr (slotOff_two n)
theorem aC_two (n : ℕ) : aC (n + 2) = aC n := congrArg SemLoc.dma (cell_congr (semOff_two n))
theorem bC_two (n : ℕ) : bC (n + 2) = bC n := congrArg SemLoc.dma (cell_congr (semOff_two n))

/-- The blocks from `n` on, and those before `n`. -/
def Todo (n : ℕ) (Φ : ℕ → sProp 𝕄) : sProp 𝕄 := bigSep (Finset.Ico n 4) Φ
def Done (n : ℕ) (Φ : ℕ → sProp 𝕄) : sProp 𝕄 := bigSep (Finset.range n) Φ

omit [FloatOps F] [Named F] in
theorem Todo_step {n : ℕ} (h : n < 4) (Φ : ℕ → sProp 𝕄) : Todo n Φ = iprop(Φ n ∗ Todo (n + 1) Φ) := by
  unfold Todo
  rw [← Finset.insert_Ico_add_one_left_eq_Ico h, bigSep_insert (by simp)]
  rfl
omit [FloatOps F] [Named F] in
theorem Todo_end {n : ℕ} (h : 4 ≤ n) (Φ : ℕ → sProp 𝕄) : Todo n Φ = iprop(emp) := by
  unfold Todo
  rw [Finset.Ico_eq_empty (by omega)]
  rfl
omit [FloatOps F] [Named F] in
theorem Done_succ (n : ℕ) (Φ : ℕ → sProp 𝕄) : Done (n + 1) Φ = iprop(Φ n ∗ Done n Φ) := by
  unfold Done
  rw [Finset.range_add_one, bigSep_insert (by simp)]
  rfl

/-- The first buffer at the head of trip `n`: block `n` under way into its slot (or no block left), -/
def CurIn (n : ℕ) : sProp 𝕄 := if n < 4 then Fetching d s X n n else iprop(Any (F := F) d s (aSl n) ∗ semVal (thr d s, aC n) 0)
/-- and the second: block `n - 1` under way out of its slot. -/
def PrevOut (n : ℕ) : sProp 𝕄 :=
  if 0 < n then Sending d s Y (n - 1) (n - 1) else iprop(Any (F := F) d s (bSl (n + 1)) ∗ semVal (thr d s, bC (n + 1)) 0)

/-- What the tile owes and has waited for. -/
def Owed (O : CellTallies nD τ sig (HIx 1)) (W : Waits sig (HIx 1)) : sProp 𝕄 :=
  iprop(∃ W', ⌜∀ p ∈ W', p ∈ W ∨ p.2 = none⌝ ∗ owes (thr d s) O W')

theorem Owed_open (O : CellTallies nD τ sig (HIx 1)) (W : Waits sig (HIx 1)) :
    Owed (F := F) d s O W ⊢ iprop(∃ W', ⌜∀ p ∈ W', p ∈ W ∨ p.2 = none⌝ ∗ owes (thr d s) O W') := .rfl

/-- The tile at the head of trip `n`. -/
def Inv (O : CellTallies nD τ sig (HIx 1)) (W : Waits sig (HIx 1)) (n : ℕ) : sProp 𝕄 :=
  iprop(CurIn d s X n ∗ (Any (F := F) d s (aSl (n + 1)) ∗ semVal (thr d s, aC (n + 1)) 0) ∗ Done n (xPts d s X) ∗ Todo (n + 1) (xPts d s X)
    ∗ (Any (F := F) d s (bSl n) ∗ semVal (thr d s, bC n) 0) ∗ PrevOut d s Y n ∗ Done (n - 1) (fun b => yPts d s b Y)
    ∗ Todo n (fun b => yPts d s b Y₀) ∗ Owed d s O W)

/-- The block the network leaves. -/
abbrev sorted (b : ℕ) : ℕ → Row F := passes.foldl (Pass.all rmax rmin) (rows d s X b)

/-- An operation issued only under a condition, at the head of the program `q`: either way it ends in `R`. -/
theorem wp_dite {α : Type} {c : Prop} [Decidable c] {p : c → Prog (TpuEff nD τ sig (Elt F) Λ₀ (.scVector (cV (tile s)) (jV (tile s)))) α}
    {q : Prog (TpuEff nD τ sig (Elt F) Λ₀ (.scVector (cV (tile s)) (jV (tile s)))) α} {Q : α → sProp 𝕄} {P R : sProp 𝕄}
    (hp : ∀ h, P ⊢ iprop((R -∗ wp frame (wpE (defs₀ (F := F)) 𝒱₀ (thr d s) none) Set.univ q Q)
      -∗ wp frame (wpE (defs₀ (F := F)) 𝒱₀ (thr d s) none) Set.univ (p h) Q))
    (hq : ¬ c → P ⊢ R) :
    P ⊢ iprop((R -∗ wp frame (wpE (defs₀ (F := F)) 𝒱₀ (thr d s) none) Set.univ q Q)
      -∗ wp frame (wpE (defs₀ (F := F)) 𝒱₀ (thr d s) none) Set.univ (dite c p (fun _ => q)) Q) := by
  by_cases h : c
  · rw [dif_pos h]; exact hp h
  · rw [dif_neg h]
    iintro HP HK
    iapply HK
    iapply (hq h) $$ HP

/-- A program that goes on after an operation. -/
theorem ret_bind {Ef : Type → Type} {β γ : Type} (a : β) (k : β → Prog Ef γ) : (Prog.ret a).bind k = k a := rfl

/-- A part whose entailment is known, at the head of a program. -/
theorem wp_seq {α β : Type} {p : Prog (TpuEff nD τ sig (Elt F) Λ₀ (.scVector (cV (tile s)) (jV (tile s)))) β}
    {k : β → Prog (TpuEff nD τ sig (Elt F) Λ₀ (.scVector (cV (tile s)) (jV (tile s)))) α} {Q : α → sProp 𝕄} {P : sProp 𝕄} {R : β → sProp 𝕄}
    (hp : P ⊢ wp frame (wpE (defs₀ (F := F)) 𝒱₀ (thr d s) none) Set.univ p R) :
    P ⊢ iprop((∀ a, R a -∗ wp frame (wpE (defs₀ (F := F)) 𝒱₀ (thr d s) none) Set.univ (k a) Q)
      -∗ wp frame (wpE (defs₀ (F := F)) 𝒱₀ (thr d s) none) Set.univ (p >>= k) Q) := by
  rw [wp_bind]
  iintro HP HK
  iapply (wp_wand_r frame (wpE (defs₀ (F := F)) 𝒱₀ (thr d s) none) Set.univ)
  isplitl [HP]
  · iapply hp $$ HP
  · iexact HK

/-- The slots a trip's parts name are slots `t`. -/
theorem inSlot_eq (h1 : k2_cond1 (tile s) = 1#1) (t : Fin (k2_t1_loop (tile s)).trips) (hw2 : k2_chk2 (tile s) t (BitVec.ofNat 32 t.val)) :
    inSlot (tile s) aV h1 t (BitVec.ofNat 32 t.val) hw2 = aSl t.val :=
  slot_congr (off10_eq _ (lt_of_lt_of_eq t.isLt (trips_tile s)))
theorem outSlot_eq (h1 : k2_cond1 (tile s) = 1#1) (t : Fin (k2_t1_loop (tile s)).trips) (hw3 : k2_chk3 (tile s) t (BitVec.ofNat 32 t.val)) :
    outSlot (tile s) bV h1 t (BitVec.ofNat 32 t.val) hw3 = bSl t.val :=
  slot_congr (off13_eq _ (lt_of_lt_of_eq t.isLt (trips_tile s)))

/-- The network's passes, part by part. -/
theorem sorted_eq (b : ℕ) : sorted d s X b = seg73.foldl (Pass.all rmax rmin) (seg72.foldl (Pass.all rmax rmin) (seg71.foldl (Pass.all rmax rmin)
    (seg70.foldl (Pass.all rmax rmin) (seg69.foldl (Pass.all rmax rmin) (seg68.foldl (Pass.all rmax rmin) (after67 (rows d s X b))))))) := by
  unfold sorted after67
  rw [passes_eq]
  simp only [List.foldl_cons, List.foldl_append]

omit [FloatOps F] [Named F] in
theorem owed_insert {W W' : Waits sig (HIx 1)} {a : SemLoc sig} (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

section Parts

variable (arg2 : Memref sig .scVector .hbm S4x256x256 .f32) (harg2 : arg2.IsWhole) (arg3 : Memref sig .scVector .hbm S4x256x256 .f32)
  (harg3 : arg3.IsWhole) (hA : (aV).IsWhole) (hB : (bV).IsWhole)
variable (h1 : k2_cond1 (tile s) = 1#1) (t : Fin (k2_t1_loop (tile s)).trips)
variable (hw1 : k2_chk1 (tile s) t (BitVec.ofNat 32 (min (t.val + 1) 4)) (BitVec.ofNat 32 t.val) (BitVec.ofNat 32 t.val) (BitVec.ofNat 32 (t.val - 1))
      (BitVec.ofNat 32 (t.val % 4)) 0#32) (hw2 : k2_chk2 (tile s) t (BitVec.ofNat 32 t.val)) (hw3 : k2_chk3 (tile s) t (BitVec.ofNat 32 t.val))

/-- The trip's first operations: the next block's fetch is issued, if there is one, and this block's has come in. -/
theorem wp_part66 (v10 arg4 v113 : BitVec 32) (v114 : BitVec 1) (v117 v118 v128 v129 v138 v139 v143 v145 : BitVec 32)
    (O : CellTallies nD τ sig (HIx 1)) (W : Waits sig (HIx 1)) (hX2 : (xV).IsWhole) :
    iprop(MayWaits (thr d s) (default : HIx 1) O ∗ Fetching d s X t.val t.val
        ∗ (Any (F := F) d s (aSl (t.val + 1)) ∗ semVal (thr d s, aC (t.val + 1)) 0) ∗ Todo (t.val + 1) (xPts d s X) ∗ owes (thr d s) O W)
      ⊢ wp frame (wpE (defs₀ (F := F)) 𝒱₀ (thr d s) none) Set.univ
        (k2_part66 (tile s) xV hX2 arg3 harg3 aV hA aS bV hB bS v10 h1 t (BitVec.ofNat 32 (min (t.val + 1) 4)) (BitVec.ofNat 32 t.val)
          (BitVec.ofNat 32 t.val) (BitVec.ofNat 32 (t.val - 1)) (BitVec.ofNat 32 (t.val % 4)) 0#32 hw1 arg4 v113 v114 v117 v118 v128 v129 v138 v139 v143 v145)
        fun r => iprop(⌜r.1 = Scalar.select (Scalar.andi (Scalar.andi (Scalar.ori (Scalar.cmpi .ne v117 v138) (Scalar.cmpi .ne v118 v139))
            (Scalar.xori (Scalar.cmpi .sge arg4 (Scalar.addi (Scalar.subi v113 2#32) 1#32)) 1#1)) 1#1)
            (Scalar.addi (BitVec.ofNat 32 (min (t.val + 1) 4)) 1#32) (BitVec.ofNat 32 (min (t.val + 1) 4))⌝
          ∗ CurIn d s X (t.val + 1) ∗ Todo (t.val + 2) (xPts d s X) ∗ Holds d (tile s) (aSl t.val) (rows d s X t.val) ∗ xPts d s X t.val
          ∗ semVal (thr d s, aC t.val) 0 ∗ owes (thr d s) O (insert (aC t.val, (default : HIx 1)) W)) := by
  have ht : t.val < 4 := lt_of_lt_of_eq t.isLt (trips_tile s)
  rw [k2_part66_eq_skeleton]
  unfold k2_part66_skel
  simp only [pure_bind, ite_self]
  iintro ⟨#Hmw, Hf, HA, Hx, HO⟩
  iapply (wp_dite d s (P := iprop((Any (F := F) d s (aSl (t.val + 1)) ∗ semVal (thr d s, aC (t.val + 1)) 0) ∗ Todo (t.val + 1) (xPts d s X)))
    (R := iprop(CurIn d s X (t.val + 1) ∗ Todo (t.val + 2) (xPts d s X))) ?_ ?_) $$ [HA Hx]
  · intro h
    have h3 := (cond3_tile s t).mp h
    rw [Todo_step (by omega)]
    iintro ⟨⟨HA, Hv⟩, Hx, Ht⟩ Hk
    iapply (wp_fetch d s X (t.val + 1) (t.val + 1) (off4_eq _ h3) (off5_eq s _ h3) (off6_eq _ h3)) $$ [HA Hv Hx]
    · isplitl [HA]
      · iexact HA
      isplitl [Hv]
      · iexact Hv
      · iexact Hx
    iintro Hf
    rw [ret_bind]
    iapply Hk
    isplitl [Hf]
    · unfold CurIn
      rw [if_pos (by omega)]
      iexact Hf
    · iexact Ht
  · intro h
    have h3 : ¬ t.val < 3 := fun hc => h ((cond3_tile s t).mpr hc)
    rw [Todo_end (n := t.val + 1) (by omega), Todo_end (n := t.val + 2) (by omega)]
    iintro ⟨HA, He⟩
    isplitl [HA]
    · unfold CurIn
      rw [if_neg (by omega)]
      iexact HA
    · iexact He
  · isplitl [HA]
    · iexact HA
    · iexact Hx
  iintro ⟨Hc, Ht⟩
  rw [dif_pos (cond4_tile s t)]
  iapply (wp_fetched d s X t.val t.val (off9_eq _ ht) O W) $$ [Hf HO]
  · isplitr
    · iexact Hmw
    isplitl [Hf]
    · iexact Hf
    · iexact HO
  iintro ⟨HA, Hx, Hv, HO⟩
  rw [ret_bind, wp_pure]
  imodintro
  isplitr
  · ipureintro; rfl
  isplitl [Hc]
  · iexact Hc
  isplitl [Ht]
  · iexact Ht
  isplitl [HA]
  · iexact HA
  isplitl [Hx]
  · iexact Hx
  isplitl [Hv]
  · iexact Hv
  · iexact HO

/-- The trip's last passes, and the send of what they leave. -/
theorem wp_part73 (v114 v116 : BitVec 1) (v117 v118 v128 v129 v138 v139 : BitVec 32) (g : ℕ → Row F) (gs : ℕ → ℕ → Row F)
    (hg : gs t.val = seg73.foldl (Pass.all rmax rmin) g) (hY : Sorted d s Y gs) (hY3 : (yV).IsWhole) :
    iprop(Holds d (tile s) (bSl t.val) g ∗ semVal (thr d s, bC t.val) 0 ∗ yPts d s t.val Y₀)
      ⊢ wp frame (wpE (defs₀ (F := F)) 𝒱₀ (thr d s) none) Set.univ
        (k2_part73 (tile s) arg2 harg2 yV hY3 aV hA aS bV hB bS h1 t (BitVec.ofNat 32 (min (t.val + 1) 4)) (BitVec.ofNat 32 t.val)
          (BitVec.ofNat 32 t.val) (BitVec.ofNat 32 (t.val - 1)) (BitVec.ofNat 32 (t.val % 4)) 0#32 hw3 hw1 v114 v116 v117 v118 v128 v129 v138 v139)
        fun r => iprop(⌜r.1 = Scalar.select (Scalar.andi (Scalar.ori (Scalar.ori (Scalar.cmpi .ne v117 v138) (Scalar.cmpi .ne v118 v139)) v116) 1#1)
            (Scalar.addi (BitVec.ofNat 32 t.val) 1#32) (BitVec.ofNat 32 t.val)⌝ ∗ Sending d s Y t.val t.val) := by
  have ht : t.val < 4 := lt_of_lt_of_eq t.isLt (trips_tile s)
  rw [← outSlot_eq s h1 t hw3, k2_part73_eq_skeleton]
  unfold k2_part73_skel
  simp only [pure_bind, ite_self]
  apply wp_loop_then d (tile s) rmax rmin (P := ⟨256, 16, false⟩)
  case hb => intro t; rfl
  case ho => decide +kernel
  apply wp_loop_then d (tile s) rmax rmin (P := ⟨256, 8, false⟩)
  case hb => intro t; rfl
  case ho => decide +kernel
  apply wp_loop_then d (tile s) rmax rmin (P := ⟨256, 4, false⟩)
  case hb => intro t; rfl
  case ho => decide +kernel
  apply wp_loop_then d (tile s) rmax rmin (P := ⟨256, 2, false⟩)
  case hb => intro t; rfl
  case ho => decide +kernel
  apply wp_loop_then d (tile s) rmax rmin (P := ⟨256, 1, false⟩)
  case hb => intro t; rfl
  case ho => decide +kernel
  rw [outSlot_eq s h1 t hw3, dif_pos (cond7_tile s t)]
  iintro ⟨HB, Hv, Hy⟩
  iapply (wp_send d s Y t.val t.val (off206_eq _ ht) (off207_eq s _ ht) (off208_eq _ ht) gs hY Y₀) $$ [HB Hv Hy]
  · isplitl [HB]
    · rw [hg]
      iexact HB
    isplitl [Hv]
    · iexact Hv
    · iexact Hy
  iintro Hs
  rw [ret_bind, wp_pure]
  imodintro
  isplitr
  · ipureintro; rfl
  · iexact Hs

end Parts

theorem wp_tile_trip (hY : Sorted d s Y (sorted d s X)) (O : CellTallies nD τ sig (HIx 1)) (W : Waits sig (HIx 1)) (v11 v17 v20 v41 : BitVec 32)
    (t : Fin (k2_t1_loop (tile s)).trips) :
    iprop(MayWaits (thr d s) (default : HIx 1) O ∗ Inv d s X Y Y₀ O W t.val)
      ⊢ wp frame (wpE (defs₀ (F := F)) 𝒱₀ (thr d s) none) Set.univ
        (k2_t1_body (tile s) xV (Memref.isWhole_whole _) yV (Memref.isWhole_whole _) aV (Memref.isWhole_whole _) aS bV (Memref.isWhole_whole _) bS
          1#32 (BitVec.ofNat 32 s.val) v11 (cond1_tile s) v17 v20 v41 t (carry t.val))
        fun c => iprop(⌜c = carry (t.val + 1)⌝ ∗ Inv d s X Y Y₀ O W (t.val + 1)) := by
  have ht : t.val < 4 := lt_of_lt_of_eq t.isLt (trips_tile s)
  unfold k2_t1_body carry
  simp only [k2_part65_eq_skeleton, k2_part65_skel, bind_assoc, pure_bind, ite_self, lift_bind]
  unfold Inv
  rw [Todo_step ht (fun b => yPts d s b Y₀), show CurIn d s X t.val = Fetching d s X t.val t.val from if_pos ht]
  iintro ⟨#Hmw, Hcur, HA, Hxd, Hxt, ⟨HB, HBv⟩, Hprev, Hyd, ⟨Hy, Hyt⟩, HO⟩
  ihave HO := (Owed_open d s O W) $$ HO
  icases HO with ⟨%W₁, %hW₁, HO⟩
  iapply (wp_assume 𝒱₀ (thr d s) none Set.univ (chk3_tile s t))
  iapply (wp_assume 𝒱₀ (thr d s) none Set.univ (chk2_tile s t))
  iapply (wp_assume 𝒱₀ (thr d s) none Set.univ (chk1_tile s t))
  iapply (wp_seq d s (wp_part66 d s X _ _ _ _ _ t _ _ _ _ _ _ _ _ _ _ _ _ _ O W₁ _)) $$ [Hcur HA Hxt HO]
  · isplitr
    · iexact Hmw
    isplitl [Hcur]
    · iexact Hcur
    isplitl [HA]
    · iexact HA
    isplitl [Hxt]
    · iexact Hxt
    · iexact HO
  iintro %r ⟨%hr, Hcur, Hxt, HA, Hx, HAv, HO⟩
  obtain ⟨v163, v186, c0⟩ := r
  dsimp only at hr ⊢
  subst hr
  unfold Any
  icases HB with ⟨%g, HB⟩
  rw [← inSlot_eq s (cond1_tile s) t (chk2_tile s t), ← outSlot_eq s (cond1_tile s) t (chk3_tile s t)]
  iapply (wp_seq d s (wp_part67 d (tile s) _ _ _ _ _ _ _ _ _ _ _ t _ _ _ _ _ _ _ _ (R := iprop(emp)))) $$ [HA HB]
  · isplitl [HA]
    · iexact HA
    isplitl [HB]
    · iexact HB
    · iempintro
  iintro %_ ⟨HB, HA, -⟩
  iapply (wp_seq d s (wp_part68 d (tile s) _ _ _ _ _ _ _ _ _ _ _ t _ _ _ (R := iprop(emp)))) $$ [HB]
  · isplitl [HB]
    · iexact HB
    · iempintro
  iintro %_ ⟨HB, -⟩
  iapply (wp_seq d s (wp_part69 d (tile s) _ _ _ _ _ _ _ _ _ _ _ t _ _ _ (R := iprop(emp)))) $$ [HB]
  · isplitl [HB]
    · iexact HB
    · iempintro
  iintro %_ ⟨HB, -⟩
  iapply (wp_seq d s (wp_part70 d (tile s) _ _ _ _ _ _ _ _ _ _ _ t _ _ _ (R := iprop(emp)))) $$ [HB]
  · isplitl [HB]
    · iexact HB
    · iempintro
  iintro %_ ⟨HB, -⟩
  iapply (wp_seq d s (wp_part71 d (tile s) _ _ _ _ _ _ _ _ _ _ _ t _ _ _ (R := iprop(emp)))) $$ [HB]
  · isplitl [HB]
    · iexact HB
    · iempintro
  iintro %_ ⟨HB, -⟩
  iapply (wp_seq d s (wp_part72 d (tile s) _ _ _ _ _ _ _ _ _ _ _ t _ _ _ (R := iprop(emp)))) $$ [HB]
  · isplitl [HB]
    · iexact HB
    · iempintro
  iintro %_ ⟨HB, -⟩
  rw [inSlot_eq s (cond1_tile s) t (chk2_tile s t), outSlot_eq s (cond1_tile s) t (chk3_tile s t)]
  iapply (wp_seq d s (wp_part73 d s Y Y₀ _ _ _ _ _ t _ _ _ _ _ _ _ _ _ _ _ (sorted d s X) (sorted_eq d s X t.val) hY _)) $$ [HB HBv Hy]
  · isplitl [HB]
    · iexact HB
    isplitl [HBv]
    · iexact HBv
    · iexact Hy
  iintro %r ⟨%hr, Hs⟩
  obtain ⟨v269, v274, v275⟩ := r
  dsimp only at hr ⊢
  subst hr
  iapply (wp_dite d s (P := iprop(MayWaits (thr d s) (default : HIx 1) O ∗ PrevOut d s Y t.val ∗ Done (t.val - 1) (fun b => yPts d s b Y) ∗ Owed d s O W))
    (R := iprop((Any (F := F) d s (bSl (t.val + 1)) ∗ semVal (thr d s, bC (t.val + 1)) 0) ∗ Done t.val (fun b => yPts d s b Y) ∗ Owed d s O W)) ?_ ?_)
    $$ [Hprev Hyd HO]
  · intro h
    have h9 := (cond9_tile s t).mp h
    unfold PrevOut Owed
    rw [if_pos h9]
    iintro ⟨#Hmw, Hs, Hyd, %W', %hW', HO⟩ Hk
    iapply (wp_sent d s Y (t.val - 1) (t.val - 1) (off211_eq _ ht h9) O W') $$ [Hs HO]
    · isplitr
      · iexact Hmw
      isplitl [Hs]
      · iexact Hs
      · iexact HO
    iintro ⟨Hy, HB, HBv, HO⟩
    iapply Hk
    have e : t.val - 1 + 2 = t.val + 1 := by omega
    isplitl [HB HBv]
    · rw [← e, bSl_two, bC_two]
      isplitl [HB]
      · iexact HB
      · iexact HBv
    isplitl [Hy Hyd]
    · rw [show t.val = (t.val - 1) + 1 by omega, Done_succ]
      isplitl [Hy]
      · iexact Hy
      · iexact Hyd
    · iexists _
      isplitr
      swap
      · iexact HO
      · ipureintro
        exact owed_insert hW'
  · intro h
    have h9 : ¬ 0 < t.val := fun hc => h ((cond9_tile s t).mpr hc)
    unfold PrevOut
    rw [if_neg h9, show t.val - 1 = t.val by omega]
    iintro ⟨-, HB, Hyd, HO⟩
    isplitl [HB]
    · iexact HB
    isplitl [Hyd]
    · iexact Hyd
    · iexact HO
  · isplitr
    · iexact Hmw
    isplitl [Hprev]
    · iexact Hprev
    isplitl [Hyd]
    · iexact Hyd
    · unfold Owed
      iexists _
      isplitr
      swap
      · iexact HO
      · ipureintro
        exact owed_insert hW₁
  iintro ⟨HB, Hyd, HO⟩
  rw [wp_pure]
  imodintro
  isplitr
  · ipureintro
    simp only [Prod.mk.injEq]
    refine ⟨?_, ?_, ?_, ?_, ?_, ?_⟩ <;> clear * - s t <;> clear wp_tile_trip X Y Y₀ <;> revert s t <;> decide +kernel
  isplitl [Hcur]
  · iexact Hcur
  isplitl [HA HAv]
  · rw [aSl_two, aC_two]
    isplitl [HA]
    · iexists _
      iexact HA
    · iexact HAv
  isplitl [Hxd Hx]
  · rw [Done_succ]
    isplitl [Hx]
    · iexact Hx
    · iexact Hxd
  isplitl [Hxt]
  · iexact Hxt
  isplitl [HB]
  · iexact HB
  isplitl [Hs]
  · unfold PrevOut
    rw [if_pos (by omega)]
    iexact Hs
  isplitl [Hyd]
  · iexact Hyd
  isplitl [Hyt]
  · iexact Hyt
  · iexact HO

end Cert.Proof.Sort
-- ==== Proof.Task.lean ====
/-
  THE TILE'S TASK. A tile of SparseCore 0 fetches its first block, runs the four trips and waits for its last send: it leaves the
  sorted blocks of the result and its buffers and semaphores at rest. A tile of SparseCore 1 does nothing.
-/
module

public import proofs.«01_k».proof.Proof.Tile

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F] [Named F]

local notation "𝕄" => MT nD τ sig (HIx 1) (Elt F) ℕ UU ℕ
local notation "xV" => (Memref.whole Cert.KernelIdeal.main_v2_scv : Memref Cert.KernelIdeal.sig Kind.scVector Space.hbm Cert.KernelIdeal.S4x256x256 EltTy.f32)
local notation "yV" => (Memref.whole Cert.KernelIdeal.main_v5_scv : Memref Cert.KernelIdeal.sig Kind.scVector Space.hbm Cert.KernelIdeal.S4x256x256 EltTy.f32)
local notation "aV" => (Memref.whole Cert.KernelIdeal.cc2_scoped0 : Memref Cert.KernelIdeal.sig Kind.scVector Space.vmem Cert.KernelIdeal.S2x1x256x16 EltTy.f32)
local notation "bV" => (Memref.whole Cert.KernelIdeal.cc2_scoped2 : Memref Cert.KernelIdeal.sig Kind.scVector Space.vmem Cert.KernelIdeal.S2x1x256x16 EltTy.f32)
local notation "aS" => (cc2_scoped1 : DmaSems Cert.KernelIdeal.sig Cert.KernelIdeal.S2)
local notation "bS" => (cc2_scoped3 : DmaSems Cert.KernelIdeal.sig Cert.KernelIdeal.S2)

variable (d : Dev nD) (s : Fin 16)
variable (X : Buf (Elt F) ((thr d s).loc main_v2_scv)) (Y Y₀ : Buf (Elt F) ((thr d s).loc main_v5_scv))

/-- The scalars the function computes first, at a tile of SparseCore 0. -/
theorem work_tile : ∀ s : Fin 16, Scalar.select (Scalar.cmpi .slt (Scalar.addi (Scalar.addi 0#32 (Scalar.muli (BitVec.ofNat 32 ((tile s) 1).val) 1#32))
    (Scalar.muli (BitVec.ofNat 32 ((tile s) 0).val) 16#32)) 16#32) 1#32 0#32 = 1#32 := by decide +kernel

theorem lane_tile : ∀ s : Fin 16, Scalar.select (Scalar.cmpi .slt (Scalar.addi (Scalar.addi 0#32 (Scalar.muli (BitVec.ofNat 32 ((tile s) 1).val) 1#32))
    (Scalar.muli (BitVec.ofNat 32 ((tile s) 0).val) 16#32)) 16#32)
    (Scalar.muli (Scalar.addi (Scalar.addi 0#32 (Scalar.muli (BitVec.ofNat 32 ((tile s) 1).val) 1#32))
      (Scalar.muli (BitVec.ofNat 32 ((tile s) 0).val) 16#32)) 1#32)
    (Scalar.addi (Scalar.muli (Scalar.addi (Scalar.addi 0#32 (Scalar.muli (BitVec.ofNat 32 ((tile s) 1).val) 1#32))
      (Scalar.muli (BitVec.ofNat 32 ((tile s) 0).val) 16#32)) 0#32) 16#32) = BitVec.ofNat 32 s.val := by decide +kernel

/-- The tile's two double buffers and their semaphores, at rest. -/
def Rest : sProp 𝕄 :=
  iprop(((Any (F := F) d s (aSl 0) ∗ semVal (thr d s, aC 0) 0) ∗ (Any (F := F) d s (aSl 1) ∗ semVal (thr d s, aC 1) 0))
    ∗ ((Any (F := F) d s (bSl 0) ∗ semVal (thr d s, bC 0) 0) ∗ (Any (F := F) d s (bSl 1) ∗ semVal (thr d s, bC 1) 0)))

theorem wp_part148 (hY : Sorted d s Y (sorted d s X)) (O : CellTallies nD τ sig (HIx 1)) (W : Waits sig (HIx 1)) (v20 v41 : BitVec 32)
    (hX2 : (xV).IsWhole) (hY3 : (yV).IsWhole) (hA : (aV).IsWhole) (hB : (bV).IsWhole) (h1 : k2_cond1 (tile s) = 1#1) :
    iprop(MayWaits (thr d s) (default : HIx 1) O ∗ Todo 0 (xPts d s X) ∗ Todo 0 (fun b => yPts d s b Y₀) ∗ Rest (F := F) d s ∗ owes (thr d s) O W)
      ⊢ wp frame (wpE (defs₀ (F := F)) 𝒱₀ (thr d s) none) Set.univ
        (k2_part148 (tile s) xV hX2 yV hY3 aV hA aS bV hB bS 1#32 (BitVec.ofNat 32 s.val) 4#32 h1 4#32 v20 v41)
        fun r => iprop(⌜r.1 = 3#32 ∧ r.2.1 = 0#32 ∧ r.2.2.1 = 0#32⌝ ∗ Inv d s X Y Y₀ O W 4) := by
  rw [k2_part148_eq_skeleton]
  unfold k2_part148_skel Rest
  rw [dif_pos (cond2_tile s), Todo_step (n := 0) (by decide) (xPts d s X)]
  iintro ⟨#Hmw, ⟨Hx, Hxt⟩, Hy, ⟨⟨⟨HA, HAv⟩, HA1⟩, HB, HB1⟩, HO⟩
  iapply (wp_fetch d s X 0 0 off1_eq (off2_eq s) off3_eq) $$ [HA HAv Hx]
  · isplitl [HA]
    · iexact HA
    isplitl [HAv]
    · iexact HAv
    · iexact Hx
  iintro Hf
  rw [ret_bind]
  iapply (Scf.wp_for_bind frame (wpE (defs₀ (F := F)) 𝒱₀ (thr d s) none) Set.univ _ _ _ _ _ _
    (fun n c => iprop(MayWaits (thr d s) (default : HIx 1) O ∗ ⌜c = carry n⌝ ∗ Inv d s X Y Y₀ O W n)) ?_) $$ [Hf Hxt Hy HA1 HB HB1 HO]
  · intro t c
    iintro ⟨#Hmw, %hc, HI⟩
    subst hc
    iapply (wp_wand_r frame (wpE (defs₀ (F := F)) 𝒱₀ (thr d s) none) Set.univ)
    isplitl [HI]
    · iapply (wp_tile_trip d s X Y Y₀ hY O W 4#32 4#32 v20 v41 t)
      isplitr
      · iexact Hmw
      · iexact HI
    · iintro %c ⟨%hc, HI⟩
      isplitr
      · iexact Hmw
      isplitr
      · ipureintro; exact hc
      · iexact HI
  · isplitr
    · iexact Hmw
    isplitr
    · ipureintro; decide +kernel
    unfold Inv
    rw [show CurIn d s X 0 = Fetching d s X 0 0 from if_pos (by decide),
      show PrevOut d s Y 0 = iprop(Any (F := F) d s (bSl 1) ∗ semVal (thr d s, bC 1) 0) from if_neg (by decide)]
    isplitl [Hf]
    · iexact Hf
    isplitl [HA1]
    · iexact HA1
    isplitr
    · unfold Done; rw [Finset.range_zero, bigSep_empty]; iempintro
    isplitl [Hxt]
    · iexact Hxt
    isplitl [HB]
    · iexact HB
    isplitl [HB1]
    · iexact HB1
    isplitr
    · unfold Done; rw [Finset.range_zero, bigSep_empty]; iempintro
    isplitl [Hy]
    · iexact Hy
    · unfold Owed
      iexists W
      isplitr
      · ipureintro; exact fun p hp => .inl hp
      · iexact HO
  iintro %c ⟨#Hmw', %hc, HI⟩
  rw [show Scf.trips (k2_t1_loop (tile s)).lb (k2_t1_loop (tile s)).ub (k2_t1_loop (tile s)).st = 4 from trips_tile s]
  rw [show Scf.trips (k2_t1_loop (tile s)).lb (k2_t1_loop (tile s)).ub (k2_t1_loop (tile s)).st = 4 from trips_tile s] at hc
  subst hc
  dsimp only
  iapply (Scf.wp_for_bind frame (wpE (defs₀ (F := F)) 𝒱₀ (thr d s) none) Set.univ _ _ _ _ _ _
    (fun n c => iprop(⌜c = carry 4⌝ ∗ Inv d s X Y Y₀ O W 4)) ?_) $$ [HI]
  · intro t
    exact absurd t.isLt (by
      have h : (k2_t66_loop (tile s)).trips = 0 := trips66_tile s
      have h' : Scf.trips (k2_t66_loop (tile s)).lb (k2_t66_loop (tile s)).ub (k2_t66_loop (tile s)).st = 0 := h
      omega)
  · isplitr
    · ipureintro; rfl
    · iexact HI
  iintro %c ⟨%hc, HI⟩
  subst hc
  dsimp only
  iapply (wp_assume 𝒱₀ (thr d s) none Set.univ (chk8_tile s))
  iapply (wp_assume 𝒱₀ (thr d s) none Set.univ (chk7_tile s))
  rw [ret_bind, wp_pure]
  imodintro
  isplitr
  · ipureintro; exact ⟨rfl, rfl, rfl⟩
  · iexact HI

/-- A tile of SparseCore 0 sorts its four blocks. -/
theorem wp_tile (hY : Sorted d s Y (sorted d s X)) (O : CellTallies nD τ sig (HIx 1)) (W : Waits sig (HIx 1))
    (hX2 : (xV).IsWhole) (hY3 : (yV).IsWhole) (hA : (aV).IsWhole) (hB : (bV).IsWhole) :
    iprop(MayWaits (thr d s) (default : HIx 1) O ∗ Todo 0 (xPts d s X) ∗ Todo 0 (fun b => yPts d s b Y₀) ∗ Rest (F := F) d s ∗ owes (thr d s) O W)
      ⊢ wp frame (wpE (defs₀ (F := F)) 𝒱₀ (thr d s) none) Set.univ
        (cc2_sc_fn (tile s) xV hX2 yV hY3 aV hA aS bV hB bS)
        fun _ => iprop(Done 4 (xPts d s X) ∗ Done 4 (fun b => yPts d s b Y) ∗ Rest (F := F) d s ∗ Owed d s O W) := by
  rw [cc2_sc_fn_eq_skeleton]
  unfold cc2_sc_fn_skel
  rw [dif_pos (cond1_tile s)]
  dsimp only
  rw [work_tile s, lane_tile s]
  simp only [k2_part147_eq_skeleton, k2_part147_skel, k2_part149_eq_skeleton, k2_part149_skel, pure_bind, dite_eq_ite, ite_self]
  rw [show Scalar.muli 4#32 1#32 = 4#32 from rfl]
  iintro ⟨#Hmw, Hx, Hy, HR, HO⟩
  iapply (wp_seq d s (wp_part148 d s X Y Y₀ hY O W _ _ hX2 hY3 hA hB (cond1_tile s))) $$ [Hx Hy HR HO]
  · isplitr
    · iexact Hmw
    isplitl [Hx]
    · iexact Hx
    isplitl [Hy]
    · iexact Hy
    isplitl [HR]
    · iexact HR
    · iexact HO
  iintro %r ⟨%hr, HI⟩
  obtain ⟨v613, v614, v615, h8, h7, v66, v70, v75⟩ := r
  obtain ⟨rfl, rfl, rfl⟩ := hr
  dsimp only
  rw [dif_pos (cond18_tile s)]
  unfold Inv
  rw [show CurIn d s X 4 = iprop(Any (F := F) d s (aSl 0) ∗ semVal (thr d s, aC 0) 0) from by
      unfold CurIn; rw [if_neg (by decide), aSl_two 2, aSl_two 0, aC_two 2, aC_two 0],
    show PrevOut d s Y 4 = Sending d s Y 3 3 from if_pos (by decide),
    show aSl (4 + 1) = aSl 1 from (aSl_two 3).trans (aSl_two 1), show aC (4 + 1) = aC 1 from (aC_two 3).trans (aC_two 1),
    show bSl 4 = bSl 0 from (bSl_two 2).trans (bSl_two 0), show bC 4 = bC 0 from (bC_two 2).trans (bC_two 0)]
  icases HI with ⟨HA0, HA1, Hx, -, HB0, Hs, Hy, -, HO⟩
  ihave HO := (Owed_open d s O W) $$ HO
  icases HO with ⟨%W', %hW', HO⟩
  iapply (wp_sent d s Y 3 3 off422_eq O W') $$ [Hs HO]
  · isplitr
    · iexact Hmw
    isplitl [Hs]
    · iexact Hs
    · iexact HO
  iintro ⟨Hy3, HB1, HB1v, HO⟩
  rw [ret_bind, wp_pure]
  imodintro
  isplitl [Hx]
  · iexact Hx
  isplitl [Hy Hy3]
  · rw [Done_succ 3 (fun b => yPts d s b Y)]
    isplitl [Hy3]
    · iexact Hy3
    · iexact Hy
  isplitr [HO]
  · unfold Rest
    isplitl [HA0 HA1]
    · isplitl [HA0]
      · iexact HA0
      · iexact HA1
    isplitl [HB0]
    · iexact HB0
    · rw [show bSl 1 = bSl 3 from (bSl_two 1).symm, show bC 1 = bC 3 from (bC_two 1).symm]
      isplitl [HB1]
      · iexact HB1
      · iexact HB1v
  · unfold Owed
    iexists _
    isplitr
    swap
    · iexact HO
    · ipureintro
      exact owed_insert hW'

/-- A tile of SparseCore 1 does nothing. -/
theorem wp_idle (i : grid2.Coords) (hi : k2_cond1 i = 0#1)
    (hX2 : (xV).IsWhole) (hY3 : (yV).IsWhole) (hA : (aV).IsWhole) (hB : (bV).IsWhole) (P : sProp 𝕄) :
    P ⊢ wp frame (wpE (defs₀ (F := F)) 𝒱₀ (V d (cV i) (jV i)) none) Set.univ (cc2_sc_fn i xV hX2 yV hY3 aV hA aS bV hB bS) fun _ => P := by
  rw [cc2_sc_fn_eq_skeleton]
  unfold cc2_sc_fn_skel
  rw [dif_neg (fun h => absurd (hi.symm.trans h) (by decide))]
  iintro HP
  rw [wp_pure]
  imodintro
  iexact HP

end Cert.Proof.Sort
-- ==== Proof.Own.lean ====
/-
  WHAT A TILE OWNS. Each of the tile's two buffers is its two slots; the tile's own buffers and semaphores are the two double
  buffers and their four semaphores, and the rest. `tile_body` is the tile's task as the launch asks for it.
-/
module

public import proofs.«01_k».proof.Proof.Task

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F] [Named F]

local notation "𝕄" => MT nD τ sig (HIx 1) (Elt F) ℕ UU ℕ
local notation "xV" => (Memref.whole Cert.KernelIdeal.main_v2_scv : Memref Cert.KernelIdeal.sig Kind.scVector Space.hbm Cert.KernelIdeal.S4x256x256 EltTy.f32)
local notation "yV" => (Memref.whole Cert.KernelIdeal.main_v5_scv : Memref Cert.KernelIdeal.sig Kind.scVector Space.hbm Cert.KernelIdeal.S4x256x256 EltTy.f32)
local notation "aV" => (Memref.whole Cert.KernelIdeal.cc2_scoped0 : Memref Cert.KernelIdeal.sig Kind.scVector Space.vmem Cert.KernelIdeal.S2x1x256x16 EltTy.f32)
local notation "bV" => (Memref.whole Cert.KernelIdeal.cc2_scoped2 : Memref Cert.KernelIdeal.sig Kind.scVector Space.vmem Cert.KernelIdeal.S2x1x256x16 EltTy.f32)
local notation "aS" => (cc2_scoped1 : DmaSems Cert.KernelIdeal.sig Cert.KernelIdeal.S2)
local notation "bS" => (cc2_scoped3 : DmaSems Cert.KernelIdeal.sig Cert.KernelIdeal.S2)

section Slots

/-- The part of a buffer a slot covers. -/
abbrev slotRect (n : ℕ) : Rect S2x1x256x16 := Rect.unit (s := S2x1x256x16) (slotOff n) S1x1x256x16.size (slotOff_inb n)

theorem mem_slotRect (n : ℕ) (j : S2x1x256x16.Idx) : j ∈ (slotRect n).set ↔ (j 0).val = n % 2 := by
  rw [Rect.mem_set_unit]
  constructor
  · intro h
    have h0 := h 0
    simp at h0
    omega
  · intro h a
    match a with
    | 0 => simp; omega
    | 1 => exact ⟨Nat.zero_le _, by have : (j 1).val < 1 := (j 1).isLt; simp; omega⟩
    | 2 => exact ⟨Nat.zero_le _, by have : (j 2).val < 256 := (j 2).isLt; simp; omega⟩
    | 3 => exact ⟨Nat.zero_le _, by have : (j 3).val < 16 := (j 3).isLt; simp; omega⟩

theorem slots_cover : (slotRect 0).set ∪ (slotRect 1).set = Finset.univ := by
  ext j
  rw [Finset.mem_union, mem_slotRect, mem_slotRect]
  have : (j 0).val < 2 := (j 0).isLt
  simp
  omega

theorem slots_disjoint : Disjoint (slotRect 0).set (slotRect 1).set := by
  rw [Finset.disjoint_left]
  intro j h0 h1
  rw [mem_slotRect] at h0 h1
  omega

theorem set_aSl (n : ℕ) : (aSl n).view.set = (slotRect n).set := by
  show (((aV).view.slice (slotRect n)).reshape S1x256x16 squeezes_S1x1x256x16_S1x256x16.numel_eq).set = _
  rw [View.set_reshape]
  exact View.set_slice_whole _ _
theorem set_bSl (n : ℕ) : (bSl n).view.set = (slotRect n).set := by
  show (((bV).view.slice (slotRect n)).reshape S1x256x16 squeezes_S1x1x256x16_S1x256x16.numel_eq).set = _
  rw [View.set_reshape]
  exact View.set_slice_whole _ _

end Slots

variable (d : Dev nD) (s : Fin 16)

/-- The first buffer is its two slots; -/
theorem slots_a : (iprop(∃ f, (thr d s).loc cc2_scoped0 ↦{fullShare} f) : sProp 𝕄) ⊣⊢ iprop(Any (F := F) d s (aSl 0) ∗ Any (F := F) d s (aSl 1)) := by
  constructor
  · iintro ⟨%f, H⟩
    ihave H := (Entails.of_eq (show ((thr d s).loc cc2_scoped0 ↦{fullShare} f : sProp 𝕄)
      = (thr d s).loc cc2_scoped0 ↦[(slotRect 0).set ∪ (slotRect 1).set]{fullShare} f by rw [slots_cover])) $$ H
    ihave H := (pointsTo_union (Val := Elt F) slots_disjoint).1 $$ H
    icases H with ⟨H0, H1⟩
    isplitl [H0]
    · iapply (Any_of_pts d s (aSl 0) f)
      rw [set_aSl]
      iexact H0
    · iapply (Any_of_pts d s (aSl 1) f)
      rw [set_aSl]
      iexact H1
  · iintro ⟨H0, H1⟩
    ihave H0 := (pts_of_Any d s (aSl 0)) $$ H0
    ihave H1 := (pts_of_Any d s (aSl 1)) $$ H1
    rw [set_aSl, set_aSl]
    icases H0 with ⟨%f, H0⟩
    icases H1 with ⟨%g, H1⟩
    ihave H := (pointsTo_join (Val := Elt F) (ℓ := (thr d s).loc cc2_scoped0) slots_disjoint) $$ [H0 H1]
    · isplitl [H0]
      · iexact H0
      · iexact H1
    rw [slots_cover]
    iexists _
    iexact H

/-- and so is the second. -/
theorem slots_b : (iprop(∃ f, (thr d s).loc cc2_scoped2 ↦{fullShare} f) : sProp 𝕄) ⊣⊢ iprop(Any (F := F) d s (bSl 0) ∗ Any (F := F) d s (bSl 1)) := by
  constructor
  · iintro ⟨%f, H⟩
    ihave H := (Entails.of_eq (show ((thr d s).loc cc2_scoped2 ↦{fullShare} f : sProp 𝕄)
      = (thr d s).loc cc2_scoped2 ↦[(slotRect 0).set ∪ (slotRect 1).set]{fullShare} f by rw [slots_cover])) $$ H
    ihave H := (pointsTo_union (Val := Elt F) slots_disjoint).1 $$ H
    icases H with ⟨H0, H1⟩
    isplitl [H0]
    · iapply (Any_of_pts d s (bSl 0) f)
      rw [set_bSl]
      iexact H0
    · iapply (Any_of_pts d s (bSl 1) f)
      rw [set_bSl]
      iexact H1
  · iintro ⟨H0, H1⟩
    ihave H0 := (pts_of_Any d s (bSl 0)) $$ H0
    ihave H1 := (pts_of_Any d s (bSl 1)) $$ H1
    rw [set_bSl, set_bSl]
    icases H0 with ⟨%f, H0⟩
    icases H1 with ⟨%g, H1⟩
    ihave H := (pointsTo_join (Val := Elt F) (ℓ := (thr d s).loc cc2_scoped2) slots_disjoint) $$ [H0 H1]
    · isplitl [H0]
      · iexact H0
      · iexact H1
    rw [slots_cover]
    iexists _
    iexact H

/-- The tile's other semaphores -/
abbrev otherCells : Finset (GSem nD τ sig) :=
  ((((ownCells (thr d s)).erase (thr d s, aC 0)).erase (thr d s, aC 1)).erase (thr d s, bC 0)).erase (thr d s, bC 1)
/-- and its other buffers. -/
abbrev otherRefs : Finset (DevRef τ sig) :=
  ((ownRefs (τ := τ) (.scVector (cV (tile s)) (jV (tile s)))).erase ((Proc.scVector (cV (tile s)) (jV (tile s))).devRef cc2_scoped0)).erase
    ((Proc.scVector (cV (tile s)) (jV (tile s))).devRef cc2_scoped2)

theorem cells_ne : aC 0 ≠ aC 1 ∧ aC 0 ≠ bC 0 ∧ aC 0 ≠ bC 1 ∧ aC 1 ≠ bC 0 ∧ aC 1 ≠ bC 1 ∧ bC 0 ≠ bC 1 := by decide +kernel

theorem cells_scoped : (aC 0).isScoped .scVector = true ∧ (aC 1).isScoped .scVector = true ∧ (bC 0).isScoped .scVector = true
    ∧ (bC 1).isScoped .scVector = true := by decide +kernel

theorem mem_own {c : SemLoc sig} (h : c.isScoped .scVector = true) : (thr d s, c) ∈ ownCells (thr d s) := mem_ownCells.mpr ⟨rfl, h⟩

theorem cell_ne {c c' : SemLoc sig} (h : c ≠ c') : ((thr d s, c') : GSem nD τ sig) ≠ (thr d s, c) := fun e => h (congrArg Prod.snd e).symm

theorem ownSems0_tile :
    (ownSems0 (thr d s) : sProp 𝕄)
      = iprop(semVal (thr d s, aC 0) 0 ∗ semVal (thr d s, aC 1) 0 ∗ semVal (thr d s, bC 0) 0 ∗ semVal (thr d s, bC 1) 0
          ∗ bigSep (otherCells d s) fun g => semVal g 0) := by
  obtain ⟨h01, h02, h03, h12, h13, h23⟩ := cells_ne
  obtain ⟨s0, s1, s2, s3⟩ := cells_scoped
  unfold SparseCore.Cfg.ownSems0
  rw [SparseCore.bigSep_erase' (mem_own d s s0),
    SparseCore.bigSep_erase' (Finset.mem_erase.mpr ⟨cell_ne d s h01, mem_own d s s1⟩),
    SparseCore.bigSep_erase' (Finset.mem_erase.mpr ⟨cell_ne d s h12, Finset.mem_erase.mpr ⟨cell_ne d s h02, mem_own d s s2⟩⟩),
    SparseCore.bigSep_erase' (Finset.mem_erase.mpr ⟨cell_ne d s h23, Finset.mem_erase.mpr ⟨cell_ne d s h13,
      Finset.mem_erase.mpr ⟨cell_ne d s h03, mem_own d s s3⟩⟩⟩)]

theorem ownBufs_tile :
    (ownBufs (thr d s) : sProp 𝕄)
      = iprop((∃ f, (thr d s).loc cc2_scoped0 ↦{fullShare} f) ∗ (∃ f, (thr d s).loc cc2_scoped2 ↦{fullShare} f)
          ∗ bigSep (otherRefs s) fun b => iprop(∃ f, ((d, b) : Loc nD τ sig) ↦{fullShare} f)) := by
  unfold SparseCore.Cfg.ownBufs
  refine (SparseCore.bigSep_erase' (SparseCore.Cfg.mem_ownRefs_of_owner (p := Proc.scVector (cV (tile s)) (jV (tile s)))
    (b := (Proc.scVector (cV (tile s)) (jV (tile s))).devRef cc2_scoped0) rfl)).trans ?_
  rw [SparseCore.bigSep_erase' (Finset.mem_erase.mpr ⟨fun e => absurd (Proc.devRef_injective _ e) (show (cc2_scoped2 : Ref sig .scVector) ≠ cc2_scoped0 by decide),
    SparseCore.Cfg.mem_ownRefs_of_owner (p := Proc.scVector (cV (tile s)) (jV (tile s))) (b := (Proc.scVector (cV (tile s)) (jV (tile s))).devRef cc2_scoped2) rfl⟩)]

/-- The tile's own buffers and semaphores at rest are the double buffers' and the others. -/
theorem rest_tile :
    iprop(ownBufs (thr d s) ∗ ownSems0 (thr d s)) ⊣⊢ (iprop(Rest (F := F) d s
      ∗ (bigSep (otherRefs s) fun b => iprop(∃ f, ((d, b) : Loc nD τ sig) ↦{fullShare} f)) ∗ bigSep (otherCells d s) fun g => semVal g 0) : sProp 𝕄) := by
  rw [ownBufs_tile, ownSems0_tile]
  unfold Rest
  constructor
  · iintro ⟨⟨HA, HB, Hr⟩, H0, H1, H2, H3, Hc⟩
    ihave HA := (slots_a d s).1 $$ HA
    ihave HB := (slots_b d s).1 $$ HB
    icases HA with ⟨HA0, HA1⟩
    icases HB with ⟨HB0, HB1⟩
    isplitl [HA0 HA1 HB0 HB1 H0 H1 H2 H3]
    · isplitl [HA0 HA1 H0 H1]
      · isplitl [HA0 H0]
        · isplitl [HA0]
          · iexact HA0
          · iexact H0
        · isplitl [HA1]
          · iexact HA1
          · iexact H1
      · isplitl [HB0 H2]
        · isplitl [HB0]
          · iexact HB0
          · iexact H2
        · isplitl [HB1]
          · iexact HB1
          · iexact H3
    · isplitl [Hr]
      · iexact Hr
      · iexact Hc
  · iintro ⟨⟨⟨⟨HA0, H0⟩, HA1, H1⟩, ⟨HB0, H2⟩, HB1, H3⟩, Hr, Hc⟩
    isplitl [HA0 HA1 HB0 HB1 Hr]
    · isplitl [HA0 HA1]
      · iapply (slots_a d s).2
        isplitl [HA0]
        · iexact HA0
        · iexact HA1
      isplitl [HB0 HB1]
      · iapply (slots_b d s).2
        isplitl [HB0]
        · iexact HB0
        · iexact HB1
      · iexact Hr
    · isplitl [H0]
      · iexact H0
      isplitl [H1]
      · iexact H1
      isplitl [H2]
      · iexact H2
      isplitl [H3]
      · iexact H3
      · iexact Hc

end Cert.Proof.Sort
-- ==== Proof.Blocks.lean ====
/-
  THE ARRAYS AS BLOCKS. Each array is sixty-four blocks: block `b` of tile `s` is batch `b`, columns `16 s` to `16 s + 15`.
  `colSort X` is the array the call leaves: every column of every batch of `X` after the network's passes.
-/
module

public import proofs.«01_k».proof.Proof.Own

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F] [Named F]

local notation "𝕄" => MT nD τ sig (HIx 1) (Elt F) ℕ UU ℕ
local notation "xV" => (Memref.whole Cert.KernelIdeal.main_v2_scv : Memref Cert.KernelIdeal.sig Kind.scVector Space.hbm Cert.KernelIdeal.S4x256x256 EltTy.f32)
local notation "yV" => (Memref.whole Cert.KernelIdeal.main_v5_scv : Memref Cert.KernelIdeal.sig Kind.scVector Space.hbm Cert.KernelIdeal.S4x256x256 EltTy.f32)
local notation "aV" => (Memref.whole Cert.KernelIdeal.cc2_scoped0 : Memref Cert.KernelIdeal.sig Kind.scVector Space.vmem Cert.KernelIdeal.S2x1x256x16 EltTy.f32)
local notation "bV" => (Memref.whole Cert.KernelIdeal.cc2_scoped2 : Memref Cert.KernelIdeal.sig Kind.scVector Space.vmem Cert.KernelIdeal.S2x1x256x16 EltTy.f32)
local notation "aS" => (cc2_scoped1 : DmaSems Cert.KernelIdeal.sig Cert.KernelIdeal.S2)
local notation "bS" => (cc2_scoped3 : DmaSems Cert.KernelIdeal.sig Cert.KernelIdeal.S2)

/-! ## The blocks cover the array -/

/-- The part of an array a block covers. -/
abbrev blockRect (s : Fin 16) (b : ℕ) : Rect S4x256x256 := Rect.unit (s := S4x256x256) (blockOff s b) S1x256x16.size (blockOff_inb s b)

theorem mem_blockRect (s : Fin 16) (b : ℕ) (j : S4x256x256.Idx) : j ∈ (blockRect s b).set ↔ (j 0).val = b % 4 ∧ (j 2).val / 16 = s.val := by
  rw [Rect.mem_set_unit]
  constructor
  · intro h
    have h0 := h 0
    have h2 := h 2
    simp at h0 h2
    omega
  · rintro ⟨h0, h2⟩ a
    match a with
    | 0 => simp; omega
    | 1 => exact ⟨Nat.zero_le _, by have : (j 1).val < 256 := (j 1).isLt; simp; omega⟩
    | 2 => simp; omega

/-- The columns of a tile, over the four batches. -/
abbrev tileSet (s : Fin 16) : Finset S4x256x256.Idx := (Finset.range 4).biUnion fun b => (blockRect s b).set

theorem mem_tileSet (s : Fin 16) (j : S4x256x256.Idx) : j ∈ tileSet s ↔ (j 2).val / 16 = s.val := by
  have h : (j 0).val < 4 := (j 0).isLt
  simp only [tileSet, Finset.mem_biUnion, Finset.mem_range, mem_blockRect]
  constructor
  · rintro ⟨b, hb, h0, h2⟩; exact h2
  · intro h2; exact ⟨(j 0).val, h, (Nat.mod_eq_of_lt h).symm, h2⟩

theorem blocks_disjoint (s : Fin 16) : ∀ b ∈ Finset.range 4, ∀ b' ∈ Finset.range 4, b ≠ b' → Disjoint (blockRect s b).set (blockRect s b').set := by
  intro b hb b' hb' hne
  rw [Finset.disjoint_left]
  intro j h h'
  rw [mem_blockRect] at h h'
  rw [Finset.mem_range] at hb hb'
  omega

theorem tiles_disjoint : ∀ s ∈ (Finset.univ : Finset (Fin 16)), ∀ s' ∈ (Finset.univ : Finset (Fin 16)), s ≠ s' → Disjoint (tileSet s) (tileSet s') := by
  intro s _ s' _ hne
  rw [Finset.disjoint_left]
  intro j h h'
  rw [mem_tileSet] at h h'
  exact hne (Fin.ext (by omega))

theorem tiles_cover : (Finset.univ : Finset (Fin 16)).biUnion tileSet = Finset.univ := by
  ext j
  have : (j 2).val < 256 := (j 2).isLt
  rw [Finset.mem_biUnion]
  refine iff_of_true ?_ (Finset.mem_univ _)
  exact ⟨⟨(j 2).val / 16, by omega⟩, Finset.mem_univ _, (mem_tileSet _ j).mpr rfl⟩

abbrev xLoc (d : Dev nD) : Loc nD τ sig := (SparseCore.T d).loc main_v2
abbrev yLoc (d : Dev nD) : Loc nD τ sig := (SparseCore.T d).loc main_v5

variable (d : Dev nD)

/-- An array whole is its sixteen tiles' blocks. -/
theorem x_blocks (f : Buf (Elt F) (xLoc d)) :
    (xLoc d ↦{fullShare} f : sProp 𝕄) = bigSep Finset.univ fun s : Fin 16 => Done 4 (xPts d s f) := by
  rw [show (xLoc d ↦{fullShare} f : sProp 𝕄) = xLoc d ↦[(Finset.univ : Finset (Fin 16)).biUnion tileSet]{fullShare} f by rw [tiles_cover],
    pointsTo_biUnion Finset.univ (ℓ := xLoc d) tileSet tiles_disjoint]
  refine bigSep_congr fun s _ => ?_
  rw [pointsTo_biUnion (Finset.range 4) (ℓ := xLoc d) (fun b => (blockRect s b).set) (blocks_disjoint s)]
  refine bigSep_congr fun b _ => ?_
  rw [← View.set_slice_whole main_v2_scv (blockRect s b)]
theorem y_blocks (f : Buf (Elt F) (yLoc d)) :
    (yLoc d ↦{fullShare} f : sProp 𝕄) = bigSep Finset.univ fun s : Fin 16 => Done 4 (fun b => yPts d s b f) := by
  rw [show (yLoc d ↦{fullShare} f : sProp 𝕄) = yLoc d ↦[(Finset.univ : Finset (Fin 16)).biUnion tileSet]{fullShare} f by rw [tiles_cover],
    pointsTo_biUnion Finset.univ (ℓ := yLoc d) tileSet tiles_disjoint]
  refine bigSep_congr fun s _ => ?_
  rw [pointsTo_biUnion (Finset.range 4) (ℓ := yLoc d) (fun b => (blockRect s b).set) (blocks_disjoint s)]
  refine bigSep_congr fun b _ => ?_
  rw [← View.set_slice_whole main_v5_scv (blockRect s b)]

theorem Todo_zero (Φ : ℕ → sProp 𝕄) : Todo 0 Φ = Done 4 Φ := by
  unfold Todo Done
  rw [← Finset.range_eq_Ico]

/-! ## The array the call leaves -/

/-- An index of the array. -/
def at3 (b r c : ℕ) (hb : b < 4) (hr : r < 256) (hc : c < 256) : S4x256x256.Idx := fun a => ⟨![b, r, c] a, by
  match a with
  | 0 => exact hb
  | 1 => exact hr
  | 2 => exact hc⟩

/-- The row of sixteen lanes that holds element `(r, c)` of batch `b`: columns `16 (c / 16)` on. -/
def laneRow (X : S4x256x256.Idx → Elt F .f32) (b c : ℕ) (hb : b < 4) (hc : c < 256) : ℕ → Row F := fun r x =>
  X (at3 b (r % 256) (16 * (c / 16) + (x 2).val) hb (Nat.mod_lt _ (by decide)) (by have : (x 2).val < 16 := (x 2).isLt; omega))

/-- The lane of column `c`. -/
def laneOf (c : ℕ) : S1x1x16.Idx := fun a => ⟨![0, 0, c % 16] a, by
  match a with
  | 0 => exact Nat.one_pos
  | 1 => exact Nat.one_pos
  | 2 => exact Nat.mod_lt _ (by decide)⟩

/-- Every column after the network's passes. -/
@[irreducible] def colSort (X : S4x256x256.Idx → Elt F .f32) : S4x256x256.Idx → Elt F .f32 := fun j =>
  passes.foldl (Pass.all rmax rmin) (laneRow X (j 0).val (j 2).val (j 0).isLt (j 2).isLt) (j 1).val (laneOf (j 2).val)

/-- Where row `r`, lane `x` of block `b` of tile `s` lies in the array. -/
theorem block_emb (s : Fin 16) (b r : ℕ) (h : r < 256) (x : S1x1x16.Idx) :
    (blockRect s b).emb ((rowRect r h).emb x)
      = at3 (b % 4) r (16 * s.val + (x 2).val) (Nat.mod_lt _ (by decide)) h (by have : (x 2).val < 16 := (x 2).isLt; omega) := by
  have h0 : (x 0).val < 1 := (x 0).isLt
  have h1 : (x 1).val < 1 := (x 1).isLt
  funext a
  match a with
  | 0 => exact Fin.ext (by simp [Rect.emb, Rect.unit, at3]; omega)
  | 1 => exact Fin.ext (by simp [Rect.emb, Rect.unit, at3]; omega)
  | 2 => exact Fin.ext (by simp [Rect.emb, Rect.unit, at3])

theorem rows_eq (s : Fin 16) (X : Buf (Elt F) (xLoc d)) (b : ℕ) (c : ℕ) (hc : c < 256) (hs : c / 16 = s.val) :
    rows d s X b = laneRow X (b % 4) c (Nat.mod_lt _ (by decide)) hc := by
  funext r x
  show X ((blockRect s b).emb ((rowRect (r % 256) _).emb x)) = X _
  rw [block_emb]
  congr 1
  funext a
  match a with
  | 0 => rfl
  | 1 => rfl
  | 2 => exact Fin.ext (by simp [at3, hs])

theorem fold_congr (P : List Pass) {g g' : ℕ → Row F} (e : g = g') (r : ℕ) {x x' : S1x1x16.Idx} (ex : x = x') :
    P.foldl (Pass.all rmax rmin) g r x = P.foldl (Pass.all rmax rmin) g' r x' := by rw [e, ex]

theorem colSort_at3 (X : S4x256x256.Idx → Elt F .f32) (b r c : ℕ) (hb : b < 4) (hr : r < 256) (hc : c < 256) :
    colSort (F := F) X (at3 b r c hb hr hc) = passes.foldl (Pass.all rmax rmin) (laneRow X b c hb hc) r (laneOf c) := by
  rw [colSort]
  exact fold_congr passes rfl r rfl

theorem read_yB (s : Fin 16) (b : ℕ) (f : Buf (Elt F) (yLoc d)) (j : S1x256x16.Idx) :
    (yB s b).view.read (Elt F) f j = f ((blockRect s b).emb j) := rfl

theorem sorted_colSort (s : Fin 16) (X : Buf (Elt F) (xLoc d)) :
    Sorted d s (colSort (F := F) X : Buf (Elt F) (yLoc d)) (sorted d s X) := by
  unfold Sorted
  intro b r h x
  have hx : (x 2).val < 16 := (x 2).isLt
  rw [read_yB d s b, block_emb, colSort_at3]
  refine fold_congr passes (rows_eq d s X b (16 * s.val + (x 2).val) (by omega) (by omega)).symm r ?_
  funext a
  match a with
  | 0 => exact Fin.ext (by have : (x 0).val < 1 := (x 0).isLt; simp [laneOf]; omega)
  | 1 => exact Fin.ext (by have : (x 1).val < 1 := (x 1).isLt; simp [laneOf]; omega)
  | 2 => exact Fin.ext (by simp [laneOf]; omega)

end Cert.Proof.Sort
-- ==== Proof.Corr.lean ====
/-
  THE FIRST TENSORCORE CALL. Its grid has one point: the four batches of the input are staged whole, and the body loads each of
  them, multiplies its transpose by it, scales every product and stores the batch of the result. `corr` is the array that leaves:
  at every entry of batch `b`, the payload the body computes from batch `b` of the input. Here the body is run against the
  pipeline's data; the call is entered and left in Proof/Region.lean.
-/
module

public import proofs.«01_k».proof.Proof.Compare
public import Idealize.ShloMosaic.Lib.Pipeline.Kit
public import Idealize.ShloMosaic.Lib.Pipeline.Value

@[expose] public section

noncomputable section

namespace Cert.Proof.Sort

open Cert.KernelIdeal Cert.KernelIdeal.Gen Cert.Proof.Network
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## The program as the launch sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

abbrev EH : Emb UH (MT nD τ sig (HIx 1) (Elt F) ℕ UU ℕ) := embL
abbrev EP : Emb UR (MT nD τ sig (HIx 1) (Elt F) ℕ UU ℕ) := (Emb.inl : Emb UR (UR × Counters)).trans embR

/-! ## The array it leaves -/

theorem inb_x (b : ℕ) (hb : b < 4) : ∀ a, (![b, 0, 0] : Fin 3 → ℕ) a + S1x768x256.size a ≤ S4x768x256.size a := fun a => by
  match a with
  | 0 => show b + 1 ≤ 4; omega
  | 1 => exact Nat.le_refl 768
  | 2 => exact Nat.le_refl 256
theorem inb_y (b : ℕ) (hb : b < 4) : ∀ a, (![b, 0, 0] : Fin 3 → ℕ) a + S1x256x256.size a ≤ S4x256x256.size a := fun a => by
  match a with
  | 0 => show b + 1 ≤ 4; omega
  | 1 => exact Nat.le_refl 256
  | 2 => exact Nat.le_refl 256

/-- Batch `b` of the input, -/
abbrev xRect (b : ℕ) (hb : b < 4) : Rect S4x768x256 := Rect.unit (s := S4x768x256) ![b, 0, 0] S1x768x256.size (inb_x b hb)
/-- and of the result. -/
abbrev yRect (b : ℕ) (hb : b < 4) : Rect S4x256x256 := Rect.unit (s := S4x256x256) ![b, 0, 0] S1x256x256.size (inb_y b hb)

/-- The elements of batch `b`, as a load reads them. -/
def batch (X : S4x768x256.Idx → Elt F .f32) (b : ℕ) (hb : b < 4) : Vec F S1x768x256 .f32 := fun z => X ((xRect b hb).emb z)

/-- An entry of the result within its batch. -/
def inBatch (y : S4x256x256.Idx) : S1x256x256.Idx := fun a => match a with
  | 0 => ⟨0, Nat.one_pos⟩
  | 1 => ⟨(y 1).val, (y 1).isLt⟩
  | 2 => ⟨(y 2).val, (y 2).isLt⟩

/-- What the call leaves of the input `X`. -/
@[irreducible] def corr (X : S4x768x256.Idx → Elt F .f32) : S4x256x256.Idx → Elt F .f32 := fun y =>
  k0_pay2 (batch X (y 0).val (y 0).isLt) (inBatch y)

theorem corr_apply (X : S4x768x256.Idx → Elt F .f32) (y : S4x256x256.Idx) :
    corr X y = k0_pay2 (batch X (y 0).val (y 0).isLt) (inBatch y) := by
  unfold corr; rfl

theorem corr_emb (X : S4x768x256.Idx → Elt F .f32) (b : ℕ) (hb : b < 4) (x : S1x256x256.Idx) :
    corr X ((yRect b hb).emb x) = k0_pay2 (batch X b hb) x := by
  have x0 : (x 0).val < 1 := (x 0).isLt
  have h0 : ((yRect b hb).emb x 0).val = b := by show b + 1 * (x 0).val = b; omega
  have hb' : ∀ (n : ℕ) (hn : n < 4), n = b → batch X n hn = batch X b hb := by rintro n hn rfl; rfl
  rw [corr_apply]
  refine congr (congrArg k0_pay2 (hb' _ _ h0)) ?_
  funext a
  refine Fin.ext ?_
  match a with
  | 0 => show 0 = (x 0).val; omega
  | 1 => show 0 + 1 * (x 1).val = (x 1).val; omega
  | 2 => show 0 + 1 * (x 2).val = (x 2).val; omega

/-! ## The body -/

abbrev xS : Memref sig .tc .vmem S4x768x256 .f32 := Memref.whole cc0_stg0_0
abbrev yS : Memref sig .tc .vmem S4x256x256 .f32 := Memref.whole cc0_stg1_0

variable (d : Dev nD)

/-- The body, batch by batch: the input's loaded, the result's stored (after a load nothing reads). -/
theorem body_eq (i : grid0.Coords) (h1 : xS.IsWhole) (h2 : yS.IsWhole) :
    cc0__corr_only_body (F := F) i xS h1 yS h2 =
      .op (.load xS (xRect 0 (by decide)).toLoadRect (View.loadsAt_vmem h_S1x768x256)) fun v0 =>
      .op (.load yS (yRect 0 (by decide)).toLoadRect (View.loadsAt_vmem h_S1x256x256)) fun _ =>
      .op (.store yS (yRect 0 (by decide)) (k0_pay2 v0) Finset.univ (View.stores_vmem_bits_univ h_S1x256x256 rfl) (.inl rfl)) fun _ =>
      .op (.load xS (xRect 1 (by decide)).toLoadRect (View.loadsAt_vmem h_S1x768x256)) fun v1 =>
      .op (.load yS (yRect 1 (by decide)).toLoadRect (View.loadsAt_vmem h_S1x256x256)) fun _ =>
      .op (.store yS (yRect 1 (by decide)) (k0_pay2 v1) Finset.univ (View.stores_vmem_bits_univ h_S1x256x256 rfl) (.inl rfl)) fun _ =>
      .op (.load xS (xRect 2 (by decide)).toLoadRect (View.loadsAt_vmem h_S1x768x256)) fun v2 =>
      .op (.load yS (yRect 2 (by decide)).toLoadRect (View.loadsAt_vmem h_S1x256x256)) fun _ =>
      .op (.store yS (yRect 2 (by decide)) (k0_pay2 v2) Finset.univ (View.stores_vmem_bits_univ h_S1x256x256 rfl) (.inl rfl)) fun _ =>
      .op (.load xS (xRect 3 (by decide)).toLoadRect (View.loadsAt_vmem h_S1x768x256)) fun v3 =>
      .op (.load yS (yRect 3 (by decide)).toLoadRect (View.loadsAt_vmem h_S1x256x256)) fun _ =>
      .op (.store yS (yRect 3 (by decide)) (k0_pay2 v3) Finset.univ (View.stores_vmem_bits_univ h_S1x256x256 rfl) (.inl rfl)) fun _ =>
      .ret ⟨⟩ := by
  rw [cc0__corr_only_body_eq_skeleton]
  unfold cc0__corr_only_body_skel
  rw [k0_part1_eq_skeleton]
  rfl

abbrev xSLoc (d : Dev nD) : Loc nD τ sig := (d.tc : Thread nD τ).loc cc0_stg0_0
abbrev ySLoc (d : Dev nD) : Loc nD τ sig := (d.tc : Thread nD τ).loc cc0_stg1_0

/-- The result's four stores, the last first. -/
abbrev stores (X : S4x768x256.Idx → Elt F .f32) : List (View.Piece (Elt F) S4x256x256 .f32) :=
  [⟨yRect 3 (by decide), k0_pay2 (batch X 3 (by decide))⟩, ⟨yRect 2 (by decide), k0_pay2 (batch X 2 (by decide))⟩,
    ⟨yRect 1 (by decide), k0_pay2 (batch X 1 (by decide))⟩, ⟨yRect 0 (by decide), k0_pay2 (batch X 0 (by decide))⟩]

theorem read_yS (g : Buf (Elt F) (ySLoc d)) : yS.view.read (Elt F) g = g := rfl

/-- They leave the whole result. -/
theorem stored (X : S4x768x256.Idx → Elt F .f32) (f : Buf (Elt F) (ySLoc d)) :
    (yS.view.writes (Elt F) f (stores X) : Buf (Elt F) (ySLoc d)) = corr X := by
  rw [← read_yS d (yS.view.writes (Elt F) f (stores X))]
  funext y
  refine View.read_writes_apply_of_pieces (v := yS.view) (f := f) (corr X) (stores X) ?_ y ?_
  · intro p hp x
    simp only [stores, List.mem_cons, List.not_mem_nil, or_false] at hp
    rcases hp with rfl | rfl | rfl | rfl <;> exact (corr_emb X _ _ x).symm
  · exact View.cover_of_tiled (stores X) S1x256x256.size rfl y

theorem load_x (f : Buf (Elt F) (xSLoc d)) (b : ℕ) (hb : b < 4) (h)
    (k : Vec F S1x768x256 .f32 → Prog (TpuEff nD τ sig (Elt F) Λ₀ .tc) PUnit) (Q : PUnit → sProp 𝕄) :
    (xSLoc d ↦{fullShare} f)
      ⊢ iprop(((xSLoc d ↦{fullShare} f) -∗ wp frame (wpE (defs₀ (F := F)) 𝒱₀ (d.tc : Thread nD τ) none) Set.univ (k (batch f b hb)) Q)
          -∗ wp frame (wpE (defs₀ (F := F)) 𝒱₀ (d.tc : Thread nD τ) none) Set.univ (.op (.load xS (xRect b hb).toLoadRect h) k) Q) :=
  wp_load_rect 𝒱₀ (d.tc : Thread nD τ) none Set.univ (m := xS) (r := xRect b hb) (Finset.subset_univ _)

theorem load_y (f : Buf (Elt F) (ySLoc d)) (b : ℕ) (hb : b < 4) (h)
    (k : Vec F S1x256x256 .f32 → Prog (TpuEff nD τ sig (Elt F) Λ₀ .tc) PUnit) (Q : PUnit → sProp 𝕄) :
    (ySLoc d ↦{fullShare} f)
      ⊢ iprop(((ySLoc d ↦{fullShare} f) -∗ ∀ v, wp frame (wpE (defs₀ (F := F)) 𝒱₀ (d.tc : Thread nD τ) none) Set.univ (k v) Q)
          -∗ wp frame (wpE (defs₀ (F := F)) 𝒱₀ (d.tc : Thread nD τ) none) Set.univ (.op (.load yS (yRect b hb).toLoadRect h) k) Q) := by
  iintro H Hk
  iapply (wp_load_rect 𝒱₀ (d.tc : Thread nD τ) none Set.univ (m := yS) (r := yRect b hb) (Finset.subset_univ _)) $$ H
  iintro H
  ihave Hk := Hk $$ H
  iapply Hk

theorem store_y (f : Buf (Elt F) (ySLoc d)) (L : List (View.Piece (Elt F) S4x256x256 .f32)) (b : ℕ) (hb : b < 4) (w : Vec F S1x256x256 .f32) (h h')
    (k : PUnit → Prog (TpuEff nD τ sig (Elt F) Λ₀ .tc) PUnit) (Q : PUnit → sProp 𝕄) :
    (ySLoc d ↦{fullShare} yS.view.writes (Elt F) f L)
      ⊢ iprop(((ySLoc d ↦{fullShare} yS.view.writes (Elt F) f (⟨yRect b hb, w⟩ :: L))
            -∗ wp frame (wpE (defs₀ (F := F)) 𝒱₀ (d.tc : Thread nD τ) none) Set.univ (k ⟨⟩) Q)
          -∗ wp frame (wpE (defs₀ (F := F)) 𝒱₀ (d.tc : Thread nD τ) none) Set.univ (.op (.store yS (yRect b hb) w Finset.univ h h') k) Q) :=
  wp_store_writes 𝒱₀ (d.tc : Thread nD τ) none Set.univ (m := yS) (r := yRect b hb) (Finset.subset_univ _)

/-- The body's run: the staged input as it was, the result's buffer at `corr` of it. -/
theorem wp_body (i : grid0.Coords) (h1 : xS.IsWhole) (h2 : yS.IsWhole) (X : Buf (Elt F) (xSLoc d)) (f : Buf (Elt F) (ySLoc d)) (Q : PUnit → sProp 𝕄) :
    iprop((xSLoc d ↦{fullShare} X) ∗ (ySLoc d ↦{fullShare} f)
        ∗ (iprop((xSLoc d ↦{fullShare} X) ∗ (ySLoc d ↦{fullShare} (corr (F := F) X : Buf (Elt F) (ySLoc d)))) -∗ Q ⟨⟩))
      ⊢ wp frame (wpE (defs₀ (F := F)) 𝒱₀ (d.tc : Thread nD τ) none) Set.univ (cc0__corr_only_body i xS h1 yS h2) Q := by
  rw [body_eq, ← stored d X f]
  iintro ⟨HX, HY, HQ⟩
  ihave HY := (show (ySLoc d ↦{fullShare} f : sProp 𝕄) ⊢ (ySLoc d ↦{fullShare} yS.view.writes (Elt F) f []) from .rfl) $$ HY
  iapply (load_x d X 0 _) $$ HX; iintro HX
  iapply (load_y d _ 0 _) $$ HY; iintro HY %v
  iapply (store_y d f _ 0 _) $$ HY; iintro HY
  iapply (load_x d X 1 _) $$ HX; iintro HX
  iapply (load_y d _ 1 _) $$ HY; iintro HY %v
  iapply (store_y d f _ 1 _) $$ HY; iintro HY
  iapply (load_x d X 2 _) $$ HX; iintro HX
  iapply (load_y d _ 2 _) $$ HY; iintro HY %v
  iapply (store_y d f _ 2 _) $$ HY; iintro HY
  iapply (load_x d X 3 _) $$ HX; iintro HX
  iapply (load_y d _ 3 _) $$ HY; iintro HY %v
  iapply (store_y d f _ 3 _) $$ HY; iintro HY
  rw [wp_ret]
  imodintro
  iapply HQ
  isplitl [HX]
  · iexact HX
  · iexact HY

/-! ## The region -/

theorem N_0 : cfg0.N = 1 := by decide
/-- The grid's one point. -/
def t0 : Fin cfg0.N := ⟨0, by rw [N_0]; decide⟩
theorem fin_N0 (t : Fin cfg0.N) : t = t0 := by
  obtain ⟨t, ht⟩ := t; have := N_0; simp only [t0, Fin.mk.injEq]; omega

theorem bigSep_W0 {M : Type} [URA M] (Φ : Fin 2 → sProp M) : bigSep Finset.univ Φ = iprop(Φ 0 ∗ Φ 1) := BI.bigSep_fin_two Φ

/-- The layout: the windows' arrays unscoped, distinct buffers, the staging buffers scoped and distinct, the staging semaphores
    scoped. -/
theorem winFacts0 : Pipeline.WinFacts spec0 := by decide
theorem block_pos0 : ∀ w : Fin 2, 0 < (spec0 w).block.numel := by decide
theorem arr_whole0 : ∀ w : Fin 2, (spec0 w).arr.IsWhole := fun w => match w with
  | 0 => Memref.isWhole_whole _
  | 1 => Memref.isWhole_whole _
theorem stage_whole0 : ∀ (w : Fin 2) (s : Fin (spec0 w).nbuf), ((spec0 w).stage s).IsWhole := fun w => match w with
  | 0 => fun s => hstage0_0 (s.cast nbuf0_0)
  | 1 => fun s => hstage0_1 (s.cast nbuf0_1)

/-- The TensorCore owes nothing at the index its own waits use. -/
theorem Otc_none (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (fun e => nomatch e.2)]
  · rfl

variable (V : (c : Dev nD) → (b : Ref sig .tc) → Buf (Elt F) ((c.tc : Thread nD τ).loc b))

/-- A window's block is its whole array. -/
theorem blk_x (g : Buf (Elt F) ((d.tc : Thread nD τ).loc main_v1)) : ((cfg0.win 0).blk t0).view.read (Elt F) g = g := by
  funext i
  rw [View.read_apply]
  refine congrArg g (funext fun a => Fin.ext ?_)
  match a with
  | 0 => exact (Nat.zero_add _).trans (Nat.one_mul _)
  | 1 => exact (Nat.zero_add _).trans (Nat.one_mul _)
  | 2 => exact (Nat.zero_add _).trans (Nat.one_mul _)
theorem emb_y (i : S4x256x256.Idx) : (((cfg0.win 1).blk t0).view.emb i : S4x256x256.Idx) = i := by
  refine funext fun a => Fin.ext ?_
  match a with
  | 0 => exact (Nat.zero_add _).trans (Nat.one_mul _)
  | 1 => exact (Nat.zero_add _).trans (Nat.one_mul _)
  | 2 => exact (Nat.zero_add _).trans (Nat.one_mul _)
theorem blk_y (g : Buf (Elt F) ((d.tc : Thread nD τ).loc main_v2)) : ((cfg0.win 1).blk t0).view.read (Elt F) g = g := by
  funext i
  rw [View.read_apply]
  exact congrArg g (emb_y i)

/-- What rides through the region: the scoped buffers it does not stage. -/
abbrev Φc (c : Dev nD) : sProp 𝕄 := Pipeline.scopedRest (Ix := HIx 1) (Name := ℕ) (U := UU) (Lvl := ℕ) (Val := Elt F) spec0 c

/-- The region's proof data, entered at the contents `V`: the input's staging buffer holds the input, the result's `corr` of
    it; what the TensorCore owes is what it owes before the SparseCore call. -/
def dat (c : Dev nD) : Dat τ (Elt F) (HIx 1) ℕ UU ℕ cfg0 c where
  A w := V c (Pipeline.arrRef spec0 w)
  after w _ := match w with
    | ⟨0, _⟩ => V c main_v1
    | ⟨1, _⟩ => corr (F := F) (V c main_v1)
  Φ _ := Φc c
  q _ := fullShare
  owed _ := (K (F := F)).Otc c 0
  recorded _ := {p | (K (F := F)).lev ((c.tc : Thread nD τ), p.1) p.2 ≤ 8 * SparseCore.Cfg.Blocks.fst (Q := 1) (N := 1) 0}

theorem before_in (c : Dev nD) (x : (cfg0.win 0).block.Idx → Elt F (cfg0.win 0).elt) : (dat V c).before 0 t0 x = V c main_v1 := by
  unfold Dat.before; rw [if_pos (by decide)]; exact blk_x (F := F) c _

/-- The body, at the grid's one point. -/
theorem body_obligation (c : Dev nD) : BodyObligation (dat V c) (defs₀ (F := F)) 𝒱₀ none Set.univ := fun t => by
  obtain rfl := fin_N0 t
  rw [bigSep_W0, bigSep_W0]
  have o0 : ∀ X, (owns (c.tc : Thread nD τ) ((cfg0.win 0).stage (cfg0.slots t0 0)) fullShare X : sProp 𝕄) = iprop(∃ f, ⌜f = X⌝ ∗ (xSLoc c ↦{fullShare} f)) :=
    fun X => owns_whole_eq c.tc cc0_stg0_0 fullShare X
  have o1 : ∀ X, (owns (c.tc : Thread nD τ) ((cfg0.win 1).stage (cfg0.slots t0 1)) fullShare X : sProp 𝕄) = iprop(∃ f, ⌜f = X⌝ ∗ (ySLoc c ↦{fullShare} f)) :=
    fun X => owns_whole_eq c.tc cc0_stg1_0 fullShare X
  simp only [o0, o1]
  rw [show (dat V c).Φ t0.castSucc = Φc c from rfl, show (dat V c).Φ t0.succ = Φc c from rfl,
    show (dat V c).owesAt none t0.succ = (dat V c).owesAt none t0.castSucc from rfl]
  iintro ⟨HΦ, Howes, ⟨%d0, %f0, %hf0, H0⟩, ⟨%d1, %f1, -, H1⟩⟩
  rw [before_in] at hf0
  subst hf0
  iapply (wp_body c _ _ _ (V c main_v1) f1 _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The result's array after the region. -/
theorem arrAt_out (c : Dev nD) : (dat V c).arrAt 1 cfg0.N = corr (F := F) (V c main_v1) := by
  refine (dat V c).arrAt_eq_of_cover 1 (corr (F := F) (V c main_v1)) (fun t _ => ?_) (fun i => ⟨t0, by decide, ?_⟩)
  · obtain rfl := fin_N0 t
    exact (blk_y c _).symm
  · have h := ((cfg0.win 1).blk t0).view.emb_mem_set i
    exact emb_y i ▸ h

end Cert.Proof.Sort
-- ==== Proof.Stages.lean ====
/-
  THE SORT ON THE TENSORCORE, AS VECTOR OPERATIONS. The body of the second TensorCore call sorts a 256 × 128 half of a batch's
  correlations along its rows by the stages of a bitonic network over whole vectors: a stage at a distance of eight rows or more
  cuts the rows into blocks of twice the distance and takes the minimum and the maximum of each block's two halves; a stage at a
  shorter distance brings every row's partner to it by a rotation. Below, each kind of stage as a function, and the body's stored
  vectors as their composition.
-/
module

public import proofs.«01_k».proof.Proof.Gen.KernelIdeal.Skeleton

@[expose] public section

noncomputable section

namespace Cert.Proof.Sort

open Idealize.ShloMosaic Idealize.SL.Sem Cert.KernelIdeal Cert.KernelIdeal.Gen

variable {F : FTy → Type} [FloatOps F] [Named F]

/-- Cutting 256 rows into `g` blocks of two halves of `w` rows, and 128 rows into `g` blocks of `w`: the shapes' facts. -/
structure Cut (g w : ℕ) : Prop where
  split : S256x128.ShapeCasts ⟨4, ![g, 2, w, 128]⟩
  lo : (⟨4, ![g, 2, w, 128]⟩ : Shape).Slices ![0, 0, 0, 0] ⟨4, ![g, 1, w, 128]⟩
  hi : (⟨4, ![g, 2, w, 128]⟩ : Shape).Slices ![0, 1, 0, 0] ⟨4, ![g, 1, w, 128]⟩
  drop : (⟨4, ![g, 1, w, 128]⟩ : Shape).ShapeCasts ⟨3, ![g, w, 128]⟩
  flat : (⟨3, ![g, w, 128]⟩ : Shape).ShapeCasts S128x128
  block : S128x128.ShapeCasts ⟨3, ![g, w, 128]⟩
  unit : (⟨3, ![g, w, 128]⟩ : Shape).ShapeCasts ⟨4, ![g, 1, w, 128]⟩
  cat : Shape.Concatenates [⟨4, ![g, 1, w, 128]⟩, ⟨4, ![g, 1, w, 128]⟩] ⟨4, ![g, 2, w, 128]⟩ 1
  join : (⟨4, ![g, 2, w, 128]⟩ : Shape).ShapeCasts S256x128

theorem cut8 : Cut 16 8 := by constructor <;> decide
theorem cut16 : Cut 8 16 := by constructor <;> decide
theorem cut32 : Cut 4 32 := by constructor <;> decide
theorem cut64 : Cut 2 64 := by constructor <;> decide
theorem cut128 : Cut 1 128 := by constructor <;> decide

/-- Cutting 128 rows into `e` blocks of two halves of `d`. -/
structure Mix (e d : ℕ) : Prop where
  split : S128x128.ShapeCasts ⟨4, ![e, 2, d, 128]⟩
  lo : (⟨4, ![e, 2, d, 128]⟩ : Shape).Slices ![0, 0, 0, 0] ⟨4, ![e, 1, d, 128]⟩
  hi : (⟨4, ![e, 2, d, 128]⟩ : Shape).Slices ![0, 1, 0, 0] ⟨4, ![e, 1, d, 128]⟩
  cat : Shape.Concatenates [⟨4, ![e, 1, d, 128]⟩, ⟨4, ![e, 1, d, 128]⟩] ⟨4, ![e, 2, d, 128]⟩ 1
  join : (⟨4, ![e, 2, d, 128]⟩ : Shape).ShapeCasts S128x128

theorem mix8 : Mix 8 8 := by constructor <;> decide
theorem mix16 : Mix 4 16 := by constructor <;> decide
theorem mix32 : Mix 2 32 := by constructor <;> decide
theorem mix64 : Mix 1 64 := by constructor <;> decide

/-- `op` of each block's two halves. -/
def halves {g w : ℕ} (C : Cut g w) (op : FVec F ⟨3, ![g, w, 128]⟩ .f32 → FVec F ⟨3, ![g, w, 128]⟩ .f32 → FVec F ⟨3, ![g, w, 128]⟩ .f32)
    (x : FVec F S256x128 .f32) : FVec F S128x128 .f32 :=
  shapeCast S128x128
    (op (shapeCast ⟨3, ![g, w, 128]⟩ (extractStridedSlice ⟨4, ![g, 1, w, 128]⟩ ![0, 0, 0, 0] (shapeCast ⟨4, ![g, 2, w, 128]⟩ x C.split) C.lo) C.drop)
      (shapeCast ⟨3, ![g, w, 128]⟩ (extractStridedSlice ⟨4, ![g, 1, w, 128]⟩ ![0, 1, 0, 0] (shapeCast ⟨4, ![g, 2, w, 128]⟩ x C.split) C.hi) C.drop))
    C.flat

/-- The blocks put together from their first and second halves. -/
def joins {g w : ℕ} (C : Cut g w) (nl nh : FVec F S128x128 .f32) : FVec F S256x128 .f32 :=
  shapeCast S256x128
    (concatenate ⟨4, ![g, 2, w, 128]⟩ 1
      [⟨⟨4, ![g, 1, w, 128]⟩, shapeCast ⟨4, ![g, 1, w, 128]⟩ (shapeCast ⟨3, ![g, w, 128]⟩ nl C.block) C.unit⟩,
       ⟨⟨4, ![g, 1, w, 128]⟩, shapeCast ⟨4, ![g, 1, w, 128]⟩ (shapeCast ⟨3, ![g, w, 128]⟩ nh C.block) C.unit⟩] C.cat)
    C.join

/-- Every other block of `d` rows from `a`, starting with the first, the others from `b`. -/
def mixes {e d : ℕ} (M : Mix e d) (a b : FVec F S128x128 .f32) : FVec F S128x128 .f32 :=
  shapeCast S128x128
    (concatenate ⟨4, ![e, 2, d, 128]⟩ 1
      [⟨⟨4, ![e, 1, d, 128]⟩, extractStridedSlice ⟨4, ![e, 1, d, 128]⟩ ![0, 0, 0, 0] (shapeCast ⟨4, ![e, 2, d, 128]⟩ a M.split) M.lo⟩,
       ⟨⟨4, ![e, 1, d, 128]⟩, extractStridedSlice ⟨4, ![e, 1, d, 128]⟩ ![0, 1, 0, 0] (shapeCast ⟨4, ![e, 2, d, 128]⟩ b M.split) M.hi⟩] M.cat)
    M.join

/-- The rows whose number has the bit `d`. -/
def bit128 (d : ℕ) : IVec S128x128 1 :=
  cmpi .ne (andi (iota .tc S128x128 32 [0] iota_S128x128_d0_w32) (broadcast S128x128 (BitVec.ofNat 32 d))) (broadcast S128x128 0#32)

def bit256 (d : ℕ) : IVec S256x128 1 :=
  cmpi .ne (andi (iota .tc S256x128 32 [0] iota_S256x128_d0_w32) (broadcast S256x128 (BitVec.ofNat 32 d))) (broadcast S256x128 0#32)

/-- A stage at a distance of `w ≥ 8` rows: every block descending, -/
def hiN {g w : ℕ} (C : Cut g w) (x : FVec F S256x128 .f32) : FVec F S256x128 .f32 :=
  joins C (halves C maximumf x) (halves C minimumf x)

/-- the pairs ascending in every other run of `d ≥ 8` of them, -/
def hiB {g w e d : ℕ} (C : Cut g w) (M : Mix e d) (x : FVec F S256x128 .f32) : FVec F S256x128 .f32 :=
  joins C (mixes M (halves C maximumf x) (halves C minimumf x)) (mixes M (halves C minimumf x) (halves C maximumf x))

/-- or in those runs of fewer. -/
def hiM {g w : ℕ} (C : Cut g w) (d : ℕ) (x : FVec F S256x128 .f32) : FVec F S256x128 .f32 :=
  joins C (select (bit128 d) (halves C minimumf x) (halves C maximumf x)) (select (bit128 d) (halves C maximumf x) (halves C minimumf x))

/-- Every row's partner at a distance of one row, of two, -/
def roll1 (x : FVec F S256x128 .f32) : FVec F S256x128 .f32 :=
  select (bit256 1)
    (concatenate S256x128 0 [⟨S1x128, extractStridedSlice S1x128 ![255, 0] x (by decide)⟩, ⟨S255x128, extractStridedSlice S255x128 ![0, 0] x (by decide)⟩] concatenates_S1x128_S255x128_S256x128_d0)
    (concatenate S256x128 0 [⟨S255x128, extractStridedSlice S255x128 ![1, 0] x (by decide)⟩, ⟨S1x128, extractStridedSlice S1x128 ![0, 0] x (by decide)⟩] concatenates_S255x128_S1x128_S256x128_d0)

def roll2 (x : FVec F S256x128 .f32) : FVec F S256x128 .f32 :=
  select (bit256 2)
    (concatenate S256x128 0 [⟨S2x128, extractStridedSlice S2x128 ![254, 0] x (by decide)⟩, ⟨S254x128, extractStridedSlice S254x128 ![0, 0] x (by decide)⟩] concatenates_S2x128_S254x128_S256x128_d0)
    (concatenate S256x128 0 [⟨S254x128, extractStridedSlice S254x128 ![2, 0] x (by decide)⟩, ⟨S2x128, extractStridedSlice S2x128 ![0, 0] x (by decide)⟩] concatenates_S254x128_S2x128_S256x128_d0)

/-- and of four. -/
def swap4 (x : FVec F S256x128 .f32) : FVec F S256x128 .f32 :=
  shapeCast S256x128
    (concatenate S32x8x128 1
      [⟨S32x4x128, extractStridedSlice S32x4x128 ![0, 4, 0] (shapeCast S32x8x128 x (by decide)) (by decide)⟩,
       ⟨S32x4x128, extractStridedSlice S32x4x128 ![0, 0, 0] (shapeCast S32x8x128 x (by decide)) (by decide)⟩] concatenates_S32x4x128_S32x4x128_S32x8x128_d1)
    (by decide)

/-- A stage at a distance of `w < 8` rows: every block descending, -/
def loN (w : ℕ) (p : FVec F S256x128 .f32 → FVec F S256x128 .f32) (x : FVec F S256x128 .f32) : FVec F S256x128 .f32 :=
  select (bit256 w) (minimumf x (p x)) (maximumf x (p x))

/-- or ascending in the rows with the bit `d`. -/
def loK (d w : ℕ) (p : FVec F S256x128 .f32 → FVec F S256x128 .f32) (x : FVec F S256x128 .f32) : FVec F S256x128 .f32 :=
  select (xori (bit256 d) (bit256 w)) (minimumf x (p x)) (maximumf x (p x))

/-- The network's levels: the runs of `2`, of `4`, … of `256` rows. -/
def level2 (x : FVec F S256x128 .f32) : FVec F S256x128 .f32 :=
  hiB cut32 mix32 x

def level4 (x : FVec F S256x128 .f32) : FVec F S256x128 .f32 :=
  hiB cut32 mix64 (hiB cut64 mix64 x)

def level8 (x : FVec F S256x128 .f32) : FVec F S256x128 .f32 :=
  hiB cut32 mix8 (hiB cut64 mix8 (hiB cut128 mix8 x))

def level16 (x : FVec F S256x128 .f32) : FVec F S256x128 .f32 :=
  hiB cut32 mix16 (hiB cut64 mix16 (hiB cut128 mix16 (hiB cut8 mix8 x)))

def level32 (x : FVec F S256x128 .f32) : FVec F S256x128 .f32 :=
  hiM cut32 1 (hiM cut64 1 (hiM cut128 1 (hiM cut8 1 (hiM cut16 1 x))))

def level64 (x : FVec F S256x128 .f32) : FVec F S256x128 .f32 :=
  hiM cut32 2 (hiM cut64 2 (hiM cut128 2 (hiM cut8 2 (hiM cut16 2 (loK 2 1 roll1 x)))))

def level128 (x : FVec F S256x128 .f32) : FVec F S256x128 .f32 :=
  hiM cut32 4 (hiM cut64 4 (hiM cut128 4 (hiM cut8 4 (hiM cut16 4 (loK 4 1 roll1 (loK 4 2 roll2 x))))))

def level256 (x : FVec F S256x128 .f32) : FVec F S256x128 .f32 :=
  hiN cut32 (hiN cut64 (hiN cut128 (hiN cut8 (hiN cut16 (loN 1 roll1 (loN 2 roll2 (loN 4 swap4 x)))))))

/-- All of them. -/
def net (x : FVec F S256x128 .f32) : FVec F S256x128 .f32 :=
  level256 (level128 (level64 (level32 (level16 (level8 (level4 (level2 x)))))))

/-- The rows put in order: row `r`'s eight bits are read with the low three and the high three exchanged. -/
def fin (x : FVec F S256x128 .f32) : FVec F S1x256x128 .f32 :=
  shapeCast S1x256x128
    (shapeCast S256x128 (transpose S8x4x8x128 [2, 1, 0, 3] (shapeCast S8x4x8x128 x (by decide)) transposes_S8x4x8x128_p2_1_0_3_S8x4x8x128) (by decide))
    (by decide)

/-- A half of a batch's correlations: the products of all its columns with those from `off` on. -/
def corrHalf (off : Fin 2 → ℕ) (h : S768x256.Slices off S768x128) (v : Vec F S1x768x256 .f32) : FVec F S256x128 .f32 :=
  mulf
    (matmul dot_S768x256_S768x128_S256x128_0_0_1_1_n_n none (shapeCast S768x256 v shapeCasts_S1x768x256_S768x256)
      (extractStridedSlice S768x128 off (shapeCast S768x256 v shapeCasts_S1x768x256_S768x256) h) (constant S256x128 .f32 0x00000000#32))
    (broadcast S256x128 (Named.named κ "inv_feats" 0x3AAAAAAB#32))

/-- What the body stores of a batch's left half, and of its right half. -/
def sortL (v : Vec F S1x768x256 .f32) : FVec F S1x256x128 .f32 := fin (net (corrHalf ![0, 0] slices_S768x256_o0_0_S768x128 v))
def sortR (v : Vec F S1x768x256 .f32) : FVec F S1x256x128 .f32 := fin (net (corrHalf ![0, 128] slices_S768x256_o0_128_S768x128 v))

end Cert.Proof.Sort
-- ==== Proof.CorrSort.lean ====
/-
  THE SECOND TENSORCORE CALL. Its grid has fourteen points; at each, two batches are staged, and the body loads each of them,
  computes the two halves of its correlations, sorts every column (Proof/Stages.lean) and stores the sorted halves. `corrSort` is
  the array that leaves: at every entry of batch `b`, what the body stores there of batch `b` of the input. The body is read here
  as its loads and stores alone, over any two staging buffers, and then against the pipeline's data.
-/
module

public import proofs.«01_k».proof.Proof.Corr
public import proofs.«01_k».proof.Proof.Stages
public import Idealize.ShloMosaic.Lib.Pointwise

@[expose] public section

noncomputable section

namespace Cert.Proof.Sort

open Cert.KernelIdeal Cert.KernelIdeal.Gen Cert.Proof.Network
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## The body as its loads and stores -/

/-- Batch `b` of the staged input, -/
abbrev xRect2 (b : ℕ) (hb : ∀ a, (![b, 0, 0] : Fin 3 → ℕ) a + S1x768x256.size a ≤ S2x768x256.size a) : Rect S2x768x256 :=
  Rect.unit (s := S2x768x256) ![b, 0, 0] S1x768x256.size hb
/-- and the half of batch `b` of the result from column `o` on. -/
abbrev yRect2 (b o : ℕ) (hb : ∀ a, (![b, 0, o] : Fin 3 → ℕ) a + S1x256x128.size a ≤ S2x256x256.size a) : Rect S2x256x256 :=
  Rect.unit (s := S2x256x256) ![b, 0, o] S1x256x128.size hb

abbrev TProg := Prog (TpuEff nD τ sig (Elt F) Λ₀ .tc) PUnit

/-- A half's end: the result's half loaded, to no purpose, and stored. -/
def putHalf (y : Memref sig .tc .vmem S2x256x256 .f32) (b o : ℕ) (hb : ∀ a, (![b, 0, o] : Fin 3 → ℕ) a + S1x256x128.size a ≤ S2x256x256.size a)
    (w : FVec F S1x256x128 .f32) (k : TProg (F := F)) : TProg (F := F) :=
  .op (.load y (yRect2 b o hb).toLoadRect (View.loadsAt_vmem h_S1x256x128)) fun _ =>
  .op (.store y (yRect2 b o hb) w Finset.univ (View.stores_vmem_bits_univ h_S1x256x128 rfl) (.inl rfl)) fun _ => k

set_option maxRecDepth 65536 in
set_option maxHeartbeats 4000000 in
theorem sort_body_eq (i : grid1.Coords) (x : Memref sig .tc .vmem S2x768x256 .f32) (hx : x.IsWhole)
    (y : Memref sig .tc .vmem S2x256x256 .f32) (hy : y.IsWhole) :
    cc1__corr_sort_body (F := F) i x hx y hy =
      .op (.load x (xRect2 0 inb_S2x768x256_S1x768x256_0_0_0).toLoadRect (View.loadsAt_vmem h_S1x768x256)) fun v0 =>
      putHalf y 0 0 inb_S2x256x256_S1x256x128_0_0_0 (sortL v0) <|
      putHalf y 0 128 inb_S2x256x256_S1x256x128_0_0_128 (sortR v0) <|
      .op (.load x (xRect2 1 inb_S2x768x256_S1x768x256_1_0_0).toLoadRect (View.loadsAt_vmem h_S1x768x256)) fun v1 =>
      putHalf y 1 0 inb_S2x256x256_S1x256x128_1_0_0 (sortL v1) <|
      putHalf y 1 128 inb_S2x256x256_S1x256x128_1_0_128 (sortR v1) <|
      .ret ⟨⟩ := by
  rw [cc1__corr_sort_body_eq_skeleton]
  unfold cc1__corr_sort_body_skel
  rw [k1_part63_eq_skeleton, k1_part64_eq_skeleton]
  unfold k1_part63_skel k1_part64_skel
  rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton]
  unfold putHalf
  rfl

/-! ## The array it leaves -/

/-- Entry `(r, c)` of what the body stores of a batch. -/
def sortHalves (v : Vec F S1x768x256 .f32) (r c : Fin 256) : F .f32 :=
  if h : c.val < 128 then sortL v (ix3 0 r ⟨c.val, h⟩) else sortR v (ix3 0 r ⟨c.val - 128, by have := c.isLt; omega⟩)

/-- Batch `b` of the two staged. -/
def batch2 (X : S2x768x256.Idx → Elt F .f32) (b : Fin 2) : Vec F S1x768x256 .f32 := fun z => X (ix3 b (z 1) (z 2))

/-- Batch `b` of the call's input. -/
def batch28 (X : S28x768x256.Idx → Elt F .f32) (b : Fin 28) : Vec F S1x768x256 .f32 := fun z => X (ix3 b (z 1) (z 2))

/-- What the body leaves of the staged input `X`. -/
@[irreducible] def corrSort2 (X : S2x768x256.Idx → Elt F .f32) : S2x256x256.Idx → Elt F .f32 := fun y =>
  sortHalves (batch2 X (y 0)) (y 1) (y 2)

/-- What the call leaves of the input `X`. -/
@[irreducible] def corrSort (X : S28x768x256.Idx → Elt F .f32) : S28x256x256.Idx → Elt F .f32 := fun y =>
  sortHalves (batch28 X (y 0)) (y 1) (y 2)

theorem corrSort2_apply (X : S2x768x256.Idx → Elt F .f32) (y : S2x256x256.Idx) :
    corrSort2 X y = sortHalves (batch2 X (y 0)) (y 1) (y 2) := by unfold corrSort2; rfl
theorem corrSort_apply (X : S28x768x256.Idx → Elt F .f32) (y : S28x256x256.Idx) :
    corrSort X y = sortHalves (batch28 X (y 0)) (y 1) (y 2) := by unfold corrSort; rfl

theorem corrSort2_left (X : S2x768x256.Idx → Elt F .f32) (b : ℕ) (hb : b < 2) (h) (z : S1x256x128.Idx) :
    corrSort2 X ((yRect2 b 0 h).emb z) = sortL (batch2 X ⟨b, hb⟩) z := by
  have z0 : (z 0).val < 1 := (z 0).isLt
  have z2 : (z 2).val < 128 := (z 2).isLt
  rw [corrSort2_apply]
  have e0 : (yRect2 b 0 h).emb z 0 = (⟨b, hb⟩ : Fin 2) := Fin.ext (by show b + 1 * (z 0).val = b; omega)
  have e1 : (yRect2 b 0 h).emb z 1 = (z 1 : Fin 256) := Fin.ext (by show 0 + 1 * (z 1).val = (z 1).val; omega)
  have e2 : (yRect2 b 0 h).emb z 2 = (⟨(z 2).val, by omega⟩ : Fin 256) := Fin.ext (by show 0 + 1 * (z 2).val = (z 2).val; omega)
  rw [e0, e1, e2]
  unfold sortHalves
  rw [dif_pos z2]
  refine congrArg _ (funext fun a => ?_)
  match a with
  | 0 => exact Fin.ext (by show 0 = (z 0).val; omega)
  | 1 => rfl
  | 2 => rfl

theorem corrSort2_right (X : S2x768x256.Idx → Elt F .f32) (b : ℕ) (hb : b < 2) (h) (z : S1x256x128.Idx) :
    corrSort2 X ((yRect2 b 128 h).emb z) = sortR (batch2 X ⟨b, hb⟩) z := by
  have z0 : (z 0).val < 1 := (z 0).isLt
  have z2 : (z 2).val < 128 := (z 2).isLt
  rw [corrSort2_apply]
  have e0 : (yRect2 b 128 h).emb z 0 = (⟨b, hb⟩ : Fin 2) := Fin.ext (by show b + 1 * (z 0).val = b; omega)
  have e1 : (yRect2 b 128 h).emb z 1 = (z 1 : Fin 256) := Fin.ext (by show 0 + 1 * (z 1).val = (z 1).val; omega)
  have e2 : (yRect2 b 128 h).emb z 2 = (⟨128 + (z 2).val, by omega⟩ : Fin 256) := Fin.ext (by show 128 + 1 * (z 2).val = 128 + (z 2).val; omega)
  rw [e0, e1, e2]
  unfold sortHalves
  rw [dif_neg (by show ¬ 128 + (z 2).val < 128; omega)]
  refine congrArg _ (funext fun a => ?_)
  match a with
  | 0 => exact Fin.ext (by show 0 = (z 0).val; omega)
  | 1 => rfl
  | 2 => exact Fin.ext (by show 128 + (z 2).val - 128 = (z 2).val; omega)

/-- The result's four stores, the last first. -/
abbrev stores2 (X : S2x768x256.Idx → Elt F .f32) : List (View.Piece (Elt F) S2x256x256 .f32) :=
  [⟨yRect2 1 128 inb_S2x256x256_S1x256x128_1_0_128, sortR (batch2 X 1)⟩, ⟨yRect2 1 0 inb_S2x256x256_S1x256x128_1_0_0, sortL (batch2 X 1)⟩,
    ⟨yRect2 0 128 inb_S2x256x256_S1x256x128_0_0_128, sortR (batch2 X 0)⟩, ⟨yRect2 0 0 inb_S2x256x256_S1x256x128_0_0_0, sortL (batch2 X 0)⟩]

/-- They leave the whole result, whatever buffer they are stored through. -/
theorem stored2 (v : View sig .tc .vmem S2x256x256 .f32) (f : v.ty.Contents (Elt F)) (X : S2x768x256.Idx → Elt F .f32) :
    v.read (Elt F) (v.writes (Elt F) f (stores2 X)) = corrSort2 X := by
  funext y
  refine View.read_writes_apply_of_pieces (v := v) (f := f) (corrSort2 X) (stores2 X) ?_ y ?_
  · intro p hp x
    simp only [stores2, List.mem_cons, List.not_mem_nil, or_false] at hp
    rcases hp with rfl | rfl | rfl | rfl
    · exact (corrSort2_right X 1 (by decide) inb_S2x256x256_S1x256x128_1_0_128 x).symm
    · exact (corrSort2_left X 1 (by decide) inb_S2x256x256_S1x256x128_1_0_0 x).symm
    · exact (corrSort2_right X 0 (by decide) inb_S2x256x256_S1x256x128_0_0_128 x).symm
    · exact (corrSort2_left X 0 (by decide) inb_S2x256x256_S1x256x128_0_0_0 x).symm
  · exact View.cover_of_tiled (stores2 X) S1x256x128.size rfl y

/-- A load of a batch. -/
theorem read_batch2 (m : Memref sig .tc .vmem S2x768x256 .f32) (f : m.view.ty.Contents (Elt F)) (b : ℕ) (hb : b < 2) (h) :
    (m.access (xRect2 b h)).read (Elt F) f = batch2 (m.view.read (Elt F) f) ⟨b, hb⟩ := by
  funext z
  show m.view.read (Elt F) f ((xRect2 b h).emb z) = m.view.read (Elt F) f _
  have z0 : (z 0).val < 1 := (z 0).isLt
  refine congrArg _ (funext fun a => Fin.ext ?_)
  match a with
  | 0 => show b + 1 * (z 0).val = b; omega
  | 1 => show 0 + 1 * (z 1).val = (z 1).val; omega
  | 2 => show 0 + 1 * (z 2).val = (z 2).val; omega

variable (d : Dev nD)

theorem load_batch (m : Memref sig .tc .vmem S2x768x256 .f32) (f : Buf (Elt F) (m.view.loc (d.tc : Thread nD τ))) (b : ℕ) (hb : b < 2) (h h')
    (k : Vec F S1x768x256 .f32 → TProg (F := F)) (Q : PUnit → sProp 𝕄) :
    (m.view.loc (d.tc : Thread nD τ) ↦[m.view.set]{fullShare} f)
      ⊢ iprop(((m.view.loc (d.tc : Thread nD τ) ↦[m.view.set]{fullShare} f)
            -∗ wp frame (wpE (defs₀ (F := F)) 𝒱₀ (d.tc : Thread nD τ) none) Set.univ (k (batch2 (m.view.read (Elt F) f) ⟨b, hb⟩)) Q)
          -∗ wp frame (wpE (defs₀ (F := F)) 𝒱₀ (d.tc : Thread nD τ) none) Set.univ (.op (.load m (xRect2 b h).toLoadRect h') k) Q) := by
  rw [← read_batch2 m f b hb h]
  exact wp_load_rect 𝒱₀ (d.tc : Thread nD τ) none Set.univ (m := m) (r := xRect2 b h) (View.set_slice_subset _ _)

theorem put_half (m : Memref sig .tc .vmem S2x256x256 .f32) (f : Buf (Elt F) (m.view.loc (d.tc : Thread nD τ)))
    (L : List (View.Piece (Elt F) S2x256x256 .f32)) (b o : ℕ) (h) (w : FVec F S1x256x128 .f32) (k : TProg (F := F)) (Q : PUnit → sProp 𝕄) :
    (m.view.loc (d.tc : Thread nD τ) ↦[m.view.set]{fullShare} m.view.writes (Elt F) f L)
      ⊢ iprop(((m.view.loc (d.tc : Thread nD τ) ↦[m.view.set]{fullShare} m.view.writes (Elt F) f (⟨yRect2 b o h, w⟩ :: L))
            -∗ wp frame (wpE (defs₀ (F := F)) 𝒱₀ (d.tc : Thread nD τ) none) Set.univ k Q)
          -∗ wp frame (wpE (defs₀ (F := F)) 𝒱₀ (d.tc : Thread nD τ) none) Set.univ (putHalf m b o h w k) Q) := by
  unfold putHalf
  iintro H Hk
  iapply (wp_load_rect 𝒱₀ (d.tc : Thread nD τ) none Set.univ (m := m) (r := yRect2 b o h) (View.set_slice_subset _ _)) $$ H
  iintro H
  iapply (wp_store_writes 𝒱₀ (d.tc : Thread nD τ) none Set.univ (m := m) (r := yRect2 b o h) (View.set_slice_subset _ _)) $$ H
  iexact Hk

/-- The body's run: the staged input as it was, the result's buffer at `corrSort2` of it. -/
theorem wp_sort_body (i : grid1.Coords) (x : Memref sig .tc .vmem S2x768x256 .f32) (hx : x.IsWhole) (y : Memref sig .tc .vmem S2x256x256 .f32)
    (hy : y.IsWhole) (X : S2x768x256.Idx → Elt F .f32) (Y : S2x256x256.Idx → Elt F .f32) (Q : PUnit → sProp 𝕄) :
    iprop(owns (d.tc : Thread nD τ) x fullShare X ∗ owns (d.tc : Thread nD τ) y fullShare Y
        ∗ (iprop(owns (d.tc : Thread nD τ) x fullShare X ∗ owns (d.tc : Thread nD τ) y fullShare (corrSort2 (F := F) X)) -∗ Q ⟨⟩))
      ⊢ wp frame (wpE (defs₀ (F := F)) 𝒱₀ (d.tc : Thread nD τ) none) Set.univ (cc1__corr_sort_body i x hx y hy) Q := by
  rw [sort_body_eq]
  unfold owns
  iintro ⟨⟨%f, %hf, HX⟩, ⟨%g, -, HY⟩, HQ⟩
  subst hf
  ihave HY := (show (y.view.loc (d.tc : Thread nD τ) ↦[y.view.set]{fullShare} g : sProp 𝕄)
    ⊢ (y.view.loc (d.tc : Thread nD τ) ↦[y.view.set]{fullShare} y.view.writes (Elt F) g []) from .rfl) $$ HY
  iapply (load_batch d x f 0 (by decide) _ _) $$ HX; iintro HX
  iapply (put_half d y g _ 0 0 _ _ _ _) $$ HY; iintro HY
  iapply (put_half d y g _ 0 128 _ _ _ _) $$ HY; iintro HY
  iapply (load_batch d x f 1 (by decide) _ _) $$ HX; iintro HX
  iapply (put_half d y g _ 1 0 _ _ _ _) $$ HY; iintro HY
  iapply (put_half d y g _ 1 128 _ _ _ _) $$ HY; iintro HY
  rw [wp_ret]
  imodintro
  iapply HQ
  isplitl [HX]
  · iexists f
    isplitr
    · ipureintro; rfl
    · iexact HX
  · iexists _
    isplitr
    swap
    · iexact HY
    · ipureintro
      exact stored2 y.view g _

/-! ## The pipeline's data -/

theorem N_1 : cfg1.N = 14 := by decide
theorem coords1 : ∀ t : Fin cfg1.N, (grid1.coords t 0).val = t.val := by decide
theorem fetch1 : ∀ t : Fin cfg1.N, (cfg1.win 0).fetch t = true := by decide
theorem flush1 : ∀ t : Fin cfg1.N, (cfg1.win 1).flush t = true := by decide

/-- The layout, as for the first call. -/
theorem winFacts1 : Pipeline.WinFacts spec1 := by decide
theorem block_pos1 : ∀ w : Fin 2, 0 < (spec1 w).block.numel := by decide
theorem arr_whole1 : ∀ w : Fin 2, (spec1 w).arr.IsWhole := fun w => match w with
  | 0 => Memref.isWhole_whole _
  | 1 => Memref.isWhole_whole _
theorem stage_whole1 : ∀ (w : Fin 2) (s : Fin (spec1 w).nbuf), ((spec1 w).stage s).IsWhole := fun w => match w with
  | 0 => fun s => hstage1_0 (s.cast nbuf1_0)
  | 1 => fun s => hstage1_1 (s.cast nbuf1_1)

/-- Where block `t`'s elements are in the input, -/
abbrev embX (t : Fin cfg1.N) (z : S2x768x256.Idx) : S28x768x256.Idx := ((cfg1.win 0).blk t).view.emb z
/-- and in the result. -/
abbrev embY (t : Fin cfg1.N) (z : S2x256x256.Idx) : S28x256x256.Idx := ((cfg1.win 1).blk t).view.emb z

theorem off1 (t : Fin cfg1.N) : (BitVec.ofNat 32 (grid1.coords t 0).val).toNat = t.val := by
  have := t.isLt; have := N_1
  rw [coords1, BitVec.toNat_ofNat]
  omega

theorem embX_val (t : Fin cfg1.N) (z : S2x768x256.Idx) :
    (embX t z 0).val = t.val * 2 + (z 0).val ∧ (embX t z 1).val = (z 1).val ∧ (embX t z 2).val = (z 2).val := by
  refine ⟨?_, ?_, ?_⟩
  · show (BitVec.ofNat 32 (grid1.coords t 0).val).toNat * 2 + 1 * (z 0).val = _
    rw [off1]; omega
  · show 0 * 768 + 1 * (z 1).val = _; omega
  · show 0 * 256 + 1 * (z 2).val = _; omega

theorem embY_val (t : Fin cfg1.N) (z : S2x256x256.Idx) :
    (embY t z 0).val = t.val * 2 + (z 0).val ∧ (embY t z 1).val = (z 1).val ∧ (embY t z 2).val = (z 2).val := by
  refine ⟨?_, ?_, ?_⟩
  · show (BitVec.ofNat 32 (grid1.coords t 0).val).toNat * 2 + 1 * (z 0).val = _
    rw [off1]; omega
  · show 0 * 256 + 1 * (z 1).val = _; omega
  · show 0 * 256 + 1 * (z 2).val = _; omega

/-- Block `t` of what the call leaves is what the body leaves of block `t` of the input. -/
theorem corrSort_blk (X : S28x768x256.Idx → Elt F .f32) (t : Fin cfg1.N) :
    (fun z => corrSort X (embY t z)) = corrSort2 (fun z => X (embX t z)) := by
  funext y
  obtain ⟨h0, h1, h2⟩ := embY_val t y
  rw [corrSort_apply, corrSort2_apply]
  have e1 : embY t y 1 = (y 1 : Fin 256) := Fin.ext h1
  have e2 : embY t y 2 = (y 2 : Fin 256) := Fin.ext h2
  rw [e1, e2]
  refine congrArg (fun v => sortHalves (F := F) v (y 1) (y 2)) (funext fun z => ?_)
  show X (ix3 (embY t y 0) (z 1) (z 2)) = X (embX t (ix3 (y 0) (z 1) (z 2)))
  obtain ⟨g0, g1, g2⟩ := embX_val t (ix3 (y 0) (z 1) (z 2))
  refine congrArg X (funext fun a => Fin.ext ?_)
  match a with
  | 0 => exact h0.trans g0.symm
  | 1 => exact g1.symm
  | 2 => exact g2.symm

variable (V : (c : Dev nD) → (b : Ref sig .tc) → Buf (Elt F) ((c.tc : Thread nD τ).loc b))

/-- What rides through the region: the scoped buffers it does not stage. -/
abbrev Φc1 (c : Dev nD) : sProp 𝕄 := Pipeline.scopedRest (Ix := HIx 1) (Name := ℕ) (U := UU) (Lvl := ℕ) (Val := Elt F) spec1 c

/-- Block `t` of the input. -/
abbrev xblk (c : Dev nD) (t : Fin cfg1.N) : S2x768x256.Idx → Elt F .f32 := fun z => (V c main_v3 : S28x768x256.Idx → Elt F .f32) (embX t z)

/-- The region's proof data, entered at the contents `V`: at each point the input's staging buffer holds the input's block, the
    result's `corrSort2` of it. -/
def dat1 (c : Dev nD) : Dat τ (Elt F) (HIx 1) ℕ UU ℕ cfg1 c where
  A w := V c (Pipeline.arrRef spec1 w)
  after w t := match w with
    | ⟨0, _⟩ => xblk V c t
    | ⟨1, _⟩ => corrSort2 (F := F) (xblk V c t)
  Φ _ := Φc1 c
  q _ := fullShare
  owed _ := (K (F := F)).Otc c 0
  recorded _ := {p | (K (F := F)).lev ((c.tc : Thread nD τ), p.1) p.2 ≤ 8 * SparseCore.Cfg.Blocks.fst (Q := 1) (N := 1) 0}

theorem before_in1 (c : Dev nD) (t : Fin cfg1.N) (x : (cfg1.win 0).block.Idx → Elt F (cfg1.win 0).elt) : (dat1 V c).before 0 t x = xblk V c t := by
  unfold Dat.before; rw [if_pos (fetch1 t)]; rfl

/-- The body, at every point. -/
theorem body_obligation1 (c : Dev nD) : BodyObligation (dat1 V c) (defs₀ (F := F)) 𝒱₀ none Set.univ := fun t => by
  rw [bigSep_W0, bigSep_W0]
  rw [show (dat1 V c).Φ t.castSucc = Φc1 c from rfl, show (dat1 V c).Φ t.succ = Φc1 c from rfl,
    show (dat1 V c).owesAt none t.succ = (dat1 V c).owesAt none t.castSucc from rfl]
  iintro ⟨HΦ, Howes, ⟨%d0, H0⟩, ⟨%d1, H1⟩⟩
  rw [before_in1]
  iapply (wp_sort_body c _ _ _ _ _ (xblk V c t) _ _)
  isplitl [H0]; · iexact H0
  isplitl [H1]; · iexact H1
  iintro ⟨H0, H1⟩
  isplitl [HΦ]; · iexact HΦ
  isplitl [Howes]; · iexact Howes
  isplitl [H0]; · iexact H0
  iexact H1

theorem mem_blk1 (t : Fin cfg1.N) (y : S2x256x256.Idx) (i : S28x256x256.Idx) (h : embY t y = i) : i ∈ ((cfg1.win 1).blk t).view.set := by
  subst h
  exact ((cfg1.win 1).blk t).view.emb_mem_set y

/-- The result's array after the region. -/
theorem arrAt_out1 (c : Dev nD) : (dat1 V c).arrAt 1 cfg1.N = corrSort (F := F) (V c main_v3) := by
  refine (dat1 V c).arrAt_eq_of_cover 1 (corrSort (F := F) (V c main_v3)) (fun t _ => ?_) (fun i => ?_)
  · exact (corrSort_blk (F := F) (V c main_v3) t).symm
  · have i0 : (i 0).val < 28 := (i 0).isLt
    have ht : (i 0).val / 2 < cfg1.N := by rw [N_1]; omega
    refine ⟨⟨(i 0).val / 2, ht⟩, flush1 _, ?_⟩
    let y : S2x256x256.Idx := ix3 ⟨(i 0).val % 2, by omega⟩ (i 1) (i 2)
    refine mem_blk1 _ y i ?_
    obtain ⟨h0, h1, h2⟩ := embY_val ⟨(i 0).val / 2, ht⟩ y
    refine funext fun a => Fin.ext ?_
    match a with
    | 0 => refine h0.trans ?_; show (i 0).val / 2 * 2 + (i 0).val % 2 = (i 0).val; omega
    | 1 => exact h1
    | 2 => exact h2

end Cert.Proof.Sort
-- ==== Proof.Region.lean ====
/-
  THE TWO TENSORCORE CALLS IN THE PROGRAM. Each is entered from any contents of the unscoped buffers and left with its result's
  buffer at what it computes of its input's, all others as they were; the start signals the TensorCore still owes the
  SparseCores pass through both untouched.
-/
module

public import proofs.«01_k».proof.Proof.CorrSort

@[expose] public section

noncomputable section

namespace Cert.Proof.Sort

open Cert.KernelIdeal Cert.KernelIdeal.Gen Cert.Proof.Network
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## Both pipelines -/

/-- The staging cells are pairwise distinct. -/
theorem cellOf_inj : Function.Injective (Pipeline.cellOf (nD := nD) (τ := τ) cfgs) :=
  Pipeline.cellOf_injective_of_table cfgs (fun p => match p with | 0 => Pipeline.specSems spec0 | 1 => Pipeline.specSems spec1)
    (fun p => match p with | 0 => rfl | 1 => rfl) (by decide) (by decide)

abbrev adm : (p : Fin 2) → (pcfgs (F := F) p).Adm := fun p => (cfgs p).toPCfg_adm

variable (d : Dev nD)
variable (V : (c : Dev nD) → (b : Ref sig .tc) → Buf (Elt F) ((c.tc : Thread nD τ).loc b))

def pdats : (p : Fin 2) → (c : Dev nD) → Dat τ (Elt F) (HIx 1) ℕ UU ℕ (Pipeline.pin (pcfgs (F := F)) (adm (F := F)) p) c
  | ⟨0, _⟩ => fun c => dat V c
  | ⟨1, _⟩ => fun c => dat1 V c

variable (V' : (c : Dev nD) → (b : Ref sig .tc) → Buf (Elt F) ((c.tc : Thread nD τ).loc b))

/-- What the TensorCore owes while either call runs: the start signals of the SparseCore call. -/
abbrev owing (c : Dev nD) : sProp 𝕄 :=
  iprop(∃ W, ⌜(K (F := F)).WBelow (c.tc : Thread nD τ) W (8 * SparseCore.Cfg.Blocks.fst (Q := 1) (N := 1) 0)⌝
    ∗ owes (c.tc : Thread nD τ) ((K (F := F)).Otc c 0) W)

set_option backward.isDefEq.respectTransparency.types false in
/-- The first region: entered with the unscoped buffers at `V`, left with them at `V'`, which is `V` but for the result's. -/
def reg (hout : ∀ c, V' c main_v2 = corr (F := F) (V c main_v1)) (hne : ∀ c (b : Ref sig .tc), b ≠ main_v2 → V' c b = V c b) :
    Pipeline.RegionSeg (pcfgs (F := F)) adm (pdats V) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_obligation V c).loose
  hwaits c := Pipeline.cellsWaits_intro _ _ _ _ _ fun w s t => (K (F := F)).mayWait_none _ (Otc_none (F := F) c 0)
  pre c := iprop(unscopedBufs c (V c) ∗ owing (F := F) c)
  post c := iprop(unscopedBufs c (V' c) ∗ owing (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) winFacts0 arr_whole0 c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts0 arr_whole0 c
      (pdats V) ((pdats V 0 c).share_full fun _ => rfl) (V c) (V' c) ((pdats V 0 c).arrAt · cfg0.N)
      (fun w => by
        fin_cases w
        · exact ((pdats V 0 c).arrAt_in 0 rfl _).trans (hne c main_v1 (by decide)).symm
        · exact (arrAt_out V c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The first call on device `d`'s TensorCore. -/
theorem wp_corr [∀ e, Nonempty (Elt F e)] (hout : ∀ c, V' c main_v2 = corr (F := F) (V c main_v1))
    (hne : ∀ c (b : Ref sig .tc), b ≠ main_v2 → V' c b = V c b)
    (k : PUnit → Prog (TpuEff nD τ sig (Elt F) (ΛP (F := F)) .tc) PUnit) (Q : PUnit → sProp 𝕄) :
    iprop((iprop(boundary (d.tc : Thread nD τ) ∗ unscopedBufs d (V' d) ∗ owing (F := F) d)
          -∗ wp frame (wpE (D (F := F)) 𝒱 (d.tc : Thread nD τ) none) Set.univ (k ⟨⟩) Q)
        ∗ boundary (d.tc : Thread nD τ) ∗ (unscopedBufs d (V d) ∗ owing (F := F) d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q :=
  haveI : (EP (F := F)).LandsIn (upEmb : UEmb _ 𝕄) := inferInstance
  Pipeline.RegionSeg.wp (pcfgs (F := F)) adm (pdats V) none cellOf_inj EP defs₀ 𝒱₀ (K (F := F)).L (K (F := F)).lev (reg V V' hout hne) d none
    (fun u h => nomatch h) k Q

set_option backward.isDefEq.respectTransparency.types false in
/-- The second region, likewise: entered with the unscoped buffers at `V`, left with them at `V'`, which is `V` but for the result's. -/
def reg1 (hout : ∀ c, V' c main_v4 = corrSort (F := F) (V c main_v3)) (hne : ∀ c (b : Ref sig .tc), b ≠ main_v4 → V' c b = V c b) :
    Pipeline.RegionSeg (pcfgs (F := F)) adm (pdats V) none defs₀ 𝒱₀ (K (F := F)).L (K (F := F)).lev 1 where
  win := winFacts1.to₀
  block_pos := block_pos1
  stage_whole := stage_whole1
  K := PEmpty
  osem k := k.elim
  ho := Pipeline.OwnSemFacts.none _
  hbody c := (body_obligation1 V c).loose
  hwaits c := Pipeline.cellsWaits_intro _ _ _ _ _ fun w s t => (K (F := F)).mayWait_none _ (Otc_none (F := F) c 0)
  pre c := iprop(unscopedBufs c (V c) ∗ owing (F := F) c)
  post c := iprop(unscopedBufs c (V' c) ∗ owing (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 1) (pcfgs (F := F)) adm (pdats V) winFacts1 arr_whole1 c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 1 c).Φ 0 = Φc1 c from rfl]
    iintro ⟨-, -, Hr⟩; iexact Hr
  hout c := by
    rw [Pipeline.ownSems0_none, show (pdats V 1 c).Φ (Fin.last _) = Φc1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) winFacts1 arr_whole1 c
      (pdats V) ((pdats V 1 c).share_full fun _ => rfl) (V c) (V' c) ((pdats V 1 c).arrAt · cfg1.N)
      (fun w => by
        fin_cases w
        · exact ((pdats V 1 c).arrAt_in 0 rfl _).trans (hne c main_v3 (by decide)).symm
        · exact (arrAt_out1 V c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The second call on device `d`'s TensorCore. -/
theorem wp_corrSort [∀ e, Nonempty (Elt F e)] (hout : ∀ c, V' c main_v4 = corrSort (F := F) (V c main_v3))
    (hne : ∀ c (b : Ref sig .tc), b ≠ main_v4 → V' c b = V c b)
    (k : PUnit → Prog (TpuEff nD τ sig (Elt F) (ΛP (F := F)) .tc) PUnit) (Q : PUnit → sProp 𝕄) :
    iprop((iprop(boundary (d.tc : Thread nD τ) ∗ unscopedBufs d (V' d) ∗ owing (F := F) d)
          -∗ wp frame (wpE (D (F := F)) 𝒱 (d.tc : Thread nD τ) none) Set.univ (k ⟨⟩) Q)
        ∗ boundary (d.tc : Thread nD τ) ∗ (unscopedBufs d (V d) ∗ owing (F := F) d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q :=
  haveI : (EP (F := F)).LandsIn (upEmb : UEmb _ 𝕄) := inferInstance
  Pipeline.RegionSeg.wp (pcfgs (F := F)) adm (pdats V) none cellOf_inj EP defs₀ 𝒱₀ (K (F := F)).L (K (F := F)).lev (reg1 V V' hout hne) d none
    (fun u h => nomatch h) k Q

end Cert.Proof.Sort
-- ==== Proof.Launch.lean ====
/-
  THE RUN. The TensorCore reshapes the argument, slices its first four batches off and runs its first call on them (`wp_corr`,
  Proof/Region.lean), slices the other twenty-eight off and runs its second call on those (`wp_corrSort`), and starts the
  SparseCore call on what the first left. The SparseCore call hands SparseCore 0 the two arrays, and SparseCore 0 hands each of
  its tiles that tile's blocks; SparseCore 1 and its tiles get nothing and do nothing. The tiles bring the blocks back, the
  result's sorted, the arrays are joined, and the TensorCore joins the two results and reshapes: every weakly fair execution of
  the program ends, with the argument as it was, the result at `out`, and every semaphore at zero. Both of the kernel's frames
  and the kernel's value are read off this one run.
-/
module

public import Idealize.ShloMosaic.Lib.StableHlo.Run
public import Idealize.ShloMosaic.Lib.Pipeline.Kit
public import Idealize.ShloMosaic.Lib.Pipeline.Frame
public import proofs.«01_k».proof.Proof.Blocks
public import proofs.«01_k».proof.Proof.Region

@[expose] public section

noncomputable section

namespace Cert.Proof.Sort

open Cert.KernelIdeal Cert.KernelIdeal.Gen Cert.Proof.Network
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F] [Named F]

local notation "𝕄" => MT nD τ sig (HIx 1) (Elt F) ℕ UU ℕ
local notation "xV" => (Memref.whole Cert.KernelIdeal.main_v2_scv : Memref Cert.KernelIdeal.sig Kind.scVector Space.hbm Cert.KernelIdeal.S4x256x256 EltTy.f32)
local notation "yV" => (Memref.whole Cert.KernelIdeal.main_v5_scv : Memref Cert.KernelIdeal.sig Kind.scVector Space.hbm Cert.KernelIdeal.S4x256x256 EltTy.f32)
local notation "aV" => (Memref.whole Cert.KernelIdeal.cc2_scoped0 : Memref Cert.KernelIdeal.sig Kind.scVector Space.vmem Cert.KernelIdeal.S2x1x256x16 EltTy.f32)
local notation "bV" => (Memref.whole Cert.KernelIdeal.cc2_scoped2 : Memref Cert.KernelIdeal.sig Kind.scVector Space.vmem Cert.KernelIdeal.S2x1x256x16 EltTy.f32)
local notation "aS" => (cc2_scoped1 : DmaSems Cert.KernelIdeal.sig Cert.KernelIdeal.S2)
local notation "bS" => (cc2_scoped3 : DmaSems Cert.KernelIdeal.sig Cert.KernelIdeal.S2)

attribute [local irreducible] cc2_sc_fn

/-! ## The program as the launch sees it -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## What the buffers hold, step by step -/

abbrev op1 : HloOp τ sig (Elt F) := StableHlo.reshape main_arg0 main_v0 (rfl : (.f32 : EltTy) = .f32) shapeCasts_S32x768x16x16_S32x768x256
abbrev op2 : HloOp τ sig (Elt F) := StableHlo.unary main_v0 main_v1 ((extractStridedSlice S4x768x256 ![0, 0, 0] · slices_S32x768x256_S4x768x256_0_0_0) : (⟨S32x768x256, .f32⟩ : BufTy).Contents (Elt F) → (⟨S4x768x256, .f32⟩ : BufTy).Contents (Elt F))
abbrev op3 : HloOp τ sig (Elt F) := StableHlo.unary main_v0 main_v3 ((extractStridedSlice S28x768x256 ![4, 0, 0] · slices_S32x768x256_S28x768x256_4_0_0) : (⟨S32x768x256, .f32⟩ : BufTy).Contents (Elt F) → (⟨S28x768x256, .f32⟩ : BufTy).Contents (Elt F))
abbrev op4 : HloOp τ sig (Elt F) := StableHlo.binary main_v5 main_v4 main_v6 ((fun a b => concatenate S32x256x256 0 [⟨S4x256x256, a⟩, ⟨S28x256x256, b⟩] concatenates_S4x256x256_S28x256x256_S32x256x256_d0) : (⟨S4x256x256, .f32⟩ : BufTy).Contents (Elt F) → (⟨S28x256x256, .f32⟩ : BufTy).Contents (Elt F) → (⟨S32x256x256, .f32⟩ : BufTy).Contents (Elt F))
abbrev op5 : HloOp τ sig (Elt F) := StableHlo.reshape main_v6 main_v7 (rfl : (.f32 : EltTy) = .f32) shapeCasts_S32x256x256_S32x256x16x16

/-- At the first TensorCore call, -/
def V2 (d : Dev nD) : Valuation τ sig (Elt F) := op2.result (op1.result (StableHlo.launchContents m d))
/-- after it, -/
def V3 (d : Dev nD) : Valuation τ sig (Elt F) := Function.update (V2 m d) (Proc.devRef .tc main_v2) (corr (F := F) (V2 m d (Proc.devRef .tc main_v1)))
/-- at the second, -/
def V4 (d : Dev nD) : Valuation τ sig (Elt F) := op3.result (V3 m d)
/-- after it, -/
def V5 (d : Dev nD) : Valuation τ sig (Elt F) := Function.update (V4 m d) (Proc.devRef .tc main_v4) (corrSort (F := F) (V4 m d (Proc.devRef .tc main_v3)))
/-- after the SparseCore call, -/
def V6 (d : Dev nD) : Valuation τ sig (Elt F) := Function.update (V5 m d) (Proc.devRef .tc main_v5) (colSort (F := F) (V5 m d (Proc.devRef .tc main_v2)))
/-- and at the end. -/
def V7 (d : Dev nD) : Valuation τ sig (Elt F) := op5.result (op4.result (V6 m d))

theorem V3_v2 (d : Dev nD) : V3 m d (Proc.devRef .tc main_v2) = corr (F := F) (V2 m d (Proc.devRef .tc main_v1)) := by
  unfold V3
  exact Function.update_self _ _ _
theorem V3_ne (d : Dev nD) (b : DevRef τ sig) (h : b ≠ Proc.devRef .tc main_v2) : V3 m d b = V2 m d b := by
  unfold V3
  exact Function.update_of_ne h _ _
theorem V5_v4 (d : Dev nD) : V5 m d (Proc.devRef .tc main_v4) = corrSort (F := F) (V4 m d (Proc.devRef .tc main_v3)) := by
  unfold V5
  exact Function.update_self _ _ _
theorem V5_ne (d : Dev nD) (b : DevRef τ sig) (h : b ≠ Proc.devRef .tc main_v4) : V5 m d b = V4 m d b := by
  unfold V5
  exact Function.update_of_ne h _ _
theorem V6_v5 (d : Dev nD) : V6 m d (Proc.devRef .tc main_v5) = colSort (F := F) (V5 m d (Proc.devRef .tc main_v2)) := by
  unfold V6
  exact Function.update_self _ _ _
theorem V6_ne (d : Dev nD) (b : DevRef τ sig) (h : b ≠ Proc.devRef .tc main_v5) : V6 m d b = V5 m d b := by
  unfold V6
  exact Function.update_of_ne h _ _

theorem op1_sub : (op1 (F := F)).bufs ⊆ Pipeline.ucRefs τ sig := Pipeline.sub_ucRefs _ (StableHlo.reshape_bufs_sub ..)
theorem op2_sub : (op2 (F := F)).bufs ⊆ Pipeline.ucRefs τ sig := Pipeline.sub_ucRefs _ (StableHlo.unary_bufs_sub ..)
theorem op3_sub : (op3 (F := F)).bufs ⊆ Pipeline.ucRefs τ sig := Pipeline.sub_ucRefs _ (StableHlo.unary_bufs_sub ..)
theorem op4_sub : (op4 (F := F)).bufs ⊆ Pipeline.ucRefs τ sig := Pipeline.sub_ucRefs _ (StableHlo.binary_bufs_sub ..)
theorem op5_sub : (op5 (F := F)).bufs ⊆ Pipeline.ucRefs τ sig := Pipeline.sub_ucRefs _ (StableHlo.reshape_bufs_sub ..)

/-- The array the SparseCore call is given on device `d`, -/
abbrev xin (d : Dev nD) : Buf (Elt F) (xLoc d) := V5 m d (Proc.devRef .tc main_v2)
/-- what its result's buffer holds before it, -/
abbrev yin (d : Dev nD) : Buf (Elt F) (yLoc d) := V5 m d (Proc.devRef .tc main_v5)
/-- and after. -/
abbrev yout (d : Dev nD) : Buf (Elt F) (yLoc d) := colSort (F := F) (xin m d)

/-- The argument and the result of the program. -/
abbrev aLoc (d : Dev nD) : Loc nD τ sig := (T d : Thread nD τ).loc main_arg0
abbrev rLoc (d : Dev nD) : Loc nD τ sig := (T d : Thread nD τ).loc main_v7

/-- The argument reshaped, its first four batches, -/
abbrev first4 (X : (⟨S32x768x16x16, .f32⟩ : BufTy).Contents (Elt F)) : (⟨S4x768x256, .f32⟩ : BufTy).Contents (Elt F) :=
  extractStridedSlice S4x768x256 ![0, 0, 0] (shapeCast S32x768x256 X shapeCasts_S32x768x16x16_S32x768x256) slices_S32x768x256_S4x768x256_0_0_0
/-- its other twenty-eight, -/
abbrev last28 (X : (⟨S32x768x16x16, .f32⟩ : BufTy).Contents (Elt F)) : (⟨S28x768x256, .f32⟩ : BufTy).Contents (Elt F) :=
  extractStridedSlice S28x768x256 ![4, 0, 0] (shapeCast S32x768x256 X shapeCasts_S32x768x16x16_S32x768x256) slices_S32x768x256_S28x768x256_4_0_0
/-- the sorted correlations of all of them, -/
abbrev sorted32 (X : (⟨S32x768x16x16, .f32⟩ : BufTy).Contents (Elt F)) : (⟨S32x256x256, .f32⟩ : BufTy).Contents (Elt F) :=
  concatenate S32x256x256 0 [⟨S4x256x256, colSort (F := F) (corr (F := F) (first4 X))⟩, ⟨S28x256x256, corrSort (F := F) (last28 X)⟩]
    concatenates_S4x256x256_S28x256x256_S32x256x256_d0
/-- and the result the program leaves of an argument. -/
abbrev out (X : (⟨S32x768x16x16, .f32⟩ : BufTy).Contents (Elt F)) : (⟨S32x256x16x16, .f32⟩ : BufTy).Contents (Elt F) :=
  shapeCast S32x256x16x16 (sorted32 X) shapeCasts_S32x256x256_S32x256x16x16

theorem V2_v1 (d : Dev nD) : V2 m d (Proc.devRef .tc main_v1) = first4 (m (aLoc d)) := by
  unfold V2
  rw [StableHlo.unary_result, StableHlo.reshape_result]
  rfl

theorem V2_v0 (d : Dev nD) : V2 m d (Proc.devRef .tc main_v0) = shapeCast S32x768x256 (m (aLoc d)) shapeCasts_S32x768x16x16_S32x768x256 := by
  unfold V2
  rw [StableHlo.unary_result_ne (h := by decide), StableHlo.reshape_result]
  rfl

theorem V4_v3 (d : Dev nD) : V4 m d (Proc.devRef .tc main_v3) = last28 (m (aLoc d)) := by
  unfold V4
  rw [StableHlo.unary_result, V3_ne _ _ _ (by decide), V2_v0]

theorem V5_v2 (d : Dev nD) : V5 m d (Proc.devRef .tc main_v2) = corr (F := F) (first4 (m (aLoc d))) := by
  rw [V5_ne _ _ _ (by decide)]
  unfold V4
  rw [StableHlo.unary_result_ne (h := by decide), V3_v2, V2_v1]

theorem V7_v7 (d : Dev nD) : V7 m d (Proc.devRef .tc main_v7) = out (F := F) (m (aLoc d)) := by
  unfold V7
  rw [StableHlo.reshape_result, StableHlo.binary_result]
  rw [V6_v5, V5_v2, V6_ne _ _ _ (by decide), V5_v4, V4_v3]
  rfl

theorem V7_arg0 (d : Dev nD) : V7 m d (Proc.devRef .tc main_arg0) = m (aLoc d) := by
  unfold V7
  rw [StableHlo.reshape_result_ne (h := by decide), StableHlo.binary_result_ne (h := by decide)]
  rw [V6_ne _ _ _ (by decide), V5_ne _ _ _ (by decide)]
  unfold V4
  rw [StableHlo.unary_result_ne (h := by decide), V3_ne _ _ _ (by decide)]
  unfold V2
  rw [StableHlo.unary_result_ne (h := by decide), StableHlo.reshape_result_ne (h := by decide)]

/-! ## What the handshakes carry -/

/-- `P` on SparseCore 0; nothing on SparseCore 1. -/
def onFirst (c : ℕ) (P : sProp 𝕄) : sProp 𝕄 := if c = 0 then P else iprop(emp)

instance onFirst_storable (c : ℕ) (P : sProp 𝕄) [BI.Storable (upEmb : UEmb _ 𝕄) P] : BI.Storable (upEmb : UEmb _ 𝕄) (onFirst c P) := by
  unfold onFirst
  split <;> infer_instance

/-- The two arrays whole, the result at `f`; -/
abbrev whole (d : Dev nD) (f : Buf (Elt F) (yLoc d)) : sProp 𝕄 :=
  iprop((xLoc d ↦{fullShare} xin m d) ∗ (yLoc d ↦{fullShare} f))
/-- tile `s`'s blocks of them. -/
abbrev part (d : Dev nD) (f : Buf (Elt F) (yLoc d)) (s : Fin 16) : sProp 𝕄 :=
  iprop(Done 4 (xPts d s (xin m d)) ∗ Done 4 (fun b => yPts d s b f))

instance part_storable (d : Dev nD) (f : Buf (Elt F) (yLoc d)) (s : Fin 16) : BI.Storable (upEmb : UEmb _ 𝕄) (part m d f s) := by
  unfold part Done
  infer_instance

theorem nSub_zero : (K (F := F)).nSub 0 = 16 := rfl
theorem nCore_zero : (K (F := F)).nCore 0 = 2 := rfl

def P : (K (F := F)).Pay (nD := nD) (Val := Elt F) (Name := ℕ) (U := UU) where
  st := fun q d c => match q with | 0 => onFirst c.val (whole m d (yin m d))
  dn := fun q d c => match q with | 0 => onFirst c.val (whole m d (yout m d))
  go := fun q d c i => match q with | 0 => onFirst c.val (part m d (yin m d) (Fin.cast nSub_zero i))
  td := fun q d c i => match q with | 0 => onFirst c.val (part m d (yout m d) (Fin.cast nSub_zero i))
  x := fun _ _ => iprop(emp)

instance P_storable : (P (F := F) m).IsStorable where
  st q d c := match q with
    | 0 => (inferInstance : BI.Storable (upEmb : UEmb _ 𝕄) (onFirst c.val (whole m d (yin m d))))
  dn q d c := match q with
    | 0 => (inferInstance : BI.Storable (upEmb : UEmb _ 𝕄) (onFirst c.val (whole m d (yout m d))))
  go q d c i := match q with
    | 0 => (inferInstance : BI.Storable (upEmb : UEmb _ 𝕄) (onFirst c.val (part m d (yin m d) (Fin.cast nSub_zero i))))
  td q d c i := match q with
    | 0 => (inferInstance : BI.Storable (upEmb : UEmb _ 𝕄) (onFirst c.val (part m d (yout m d) (Fin.cast nSub_zero i))))

/-! ## The tile's obligation -/

/-- A tile of SparseCore 0. -/
theorem tile_body (d : Dev nD) (s : Fin 16) (O : CellTallies nD τ sig (HIx 1)) (W : Waits sig (HIx 1)) (hO : ∀ g, O g none = 0) :
    iprop(levAts (K (F := F)).L (K (F := F)).lev ∗ emp ∗ part m d (yin m d) s
        ∗ scopedBufs (thr d s) ∗ scopedSems0 (thr d s) ∗ owes (thr d s) O W)
      ⊢ wp frame (wpE (defs₀ (F := F)) 𝒱₀ (thr d s) none) Set.univ
          (cc2_sc_fn (tile s) xV (Memref.isWhole_whole _) yV (Memref.isWhole_whole _) aV (Memref.isWhole_whole _) aS bV (Memref.isWhole_whole _) bS)
          fun _ => iprop(part m d (yout m d) s ∗ scopedBufs (thr d s) ∗ scopedSems0 (thr d s)
            ∗ ∃ W', ⌜∀ p ∈ W', p ∈ W ∨ p.2 = none⌝ ∗ owes (thr d s) O W') := by
  rw [show (scopedBufs (thr d s) : sProp 𝕄) = ownBufs (thr d s) from (K (F := F)).scopedBufs_V facts d (cV (tile s)) (jV (tile s)),
    show (scopedSems0 (thr d s) : sProp 𝕄) = ownSems0 (thr d s) from SparseCore.Cfg.scopedSems0_V (Val := Elt F) d (cV (tile s)) (jV (tile s))]
  unfold part
  iintro ⟨#Hlv, -, ⟨Hx, Hy⟩, Hbufs, Hsems, HO⟩
  ihave Hmw := (show levAts (K (F := F)).L (K (F := F)).lev ⊢ Transfers.MayWaits (thr d s) (default : HIx 1) O from
    (K (F := F)).mayWaits_none (thr := thr d s) hO) $$ Hlv
  ihave HR := (rest_tile (F := F) d s).1 $$ [Hbufs Hsems]
  · isplitl [Hbufs]
    · iexact Hbufs
    · iexact Hsems
  icases HR with ⟨HR, Hoth⟩
  iapply (wp_wand_r frame (wpE (defs₀ (F := F)) 𝒱₀ (thr d s) none) Set.univ)
  isplitr [Hoth]
  · iapply (@wp_tile F _ _ d s (xin m d) (yout m d) (yin m d) (sorted_colSort d s (xin m d)) O W (Memref.isWhole_whole _) (Memref.isWhole_whole _) (Memref.isWhole_whole _) (Memref.isWhole_whole _))
    isplitl [Hmw]
    · iexact Hmw
    isplitl [Hx]
    · rw [Todo_zero]
      iexact Hx
    isplitl [Hy]
    · rw [Todo_zero]
      iexact Hy
    isplitl [HR]
    · iexact HR
    · iexact HO
  · iintro %u ⟨Hx, Hy, HR, HO⟩
    ihave H := (rest_tile (F := F) d s).2 $$ [HR Hoth]
    · isplitl [HR]
      · iexact HR
      · iexact Hoth
    icases H with ⟨Hbufs, Hsems⟩
    isplitl [Hx Hy]
    · isplitl [Hx]
      · iexact Hx
      · iexact Hy
    isplitl [Hbufs]
    · iexact Hbufs
    isplitl [Hsems]
    · iexact Hsems
    · iapply (Owed_open d s O W)
      iexact HO

/-- A tile of SparseCore 1. -/
theorem idle_body (d : Dev nD) (s : Fin 16) (O : CellTallies nD τ sig (HIx 1)) (W : Waits sig (HIx 1)) :
    iprop(levAts (K (F := F)).L (K (F := F)).lev ∗ emp ∗ (emp : sProp 𝕄)
        ∗ scopedBufs (V d (cV (idle s)) (jV (idle s))) ∗ scopedSems0 (V d (cV (idle s)) (jV (idle s))) ∗ owes (V d (cV (idle s)) (jV (idle s))) O W)
      ⊢ wp frame (wpE (defs₀ (F := F)) 𝒱₀ (V d (cV (idle s)) (jV (idle s))) none) Set.univ
          (cc2_sc_fn (idle s) xV (Memref.isWhole_whole _) yV (Memref.isWhole_whole _) aV (Memref.isWhole_whole _) aS bV (Memref.isWhole_whole _) bS)
          fun _ => iprop(emp ∗ scopedBufs (V d (cV (idle s)) (jV (idle s))) ∗ scopedSems0 (V d (cV (idle s)) (jV (idle s)))
            ∗ ∃ W', ⌜∀ p ∈ W', p ∈ W ∨ p.2 = none⌝ ∗ owes (V d (cV (idle s)) (jV (idle s))) O W') := by
  iintro ⟨-, -, -, Hbufs, Hsems, HO⟩
  iapply (@wp_idle F _ _ d (idle s) (cond1_idle s) (Memref.isWhole_whole _) (Memref.isWhole_whole _) (Memref.isWhole_whole _) (Memref.isWhole_whole _) _)
  isplitr
  · iempintro
  isplitl [Hbufs]
  · iexact Hbufs
  isplitl [Hsems]
  · iexact Hsems
  iexists W
  isplitr
  · ipureintro; exact fun p hp => .inl hp
  · iexact HO

theorem defs₀_vector (c : Fin τ.nSC) (s : Fin τ.nSub) :
    defs₀ (F := F) (.scVector c s) 2 ()
      = SparseCore.onTile hcore2 hsub2 (fun c s => cc2_sc_fn (coordsV c s) xV (Memref.isWhole_whole _) yV (Memref.isWhole_whole _)
          aV (Memref.isWhole_whole _) aS bV (Memref.isWhole_whole _) bS) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  match c, i with
  | ⟨0, _⟩, i => exact BI.Entails.trans (@tile_body F _ _ m d (Fin.cast nSub_zero i) O W hO) (wp_mono frame _ _ fun _ => obl_post)
  | ⟨1, _⟩, i => exact BI.Entails.trans (@idle_body F _ _ d (Fin.cast nSub_zero i) O W) (wp_mono frame _ _ fun _ => obl_post)
  | ⟨n + 2, h⟩, i => exact absurd h (by rw [nCore_zero]; omega)

/-! ## The arrays split and join -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem whole_parts (d : Dev nD) (f : Buf (Elt F) (yLoc d)) : whole m d f = bigSep Finset.univ (part m d f) := by
  unfold whole part
  rw [bigSep_sep', x_blocks, y_blocks]

theorem bigSep_emp' {I : Type} (s : Finset I) : (bigSep s fun _ => iprop(emp)) = (iprop(emp) : sProp 𝕄) := bigSep_emp_const s

theorem onFirst_bigSep (c : ℕ) (Φ : Fin 16 → sProp 𝕄) : onFirst c (bigSep Finset.univ Φ) = bigSep Finset.univ fun i => onFirst c (Φ i) := by
  unfold onFirst
  by_cases h : c = 0
  · simp only [if_pos h]
  · simp only [if_neg h]
    exact (bigSep_emp' _).symm

theorem vecSplit : (K (F := F)).VecSplit' (P m) 0 := by
  intro d c
  show onFirst c.val (whole m d (yin m d)) ⊢ |={Set.univ}=> iprop(
      (bigSep Finset.univ fun i : Fin ((K (F := F)).nSub 0) => onFirst c.val (part m d (yin m d) (Fin.cast nSub_zero i)))
      ∗ ((bigSep Finset.univ fun i : Fin ((K (F := F)).nSub 0) => onFirst c.val (part m d (yout m d) (Fin.cast nSub_zero i)))
          -∗ onFirst c.val (whole m d (yout m d))))
  rw [bigSep_tasks (F := F) (fun i => onFirst c.val (part m d (yin m d) i)), bigSep_tasks (F := F) (fun i => onFirst c.val (part m d (yout m d) i)),
    ← onFirst_bigSep, ← onFirst_bigSep, ← whole_parts, ← whole_parts]
  iintro H
  imodintro
  isplitl [H]
  · iexact H
  iintro H
  iexact H

/-! ## The launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's TensorCore is given for its own calls, -/
abbrev G1 (p : Fin 2) (d : Dev nD) : sProp 𝕄 :=
  iprop(Pipeline.cellsGhost (Pipeline.pin (pcfgs (F := F)) adm) EP p d ∗ Pipeline.toksInit (Pipeline.pin (pcfgs (F := F)) adm) EP p d)
/-- both of them. -/
abbrev G (d : Dev nD) : sProp 𝕄 := iprop(G1 (F := F) 0 d ∗ G1 (F := F) 1 d)

theorem G_eq : (bigSep Finset.univ fun d : Dev nD => G (F := F) d : sProp 𝕄)
    = iprop((bigSep Finset.univ fun d : Dev nD => bigSep Finset.univ fun p => Pipeline.cellsGhost (Pipeline.pin (pcfgs (F := F)) adm) EP p d)
        ∗ bigSep Finset.univ fun d : Dev nD => bigSep Finset.univ fun p => Pipeline.toksInit (Pipeline.pin (pcfgs (F := F)) adm) EP p d) := by
  rw [← bigSep_sep']
  refine bigSep_congr fun d _ => ?_
  rw [← bigSep_sep']
  exact (BI.bigSep_fin_two fun p : Fin 2 => G1 (F := F) p d).symm

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj)) (1 : Counters)) $$ HR
  icases H with ⟨HR, -⟩
  imod (Pipeline.fund_ghost (Pipeline.pin (pcfgs (F := F)) adm) EP cellOf_inj) $$ HR with ⟨Hg, Ht⟩
  imodintro
  isplitl [HH]
  · iexact HH
  isplitl [Hg Ht]
  · rw [G_eq]
    isplitl [Hg]
    · iexact Hg
    · iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

/-- The SparseCore call's two buffers among the unscoped ones. -/
abbrev pair : Finset (DevRef τ sig) := {Proc.devRef .tc main_v2, Proc.devRef .tc main_v5}
theorem pair_sub : pair ⊆ Pipeline.ucRefs τ sig := by decide

theorem held_pair (d : Dev nD) (W : Valuation τ sig (Elt F)) :
    (StableHlo.held (T d) pair W : sProp 𝕄)
      = iprop((xLoc d ↦{fullShare} W (Proc.devRef .tc main_v2)) ∗ yLoc d ↦{fullShare} W (Proc.devRef .tc main_v5)) := by
  unfold StableHlo.held
  rw [SparseCore.bigSep_insert' (by decide), bigSep_singleton]

theorem held_V5 (d : Dev nD) : (StableHlo.held (T d) (Pipeline.ucRefs τ sig) (V5 m d) : sProp 𝕄)
    = iprop(whole m d (yin m d) ∗ StableHlo.held (T d) (Pipeline.ucRefs τ sig \ pair) (V5 m d)) := by
  rw [StableHlo.held_sub_split (T d) pair_sub, held_pair]

theorem held_V6 (d : Dev nD) : (StableHlo.held (T d) (Pipeline.ucRefs τ sig) (V6 m d) : sProp 𝕄)
    = iprop(whole m d (yout m d) ∗ StableHlo.held (T d) (Pipeline.ucRefs τ sig \ pair) (V5 m d)) := by
  rw [StableHlo.held_sub_split (T d) pair_sub, held_pair,
    show V6 m d (Proc.devRef .tc main_v2) = xin m d from V6_ne m d _ (by decide),
    show V6 m d (Proc.devRef .tc main_v5) = yout m d from V6_v5 m d,
    StableHlo.held_congr (T d) (V := V6 m d) (V' := V5 m d) fun b hb => V6_ne m d b (fun h => (Finset.mem_sdiff.1 hb).2 (h ▸ by decide))]

theorem cores_eq (d : Dev nD) (Φ : ℕ → sProp 𝕄) : (bigSep Finset.univ fun c : Fin ((K (F := F)).nCore 0) => Φ c.val) = iprop(Φ 0 ∗ Φ 1) :=
  (bigSep_congr (Ψ := fun c : Fin 2 => Φ c.val) fun _ _ => rfl).trans (BI.bigSep_fin_two fun c : Fin 2 => Φ c.val)

theorem first_eq (d : Dev nD) (f : Buf (Elt F) (yLoc d)) :
    (bigSep Finset.univ fun c : Fin ((K (F := F)).nCore 0) => onFirst c.val (whole m d f)) = iprop(whole m d f ∗ emp) :=
  (cores_eq d fun c => onFirst c (whole m d f)).trans rfl

theorem st0_eq (d : Dev nD) : (bigSep Finset.univ fun c : Fin ((K (F := F)).nCore 0) => (P m).st 0 d c) = iprop(whole m d (yin m d) ∗ emp) :=
  first_eq m d (yin m d)
theorem dn0_eq (d : Dev nD) : (bigSep Finset.univ fun c : Fin ((K (F := F)).nCore 0) => (P m).dn 0 d c) = iprop(whole m d (yout m d) ∗ emp) :=
  first_eq m d (yout m d)

theorem lift_call : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

/-- The TensorCore's first call, from the buffers at `V2` to the buffers at `V3`. -/
theorem wp_call [∀ e, Nonempty (Elt F e)] (d : Dev nD) (Q : PUnit → sProp 𝕄) :
    iprop((iprop(boundary (T d) ∗ StableHlo.held (T d) (Pipeline.ucRefs τ sig) (V3 m d) ∗ owing (F := F) d) -∗ Q ⟨⟩)
        ∗ boundary (T d) ∗ StableHlo.held (T d) (Pipeline.ucRefs τ sig) (V2 m d) ∗ owing (F := F) d
        ∗ levAts (K (F := F)).L (K (F := F)).lev ∗ G1 (F := F) 0 d)
      ⊢ wp frame (wpE ((K (F := F)).defs (D (F := F))) 𝒱 (T d) none) Set.univ
          (Prog.lift (.customCall (SparseCore.inner (Pipeline.entry 0)) ())) Q := by
  have hl := (K (F := F)).wp_liftProg (D (F := F)) 𝒱 (T d) Set.univ none
    (.op (.customCall (Pipeline.entry 0) ()) .ret : Prog (TpuEff nD τ sig (Elt F) (ΛP (F := F)) .tc) PUnit) Q
  have h := wp_corr (F := F) d (fun c b => V2 m c (Proc.devRef .tc b)) (fun c b => V3 m c (Proc.devRef .tc b)) (fun c => V3_v2 m c)
    (fun c b h => V3_ne m c _ (fun h' => h (Proc.devRef_injective _ h'))) .ret Q
  rw [Pipeline.unscopedBufs_held d (V2 m d), Pipeline.unscopedBufs_held d (V3 m d)] at h
  rw [lift_call]
  refine (show _ ⊢ iprop(
      ((boundary (T d) ∗ StableHlo.held (T d) (Pipeline.ucRefs τ sig) (V3 m d) ∗ owing (F := F) d)
        -∗ wp frame (wpE (D (F := F)) 𝒱 (T d) none) Set.univ (.ret ⟨⟩ : Prog (TpuEff nD τ sig (Elt F) (ΛP (F := F)) .tc) PUnit) Q)
      ∗ boundary (T d) ∗ (StableHlo.held (T d) (Pipeline.ucRefs τ sig) (V2 m d) ∗ owing (F := F) d)
      ∗ levAts (K (F := F)).L (K (F := F)).lev ∗ G1 (F := F) 0 d) from ?_).trans (BI.Entails.trans h hl)
  iintro ⟨Hk, Hb, Hh, HO, Hlv, Hg⟩
  isplitl [Hk]
  · rw [wp_ret]
    iintro H
    imodintro
    iapply Hk
    iexact H
  isplitl [Hb]
  · iexact Hb
  isplitl [Hh HO]
  · isplitl [Hh] <;> iassumption
  isplitl [Hlv]
  · iexact Hlv
  · iexact Hg

theorem lift_call1 : (Prog.lift (.customCall (SparseCore.inner (Pipeline.entry 1)) ()) : Prog (TpuEff nD τ sig (Elt F) (SparseCore.Sig (ΛP (F := F)) 1) .tc) PUnit)
    = SparseCore.liftProg (.op (.customCall (Pipeline.entry 1) ()) .ret : Prog (TpuEff nD τ sig (Elt F) (ΛP (F := F)) .tc) PUnit) := rfl

/-- The second call, from the buffers at `V4` to the buffers at `V5`. -/
theorem wp_call1 [∀ e, Nonempty (Elt F e)] (d : Dev nD) (Q : PUnit → sProp 𝕄) :
    iprop((iprop(boundary (T d) ∗ StableHlo.held (T d) (Pipeline.ucRefs τ sig) (V5 m d) ∗ owing (F := F) d) -∗ Q ⟨⟩)
        ∗ boundary (T d) ∗ StableHlo.held (T d) (Pipeline.ucRefs τ sig) (V4 m d) ∗ owing (F := F) d
        ∗ levAts (K (F := F)).L (K (F := F)).lev ∗ G1 (F := F) 1 d)
      ⊢ wp frame (wpE ((K (F := F)).defs (D (F := F))) 𝒱 (T d) none) Set.univ
          (Prog.lift (.customCall (SparseCore.inner (Pipeline.entry 1)) ())) Q := by
  have hl := (K (F := F)).wp_liftProg (D (F := F)) 𝒱 (T d) Set.univ none
    (.op (.customCall (Pipeline.entry 1) ()) .ret : Prog (TpuEff nD τ sig (Elt F) (ΛP (F := F)) .tc) PUnit) Q
  have h := wp_corrSort (F := F) d (fun c b => V4 m c (Proc.devRef .tc b)) (fun c b => V5 m c (Proc.devRef .tc b)) (fun c => V5_v4 m c)
    (fun c b h => V5_ne m c _ (fun h' => h (Proc.devRef_injective _ h'))) .ret Q
  rw [Pipeline.unscopedBufs_held d (V4 m d), Pipeline.unscopedBufs_held d (V5 m d)] at h
  rw [lift_call1]
  refine (show _ ⊢ iprop(
      ((boundary (T d) ∗ StableHlo.held (T d) (Pipeline.ucRefs τ sig) (V5 m d) ∗ owing (F := F) d)
        -∗ wp frame (wpE (D (F := F)) 𝒱 (T d) none) Set.univ (.ret ⟨⟩ : Prog (TpuEff nD τ sig (Elt F) (ΛP (F := F)) .tc) PUnit) Q)
      ∗ boundary (T d) ∗ (StableHlo.held (T d) (Pipeline.ucRefs τ sig) (V4 m d) ∗ owing (F := F) d)
      ∗ levAts (K (F := F)).L (K (F := F)).lev ∗ G1 (F := F) 1 d) from ?_).trans (BI.Entails.trans h hl)
  iintro ⟨Hk, Hb, Hh, HO, Hlv, Hg⟩
  isplitl [Hk]
  · rw [wp_ret]
    iintro H
    imodintro
    iapply Hk
    iexact H
  isplitl [Hb]
  · iexact Hb
  isplitl [Hh HO]
  · isplitl [Hh] <;> iassumption
  isplitl [Hlv]
  · iexact Hlv
  · iexact Hg

/-- What the TensorCore owes, out of its state before the SparseCore call and back. -/
theorem tcSt_open (d : Dev nD) : ((K (F := F)).tcSt EH d 0 : sProp 𝕄) ⊢ iprop(owing (F := F) d ∗ (owing (F := F) d -∗ (K (F := F)).tcSt EH d 0)) := by
  unfold SparseCore.Cfg.tcSt
  iintro ⟨HO, Hst⟩
  isplitl [HO]
  · iexact HO
  iintro HO
  isplitl [HO]
  · iexact HO
  · iexact Hst

/-- @main on a device's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ StableHlo.held (T d) (Pipeline.ucRefs τ sig) (V7 m d) ∗ (K (F := F)).tcEnd d) := by
  unfold SparseCore.Cfg.tcRes SparseCore.Cfg.tcEnd
  rw [show (unscopedBufs d (fun b => m ((T d : Thread nD τ).loc b)) : sProp 𝕄) = _ from Pipeline.unscopedBufs_held d (StableHlo.launchContents m d)]
  simp only [main, wp_bind, wp_pure]
  iintro ⟨#Hctx, Hst, ⟨Hb, Hh, Hts, -⟩, Hg⟩
  iapply (StableHlo.wp_hlo_within 𝒱 (T d) none Set.univ (op := op1) (S := Pipeline.ucRefs τ sig) op1_sub) $$ [Hb Hh]
  · isplitl [Hb] <;> iassumption
  iintro ⟨Hb, Hh⟩
  rw [wp_ret]
  imodintro
  iapply (StableHlo.wp_hlo_within 𝒱 (T d) none Set.univ (op := op2) (S := Pipeline.ucRefs τ sig) op2_sub) $$ [Hb Hh]
  · isplitl [Hb] <;> iassumption
  iintro ⟨Hb, Hh⟩
  rw [wp_ret]
  imodintro
  ihave #Hlv := ((K (F := F)).ctx_levAts κ) $$ Hctx
  ihave Hst := (tcSt_open (F := F) d) $$ Hst
  icases Hst with ⟨HO, Hst⟩
  icases Hg with ⟨Hg0, Hg1⟩
  iapply (wp_call m d)
  isplitr [Hb Hh HO Hg0]
  swap
  · isplitl [Hb]
    · iexact Hb
    isplitl [Hh]
    · iexact Hh
    isplitl [HO]
    · iexact HO
    isplitr
    · iexact Hlv
    · iexact Hg0
  iintro ⟨Hb, Hh, HO⟩
  iapply (StableHlo.wp_hlo_within 𝒱 (T d) none Set.univ (op := op3) (S := Pipeline.ucRefs τ sig) op3_sub) $$ [Hb Hh]
  · isplitl [Hb] <;> iassumption
  iintro ⟨Hb, Hh⟩
  rw [wp_ret]
  imodintro
  iapply (wp_call1 m d)
  isplitr [Hb Hh HO Hg1]
  swap
  · isplitl [Hb]
    · iexact Hb
    isplitl [Hh]
    · iexact Hh
    isplitl [HO]
    · iexact HO
    isplitr
    · iexact Hlv
    · iexact Hg1
  iintro ⟨Hb, Hh, HO⟩
  ihave Hh := (Entails.of_eq (held_V5 m d)) $$ Hh
  icases Hh with ⟨Hw, Hh⟩
  iapply ((K (F := F)).wp_run (D (F := F)) 𝒱 (EH := EH) (P := P m) κ d 0) $$ [Hst HO Hw Hh Hb Hts]
  isplitr
  · iexact Hctx
  isplitl [Hst HO]
  · iapply Hst
    iexact HO
  isplitl [Hw]
  · iapply (Entails.of_eq (st0_eq m d).symm)
    isplitl [Hw]
    · iexact Hw
    · iempintro
  iintro ⟨Hst, Hdn⟩
  ihave Hdn := (Entails.of_eq (dn0_eq m d)) $$ Hdn
  icases Hdn with ⟨Hw, -⟩
  ihave Hh := (Entails.of_eq (held_V6 m d).symm) $$ [Hw Hh]
  · isplitl [Hw] <;> iassumption
  iapply (StableHlo.wp_hlo_within 𝒱 (T d) none Set.univ (op := op4) (S := Pipeline.ucRefs τ sig) op4_sub) $$ [Hb Hh]
  · isplitl [Hb] <;> iassumption
  iintro ⟨Hb, Hh⟩
  rw [wp_ret]
  imodintro
  iapply (StableHlo.wp_hlo_within 𝒱 (T d) none Set.univ (op := op5) (S := Pipeline.ucRefs τ sig) op5_sub) $$ [Hb Hh]
  · isplitl [Hb] <;> iassumption
  iintro ⟨Hb, Hh⟩
  rw [wp_ret]
  imodintro
  imodintro
  isplitl [Hst]
  · iexact Hst
  isplitl [Hh]
  · iexact Hh
  isplitl [Hb] <;> iassumption

def fq (d : Dev nD) (s' : Phys nD τ sig (Elt F)) : Prop := s'.mem.mem (rLoc d) = out (F := F) (m (aLoc d)) ∧ s'.mem.mem (aLoc d) = m (aLoc d)

abbrev ends : Finset (DevRef τ sig) := {Proc.devRef .tc main_arg0, Proc.devRef .tc main_v7}
theorem ends_sub : ends ⊆ Pipeline.ucRefs τ sig := by decide

theorem held_ends (d : Dev nD) : (StableHlo.held (T d) (Pipeline.ucRefs τ sig) (V7 m d) : sProp 𝕄)
    = iprop(((aLoc d ↦{fullShare} m (aLoc d)) ∗ rLoc d ↦{fullShare} out (F := F) (m (aLoc d)))
        ∗ StableHlo.held (T d) (Pipeline.ucRefs τ sig \ ends) (V7 m d)) := by
  rw [StableHlo.held_sub_split (T d) ends_sub, ← V7_v7, show (StableHlo.held (T d) ends (V7 m d) : sProp 𝕄)
      = iprop((aLoc d ↦{fullShare} V7 m d (Proc.devRef .tc main_arg0)) ∗ rLoc d ↦{fullShare} V7 m d (Proc.devRef .tc main_v7)) by
    unfold StableHlo.held; rw [SparseCore.bigSep_insert' (by decide), bigSep_singleton], V7_arg0]

set_option maxRecDepth 16384 in
theorem hfin (d : Dev nD) (s' : Phys nD τ sig (Elt F)) :
    iprop(StableHlo.held (T d) (Pipeline.ucRefs τ sig) (V7 m d) ∗ SI s') ⊢ (⌜fq m d s'⌝ : sProp 𝕄) := by
  rw [held_ends]
  iintro ⟨⟨⟨Hx, Hy⟩, -⟩, HSI⟩
  ihave H := (persistent_entails_right (SI_pointsTo_agree (st := s') (ℓ := aLoc d) (I := Finset.univ) (q := fullShare) (f := m (aLoc d)))) $$ [HSI Hx]
  · isplitl [HSI] <;> iassumption
  icases H with ⟨%h1, HSI, -⟩
  ihave H := (SI_pointsTo_agree (st := s') (ℓ := rLoc d) (I := Finset.univ) (q := fullShare) (f := out (F := F) (m (aLoc d)))) $$ [HSI Hy]
  · isplitl [HSI] <;> iassumption
  icases H with %h2
  ipureintro
  exact ⟨funext fun i => h2 i (Finset.mem_univ i), funext fun i => h1 i (Finset.mem_univ i)⟩

def QC : PUnit × MemSt nD τ sig (Elt F) → Prop := fun r =>
  (∀ c : Dev nD, r.2.mem (rLoc c) = out (F := F) (m (aLoc c)) ∧ r.2.mem (aLoc c) = m (aLoc c)) ∧ r.2.sem = fun _ => 0

/-- Every weakly fair execution ends, with the result at `out` of the argument, the argument unchanged and the semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G (F := F) d) (fun d => StableHlo.held (T d) (Pipeline.ucRefs τ sig) (V7 m d)) (u₀ (F := F))
    (sep_elim_left.trans (hu₀ m)) (hmain m ρ) (fq m) (hfin m) (QC m)
    (fun _ h hz => ⟨h, hz⟩)

end Cert.Proof.Sort
-- ==== Proof.RefValue.lean ====
/-
  THE SORT'S VALUE. The reference sorts the negated correlations along their rows and negates back, and takes the rows of the
  result at the ranks 0, 1, …, 255, which are all the rows in order. Over the extended reals what it computes is, element by
  element, what the network's passes leave of the correlations' columns: the network leaves a column's elements in descending
  order, so does the reference, and there is only one such arrangement. `colSort`, which the SparseCore computes, is those passes.
-/
module

public import Idealize.ShloMosaic.Lib.SortFacts
public import Idealize.ShloMosaic.Lib.IdealHost
public import Idealize.ShloMosaic.Lib.Pipeline.Value
public import proofs.«01_k».proof.Proof.Gen.ReferenceIdeal.Run
public import proofs.«01_k».proof.Proof.Blocks

@[expose] public section

noncomputable section

namespace Cert.Proof.Sort

open Cert.Proof.Network
open Idealize.ShloMosaic

/-! ## The network, lane by lane -/

theorem rmax_apply (x y : Row Ideal) (l : Cert.KernelIdeal.S1x1x16.Idx) : rmax (F := Ideal) x y l = max (x l : EReal) (y l) := by
  have h : ∀ z : Row Ideal, shapeCast Cert.KernelIdeal.S1x1x16 (shapeCast Cert.KernelIdeal.S16 z
      Cert.KernelIdeal.Gen.shapeCasts_S1x1x16_S16) Cert.KernelIdeal.Gen.shapeCasts_S16_S1x1x16 l = z l := fun z => by
    rw [shapeCast_shapeCast]
  have hx := h x
  have hy := h y
  unfold shapeCast at hx hy
  exact congrArg₂ (max : EReal → EReal → EReal) hx hy

theorem rmin_apply (x y : Row Ideal) (l : Cert.KernelIdeal.S1x1x16.Idx) : rmin (F := Ideal) x y l = min (x l : EReal) (y l) := by
  have h : ∀ z : Row Ideal, shapeCast Cert.KernelIdeal.S1x1x16 (shapeCast Cert.KernelIdeal.S16 z
      Cert.KernelIdeal.Gen.shapeCasts_S1x1x16_S16) Cert.KernelIdeal.Gen.shapeCasts_S16_S1x1x16 l = z l := fun z => by
    rw [shapeCast_shapeCast]
  have hx := h x
  have hy := h y
  unfold shapeCast at hx hy
  exact congrArg₂ (min : EReal → EReal → EReal) hx hy

/-- A family of maps that respects maximum and minimum carries passes to passes. -/
theorem foldl_map {α β : Type} (mx mn : α → α → α) (mx' mn' : β → β → β) (p : α → β)
    (hmx : ∀ x y, p (mx x y) = mx' (p x) (p y)) (hmn : ∀ x y, p (mn x y) = mn' (p x) (p y)) (L : List Pass) :
    ∀ (g : ℕ → α) (r : ℕ), p (L.foldl (Pass.all mx mn) g r) = L.foldl (Pass.all mx' mn') (fun r => p (g r)) r := by
  have hrun : ∀ (P : Pass) (n : ℕ) (g : ℕ → α) (r : ℕ), p (P.run mx mn n g r) = P.run mx' mn' n (fun r => p (g r)) r := by
    intro P n
    induction n with
    | zero => intro g r; rfl
    | succ n ih =>
      intro g r
      simp only [Pass.run, Pass.trip, ← ih]
      split
      · unfold Pass.snd; split
        · exact hmx _ _
        · exact hmn _ _
      · split
        · unfold Pass.fst; split
          · exact hmn _ _
          · exact hmx _ _
        · rfl
  induction L with
  | nil => intro g r; rfl
  | cons P L ih =>
    intro g r
    rw [List.foldl_cons, List.foldl_cons, ih]
    exact congrArg (fun g' => L.foldl (Pass.all mx' mn') g' r) (funext fun r => hrun P _ g r)

/-- The network on rows of 16 lanes is, in each lane, the network on that lane's elements. -/
theorem foldl_lane (L : List Pass) (G : ℕ → Row Ideal) (r : ℕ) (l : Cert.KernelIdeal.S1x1x16.Idx) :
    L.foldl (Pass.all rmax rmin) G r l
      = L.foldl (Pass.all (max : EReal → EReal → EReal) min) (fun r => (G r l : EReal)) r :=
  foldl_map (rmax (F := Ideal)) (rmin (F := Ideal)) (max : EReal → EReal → EReal) min (fun v : Row Ideal => (v l : EReal))
    (fun x y => rmax_apply x y _) (fun x y => rmin_apply x y _) L G r

/-- Over the extended reals a column of `colSort X` is the network run on that column of `X`. -/
theorem colSort_ideal (X : Cert.KernelIdeal.S4x256x256.Idx → Elt Ideal .f32) (b r c : ℕ) (hb : b < 4) (hr : r < 256) (hc : c < 256) :
    colSort (F := Ideal) X (at3 b r c hb hr hc)
      = passes.foldl (Pass.all (max : EReal → EReal → EReal) min)
          (fun r => X (at3 b (r % 256) c hb (Nat.mod_lt _ (by decide)) hc)) r := by
  rw [colSort_at3, foldl_lane]
  refine congrArg (fun g : ℕ → EReal => passes.foldl (Pass.all max min) g r) (funext fun r => ?_)
  refine congrArg X (funext fun a => ?_)
  match a with
  | 0 => rfl
  | 1 => rfl
  | 2 => exact Fin.ext (by simp [at3, laneOf]; omega)

/-! ## The stable sort -/

open Cert.ReferenceIdeal in
/-- The reference's comparator is the order of the extended reals. -/
theorem comparator_apply (l r : Ideal .f32) : comparator_f32_d1 (F := Ideal) l r = BitVec.ofBool (decide ((l : EReal) < r)) := by
  have hs : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    have h1 : Ideal.cmp .une x x = 0#1 := by simp [Ideal.cmp]
    rw [h1]
    by_cases h : x = Ideal.ofBits .f32 0x00000000#32
    · have h2 : Ideal.cmp .oeq x (Ideal.ofBits .f32 0x00000000#32) = 1#1 := by simp [Ideal.cmp, h]
      rw [h2]; simp [Scalar.select, h]
    · have h2 : Ideal.cmp .oeq x (Ideal.ofBits .f32 0x00000000#32) = 0#1 := by
        show BitVec.ofBool (decide (x = _)) = 0#1
        rw [decide_eq_false h]; rfl
      rw [h2]; simp [Scalar.select]
  show Ideal.cmp .olt (Scalar.select (Ideal.cmp .une l l) (Ideal.ofBits .f32 0x7FC00000#32)
      (Scalar.select (Ideal.cmp .oeq l (Ideal.ofBits .f32 0x00000000#32)) (Ideal.ofBits .f32 0x00000000#32) l))
    (Scalar.select (Ideal.cmp .une r r) (Ideal.ofBits .f32 0x7FC00000#32)
      (Scalar.select (Ideal.cmp .oeq r (Ideal.ofBits .f32 0x00000000#32)) (Ideal.ofBits .f32 0x00000000#32) r)) = _
  rw [hs, hs]; rfl

/-- Negating, sorting and negating back leaves what the network leaves. -/
theorem network_eq_sorted (g : ℕ → EReal) (r : Fin 256) :
    passes.foldl (Pass.all max min) g r
      = - - g (sortedFrom (fun k k' : Fin 256 => BitVec.ofBool (decide (-g k < -g k')) == 1#1) r) := by
  set R : Fin 256 → Fin 256 → Bool := fun k k' => BitVec.ofBool (decide (-g k < -g k')) == 1#1 with hR
  have hRd : ∀ k k', R k k' = decide (-g k < -g k') := by
    intro k k'
    rw [hR]
    by_cases h : -g k < -g k' <;> simp [h]
  have hno := sortedFrom_noInversion R R
    (fun a b h => by rw [hRd] at h ⊢; simp only [decide_eq_true_eq, decide_eq_false_iff_not] at h ⊢; exact not_lt.mpr h.le)
    (fun a b h => h)
    (fun a b c h h' => by
      rw [hRd] at h h' ⊢; simp only [decide_eq_false_iff_not, not_lt] at h h' ⊢; exact le_trans h' h)
  let σ : Equiv.Perm (Fin 256) := Equiv.ofBijective (sortedFrom R) ⟨sortedFrom_injective R, sortedFrom_surjective R⟩
  have hy := eq_of_antitone_perm g (fun r => g (σ ⟨r % 256, Nat.mod_lt _ (by decide)⟩)) σ
    (fun r => by
      have : (⟨r.val % 256, Nat.mod_lt _ (by decide)⟩ : Fin 256) = r := Fin.ext (Nat.mod_eq_of_lt r.isLt)
      simp only [this])
    (fun i j hij hj => by
      rcases Nat.lt_or_eq_of_le hij with h | h
      · have := hno ⟨i % 256, Nat.mod_lt _ (by decide)⟩ ⟨j % 256, Nat.mod_lt _ (by decide)⟩
          (by rw [Fin.lt_def]; simp only; omega)
        rw [hRd, decide_eq_false_iff_not, not_lt, EReal.neg_le_neg_iff] at this
        exact this
      · subst h; exact le_rfl)
    r.isLt
  rw [hy, neg_neg]
  have : (⟨r.val % 256, Nat.mod_lt _ (by decide)⟩ : Fin 256) = r := Fin.ext (Nat.mod_eq_of_lt r.isLt)
  simp only [this]; rfl

/-! ## The gather at the ranks -/

namespace Ref

open Cert.ReferenceIdeal Cert.ReferenceIdeal.Gen

/-- The literal table of ranks holds `k` at `k`. -/
theorem lit0_apply : ∀ k : Fin 256, lit0 k = BitVec.ofNat 32 k.val := by decide +kernel

/-- The start indices: row `k` holds `k`. -/
abbrev ranks : IVec S256x1 32 := broadcastInDim S256x1 ![0] bcast_S256_S256x1_0
  (select (cmpi .slt (fun i => lit0 (S256.rowMajor i)) (broadcastInDim S256 ![] bcast_S_S256 (constantI S_ 32 0#32)))
    (addi (fun i => lit0 (S256.rowMajor i)) (broadcastInDim S256 ![] bcast_S_S256 (constantI S_ 32 256#32)))
    (fun i => lit0 (S256.rowMajor i)))

theorem ranks_apply (i : S256x1.Idx) : ranks i = BitVec.ofNat 32 (i 0).val := by
  have hi : (i 0).val < 256 := (i 0).isLt
  have hk : ∃ k : S256.Idx, (k 0).val = (i 0).val := ⟨fun a => ⟨(i 0).val, by match a with | 0 => exact hi⟩, rfl⟩
  obtain ⟨k, hk⟩ := hk
  have hlit : lit0 (S256.rowMajor k) = BitVec.ofNat 32 (i 0).val :=
    (lit0_apply _).trans (congrArg _ ((Shape.rowMajor_val_one k).trans hk))
  rw [ranks, broadcastInDim_apply _ _ _ i k (fun a => by match a with | 0 => simpa using hk)]
  show Scalar.select (IntOp.cmpi .slt (lit0 (S256.rowMajor k)) 0#32) _ (lit0 (S256.rowMajor k)) = _
  rw [hlit]
  have h0 : ∀ n : Fin 256, IntOp.cmpi .slt (BitVec.ofNat 32 n.val) 0#32 = 0#1 := by decide +kernel
  rw [h0 ⟨_, hi⟩]
  rfl

/-- Rows taken at the ranks are the rows. -/
theorem gather_ranks {α : Type} (x : S256x16x16x32.Idx → α) :
    Host.gather gather_S256x16x16x32_S256x1_S256x16x16x32_123_0_n_n_0_1_1161632 x ranks = x := by
  funext y
  unfold Host.gather
  refine congrArg x (funext fun a => Fin.ext ?_)
  generalize hd : gather_S256x16x16x32_S256x1_S256x16x16x32_123_0_n_n_0_1_1161632 = d
  show d.start y ranks a + d.batchCoord y a + d.offCoord y a = _
  have hsl : ∀ a : Fin 4, a ≠ 0 → a ∉ d.startIndexMap := by subst hd; decide
  have hkept : ∀ a : Fin 4, a ≠ 0 → a ∈ d.sKept := by
    intro a ha; subst hd
    exact (GatherDims.mem_sKept _ _).2 ⟨fun h => ha (List.mem_singleton.mp h), List.not_mem_nil⟩
  have hb : ∀ a : Fin 4, a ∉ d.operandBatchingDims := by subst hd; exact fun _ => List.not_mem_nil
  have hoff : ∀ a : Fin 4, a ≠ 0 → d.start y ranks a + d.batchCoord y a + d.offCoord y a = (y a).val := by
    intro a ha
    rw [d.batchCoord_eq_zero _ _ (hb a), Nat.add_zero]
    unfold GatherDims.start GatherDims.offCoord
    rw [dif_neg (hsl a ha), dif_pos (hkept a ha), Nat.zero_add]
    subst hd
    match a with
    | 0 => exact absurd rfl ha
    | 1 => rfl
    | 2 => rfl
    | 3 => rfl
  by_cases ha : a = 0
  · subst ha
    have hk : (0 : Fin 4) ∉ d.sKept := fun h => ((d.mem_sKept 0).1 h).1 (by subst hd; exact List.mem_singleton.2 rfl)
    have hm : (0 : Fin 4) ∈ d.startIndexMap := by subst hd; exact List.mem_singleton.2 rfl
    rw [d.batchCoord_eq_zero _ _ (hb 0), d.offCoord_eq_zero _ _ hk]
    simp only [Nat.add_zero]
    unfold GatherDims.start
    rw [dif_pos hm, ranks_apply]
    have hsi : (d.siIdx y ⟨d.startIndexMap.idxOf 0, List.idxOf_lt_length_iff.2 hm⟩ 0).val = (y 0).val := by subst hd; rfl
    rw [hsi]
    have hy : (y 0).val < 256 := (y 0).isLt
    have hz : ∀ n : Fin 256, (BitVec.ofNat 32 n.val).toInt.toNat = n.val := by decide +kernel
    rw [hz ⟨_, hy⟩]
    have hs : S256x16x16x32.size 0 - d.sliceSizes 0 = 255 := by subst hd; rfl
    rw [hs]
    simp only; omega
  · exact hoff a ha

/-! ## The whole reference -/

/-- The index `(b, r, c)` of the array, -/
def at32 (b r c : ℕ) (hb : b < 32) (hr : r < 256) (hc : c < 256) : S32x256x256.Idx := fun a => ⟨![b, r, c] a, by
  match a with
  | 0 => exact hb
  | 1 => exact hr
  | 2 => exact hc⟩

/-- and `(b, r, p, q)` of the reshaped one. -/
def at4 (b r p q : ℕ) (hb : b < 32) (hr : r < 256) (hp : p < 16) (hq : q < 16) : S32x256x16x16.Idx := fun a => ⟨![b, r, p, q] a, by
  match a with
  | 0 => exact hb
  | 1 => exact hr
  | 2 => exact hp
  | 3 => exact hq⟩

/-- What the reference computes of the correlations, -/
abbrev sorts (X : S32x256x256.Idx → Elt Ideal .f32) : S32x256x16x16.Idx → Elt Ideal .f32 :=
  transpose S32x256x16x16 [3, 0, 1, 2] (Host.gather gather_S256x16x16x32_S256x1_S256x16x16x32_123_0_n_n_0_1_1161632
    (transpose S256x16x16x32 [1, 2, 3, 0] (Host.negf (F := Ideal) (Host.sort S32x256x16x16 1 (comparator_f32_d1 (F := Ideal)) (Host.negf (F := Ideal)
      (shapeCast _ X shapeCasts_S32x256x256_S32x256x16x16)))) transposes_S32x256x16x16_S256x16x16x32_1_2_3_0) ranks)
    transposes_S256x16x16x32_S32x256x16x16_3_0_1_2

theorem flatten : S32x256x16x16.ShapeCasts S32x256x256 := by decide

/-- and the same with its last two axes as one. -/
abbrev value (X : S32x256x256.Idx → Elt Ideal .f32) : S32x256x256.Idx → Elt Ideal .f32 := shapeCast _ (sorts X) flatten

theorem value_apply (X : S32x256x256.Idx → Elt Ideal .f32) (b r c : ℕ) (hb : b < 32) (hr : r < 256) (hc : c < 256) :
    value X (at32 b r c hb hr hc) = Host.negf (F := Ideal) (φ := .f32) (Host.sort S32x256x16x16 1 (comparator_f32_d1 (F := Ideal)) (Host.negf (F := Ideal)
      (shapeCast _ X shapeCasts_S32x256x256_S32x256x16x16))) (at4 b r (c / 16) (c % 16) hb hr (by omega) (by omega)) := by
  rw [value, sorts, gather_ranks]
  have h4 : (c / 16) < 16 := by omega
  have h5 : (c % 16) < 16 := by omega
  rw [shapeCast_apply _ _ _ (at4 b r (c / 16) (c % 16) hb hr h4 h5) (by
    rw [Shape.rowMajor_val_four, Shape.rowMajor_val_three]; simp [at4, at32]; omega)]
  let k : S256x16x16x32.Idx := fun a => ⟨![r, c / 16, c % 16, b] a, by
    match a with
    | 0 => exact hr
    | 1 => exact h4
    | 2 => exact h5
    | 3 => exact hb⟩
  rw [transpose_apply _ _ _ _ k (fun a => by match a with | 0 => rfl | 1 => rfl | 2 => rfl | 3 => rfl),
    transpose_apply _ _ _ _ (at4 b r (c / 16) (c % 16) hb hr h4 h5)
      (fun a => by match a with | 0 => rfl | 1 => rfl | 2 => rfl | 3 => rfl)]

/-- Every index is one of those. -/
theorem exists_at32 (j : S32x256x256.Idx) : ∃ b r c hb hr hc, j = at32 b r c hb hr hc :=
  ⟨(j 0).val, (j 1).val, (j 2).val, (j 0).isLt, (j 1).isLt, (j 2).isLt, by
    funext a
    match a with
    | 0 => rfl
    | 1 => rfl
    | 2 => rfl⟩

/-- THE REFERENCE'S SORT: at every element, what the network's passes leave of its column. -/
theorem value_network (X : S32x256x256.Idx → Elt Ideal .f32) (b r c : ℕ) (hb : b < 32) (hr : r < 256) (hc : c < 256) :
    value X (at32 b r c hb hr hc) = passes.foldl (Pass.all max min)
      (fun k => (X (at32 b (k % 256) c hb (Nat.mod_lt _ (by decide)) hc) : EReal)) r := by
  rw [value_apply, network_eq_sorted _ ⟨r, hr⟩]
  have hcol : ∀ k : Fin 256, shapeCast S32x256x16x16 X shapeCasts_S32x256x256_S32x256x16x16
      ((at4 b r (c / 16) (c % 16) hb hr (by omega) (by omega)).along 1 k) = X (at32 b (k.val % 256) c hb (Nat.mod_lt _ (by decide)) hc) := by
    intro k
    refine shapeCast_apply _ _ _ _ ?_
    rw [Shape.rowMajor_val_four, Shape.rowMajor_val_three]
    have hk := k.isLt
    simp [Shape.Idx.along, at4, at32, Function.update]; omega
  unfold Host.sort
  simp only [Host.negf, comparator_apply]
  rw [dif_pos (by decide)]
  simp only [← hcol]
  rfl

/-- The reference's result is that, reshaped. -/
theorem sorts_eq (X : S32x256x256.Idx → Elt Ideal .f32) :
    sorts X = shapeCast S32x256x16x16 (value X) shapeCasts_S32x256x256_S32x256x16x16 := by
  rw [value, shapeCast_shapeCast]

end Ref

end Cert.Proof.Sort
-- ==== Proof.StageValue.lean ====
/-
  THE VALUE OF THE SORT ON THE TENSORCORE. Over the extended reals each stage of Proof/Stages.lean replaces every row by the
  minimum or the maximum of itself and its partner `w` rows away (`Acts`). Row `r` of the network sits in row `place r` of the
  vector, `r` with its low three and its high three bits exchanged; read there, the thirty-six stages are those of
  Proof/Network.lean in the same order, so the rows come out sorted, and `fin` puts them back in order.
-/
module

public import Idealize.ShloMosaic.Lib.Pointwise
public import Idealize.ShloMosaic.Lib.SortNet.Printed
public import Idealize.ShloMosaic.Lib.IdealHost
public import Idealize.ShloMosaic.Lib.Pipeline.Value
public import proofs.«01_k».proof.Proof.Network
public import proofs.«01_k».proof.Proof.Stages

@[expose] public section

noncomputable section

namespace Cert.Proof.Sort

open Idealize.ShloMosaic Cert.KernelIdeal Cert.KernelIdeal.Gen Cert.Proof.Network

/-! ## Rows of a vector -/

/-- Row `p` of 256, -/
def rd (x : FVec Ideal S256x128 .f32) (p : ℕ) (c : Fin 128) : EReal := x (ix2 ⟨p % 256, Nat.mod_lt _ (by decide)⟩ c)
/-- and of 128. -/
def rd7 (x : FVec Ideal S128x128 .f32) (q : ℕ) (c : Fin 128) : EReal := x (ix2 ⟨q % 128, Nat.mod_lt _ (by decide)⟩ c)

/-- The sizes the stages cut by. -/
def Sizes (g w : ℕ) : Prop := (w = 8 ∧ g = 16) ∨ (w = 16 ∧ g = 8) ∨ (w = 32 ∧ g = 4) ∨ (w = 64 ∧ g = 2) ∨ (w = 128 ∧ g = 1)
def Sizes' (e d : ℕ) : Prop := (d = 8 ∧ e = 8) ∨ (d = 16 ∧ e = 4) ∨ (d = 32 ∧ e = 2) ∨ (d = 64 ∧ e = 1)

theorem halves_rd {g w : ℕ} (C : Cut g w) (hw : Sizes g w)
    (op : FVec Ideal ⟨3, ![g, w, 128]⟩ .f32 → FVec Ideal ⟨3, ![g, w, 128]⟩ .f32 → FVec Ideal ⟨3, ![g, w, 128]⟩ .f32)
    (o : EReal → EReal → EReal) (ho : ∀ a b i, op a b i = o (a i) (b i)) (x : FVec Ideal S256x128 .f32) (q : ℕ) (hq : q < 128) (c : Fin 128) :
    rd7 (halves C op x) q c = o (rd x (q / w * (2 * w) + q % w) c) (rd x (q / w * (2 * w) + q % w + w) c) := by
  have h1 : q / w < g := by rcases hw with ⟨rfl, rfl⟩ | ⟨rfl, rfl⟩ | ⟨rfl, rfl⟩ | ⟨rfl, rfl⟩ | ⟨rfl, rfl⟩ <;> omega
  have h2 : q % w < w := by rcases hw with ⟨rfl, rfl⟩ | ⟨rfl, rfl⟩ | ⟨rfl, rfl⟩ | ⟨rfl, rfl⟩ | ⟨rfl, rfl⟩ <;> omega
  unfold rd7 rd halves
  rw [shapeCast_apply _ _ _ (ix3 ⟨q / w, h1⟩ ⟨q % w, h2⟩ c) (by
    rw [Shape.rowMajor_val_three, Shape.rowMajor_val_two]
    show (q / w * w + q % w) * 128 + c.val = q % 128 * 128 + c.val
    rcases hw with ⟨rfl, rfl⟩ | ⟨rfl, rfl⟩ | ⟨rfl, rfl⟩ | ⟨rfl, rfl⟩ | ⟨rfl, rfl⟩ <;> omega), ho]
  have hdrop : ∀ y : FVec Ideal ⟨4, ![g, 1, w, 128]⟩ .f32, shapeCast ⟨3, ![g, w, 128]⟩ y C.drop (ix3 ⟨q / w, h1⟩ ⟨q % w, h2⟩ c)
      = y (ix4 ⟨q / w, h1⟩ 0 ⟨q % w, h2⟩ c) := fun y => by
    refine shapeCast_apply _ _ _ _ ?_
    rw [Shape.rowMajor_val_four, Shape.rowMajor_val_three]
    show ((q / w * 1 + 0) * w + q % w) * 128 + c.val = (q / w * w + q % w) * 128 + c.val
    rw [Nat.mul_one, Nat.add_zero]
  rw [hdrop, hdrop,
    extractStridedSlice_apply _ _ _ _ (ix4 ⟨q / w, h1⟩ 0 ⟨q % w, h2⟩ c) (fun a => by
      match a with
      | 0 => exact (Nat.zero_add _).symm
      | 1 => rfl
      | 2 => exact (Nat.zero_add _).symm
      | 3 => exact (Nat.zero_add _).symm),
    extractStridedSlice_apply _ _ _ _ (ix4 ⟨q / w, h1⟩ 1 ⟨q % w, h2⟩ c) (fun a => by
      match a with
      | 0 => exact (Nat.zero_add _).symm
      | 1 => rfl
      | 2 => exact (Nat.zero_add _).symm
      | 3 => exact (Nat.zero_add _).symm)]
  refine congrArg₂ o (shapeCast_apply _ _ _ _ ?_) (shapeCast_apply _ _ _ _ ?_)
  · rw [Shape.rowMajor_val_four, Shape.rowMajor_val_two]
    show (q / w * (2 * w) + q % w) % 256 * 128 + c.val = ((q / w * 2 + 0) * w + q % w) * 128 + c.val
    rcases hw with ⟨rfl, rfl⟩ | ⟨rfl, rfl⟩ | ⟨rfl, rfl⟩ | ⟨rfl, rfl⟩ | ⟨rfl, rfl⟩ <;> omega
  · rw [Shape.rowMajor_val_four, Shape.rowMajor_val_two]
    show (q / w * (2 * w) + q % w + w) % 256 * 128 + c.val = ((q / w * 2 + 1) * w + q % w) * 128 + c.val
    rcases hw with ⟨rfl, rfl⟩ | ⟨rfl, rfl⟩ | ⟨rfl, rfl⟩ | ⟨rfl, rfl⟩ | ⟨rfl, rfl⟩ <;> omega

theorem joins_rd {g w : ℕ} (C : Cut g w) (hw : Sizes g w) (nl nh : FVec Ideal S128x128 .f32) (p : ℕ) (hp : p < 256) (c : Fin 128) :
    rd (joins C nl nh) p c = if p / w % 2 = 0 then rd7 nl (p / (2 * w) * w + p % w) c else rd7 nh (p / (2 * w) * w + p % w) c := by
  have h1 : p / (2 * w) < g := by rcases hw with ⟨rfl, rfl⟩ | ⟨rfl, rfl⟩ | ⟨rfl, rfl⟩ | ⟨rfl, rfl⟩ | ⟨rfl, rfl⟩ <;> omega
  have h2 : p % w < w := by rcases hw with ⟨rfl, rfl⟩ | ⟨rfl, rfl⟩ | ⟨rfl, rfl⟩ | ⟨rfl, rfl⟩ | ⟨rfl, rfl⟩ <;> omega
  have hb : p / w % 2 < 2 := Nat.mod_lt _ (by decide)
  unfold rd7 rd joins
  rw [shapeCast_apply _ _ _ (ix4 ⟨p / (2 * w), h1⟩ ⟨p / w % 2, hb⟩ ⟨p % w, h2⟩ c) (by
    rw [Shape.rowMajor_val_four, Shape.rowMajor_val_two]
    show ((p / (2 * w) * 2 + p / w % 2) * w + p % w) * 128 + c.val = p % 256 * 128 + c.val
    rcases hw with ⟨rfl, rfl⟩ | ⟨rfl, rfl⟩ | ⟨rfl, rfl⟩ | ⟨rfl, rfl⟩ | ⟨rfl, rfl⟩ <;> omega)]
  have hin : ∀ y : FVec Ideal S128x128 .f32, shapeCast ⟨4, ![g, 1, w, 128]⟩ (shapeCast ⟨3, ![g, w, 128]⟩ y C.block) C.unit
      (ix4 ⟨p / (2 * w), h1⟩ 0 ⟨p % w, h2⟩ c) = y (ix2 ⟨(p / (2 * w) * w + p % w) % 128, Nat.mod_lt _ (by decide)⟩ c) := fun y => by
    rw [shapeCast_apply _ _ _ (ix3 ⟨p / (2 * w), h1⟩ ⟨p % w, h2⟩ c) (by
      rw [Shape.rowMajor_val_four, Shape.rowMajor_val_three]
      show (p / (2 * w) * w + p % w) * 128 + c.val = ((p / (2 * w) * 1 + 0) * w + p % w) * 128 + c.val
      rw [Nat.mul_one, Nat.add_zero])]
    refine shapeCast_apply _ _ _ _ ?_
    rw [Shape.rowMajor_val_three, Shape.rowMajor_val_two]
    show (p / (2 * w) * w + p % w) % 128 * 128 + c.val = (p / (2 * w) * w + p % w) * 128 + c.val
    rcases hw with ⟨rfl, rfl⟩ | ⟨rfl, rfl⟩ | ⟨rfl, rfl⟩ | ⟨rfl, rfl⟩ | ⟨rfl, rfl⟩ <;> omega
  by_cases h : p / w % 2 = 0
  · rw [if_pos h, ← hin nl]
    exact concatenate_pair_apply_left _ _ _ _ _ (by rfl) _ fun b => by
      match b with
      | 0 => rfl
      | 1 => exact h.symm
      | 2 => rfl
      | 3 => rfl
  · rw [if_neg h, ← hin nh]
    exact concatenate_pair_apply_right _ _ _ _ _ (by rfl) (by rfl) _ (fun b hb => by
      match b, hb with
      | 0, _ => rfl
      | 1, hb => exact absurd rfl hb
      | 2, _ => rfl
      | 3, _ => rfl) (by show 0 + 1 = p / w % 2; omega)

theorem mixes_rd {e d : ℕ} (M : Mix e d) (hd : Sizes' e d) (a b : FVec Ideal S128x128 .f32) (q : ℕ) (hq : q < 128) (c : Fin 128) :
    rd7 (mixes M a b) q c = if q / d % 2 = 0 then rd7 a q c else rd7 b q c := by
  have h1 : q / (2 * d) < e := by rcases hd with ⟨rfl, rfl⟩ | ⟨rfl, rfl⟩ | ⟨rfl, rfl⟩ | ⟨rfl, rfl⟩ <;> omega
  have h2 : q % d < d := by rcases hd with ⟨rfl, rfl⟩ | ⟨rfl, rfl⟩ | ⟨rfl, rfl⟩ | ⟨rfl, rfl⟩ <;> omega
  have hb : q / d % 2 < 2 := Nat.mod_lt _ (by decide)
  have e1 : ((q / (2 * d) * 2 + q / d % 2) * d + q % d) * 128 + c.val = q % 128 * 128 + c.val := by
    rcases hd with ⟨rfl, rfl⟩ | ⟨rfl, rfl⟩ | ⟨rfl, rfl⟩ | ⟨rfl, rfl⟩ <;> omega
  unfold rd7 mixes
  rw [shapeCast_apply _ _ _ (ix4 ⟨q / (2 * d), h1⟩ ⟨q / d % 2, hb⟩ ⟨q % d, h2⟩ c) (by
    rw [Shape.rowMajor_val_four, Shape.rowMajor_val_two]
    exact e1)]
  have hin : ∀ y : FVec Ideal S128x128 .f32, shapeCast ⟨4, ![e, 2, d, 128]⟩ y M.split (ix4 ⟨q / (2 * d), h1⟩ ⟨q / d % 2, hb⟩ ⟨q % d, h2⟩ c)
      = y (ix2 ⟨q % 128, Nat.mod_lt _ (by decide)⟩ c) := fun y => by
    refine shapeCast_apply _ _ _ _ ?_
    rw [Shape.rowMajor_val_four, Shape.rowMajor_val_two]
    exact e1.symm
  by_cases h : q / d % 2 = 0
  · rw [if_pos h, ← hin a, concatenate_pair_apply_left (t := ⟨4, ![e, 2, d, 128]⟩) _ _ _ _ _ (by rfl) (ix4 ⟨q / (2 * d), h1⟩ 0 ⟨q % d, h2⟩ c) fun b => by
      match b with
      | 0 => rfl
      | 1 => exact h.symm
      | 2 => rfl
      | 3 => rfl]
    exact extractStridedSlice_apply _ _ _ _ _ fun a => by
      match a with
      | 0 => exact (Nat.zero_add _).symm
      | 1 => exact h
      | 2 => exact (Nat.zero_add _).symm
      | 3 => exact (Nat.zero_add _).symm
  · rw [if_neg h, ← hin b, concatenate_pair_apply_right (t := ⟨4, ![e, 2, d, 128]⟩) _ _ _ _ _ (by rfl) (by rfl) (ix4 ⟨q / (2 * d), h1⟩ 0 ⟨q % d, h2⟩ c) (fun b hb => by
      match b, hb with
      | 0, _ => rfl
      | 1, hb => exact absurd rfl hb
      | 2, _ => rfl
      | 3, _ => rfl) (by show 0 + 1 = q / d % 2; omega)]
    exact extractStridedSlice_apply _ _ _ _ _ fun a => by
      match a with
      | 0 => exact (Nat.zero_add _).symm
      | 1 => show q / d % 2 = 1 + 0; omega
      | 2 => exact (Nat.zero_add _).symm
      | 3 => exact (Nat.zero_add _).symm

theorem select_at {s : Shape} {α : Type} (m : IVec s 1) (a b : s.Idx → α) (i : s.Idx) : select m a b i = Scalar.select (m i) (a i) (b i) := rfl

/-- A row's bit, as the vectors of row numbers spell it. -/
theorem bit_word (d : ℕ) (hd : d = 1 ∨ d = 2 ∨ d = 4) (n : Fin 256) :
    IntOp.cmpi .ne (IntOp.andi (BitVec.ofNat 32 n.val) (BitVec.ofNat 32 d)) 0#32 = BitVec.ofBool (decide (n.val / d % 2 = 1)) := by
  rcases hd with rfl | rfl | rfl <;> revert n <;> decide +kernel

theorem bit128_rd (d : ℕ) (hd : d = 1 ∨ d = 2 ∨ d = 4) (a b : FVec Ideal S128x128 .f32) (q : ℕ) (hq : q < 128) (c : Fin 128) :
    rd7 (select (bit128 d) a b) q c = if q / d % 2 = 0 then rd7 b q c else rd7 a q c := by
  have hm : q % 128 = q := Nat.mod_eq_of_lt hq
  have h : bit128 d (ix2 ⟨q % 128, Nat.mod_lt _ (by decide)⟩ c) = BitVec.ofBool (decide (q / d % 2 = 1)) := by
    have := bit_word d hd ⟨q, by omega⟩
    rw [← this]
    show IntOp.cmpi .ne (IntOp.andi (iota .tc S128x128 32 [0] iota_S128x128_d0_w32 _) _) _ = _
    rw [iota_single_apply]
    exact congrArg (fun n => IntOp.cmpi .ne (IntOp.andi (BitVec.ofNat 32 n) (BitVec.ofNat 32 d)) 0#32) hm
  unfold rd7
  rw [select_at, h, SortNet.select_ofBool]
  rcases Nat.mod_two_eq_zero_or_one (q / d) with h | h <;> simp [h]

theorem bit256_apply (d : ℕ) (hd : d = 1 ∨ d = 2 ∨ d = 4) (p : ℕ) (hp : p < 256) (c : Fin 128) :
    bit256 d (ix2 ⟨p % 256, Nat.mod_lt _ (by decide)⟩ c) = BitVec.ofBool (decide (p / d % 2 = 1)) := by
  have hm : p % 256 = p := Nat.mod_eq_of_lt hp
  rw [← bit_word d hd ⟨p, hp⟩]
  show IntOp.cmpi .ne (IntOp.andi (iota .tc S256x128 32 [0] iota_S256x128_d0_w32 _) _) _ = _
  rw [iota_single_apply]
  exact congrArg (fun n => IntOp.cmpi .ne (IntOp.andi (BitVec.ofNat 32 n) (BitVec.ofNat 32 d)) 0#32) hm

/-! ## What a stage does -/

/-- The row `w` rows away in the same block of `2 w`. -/
def mate (w p : ℕ) : ℕ := if p / w % 2 = 0 then p + w else p - w

/-- Every row becomes the minimum (where `asc`) or the maximum of itself and its mate. -/
def Acts (w : ℕ) (asc : ℕ → Bool) (f : FVec Ideal S256x128 .f32 → FVec Ideal S256x128 .f32) : Prop :=
  ∀ x c, ∀ p < 256, rd (f x) p c = if asc p then min (rd x p c) (rd x (mate w p) c) else max (rd x p c) (rd x (mate w p) c)

/-- A stage that cuts: its pairs `q` ascend where `up q`. -/
theorem acts_joins {g w : ℕ} (C : Cut g w) (hw : Sizes g w) (up : ℕ → Bool) (f : FVec Ideal S256x128 .f32 → FVec Ideal S256x128 .f32)
    (nl nh : FVec Ideal S256x128 .f32 → FVec Ideal S128x128 .f32) (hf : ∀ x, f x = joins C (nl x) (nh x))
    (hl : ∀ x, ∀ q < 128, ∀ c, rd7 (nl x) q c = if up q then rd7 (halves C minimumf x) q c else rd7 (halves C maximumf x) q c)
    (hh : ∀ x, ∀ q < 128, ∀ c, rd7 (nh x) q c = if up q then rd7 (halves C maximumf x) q c else rd7 (halves C minimumf x) q c) :
    Acts w (fun p => decide (p / w % 2 = 0) == up (p / (2 * w) * w + p % w)) f := by
  intro x c p hp
  have hq : p / (2 * w) * w + p % w < 128 := by rcases hw with ⟨rfl, rfl⟩ | ⟨rfl, rfl⟩ | ⟨rfl, rfl⟩ | ⟨rfl, rfl⟩ | ⟨rfl, rfl⟩ <;> omega
  have hd : (p / (2 * w) * w + p % w) / w * (2 * w) + (p / (2 * w) * w + p % w) % w = p / (2 * w) * (2 * w) + p % w := by
    rcases hw with ⟨rfl, rfl⟩ | ⟨rfl, rfl⟩ | ⟨rfl, rfl⟩ | ⟨rfl, rfl⟩ | ⟨rfl, rfl⟩ <;> omega
  have hmn := halves_rd C hw minimumf min (fun _ _ _ => rfl) x _ hq c
  have hmx := halves_rd C hw maximumf max (fun _ _ _ => rfl) x _ hq c
  rw [hd] at hmn hmx
  rw [hf, joins_rd C hw _ _ p hp c, hl x _ hq, hh x _ hq, hmn, hmx]
  have hlo : p / w % 2 = 0 → p / (2 * w) * (2 * w) + p % w = p := by
    rcases hw with ⟨rfl, rfl⟩ | ⟨rfl, rfl⟩ | ⟨rfl, rfl⟩ | ⟨rfl, rfl⟩ | ⟨rfl, rfl⟩ <;> omega
  have hhi : ¬ p / w % 2 = 0 → p / (2 * w) * (2 * w) + p % w = p - w ∧ p / (2 * w) * (2 * w) + p % w + w = p := by
    rcases hw with ⟨rfl, rfl⟩ | ⟨rfl, rfl⟩ | ⟨rfl, rfl⟩ | ⟨rfl, rfl⟩ | ⟨rfl, rfl⟩ <;> omega
  unfold mate
  by_cases h : p / w % 2 = 0
  · simp only [h, hlo h, if_true]
    cases up (p / (2 * w) * w + p % w) <;> simp
  · simp only [if_neg h, (hhi h).2]
    rw [(hhi h).1]
    cases up (p / (2 * w) * w + p % w) <;> simp [h, min_comm, max_comm]

theorem acts_hiN {g w : ℕ} (C : Cut g w) (hw : Sizes g w) :
    Acts w (fun p => decide (p / w % 2 = 0) == false) (hiN C) :=
  acts_joins C hw (fun _ => false) _ (fun x => halves C maximumf x) (fun x => halves C minimumf x) (fun _ => rfl)
    (fun _ _ _ _ => rfl) (fun _ _ _ _ => rfl)

theorem acts_hiB {g w e d : ℕ} (C : Cut g w) (M : Mix e d) (hw : Sizes g w) (hd : Sizes' e d) :
    Acts w (fun p => decide (p / w % 2 = 0) == decide ((p / (2 * w) * w + p % w) / d % 2 = 1)) (hiB C M) :=
  acts_joins C hw (fun q => decide (q / d % 2 = 1)) _ (fun x => mixes M (halves C maximumf x) (halves C minimumf x))
    (fun x => mixes M (halves C minimumf x) (halves C maximumf x)) (fun _ => rfl)
    (fun x q hq c => by rw [mixes_rd M hd _ _ q hq]; rcases Nat.mod_two_eq_zero_or_one (q / d) with h | h <;> simp [h])
    (fun x q hq c => by rw [mixes_rd M hd _ _ q hq]; rcases Nat.mod_two_eq_zero_or_one (q / d) with h | h <;> simp [h])

theorem acts_hiM {g w : ℕ} (C : Cut g w) (d : ℕ) (hw : Sizes g w) (hd : d = 1 ∨ d = 2 ∨ d = 4) :
    Acts w (fun p => decide (p / w % 2 = 0) == decide ((p / (2 * w) * w + p % w) / d % 2 = 1)) (hiM C d) :=
  acts_joins C hw (fun q => decide (q / d % 2 = 1)) _ (fun x => select (bit128 d) (halves C minimumf x) (halves C maximumf x))
    (fun x => select (bit128 d) (halves C maximumf x) (halves C minimumf x)) (fun _ => rfl)
    (fun x q hq c => by rw [bit128_rd d hd _ _ q hq]; rcases Nat.mod_two_eq_zero_or_one (q / d) with h | h <;> simp [h])
    (fun x q hq c => by rw [bit128_rd d hd _ _ q hq]; rcases Nat.mod_two_eq_zero_or_one (q / d) with h | h <;> simp [h])

/-! ## The rotations -/

theorem roll1_rd (x : FVec Ideal S256x128 .f32) (p : ℕ) (hp : p < 256) (c : Fin 128) : rd (roll1 x) p c = rd x (mate 1 p) c := by
  have hm : p % 256 = p := Nat.mod_eq_of_lt hp
  unfold rd roll1 mate
  rw [select_at, bit256_apply 1 (by decide) p hp, SortNet.select_ofBool]
  by_cases h : p / 1 % 2 = 0
  · rw [if_pos h, if_neg (by rw [decide_eq_true_eq]; omega)]
    refine Eq.trans (concatenate_pair_apply_left (t := S256x128) _ _ _ _ _ (by rfl) (ix2 ⟨p, by omega⟩ c) ?_) ?_
    · intro b
      match b with
      | 0 => exact hm.symm
      | 1 => rfl
    exact extractStridedSlice_apply _ _ _ _ _ fun a => by
      match a with
      | 0 => show (p + 1) % 256 = 1 + p; omega
      | 1 => exact (Nat.zero_add _).symm
  · rw [if_neg h, if_pos (by rw [decide_eq_true_eq]; omega)]
    refine Eq.trans (concatenate_pair_apply_right (t := S256x128) _ _ _ _ _ (by rfl) (by rfl) (ix2 ⟨p - 1, by omega⟩ c) ?_ ?_) ?_
    · intro b hb
      match b, hb with
      | 0, hb => exact absurd rfl hb
      | 1, _ => rfl
    · show p - 1 + 1 = p % 256; omega
    exact extractStridedSlice_apply _ _ _ _ _ fun a => by
      match a with
      | 0 => show (p - 1) % 256 = 0 + (p - 1); omega
      | 1 => exact (Nat.zero_add _).symm

theorem roll2_rd (x : FVec Ideal S256x128 .f32) (p : ℕ) (hp : p < 256) (c : Fin 128) : rd (roll2 x) p c = rd x (mate 2 p) c := by
  have hm : p % 256 = p := Nat.mod_eq_of_lt hp
  unfold rd roll2 mate
  rw [select_at, bit256_apply 2 (by decide) p hp, SortNet.select_ofBool]
  by_cases h : p / 2 % 2 = 0
  · rw [if_pos h, if_neg (by rw [decide_eq_true_eq]; omega)]
    refine Eq.trans (concatenate_pair_apply_left (t := S256x128) _ _ _ _ _ (by rfl) (ix2 ⟨p, by omega⟩ c) ?_) ?_
    · intro b
      match b with
      | 0 => exact hm.symm
      | 1 => rfl
    exact extractStridedSlice_apply _ _ _ _ _ fun a => by
      match a with
      | 0 => show (p + 2) % 256 = 2 + p; omega
      | 1 => exact (Nat.zero_add _).symm
  · rw [if_neg h, if_pos (by rw [decide_eq_true_eq]; omega)]
    refine Eq.trans (concatenate_pair_apply_right (t := S256x128) _ _ _ _ _ (by rfl) (by rfl) (ix2 ⟨p - 2, by omega⟩ c) ?_ ?_) ?_
    · intro b hb
      match b, hb with
      | 0, hb => exact absurd rfl hb
      | 1, _ => rfl
    · show p - 2 + 2 = p % 256; omega
    exact extractStridedSlice_apply _ _ _ _ _ fun a => by
      match a with
      | 0 => show (p - 2) % 256 = 0 + (p - 2); omega
      | 1 => exact (Nat.zero_add _).symm

theorem swap4_rd (x : FVec Ideal S256x128 .f32) (p : ℕ) (hp : p < 256) (c : Fin 128) : rd (swap4 x) p c = rd x (mate 4 p) c := by
  have h1 : p / 8 < 32 := by omega
  have h2 : p % 8 < 8 := by omega
  have h3 : p % 4 < 4 := by omega
  unfold rd swap4 mate
  rw [shapeCast_apply _ _ _ (ix3 ⟨p / 8, h1⟩ ⟨p % 8, h2⟩ c) (by
    rw [Shape.rowMajor_val_three, Shape.rowMajor_val_two]
    show (p / 8 * 8 + p % 8) * 128 + c.val = p % 256 * 128 + c.val
    omega)]
  by_cases h : p / 4 % 2 = 0
  · rw [if_pos h]
    refine Eq.trans (concatenate_pair_apply_left (t := S32x8x128) _ _ _ _ _ (by rfl) (ix3 ⟨p / 8, h1⟩ ⟨p % 4, h3⟩ c) ?_) ?_
    · intro b
      match b with
      | 0 => rfl
      | 1 => show p % 4 = p % 8; omega
      | 2 => rfl
    refine Eq.trans (extractStridedSlice_apply _ _ _ _ (ix3 ⟨p / 8, h1⟩ ⟨4 + p % 4, by omega⟩ c) ?_) ?_
    · intro a
      match a with
      | 0 => exact (Nat.zero_add _).symm
      | 1 => rfl
      | 2 => exact (Nat.zero_add _).symm
    refine shapeCast_apply _ _ _ _ ?_
    rw [Shape.rowMajor_val_three, Shape.rowMajor_val_two]
    show (p + 4) % 256 * 128 + c.val = (p / 8 * 8 + (4 + p % 4)) * 128 + c.val
    omega
  · rw [if_neg h]
    refine Eq.trans (concatenate_pair_apply_right (t := S32x8x128) _ _ _ _ _ (by rfl) (by rfl) (ix3 ⟨p / 8, h1⟩ ⟨p % 4, h3⟩ c) ?_ ?_) ?_
    · intro b hb
      match b, hb with
      | 0, _ => rfl
      | 1, hb => exact absurd rfl hb
      | 2, _ => rfl
    · show p % 4 + 4 = p % 8; omega
    refine Eq.trans (extractStridedSlice_apply _ _ _ _ (ix3 ⟨p / 8, h1⟩ ⟨p % 4, by omega⟩ c) ?_) ?_
    · intro a
      match a with
      | 0 => exact (Nat.zero_add _).symm
      | 1 => exact (Nat.zero_add _).symm
      | 2 => exact (Nat.zero_add _).symm
    refine shapeCast_apply _ _ _ _ ?_
    rw [Shape.rowMajor_val_three, Shape.rowMajor_val_two]
    show (p - 4) % 256 * 128 + c.val = (p / 8 * 8 + p % 4) * 128 + c.val
    omega

theorem acts_loN (w : ℕ) (hw : w = 1 ∨ w = 2 ∨ w = 4) (pt : FVec Ideal S256x128 .f32 → FVec Ideal S256x128 .f32)
    (hp : ∀ x, ∀ p < 256, ∀ c, rd (pt x) p c = rd x (mate w p) c) : Acts w (fun p => decide (p / w % 2 = 1)) (loN w pt) := by
  intro x c p h
  rw [← hp x p h c]
  unfold rd loN
  rw [select_at, bit256_apply w hw p h, SortNet.select_ofBool]
  rfl

theorem acts_loK (d w : ℕ) (hd : d = 1 ∨ d = 2 ∨ d = 4) (hw : w = 1 ∨ w = 2 ∨ w = 4) (pt : FVec Ideal S256x128 .f32 → FVec Ideal S256x128 .f32)
    (hp : ∀ x, ∀ p < 256, ∀ c, rd (pt x) p c = rd x (mate w p) c) :
    Acts w (fun p => decide (p / d % 2 = 1) ^^ decide (p / w % 2 = 1)) (loK d w pt) := by
  intro x c p h
  rw [← hp x p h c]
  unfold rd loK
  rw [select_at, show ∀ i, xori (bit256 d) (bit256 w) i = IntOp.xori (bit256 d i) (bit256 w i) from fun _ => rfl,
    bit256_apply d hd p h, bit256_apply w hw p h, SortNet.ofBool_xor, SortNet.select_ofBool]
  rfl

/-! ## The network's rows in the vector -/

/-- Where row `r` of the network sits. -/
def place (r : ℕ) : ℕ := r % 8 * 32 + r / 8 % 4 * 8 + r / 32

/-- A function of the vector that is one stage of the network on the rows so placed. -/
structure Step where
  level : ℕ × ℕ
  act : FVec Ideal S256x128 .f32 → FVec Ideal S256x128 .f32
  good : ∀ x c, ∀ r < 256, rd (act x) (place r) c = stage (max : EReal → EReal → EReal) min level.1 level.2 (fun r => rd x (place r) c) r

def step {w : ℕ} {asc : ℕ → Bool} {f : FVec Ideal S256x128 .f32 → FVec Ideal S256x128 .f32} (k j : ℕ) (h : Acts w asc f)
    (hc : ∀ r < 256, place r < 256 ∧ mate w (place r) = place (mate j r)
      ∧ asc (place r) = !(decide (r / j % 2 = 0) == decide (r / k % 2 = 0))) : Step where
  level := (k, j)
  act := f
  good x c r hr := by
    obtain ⟨h1, h2, h3⟩ := hc r hr
    rw [h x c _ h1, h2, h3]
    unfold stage mate
    rw [if_pos hr]
    by_cases e : r / j % 2 = 0 <;> by_cases e' : r / k % 2 = 0 <;> simp [e, e', min_comm, max_comm]

theorem step_act {w : ℕ} {asc : ℕ → Bool} {f : FVec Ideal S256x128 .f32 → FVec Ideal S256x128 .f32} (k j : ℕ) (h : Acts w asc f) (hc) :
    (step k j h hc).act = f := rfl

theorem size8 : Sizes 16 8 := by unfold Sizes; decide
theorem size16 : Sizes 8 16 := by unfold Sizes; decide
theorem size32 : Sizes 4 32 := by unfold Sizes; decide
theorem size64 : Sizes 2 64 := by unfold Sizes; decide
theorem size128 : Sizes 1 128 := by unfold Sizes; decide
theorem size'8 : Sizes' 8 8 := by unfold Sizes'; decide
theorem size'16 : Sizes' 4 16 := by unfold Sizes'; decide
theorem size'32 : Sizes' 2 32 := by unfold Sizes'; decide
theorem size'64 : Sizes' 1 64 := by unfold Sizes'; decide

/-! The thirty-six, level by level. -/

def steps2 : List Step :=
  [step 2 1 (acts_hiB cut32 mix32 size32 size'32) (by decide +kernel)]

theorem level2_steps (x : FVec Ideal S256x128 .f32) : level2 x = steps2.foldl (fun x s => s.act x) x := by
  unfold level2 steps2
  simp only [List.foldl_cons, List.foldl_nil, step_act]

def steps4 : List Step :=
  [step 4 2 (acts_hiB cut64 mix64 size64 size'64) (by decide +kernel),
   step 4 1 (acts_hiB cut32 mix64 size32 size'64) (by decide +kernel)]

theorem level4_steps (x : FVec Ideal S256x128 .f32) : level4 x = steps4.foldl (fun x s => s.act x) x := by
  unfold level4 steps4
  simp only [List.foldl_cons, List.foldl_nil, step_act]

def steps8 : List Step :=
  [step 8 4 (acts_hiB cut128 mix8 size128 size'8) (by decide +kernel),
   step 8 2 (acts_hiB cut64 mix8 size64 size'8) (by decide +kernel),
   step 8 1 (acts_hiB cut32 mix8 size32 size'8) (by decide +kernel)]

theorem level8_steps (x : FVec Ideal S256x128 .f32) : level8 x = steps8.foldl (fun x s => s.act x) x := by
  unfold level8 steps8
  simp only [List.foldl_cons, List.foldl_nil, step_act]

def steps16 : List Step :=
  [step 16 8 (acts_hiB cut8 mix8 size8 size'8) (by decide +kernel),
   step 16 4 (acts_hiB cut128 mix16 size128 size'16) (by decide +kernel),
   step 16 2 (acts_hiB cut64 mix16 size64 size'16) (by decide +kernel),
   step 16 1 (acts_hiB cut32 mix16 size32 size'16) (by decide +kernel)]

theorem level16_steps (x : FVec Ideal S256x128 .f32) : level16 x = steps16.foldl (fun x s => s.act x) x := by
  unfold level16 steps16
  simp only [List.foldl_cons, List.foldl_nil, step_act]

def steps32 : List Step :=
  [step 32 16 (acts_hiM cut16 1 size16 (by decide)) (by decide +kernel),
   step 32 8 (acts_hiM cut8 1 size8 (by decide)) (by decide +kernel),
   step 32 4 (acts_hiM cut128 1 size128 (by decide)) (by decide +kernel),
   step 32 2 (acts_hiM cut64 1 size64 (by decide)) (by decide +kernel),
   step 32 1 (acts_hiM cut32 1 size32 (by decide)) (by decide +kernel)]

theorem level32_steps (x : FVec Ideal S256x128 .f32) : level32 x = steps32.foldl (fun x s => s.act x) x := by
  unfold level32 steps32
  simp only [List.foldl_cons, List.foldl_nil, step_act]

def steps64 : List Step :=
  [step 64 32 (acts_loK 2 1 (by decide) (by decide) roll1 roll1_rd) (by decide +kernel),
   step 64 16 (acts_hiM cut16 2 size16 (by decide)) (by decide +kernel),
   step 64 8 (acts_hiM cut8 2 size8 (by decide)) (by decide +kernel),
   step 64 4 (acts_hiM cut128 2 size128 (by decide)) (by decide +kernel),
   step 64 2 (acts_hiM cut64 2 size64 (by decide)) (by decide +kernel),
   step 64 1 (acts_hiM cut32 2 size32 (by decide)) (by decide +kernel)]

theorem level64_steps (x : FVec Ideal S256x128 .f32) : level64 x = steps64.foldl (fun x s => s.act x) x := by
  unfold level64 steps64
  simp only [List.foldl_cons, List.foldl_nil, step_act]

def steps128 : List Step :=
  [step 128 64 (acts_loK 4 2 (by decide) (by decide) roll2 roll2_rd) (by decide +kernel),
   step 128 32 (acts_loK 4 1 (by decide) (by decide) roll1 roll1_rd) (by decide +kernel),
   step 128 16 (acts_hiM cut16 4 size16 (by decide)) (by decide +kernel),
   step 128 8 (acts_hiM cut8 4 size8 (by decide)) (by decide +kernel),
   step 128 4 (acts_hiM cut128 4 size128 (by decide)) (by decide +kernel),
   step 128 2 (acts_hiM cut64 4 size64 (by decide)) (by decide +kernel),
   step 128 1 (acts_hiM cut32 4 size32 (by decide)) (by decide +kernel)]

theorem level128_steps (x : FVec Ideal S256x128 .f32) : level128 x = steps128.foldl (fun x s => s.act x) x := by
  unfold level128 steps128
  simp only [List.foldl_cons, List.foldl_nil, step_act]

def steps256 : List Step :=
  [step 256 128 (acts_loN 4 (by decide) swap4 swap4_rd) (by decide +kernel),
   step 256 64 (acts_loN 2 (by decide) roll2 roll2_rd) (by decide +kernel),
   step 256 32 (acts_loN 1 (by decide) roll1 roll1_rd) (by decide +kernel),
   step 256 16 (acts_hiN cut16 size16) (by decide +kernel),
   step 256 8 (acts_hiN cut8 size8) (by decide +kernel),
   step 256 4 (acts_hiN cut128 size128) (by decide +kernel),
   step 256 2 (acts_hiN cut64 size64) (by decide +kernel),
   step 256 1 (acts_hiN cut32 size32) (by decide +kernel)]

theorem level256_steps (x : FVec Ideal S256x128 .f32) : level256 x = steps256.foldl (fun x s => s.act x) x := by
  unfold level256 steps256
  simp only [List.foldl_cons, List.foldl_nil, step_act]

def steps : List Step := steps2 ++ steps4 ++ steps8 ++ steps16 ++ steps32 ++ steps64 ++ steps128 ++ steps256

/-- Carried out one after the other they are the network's stages. -/
theorem foldl_steps (c : Fin 128) : ∀ (L : List Step), (∀ s ∈ L, s.level ∈ stages) → ∀ (x : FVec Ideal S256x128 .f32) (g : ℕ → EReal),
    (∀ r < 256, rd x (place r) c = g r) → ∀ r < 256,
      rd (L.foldl (fun x s => s.act x) x) (place r) c = (L.map Step.level).foldl (fun g p => stage max min p.1 p.2 g) g r := by
  intro L
  induction L with
  | nil => intro _ x g h r hr; exact h r hr
  | cons s L ih =>
    intro hL x g h r hr
    rw [List.foldl_cons, List.map_cons, List.foldl_cons]
    refine ih (fun s' hs' => hL s' (List.mem_cons_of_mem _ hs')) _ _ (fun r' hr' => ?_) r hr
    rw [s.good x c r' hr']
    exact stage_congr _ _ (good_stages _ (hL s List.mem_cons_self)) hr' fun q hq _ => h q hq

theorem levels_steps : steps.map Step.level = stages := rfl
theorem net_steps (x : FVec Ideal S256x128 .f32) : net x = steps.foldl (fun x s => s.act x) x := by
  unfold steps
  simp only [List.foldl_append, ← level2_steps, ← level4_steps, ← level8_steps, ← level16_steps, ← level32_steps, ← level64_steps,
    ← level128_steps, ← level256_steps]
  unfold net
  rfl

/-- Exchanging the bits twice changes nothing, -/
theorem place_place : ∀ r < 256, place r < 256 ∧ place (place r) = r := by decide +kernel

/-- so it is the same rows that are sorted, whichever way they are placed. -/
theorem count_place (e : ℕ → Prop) : Network.count (fun r => e (place r)) = Network.count e := by
  classical
  unfold Network.count
  refine Finset.sum_nbij' place place ?_ ?_ ?_ ?_ ?_
  · exact fun r hr => Finset.mem_range.2 (place_place r (Finset.mem_range.1 hr)).1
  · exact fun r hr => Finset.mem_range.2 (place_place r (Finset.mem_range.1 hr)).1
  · exact fun r hr => (place_place r (Finset.mem_range.1 hr)).2
  · exact fun r hr => (place_place r (Finset.mem_range.1 hr)).2
  · exact fun r hr => rfl

/-- THE NETWORK ON THE VECTOR: each column sorted, its rows still where the network's are. -/
theorem net_rd (x : FVec Ideal S256x128 .f32) (c : Fin 128) (r : ℕ) (hr : r < 256) :
    rd (net x) (place r) c = passes.foldl (Pass.all (max : EReal → EReal → EReal) min) (fun r => rd x r c) r := by
  have h := foldl_steps c steps (fun s hs => levels_steps ▸ List.mem_map_of_mem hs) x (fun r => rd x (place r) c) (fun _ _ => rfl) r hr
  rw [← net_steps, levels_steps, ← foldl_passes] at h
  rw [h]
  refine eq_of_forall_le_iff fun t => ?_
  rw [sort_spec _ t hr, sort_spec _ t hr, count_place fun r => t ≤ rd x r c]

/-- The rows put in order. -/
theorem fin_apply (x : FVec Ideal S256x128 .f32) (r : ℕ) (hr : r < 256) (c : Fin 128) :
    fin x (ix3 0 ⟨r, hr⟩ c) = rd x (place r) c := by
  unfold fin rd place
  rw [shapeCast_apply _ _ _ (ix2 ⟨r, hr⟩ c) (by
    rw [Shape.rowMajor_val_three, Shape.rowMajor_val_two]
    show r * 128 + c.val = (0 * 256 + r) * 128 + c.val
    omega)]
  rw [shapeCast_apply _ _ _ (ix4 ⟨r / 32, by omega⟩ ⟨r / 8 % 4, by omega⟩ ⟨r % 8, by omega⟩ c) (by
    rw [Shape.rowMajor_val_four, Shape.rowMajor_val_two]
    show ((r / 32 * 4 + r / 8 % 4) * 8 + r % 8) * 128 + c.val = r * 128 + c.val
    omega)]
  rw [transpose_apply _ _ _ _ (ix4 ⟨r % 8, by omega⟩ ⟨r / 8 % 4, by omega⟩ ⟨r / 32, by omega⟩ c) fun b => by
    match b with
    | 0 => rfl
    | 1 => rfl
    | 2 => rfl
    | 3 => rfl]
  refine shapeCast_apply _ _ _ _ ?_
  rw [Shape.rowMajor_val_four, Shape.rowMajor_val_two]
  show (r % 8 * 32 + r / 8 % 4 * 8 + r / 32) % 256 * 128 + c.val = ((r % 8 * 4 + r / 8 % 4) * 8 + r / 32) * 128 + c.val
  omega

/-! ## The correlations sorted -/

/-- Entry `(r, c)` of a batch's correlations. -/
def entry (v : Vec Ideal S1x768x256 .f32) (r c : Fin 256) : EReal :=
  (∑ k : Fin 768, (v (ix3 0 k r) : EReal) * v (ix3 0 k c)) * ((1 / 768 : ℝ) : EReal)

theorem corrL_rd (v : Vec Ideal S1x768x256 .f32) (r : ℕ) (c : Fin 128) :
    rd (corrHalf (F := Ideal) ![0, 0] slices_S768x256_o0_0_S768x128 v) r c
      = entry v ⟨r % 256, Nat.mod_lt _ (by decide)⟩ ⟨c.val, by have := c.isLt; omega⟩ := by
  unfold rd corrHalf entry
  pointwise
  rw [IdealRules.named_const.ideal_named_scalar _ _ _ _ rfl]

theorem corrR_rd (v : Vec Ideal S1x768x256 .f32) (r : ℕ) (c : Fin 128) :
    rd (corrHalf (F := Ideal) ![0, 128] slices_S768x256_o0_128_S768x128 v) r c
      = entry v ⟨r % 256, Nat.mod_lt _ (by decide)⟩ ⟨128 + c.val, by have := c.isLt; omega⟩ := by
  unfold rd corrHalf entry
  pointwise
  rw [IdealRules.named_const.ideal_named_scalar _ _ _ _ rfl]

/-- What the body stores of a batch: its correlations, every column sorted. -/
def column (v : Vec Ideal S1x768x256 .f32) (c : Fin 256) (r : ℕ) : EReal :=
  passes.foldl (Pass.all (max : EReal → EReal → EReal) min) (fun r => entry v ⟨r % 256, Nat.mod_lt _ (by decide)⟩ c) r

theorem sortL_apply (v : Vec Ideal S1x768x256 .f32) (r : ℕ) (hr : r < 256) (c : Fin 128) :
    sortL (F := Ideal) v (ix3 0 ⟨r, hr⟩ c) = column v ⟨c.val, by have := c.isLt; omega⟩ r := by
  unfold sortL column
  rw [fin_apply, net_rd _ _ _ hr]
  simp only [corrL_rd]

theorem sortR_apply (v : Vec Ideal S1x768x256 .f32) (r : ℕ) (hr : r < 256) (c : Fin 128) :
    sortR (F := Ideal) v (ix3 0 ⟨r, hr⟩ c) = column v ⟨128 + c.val, by have := c.isLt; omega⟩ r := by
  unfold sortR column
  rw [fin_apply, net_rd _ _ _ hr]
  simp only [corrR_rd]

end Cert.Proof.Sort
-- ==== Proof.CorrValue.lean ====
/-
  THE CORRELATIONS' VALUE, AND THE WHOLE RESULT'S. Over the extended reals the matrix unit's product of a batch's transpose with
  that batch is, entry by entry, the sum of 768 products, and so is the reference's contraction; the kernel multiplies by the
  constant named 1/768 where the reference divides by 768. So the columns the kernel sorts are the reference's: those of the
  first four batches on the SparseCore, by `colSort`, those of the other twenty-eight in the second TensorCore call, by the same
  network. The two results, one after the other, are the reference's.
-/
module

public import Idealize.ShloMosaic.Lib.Pointwise
public import Idealize.ShloMosaic.Lib.IdealHost
public import Idealize.ShloMosaic.Lib.Pipeline.Value
public import proofs.«01_k».proof.Proof.Gen.ReferenceIdeal.Run
public import proofs.«01_k».proof.Proof.Launch
public import proofs.«01_k».proof.Proof.RefValue
public import proofs.«01_k».proof.Proof.StageValue

@[expose] public section

noncomputable section

namespace Cert.Proof.Sort

open Idealize.ShloMosaic Cert.Proof.Network

open Cert.KernelIdeal Cert.KernelIdeal.Gen in
/-- What the first TensorCore call's body stores of a batch. -/
theorem pay_apply (v : Vec Ideal S1x768x256 .f32) (z : S1x256x256.Idx) :
    k0_pay2 (F := Ideal) v z = (∑ k : Fin 768, (v (ix3 0 k (z 1)) : EReal) * v (ix3 0 k (z 2))) * ((1 / 768 : ℝ) : EReal) := by
  unfold k0_pay2
  pointwise
  rw [IdealRules.named_const.ideal_named_scalar _ _ _ _ rfl]

namespace Ref

open Cert.ReferenceIdeal Cert.ReferenceIdeal.Gen

/-- The argument with its last two axes as one, -/
abbrev rows (A : S32x768x16x16.Idx → Elt Ideal .f32) : S32x768x256.Idx → Elt Ideal .f32 :=
  shapeCast _ A shapeCasts_S32x768x16x16_S32x768x256

/-- and its correlations as the reference computes them. -/
abbrev corr (X : S32x768x256.Idx → Elt Ideal .f32) : S32x256x256.Idx → Elt Ideal .f32 :=
  Host.divf (F := Ideal) (φ := .f32) (Host.dotGeneral (φ₁ := .f32) (φ₂ := .f32) dot_S32x256x768_S32x768x256_S32x256x256_2_1_1_2_0_0 none (transpose S32x256x768 [0, 2, 1] X transposes_S32x768x256_S32x256x768_0_2_1) X)
    (broadcastInDim S32x256x256 ![] bcast_S_S32x256x256 (constant S_ .f32 0x44400000#32))

theorem corr_apply (X : S32x768x256.Idx → Elt Ideal .f32) (y : S32x256x256.Idx) :
    corr X y = (∑ k : Fin 768, (X (ix3 (y 0) k (y 1)) : EReal) * X (ix3 (y 0) k (y 2))) * ((1 / 768 : ℝ) : EReal) := by
  unfold corr
  pointwise
  have h : Ideal.ofBits .f32 0x44400000#32 = ((768 : ℝ) : EReal) := by
    simp [Ideal.ofBits, Ideal.ieee, -EReal.coe_mul]; norm_num
  rw [h, Ideal.div_coe (by norm_num : (768 : ℝ) ≠ 0)]

/-! ## What each call is given -/

/-- The first call is given batches 0 to 3, -/
theorem first4_apply (A : S32x768x16x16.Idx → Elt Ideal .f32) (z : Cert.KernelIdeal.S4x768x256.Idx) (w : S32x768x256.Idx)
    (h0 : (w 0).val = (z 0).val) (h1 : (w 1).val = (z 1).val) (h2 : (w 2).val = (z 2).val) : first4 (F := Ideal) A z = rows A w := by
  unfold first4 rows
  refine extractStridedSlice_apply _ _ _ _ _ fun a => ?_
  match a with
  | 0 => exact h0.trans (Nat.zero_add _).symm
  | 1 => exact h1.trans (Nat.zero_add _).symm
  | 2 => exact h2.trans (Nat.zero_add _).symm

/-- and the second batches 4 to 31. -/
theorem last28_apply (A : S32x768x16x16.Idx → Elt Ideal .f32) (z : Cert.KernelIdeal.S28x768x256.Idx) (w : S32x768x256.Idx)
    (h0 : (w 0).val = 4 + (z 0).val) (h1 : (w 1).val = (z 1).val) (h2 : (w 2).val = (z 2).val) : last28 (F := Ideal) A z = rows A w := by
  unfold last28 rows
  refine extractStridedSlice_apply _ _ _ _ _ fun a => ?_
  match a with
  | 0 => exact h0
  | 1 => exact h1.trans (Nat.zero_add _).symm
  | 2 => exact h2.trans (Nat.zero_add _).symm

/-! ## The columns each call sorts -/

/-- The first call's correlations are the reference's of batches 0 to 3; -/
theorem corr_first4 (A : S32x768x16x16.Idx → Elt Ideal .f32) (b r c : ℕ) (hb : b < 4) (hr : r < 256) (hc : c < 256) :
    (Sort.corr (F := Ideal) (first4 (F := Ideal) A) (at3 b r c hb hr hc) : EReal) = corr (rows A) (at32 b r c (by omega) hr hc) := by
  rw [corr_apply, Sort.corr_apply, pay_apply]
  refine congrArg (· * ((1 / 768 : ℝ) : EReal)) (Finset.sum_congr rfl fun k _ => congrArg₂ (fun a b : EReal => a * b) ?_ ?_)
  · refine first4_apply A _ _ ?_ ?_ ?_
    · exact (Nat.add_zero _).symm
    · show k.val = 0 + 1 * k.val; omega
    · show r = 0 + 1 * r; omega
  · refine first4_apply A _ _ ?_ ?_ ?_
    · exact (Nat.add_zero _).symm
    · show k.val = 0 + 1 * k.val; omega
    · show c = 0 + 1 * c; omega

/-- the second call's are those of batches 4 to 31. -/
theorem entry_last28 (A : S32x768x16x16.Idx → Elt Ideal .f32) (b : Fin 28) (r c : Fin 256) :
    entry (batch28 (F := Ideal) (last28 (F := Ideal) A) b) r c = corr (rows A) (at32 (4 + b.val) r.val c.val (by omega) r.isLt c.isLt) := by
  rw [corr_apply, entry]
  refine congrArg (· * ((1 / 768 : ℝ) : EReal)) (Finset.sum_congr rfl fun k _ => congrArg₂ (fun a b : EReal => a * b) ?_ ?_)
  · exact last28_apply A _ _ rfl rfl rfl
  · exact last28_apply A _ _ rfl rfl rfl

/-- What the second call leaves: the two halves side by side are the sorted columns. -/
theorem sortHalves_apply (v : Vec Ideal Cert.KernelIdeal.S1x768x256 .f32) (r c : Fin 256) :
    (sortHalves (F := Ideal) v r c : EReal) = column v c r.val := by
  unfold sortHalves
  by_cases h : c.val < 128
  · rw [dif_pos h, sortL_apply v r.val r.isLt]
  · rw [dif_neg h, sortR_apply v r.val r.isLt]
    exact congrArg (fun c => column v c r.val) (Fin.ext (by show 128 + (c.val - 128) = c.val; omega))

/-! ## The whole result -/

/-- THE KERNEL'S RESULT IS THE REFERENCE'S, before the last reshape. -/
theorem value_eq (A : S32x768x16x16.Idx → Elt Ideal .f32) : value (corr (rows A)) = sorted32 (F := Ideal) A := by
  funext j
  obtain ⟨b, r, c, hb, hr, hc, rfl⟩ := exists_at32 j
  rw [value_network]
  symm
  by_cases h : b < 4
  · refine Eq.trans (concatenate_pair_apply_left _ _ _ _ _ (by rfl) (at3 b r c h hr hc) ?_) ?_
    · intro a
      match a with
      | 0 => rfl
      | 1 => rfl
      | 2 => rfl
    rw [colSort_ideal]
    refine congrArg (fun g : ℕ → EReal => passes.foldl (Pass.all max min) g r) (funext fun k => ?_)
    exact corr_first4 A b (k % 256) c h (Nat.mod_lt _ (by decide)) hc
  · have hb' : b - 4 < 28 := by omega
    refine Eq.trans (concatenate_pair_apply_right _ _ _ _ _ (by rfl) (by rfl) (ix3 ⟨b - 4, hb'⟩ ⟨r, hr⟩ ⟨c, hc⟩) ?_ ?_) ?_
    · intro a ha
      match a, ha with
      | 0, ha => exact absurd rfl ha
      | 1, _ => rfl
      | 2, _ => rfl
    · show b - 4 + 4 = b; omega
    rw [corrSort_apply]
    refine (sortHalves_apply (batch28 (F := Ideal) (last28 (F := Ideal) A) ⟨b - 4, hb'⟩) ⟨r, hr⟩ ⟨c, hc⟩).trans ?_
    unfold column
    refine congrArg (fun g : ℕ → EReal => passes.foldl (Pass.all max min) g r) (funext fun k => ?_)
    have e : ∀ (n : ℕ) (hn : n < 32), n = b → corr (rows A) (at32 n (k % 256) c hn (Nat.mod_lt _ (by decide)) hc)
        = corr (rows A) (at32 b (k % 256) c hb (Nat.mod_lt _ (by decide)) hc) := by rintro n hn rfl; rfl
    exact (entry_last28 A ⟨b - 4, hb'⟩ ⟨k % 256, _⟩ ⟨c, hc⟩).trans (e _ _ (by show 4 + (b - 4) = b; omega))

/-- THE WHOLE RESULT. -/
theorem out_eq (A : S32x768x16x16.Idx → Elt Ideal .f32) : sorts (corr (rows A)) = out (F := Ideal) A := by
  rw [sorts_eq, value_eq]

end Ref

end Cert.Proof.Sort
-- ==== Proof.lean ====
/-
  The certificate of the whole kernel: the program's two frames and its value off ONE run (Proof/Launch.lean `run_main`, over any
  float values), and the reference's run read at the same value (Proof/CorrValue.lean `Ref.out_eq`).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.CorrValue
public import proofs.«01_k».proof.Proof.RefValue

@[expose] public section

noncomputable section

namespace Cert.Proof

open Idealize.ShloMosaic Idealize.SL.Sem

/-! ## The program with its constant printed, and with it named -/

/-- At machine words a named constant is the word it names. -/
abbrev wordNamed : Named Bits where
  named _ _ {φ} b := Scalar.ofBits φ b

attribute [local instance] wordNamed

/-- The first TensorCore call's body, -/
theorem body0 : Cert.Kernel.cc0__corr_only_body (F := Bits) = Cert.KernelIdeal.cc0__corr_only_body (F := Bits) := rfl

set_option maxHeartbeats 8000000 in
/-- the second's, -/
theorem body1 : Cert.Kernel.cc1__corr_sort_body (F := Bits) = Cert.KernelIdeal.cc1__corr_sort_body (F := Bits) := rfl

set_option maxHeartbeats 8000000 in
/-- the three calls' bodies, -/
theorem defs₀_eq : Cert.Kernel.defs₀ (F := Bits) = Cert.KernelIdeal.defs₀ (F := Bits) := by
  funext p ℓ a
  match p, ℓ, a with
  | .tc, 0, (t, s) => exact congrFun (congrFun (congrFun (congrFun (congrFun body0 _) _) _) _) _
  | .tc, 1, (t, s) => exact congrFun (congrFun (congrFun (congrFun (congrFun body1 _) _) _) _) _
  | .tc, 2, _ => rfl
  | .scVector c s, 0, _ => rfl
  | .scVector c s, 1, _ => rfl
  | .scVector c s, 2, _ => rfl
  | .scScalar c, 0, _ => rfl
  | .scScalar c, 1, _ => rfl
  | .scScalar c, 2, _ => rfl

set_option maxHeartbeats 8000000 in
/-- and the whole table of bodies. -/
theorem defs_eq : Cert.Kernel.defs (F := Bits) = Cert.KernelIdeal.defs (F := Bits) :=
  congrArg (fun D => (Cert.KernelIdeal.sc (F := Bits)).defs (Pipeline.defs Cert.KernelIdeal.pcfgs D)) defs₀_eq

/-! ## The claims -/

set_option maxHeartbeats 8000000 in
/-- At machine words: every execution of the program ends, its argument as it was and every semaphore at zero. -/
theorem frame_kernel : Cert.quiescent_Kernel := fun m ρ _ => by
  have h := (θ_run (Cert.KernelIdeal.defs (F := Bits)) _ _).mono
    (fun (r : PUnit × MemSt Cert.KernelIdeal.nD Cert.KernelIdeal.τ Cert.KernelIdeal.sig (Elt Bits)) (h : Sort.QC (F := Bits) m r) =>
      (⟨fun c => (h.1 c).2, h.2⟩ : (∀ c : Dev Cert.KernelIdeal.nD, r.2.mem (Sort.aLoc c) = m (Sort.aLoc c)) ∧ r.2.sem = fun _ => 0))
    (Sort.run_main (F := Bits) m ρ)
  rw [show Cert.Kernel.defs (F := Bits) = Cert.KernelIdeal.defs (F := Bits) from defs_eq]
  exact h

/-- The same over the extended reals. -/
theorem frame_ideal : Cert.quiescent_KernelIdeal := fun m ρ _ =>
  (θ_run Cert.KernelIdeal.defs _ _).mono (fun _ h => ⟨fun c => (h.1 c).2, h.2⟩) (Sort.run_main (F := Ideal) m ρ)

/-- Every execution of the reference ends, its argument as it was; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from equal arguments, the program and the reference end with equal results: each column of the
    correlations of each batch in descending order. -/
theorem algebraic : Cert.algebraic_KernelIdeal_ReferenceIdeal := fun m g m' g' _ hagree =>
  ⟨fun c => Sort.out (F := Ideal) (m (Sort.aLoc c)),
    (θ_run Cert.KernelIdeal.defs _ _).mono (fun _ h => h.1) (Sort.run_main (F := Ideal) m g),
    (θ_run Cert.ReferenceIdeal.defs _ _).mono
      (fun _ h c => ⟨(h c).1.trans ((Sort.Ref.out_eq _).trans (congrArg (Sort.out (F := Ideal)) (hagree c))), (h c).2⟩)
      (Cert.ReferenceIdeal.Value.run (F := Ideal) m' g')⟩

/-- The constant the bodies scale by, at the value its name stands for. -/
theorem preserves : Cert.preserves_Kernel_KernelIdeal :=
  IdealRules.named_const.statement Cert.KernelIdeal.κ "inv_feats" .f32 0x3AAAAAAB#32 ((1 / 768 : ℝ) : EReal) rfl

theorem claim : Cert.Claim := ⟨Cert.Kernel.Gen.facts, Cert.KernelIdeal.Gen.facts, Cert.ReferenceIdeal.Gen.facts,
  frame_kernel, frame_ideal, frame_reference, preserves, algebraic⟩

end Cert.Proof

end
